-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk [hPre_finite_qk : Cert.Pre_finite_qk.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk [hPre_finite_qk : Cert.Pre_finite_qk.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_qk [hKernelIdeal : Cert.KernelIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_qk [hReferenceIdeal : Cert.ReferenceIdeal.Facts] [hPre_finite_qk : Cert.Pre_finite_qk.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12)
      ∧ r.2.mem ((c.tc : Thread Cert.Kernel2.nD Cert.Kernel2.τ).loc Cert.Kernel2.main_arg13) = m ((c.tc : Thread Cert.Kernel2.nD Cert.Kernel2.τ).loc Cert.Kernel2.main_arg13)
      ∧ r.2.mem ((c.tc : Thread Cert.Kernel2.nD Cert.Kernel2.τ).loc Cert.Kernel2.main_arg14) = m ((c.tc : Thread Cert.Kernel2.nD Cert.Kernel2.τ).loc Cert.Kernel2.main_arg14)
      ∧ r.2.mem ((c.tc : Thread Cert.Kernel2.nD Cert.Kernel2.τ).loc Cert.Kernel2.main_arg15) = m ((c.tc : Thread Cert.Kernel2.nD Cert.Kernel2.τ).loc Cert.Kernel2.main_arg15))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
      ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
      ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14)
      ∧ r.2.mem ((c.tc : Thread Cert.Kernel2Ideal.nD Cert.Kernel2Ideal.τ).loc Cert.Kernel2Ideal.main_arg15) = m ((c.tc : Thread Cert.Kernel2Ideal.nD Cert.Kernel2Ideal.τ).loc Cert.Kernel2Ideal.main_arg15))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12)
      ∧ r.2.mem ((c.tc : Thread Cert.Reference2Ideal.nD Cert.Reference2Ideal.τ).loc Cert.Reference2Ideal.main_arg13) = m ((c.tc : Thread Cert.Reference2Ideal.nD Cert.Reference2Ideal.τ).loc Cert.Reference2Ideal.main_arg13)
      ∧ r.2.mem ((c.tc : Thread Cert.Reference2Ideal.nD Cert.Reference2Ideal.τ).loc Cert.Reference2Ideal.main_arg14) = m ((c.tc : Thread Cert.Reference2Ideal.nD Cert.Reference2Ideal.τ).loc Cert.Reference2Ideal.main_arg14)
      ∧ r.2.mem ((c.tc : Thread Cert.Reference2Ideal.nD Cert.Reference2Ideal.τ).loc Cert.Reference2Ideal.main_arg15) = m ((c.tc : Thread Cert.Reference2Ideal.nD Cert.Reference2Ideal.τ).loc Cert.Reference2Ideal.main_arg15))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_qk [hKernelIdeal : Cert.KernelIdeal.Facts] [hReferenceIdeal : Cert.ReferenceIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)
      ∧ m' ((c.tc : Thread Cert.Reference2Ideal.nD Cert.Reference2Ideal.τ).loc Cert.Reference2Ideal.main_arg13) = m ((c.tc : Thread Cert.Kernel2Ideal.nD Cert.Kernel2Ideal.τ).loc Cert.Kernel2Ideal.main_arg13)
      ∧ m' ((c.tc : Thread Cert.Reference2Ideal.nD Cert.Reference2Ideal.τ).loc Cert.Reference2Ideal.main_arg14) = m ((c.tc : Thread Cert.Kernel2Ideal.nD Cert.Kernel2Ideal.τ).loc Cert.Kernel2Ideal.main_arg14)
      ∧ m' ((c.tc : Thread Cert.Reference2Ideal.nD Cert.Reference2Ideal.τ).loc Cert.Reference2Ideal.main_arg15) = m ((c.tc : Thread Cert.Kernel2Ideal.nD Cert.Kernel2Ideal.τ).loc Cert.Kernel2Ideal.main_arg15)) →
    ∃ (v0 : (c : Dev Cert.Kernel2Ideal.nD) → Buf (Elt Ideal) ((c.tc : Thread Cert.Kernel2Ideal.nD Cert.Kernel2Ideal.τ).loc Cert.Kernel2Ideal.main_v9)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v9) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
          ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
          ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14)
          ∧ r.2.mem ((c.tc : Thread Cert.Kernel2Ideal.nD Cert.Kernel2Ideal.τ).loc Cert.Kernel2Ideal.main_arg15) = m ((c.tc : Thread Cert.Kernel2Ideal.nD Cert.Kernel2Ideal.τ).loc Cert.Kernel2Ideal.main_arg15))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v98) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12)
          ∧ r.2.mem ((c.tc : Thread Cert.Reference2Ideal.nD Cert.Reference2Ideal.τ).loc Cert.Reference2Ideal.main_arg13) = m' ((c.tc : Thread Cert.Reference2Ideal.nD Cert.Reference2Ideal.τ).loc Cert.Reference2Ideal.main_arg13)
          ∧ r.2.mem ((c.tc : Thread Cert.Reference2Ideal.nD Cert.Reference2Ideal.τ).loc Cert.Reference2Ideal.main_arg14) = m' ((c.tc : Thread Cert.Reference2Ideal.nD Cert.Reference2Ideal.τ).loc Cert.Reference2Ideal.main_arg14)
          ∧ r.2.mem ((c.tc : Thread Cert.Reference2Ideal.nD Cert.Reference2Ideal.τ).loc Cert.Reference2Ideal.main_arg15) = m' ((c.tc : Thread Cert.Reference2Ideal.nD Cert.Reference2Ideal.τ).loc Cert.Reference2Ideal.main_arg15))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v38_1)) (v1 : (c : Dev Cert.Kernel3Ideal.nD) → Buf (Elt Ideal) ((c.tc : Thread Cert.Kernel3Ideal.nD Cert.Kernel3Ideal.τ).loc Cert.Kernel3Ideal.main_v38_2)) (v2 : (c : Dev Cert.Kernel3Ideal.nD) → Buf (Elt Ideal) ((c.tc : Thread Cert.Kernel3Ideal.nD Cert.Kernel3Ideal.τ).loc Cert.Kernel3Ideal.main_v38_3)) (v3 : (c : Dev Cert.Kernel3Ideal.nD) → Buf (Elt Ideal) ((c.tc : Thread Cert.Kernel3Ideal.nD Cert.Kernel3Ideal.τ).loc Cert.Kernel3Ideal.main_v38_4)) (v4 : (c : Dev Cert.Kernel3Ideal.nD) → Buf (Elt Ideal) ((c.tc : Thread Cert.Kernel3Ideal.nD Cert.Kernel3Ideal.τ).loc Cert.Kernel3Ideal.main_v38_5)) (v5 : (c : Dev Cert.Kernel3Ideal.nD) → Buf (Elt Ideal) ((c.tc : Thread Cert.Kernel3Ideal.nD Cert.Kernel3Ideal.τ).loc Cert.Kernel3Ideal.main_v38_6)) (v6 : (c : Dev Cert.Kernel3Ideal.nD) → Buf (Elt Ideal) ((c.tc : Thread Cert.Kernel3Ideal.nD Cert.Kernel3Ideal.τ).loc Cert.Kernel3Ideal.main_v38_7)) (v7 : (c : Dev Cert.Kernel3Ideal.nD) → Buf (Elt Ideal) ((c.tc : Thread Cert.Kernel3Ideal.nD Cert.Kernel3Ideal.τ).loc Cert.Kernel3Ideal.main_v38_8)) (v8 : (c : Dev Cert.Kernel3Ideal.nD) → Buf (Elt Ideal) ((c.tc : Thread Cert.Kernel3Ideal.nD Cert.Kernel3Ideal.τ).loc Cert.Kernel3Ideal.main_v38_9)) (v9 : (c : Dev Cert.Kernel3Ideal.nD) → Buf (Elt Ideal) ((c.tc : Thread Cert.Kernel3Ideal.nD Cert.Kernel3Ideal.τ).loc Cert.Kernel3Ideal.main_v38_0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v38_1) = v0 c
          ∧ r.2.mem ((c.tc : Thread Cert.Kernel3Ideal.nD Cert.Kernel3Ideal.τ).loc Cert.Kernel3Ideal.main_v38_2) = v1 c
          ∧ r.2.mem ((c.tc : Thread Cert.Kernel3Ideal.nD Cert.Kernel3Ideal.τ).loc Cert.Kernel3Ideal.main_v38_3) = v2 c
          ∧ r.2.mem ((c.tc : Thread Cert.Kernel3Ideal.nD Cert.Kernel3Ideal.τ).loc Cert.Kernel3Ideal.main_v38_4) = v3 c
          ∧ r.2.mem ((c.tc : Thread Cert.Kernel3Ideal.nD Cert.Kernel3Ideal.τ).loc Cert.Kernel3Ideal.main_v38_5) = v4 c
          ∧ r.2.mem ((c.tc : Thread Cert.Kernel3Ideal.nD Cert.Kernel3Ideal.τ).loc Cert.Kernel3Ideal.main_v38_6) = v5 c
          ∧ r.2.mem ((c.tc : Thread Cert.Kernel3Ideal.nD Cert.Kernel3Ideal.τ).loc Cert.Kernel3Ideal.main_v38_7) = v6 c
          ∧ r.2.mem ((c.tc : Thread Cert.Kernel3Ideal.nD Cert.Kernel3Ideal.τ).loc Cert.Kernel3Ideal.main_v38_8) = v7 c
          ∧ r.2.mem ((c.tc : Thread Cert.Kernel3Ideal.nD Cert.Kernel3Ideal.τ).loc Cert.Kernel3Ideal.main_v38_9) = v8 c
          ∧ r.2.mem ((c.tc : Thread Cert.Kernel3Ideal.nD Cert.Kernel3Ideal.τ).loc Cert.Kernel3Ideal.main_v38_0) = v9 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v66) = v0 c
          ∧ r.2.mem ((c.tc : Thread Cert.Reference3Ideal.nD Cert.Reference3Ideal.τ).loc Cert.Reference3Ideal.main_v126) = v1 c
          ∧ r.2.mem ((c.tc : Thread Cert.Reference3Ideal.nD Cert.Reference3Ideal.τ).loc Cert.Reference3Ideal.main_v127) = v2 c
          ∧ r.2.mem ((c.tc : Thread Cert.Reference3Ideal.nD Cert.Reference3Ideal.τ).loc Cert.Reference3Ideal.main_v128) = v3 c
          ∧ r.2.mem ((c.tc : Thread Cert.Reference3Ideal.nD Cert.Reference3Ideal.τ).loc Cert.Reference3Ideal.main_v129) = v4 c
          ∧ r.2.mem ((c.tc : Thread Cert.Reference3Ideal.nD Cert.Reference3Ideal.τ).loc Cert.Reference3Ideal.main_v130) = v5 c
          ∧ r.2.mem ((c.tc : Thread Cert.Reference3Ideal.nD Cert.Reference3Ideal.τ).loc Cert.Reference3Ideal.main_v135) = v6 c
          ∧ r.2.mem ((c.tc : Thread Cert.Reference3Ideal.nD Cert.Reference3Ideal.τ).loc Cert.Reference3Ideal.main_v136) = v7 c
          ∧ r.2.mem ((c.tc : Thread Cert.Reference3Ideal.nD Cert.Reference3Ideal.τ).loc Cert.Reference3Ideal.main_v141) = v8 c
          ∧ r.2.mem ((c.tc : Thread Cert.Reference3Ideal.nD Cert.Reference3Ideal.τ).loc Cert.Reference3Ideal.main_v278) = v9 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)) →
    ∃ (v0 : (c : Dev Cert.Kernel4Ideal.nD) → Buf (Elt Ideal) ((c.tc : Thread Cert.Kernel4Ideal.nD Cert.Kernel4Ideal.τ).loc Cert.Kernel4Ideal.main_v111_0)) (v1 : (c : Dev Cert.Kernel4Ideal.nD) → Buf (Elt Ideal) ((c.tc : Thread Cert.Kernel4Ideal.nD Cert.Kernel4Ideal.τ).loc Cert.Kernel4Ideal.main_v111_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v111_0) = v0 c
          ∧ r.2.mem ((c.tc : Thread Cert.Kernel4Ideal.nD Cert.Kernel4Ideal.τ).loc Cert.Kernel4Ideal.main_v111_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v94) = v0 c
          ∧ r.2.mem ((c.tc : Thread Cert.Reference4Ideal.nD Cert.Reference4Ideal.τ).loc Cert.Reference4Ideal.main_v96) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite_qk : Cert.Pre_finite_qk.Facts),
    quiescent_Kernel (hKernel := hKernel)
    ∧ quiescent_KernelIdeal (hKernelIdeal := hKernelIdeal)
    ∧ quiescent_KernelIdeal_pre_finite_qk (hKernelIdeal := hKernelIdeal) (hPre_finite_qk := hPre_finite_qk)
    ∧ quiescent_ReferenceIdeal (hReferenceIdeal := hReferenceIdeal)
    ∧ quiescent_ReferenceIdeal_pre_finite_qk (hReferenceIdeal := hReferenceIdeal) (hPre_finite_qk := hPre_finite_qk)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite_qk (hKernelIdeal := hKernelIdeal) (hReferenceIdeal := hReferenceIdeal) (hPre_finite_qk := hPre_finite_qk)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_finite_qk.lean ====
abbrev S8x4096x384 : Shape := ⟨3, ![8, 4096, 384]⟩
abbrev S8x4096x128 : Shape := ⟨3, ![8, 4096, 128]⟩
abbrev S_ : Shape := ⟨0, ![]⟩

class Facts : Prop where
  bcast_S_S8x4096x384 : S_.BroadcastsInDim S8x4096x384 (![] : Fin 0 → Fin S8x4096x384.rank)
  bcast_S_S8x4096x128 : S_.BroadcastsInDim S8x4096x128 (![] : Fin 0 → Fin S8x4096x128.rank)

variable [Facts]

def fn {F : FTy → Type} [FloatOps F] (main_arg0 : FVec F S8x4096x384 .f32) (main_arg1 : FVec F S8x4096x128 .f32) (main_arg2 : FVec F S8x4096x128 .f32) (main_arg3 : FVec F S8x4096x128 .f32) : IVec S8x4096x384 1 × IVec S8x4096x128 1 :=
  let main_v0 : FVec F S8x4096x384 .f32 := Host.absf main_arg0
  let main_cst : FVec F S_ .f32 := constant S_ .f32 0x7F800000#32
  let main_v1 : FVec F S8x4096x384 .f32 := broadcastInDim S8x4096x384 ![] bcast_S_S8x4096x384 main_cst
  let main_v2 : IVec S8x4096x384 1 := cmpf .olt main_v0 main_v1
  let main_v3 : FVec F S8x4096x128 .f32 := Host.absf main_arg2
  let main_cst_0 : FVec F S_ .f32 := constant S_ .f32 0x7F800000#32
  let main_v4 : FVec F S8x4096x128 .f32 := broadcastInDim S8x4096x128 ![] bcast_S_S8x4096x128 main_cst_0
  let main_v5 : IVec S8x4096x128 1 := cmpf .olt main_v3 main_v4
  (main_v2, main_v5)
-- ==== Kernel.lean ====
abbrev S8x4096x384 : Shape := ⟨3, ![8, 4096, 384]⟩
abbrev S8x4096x128 : Shape := ⟨3, ![8, 4096, 128]⟩
abbrev S_ : Shape := ⟨0, ![]⟩
abbrev S8x384x4096 : Shape := ⟨3, ![8, 384, 4096]⟩
abbrev S8x32x128x2x64 : Shape := ⟨5, ![8, 32, 128, 2, 64]⟩
abbrev S8x2x32x64x128 : Shape := ⟨5, ![8, 2, 32, 64, 128]⟩
abbrev S8x2x32x16x128 : Shape := ⟨5, ![8, 2, 32, 16, 128]⟩
abbrev S8x2x32x80x128 : Shape := ⟨5, ![8, 2, 32, 80, 128]⟩
abbrev S1x384x256 : Shape := ⟨3, ![1, 384, 256]⟩
abbrev S1x256x128 : Shape := ⟨3, ![1, 256, 128]⟩
abbrev S1x4096x128 : Shape := ⟨3, ![1, 4096, 128]⟩
abbrev S1x2x32x80x128 : Shape := ⟨5, ![1, 2, 32, 80, 128]⟩
abbrev S1x256x384 : Shape := ⟨3, ![1, 256, 384]⟩
abbrev S384x256 : Shape := ⟨2, ![384, 256]⟩
abbrev S1x768x128 : Shape := ⟨3, ![1, 768, 128]⟩
abbrev S768x128 : Shape := ⟨2, ![768, 128]⟩
abbrev S768x256 : Shape := ⟨2, ![768, 256]⟩
abbrev S768x768 : Shape := ⟨2, ![768, 768]⟩
abbrev S64x256 : Shape := ⟨2, ![64, 256]⟩
abbrev S128x256 : Shape := ⟨2, ![128, 256]⟩
abbrev S128x768 : Shape := ⟨2, ![128, 768]⟩
abbrev S768 : Shape := ⟨1, ![768]⟩
abbrev S1x768 : Shape := ⟨2, ![1, 768]⟩
abbrev S1x1x1x80x128 : Shape := ⟨5, ![1, 1, 1, 80, 128]⟩
abbrev S80x128 : Shape := ⟨2, ![80, 128]⟩
abbrev S80x768 : Shape := ⟨2, ![80, 768]⟩
abbrev S64x768 : Shape := ⟨2, ![64, 768]⟩
abbrev S256x128 : Shape := ⟨2, ![256, 128]⟩
abbrev S1x256 : Shape := ⟨2, ![1, 256]⟩
abbrev S256x384 : Shape := ⟨2, ![256, 384]⟩

abbrev nBuf : Space → Nat
  | .hbm => 20
  | .vmem => 10
  | .smem => 0
  | _ => 0

abbrev bufTy : (tb : Table) → Fin (tcTables nBuf tb) → BufTy
  | .hbm, ⟨0, _⟩ => ⟨S8x4096x384, .f32⟩
  | .hbm, ⟨1, _⟩ => ⟨S8x4096x128, .f32⟩
  | .hbm, ⟨2, _⟩ => ⟨S8x4096x128, .f32⟩
  | .hbm, ⟨3, _⟩ => ⟨S8x4096x128, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S8x4096x384, .f32⟩
  | .hbm, ⟨9, _⟩ => ⟨S8x4096x384, .f32⟩
  | .hbm, ⟨10, _⟩ => ⟨S8x384x4096, .f32⟩
  | .hbm, ⟨11, _⟩ => ⟨S8x384x4096, .bf16⟩
  | .hbm, ⟨12, _⟩ => ⟨S8x4096x128, .bf16⟩
  | .hbm, ⟨13, _⟩ => ⟨S8x32x128x2x64, .f32⟩
  | .hbm, ⟨14, _⟩ => ⟨S8x2x32x64x128, .f32⟩
  | .hbm, ⟨15, _⟩ => ⟨S_, .f32⟩
  | .hbm, ⟨16, _⟩ => ⟨S8x2x32x16x128, .f32⟩
  | .hbm, ⟨17, _⟩ => ⟨S8x2x32x80x128, .f32⟩
  | .hbm, ⟨18, _⟩ => ⟨S8x2x32x80x128, .bf16⟩
  | .hbm, ⟨19, _⟩ => ⟨S8x4096x384, .f32⟩
  | .local _ .vmem, ⟨0, _⟩ => ⟨S1x384x256, .bf16⟩
  | .local _ .vmem, ⟨1, _⟩ => ⟨S1x384x256, .bf16⟩
  | .local _ .vmem, ⟨2, _⟩ => ⟨S1x256x128, .f32⟩
  | .local _ .vmem, ⟨3, _⟩ => ⟨S1x256x128, .f32⟩
  | .local _ .vmem, ⟨4, _⟩ => ⟨S1x4096x128, .bf16⟩
  | .local _ .vmem, ⟨5, _⟩ => ⟨S1x4096x128, .bf16⟩
  | .local _ .vmem, ⟨6, _⟩ => ⟨S1x2x32x80x128, .bf16⟩
  | .local _ .vmem, ⟨7, _⟩ => ⟨S1x2x32x80x128, .bf16⟩
  | .local _ .vmem, ⟨8, _⟩ => ⟨S1x256x384, .f32⟩
  | .local _ .vmem, ⟨9, _⟩ => ⟨S1x256x384, .f32⟩
  | _, _ => ⟨S8x4096x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 16], ![false, false]⟩

def k0_mult1 (i : grid0.Coords) : BitVec 32 :=
  let c26_i32 : BitVec 32 := 26#32
  let c0_i32 : BitVec 32 := 0#32
  let arg1 : BitVec 32 := BitVec.ofNat 32 (i 1).val
  let c2_i32 : BitVec 32 := 2#32
  let v2 : BitVec 32 := Scalar.muli arg1 c2_i32
  let c4_i32 : BitVec 32 := 4#32
  let v3 : BitVec 32 := Scalar.subi v2 c4_i32
  let v4 : BitVec 32 := Scalar.maxsi c0_i32 v3
  let v5 : BitVec 32 := Scalar.minsi c26_i32 v4
  let c128_i32 : BitVec 32 := 128#32
  let v6 : BitVec 32 := Scalar.muli v5 c128_i32
  v6
def k0_off1 (i : grid0.Coords) : Fin 3 → Nat :=
  let c0_2 : Index := 0#32
  let c26_i32 : BitVec 32 := 26#32
  let c0_i32 : BitVec 32 := 0#32
  let arg1 : BitVec 32 := BitVec.ofNat 32 (i 1).val
  let c2_i32 : BitVec 32 := 2#32
  let v2 : BitVec 32 := Scalar.muli arg1 c2_i32
  let c4_i32 : BitVec 32 := 4#32
  let v3 : BitVec 32 := Scalar.subi v2 c4_i32
  let v4 : BitVec 32 := Scalar.maxsi c0_i32 v3
  let v5 : BitVec 32 := Scalar.minsi c26_i32 v4
  let c128_i32 : BitVec 32 := 128#32
  let v6 : BitVec 32 := Scalar.muli v5 c128_i32
  let v7 : BitVec 32 := v6
  let v8 : Index := Scalar.indexCast v7
  let c0_3 : Index := 0#32
  ![0, v8.toNat, 0]
def k0_off2 (i : grid0.Coords) (c0_i32_9 : BitVec 32) : Fin 5 → Nat :=
  let c0_10 : Index := 0#32
  let c0_11 : Index := 0#32
  let c26_i32 : BitVec 32 := 26#32
  let c0_i32 : BitVec 32 := 0#32
  let arg1 : BitVec 32 := BitVec.ofNat 32 (i 1).val
  let c2_i32 : BitVec 32 := 2#32
  let v2 : BitVec 32 := Scalar.muli arg1 c2_i32
  let c4_i32 : BitVec 32 := 4#32
  let v3 : BitVec 32 := Scalar.subi v2 c4_i32
  let v4 : BitVec 32 := Scalar.maxsi c0_i32 v3
  let v5 : BitVec 32 := Scalar.minsi c26_i32 v4
  let v44 : BitVec 32 := Scalar.addi v5 c0_i32_9
  let v45 : Index := Scalar.indexCast v44
  let c0_12 : Index := 0#32
  let c0_13 : Index := 0#32
  ![0, 0, v45.toNat, 0, 0]
def k0_off3 (i : grid0.Coords) (c0_i32_40 : BitVec 32) : Fin 5 → Nat :=
  let c0_41 : Index := 0#32
  let c1 : Index := 1#32
  let c26_i32 : BitVec 32 := 26#32
  let c0_i32 : BitVec 32 := 0#32
  let arg1 : BitVec 32 := BitVec.ofNat 32 (i 1).val
  let c2_i32 : BitVec 32 := 2#32
  let v2 : BitVec 32 := Scalar.muli arg1 c2_i32
  let c4_i32 : BitVec 32 := 4#32
  let v3 : BitVec 32 := Scalar.subi v2 c4_i32
  let v4 : BitVec 32 := Scalar.maxsi c0_i32 v3
  let v5 : BitVec 32 := Scalar.minsi c26_i32 v4
  let v94 : BitVec 32 := Scalar.addi v5 c0_i32_40
  let v95 : Index := Scalar.indexCast v94
  let c0_42 : Index := 0#32
  let c0_43 : Index := 0#32
  ![0, 1, v95.toNat, 0, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x384x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2x32x80x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S8x4096x384 : Shape := ⟨3, ![8, 4096, 384]⟩
abbrev S8x4096x128 : Shape := ⟨3, ![8, 4096, 128]⟩
abbrev S_ : Shape := ⟨0, ![]⟩
abbrev S8x4096x2x3x64 : Shape := ⟨5, ![8, 4096, 2, 3, 64]⟩
abbrev S8x4096x2x64 : Shape := ⟨4, ![8, 4096, 2, 64]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S8x2x4096x4096x3 : Shape := ⟨5, ![8, 2, 4096, 4096, 3]⟩
abbrev S8x2x3x4096x4096 : Shape := ⟨5, ![8, 2, 3, 4096, 4096]⟩
abbrev S8x2x3x4096 : Shape := ⟨4, ![8, 2, 3, 4096]⟩
abbrev S8x2x3x4096x1 : Shape := ⟨5, ![8, 2, 3, 4096, 1]⟩
abbrev S8x2x64x3x4096 : Shape := ⟨5, ![8, 2, 64, 3, 4096]⟩
abbrev S8x4096x18 : Shape := ⟨3, ![8, 4096, 18]⟩
abbrev S8x4096x2x3x3 : Shape := ⟨5, ![8, 4096, 2, 3, 3]⟩
abbrev S8x4096x2x3x1 : Shape := ⟨5, ![8, 4096, 2, 3, 1]⟩

abbrev nBuf : Space → Nat
  | .hbm => 65
  | .vmem => 0
  | .smem => 0
  | _ => 0

abbrev bufTy : (tb : Table) → Fin (tcTables nBuf tb) → BufTy
  | .hbm, ⟨0, _⟩ => ⟨S8x4096x384, .f32⟩
  | .hbm, ⟨1, _⟩ => ⟨S8x4096x128, .f32⟩
  | .hbm, ⟨2, _⟩ => ⟨S8x4096x128, .f32⟩
  | .hbm, ⟨3, _⟩ => ⟨S8x4096x128, .f32⟩
  | .hbm, ⟨4, _⟩ => ⟨S_, .f32⟩
  | .hbm, ⟨5, _⟩ => ⟨S8x4096x384, .f32⟩
  | .hbm, ⟨6, _⟩ => ⟨S8x4096x384, .f32⟩
  | .hbm, ⟨7, _⟩ => ⟨S8x4096x2x3x64, .f32⟩
  | .hbm, ⟨8, _⟩ => ⟨S8x4096x2x64, .f32⟩
  | .hbm, ⟨9, _⟩ => ⟨S8x4096x2x64, .f32⟩
  | .hbm, ⟨10, _⟩ => ⟨S4096, .i32⟩
  | .hbm, ⟨11, _⟩ => ⟨S4096x1, .i32⟩
  | .hbm, ⟨12, _⟩ => ⟨S1x4096, .i32⟩
  | .hbm, ⟨13, _⟩ => ⟨S4096x4096, .i32⟩
  | .hbm, ⟨14, _⟩ => ⟨S4096x4096, .i32⟩
  | .hbm, ⟨15, _⟩ => ⟨S4096x4096, .i32⟩
  | .hbm, ⟨16, _⟩ => ⟨S_, .i32⟩
  | .hbm, ⟨17, _⟩ => ⟨S4096x4096, .i32⟩
  | .hbm, ⟨18, _⟩ => ⟨S4096x4096, .i1⟩
  | .hbm, ⟨19, _⟩ => ⟨S_, .i32⟩
  | .hbm, ⟨20, _⟩ => ⟨S4096x4096, .i32⟩
  | .hbm, ⟨21, _⟩ => ⟨S4096x4096, .i1⟩
  | .hbm, ⟨22, _⟩ => ⟨S4096x4096, .i1⟩
  | .hbm, ⟨23, _⟩ => ⟨S8x2x4096x4096x3, .f32⟩
  | .hbm, ⟨24, _⟩ => ⟨S8x2x3x4096x4096, .f32⟩
  | .hbm, ⟨25, _⟩ => ⟨S_, .f32⟩
  | .hbm, ⟨26, _⟩ => ⟨S_, .f32⟩
  | .hbm, ⟨27, _⟩ => ⟨S8x2x3x4096x4096, .i1⟩
  | .hbm, ⟨28, _⟩ => ⟨S8x2x3x4096x4096, .f32⟩
  | .hbm, ⟨29, _⟩ => ⟨S8x2x3x4096x4096, .f32⟩
  | .hbm, ⟨30, _⟩ => ⟨S_, .f32⟩
  | .hbm, ⟨31, _⟩ => ⟨S8x2x3x4096, .f32⟩
  | .hbm, ⟨32, _⟩ => ⟨S_, .f32⟩
  | .hbm, ⟨33, _⟩ => ⟨S8x2x3x4096, .f32⟩
  | .hbm, ⟨34, _⟩ => ⟨S8x2x3x4096, .f32⟩
  | .hbm, ⟨35, _⟩ => ⟨S8x2x3x4096x1, .f32⟩
  | .hbm, ⟨36, _⟩ => ⟨S8x2x3x4096x4096, .f32⟩
  | .hbm, ⟨37, _⟩ => ⟨S8x2x3x4096x4096, .f32⟩
  | .hbm, ⟨38, _⟩ => ⟨S8x2x3x4096x4096, .f32⟩
  | .hbm, ⟨39, _⟩ => ⟨S_, .f32⟩
  | .hbm, ⟨40, _⟩ => ⟨S8x2x3x4096, .f32⟩
  | .hbm, ⟨41, _⟩ => ⟨S8x2x3x4096x1, .f32⟩
  | .hbm, ⟨42, _⟩ => ⟨S8x2x3x4096x4096, .f32⟩
  | .hbm, ⟨43, _⟩ => ⟨S8x2x3x4096x4096, .f32⟩
  | .hbm, ⟨44, _⟩ => ⟨S_, .f32⟩
  | .hbm, ⟨45, _⟩ => ⟨S_, .f32⟩
  | .hbm, ⟨46, _⟩ => ⟨S8x2x3x4096x4096, .i1⟩
  | .hbm, ⟨47, _⟩ => ⟨S8x2x3x4096x4096, .f32⟩
  | .hbm, ⟨48, _⟩ => ⟨S8x2x3x4096x4096, .f32⟩
  | .hbm, ⟨49, _⟩ => ⟨S8x2x64x3x4096, .f32⟩
  | .hbm, ⟨50, _⟩ => ⟨S8x4096x2x3x64, .f32⟩
  | .hbm, ⟨51, _⟩ => ⟨S8x4096x18, .f32⟩
  | .hbm, ⟨52, _⟩ => ⟨S8x4096x18, .f32⟩
  | .hbm, ⟨53, _⟩ => ⟨S8x4096x18, .f32⟩
  | .hbm, ⟨54, _⟩ => ⟨S_, .f32⟩
  | .hbm, ⟨55, _⟩ => ⟨S8x4096x18, .f32⟩
  | .hbm, ⟨56, _⟩ => ⟨S8x4096x18, .f32⟩
  | .hbm, ⟨57, _⟩ => ⟨S_, .f32⟩
  | .hbm, ⟨58, _⟩ => ⟨S8x4096x18, .f32⟩
  | .hbm, ⟨59, _⟩ => ⟨S8x4096x18, .f32⟩
  | .hbm, ⟨60, _⟩ => ⟨S8x4096x2x3x3, .f32⟩
  | .hbm, ⟨61, _⟩ => ⟨S8x4096x2x3x1, .f32⟩
  | .hbm, ⟨62, _⟩ => ⟨S8x4096x2x3x64, .f32⟩
  | .hbm, ⟨63, _⟩ => ⟨S8x4096x2x3x64, .f32⟩
  | .hbm, ⟨64, _⟩ => ⟨S8x4096x384, .f32⟩
  | _, _ => ⟨S8x4096x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c : Ref sig .tc := ⟨.hbm, 16, rfl⟩
abbrev main_v11 : Ref sig .tc := ⟨.hbm, 17, rfl⟩
abbrev main_v12 : Ref sig .tc := ⟨.hbm, 18, rfl⟩
abbrev main_c_0 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_1 : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_v18 : Ref sig .tc := ⟨.hbm, 29, rfl⟩
abbrev main_cst_2 : Ref sig .tc := ⟨.hbm, 30, rfl⟩
abbrev main_v19 : Ref sig .tc := ⟨.hbm, 31, rfl⟩
abbrev main_cst_3 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_4 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_5 : Ref sig .tc := ⟨.hbm, 44, rfl⟩
abbrev main_call1_v0 : Ref sig .tc := ⟨.hbm, 45, rfl⟩
abbrev main_call1_v1 : Ref sig .tc := ⟨.hbm, 46, rfl⟩
abbrev main_call1_v2 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_6 : Ref sig .tc := ⟨.hbm, 54, rfl⟩
abbrev main_v36 : Ref sig .tc := ⟨.hbm, 55, rfl⟩
abbrev main_v37 : Ref sig .tc := ⟨.hbm, 56, rfl⟩
abbrev main_cst_7 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩

abbrev nD : Nat := 1
abbrev τ : Topo := Topo.v7x

variable {F : FTy → Type} [FloatOps F]
-- ==== Kernel2.lean ====
abbrev S8x4096x1024 : Shape := ⟨3, ![8, 4096, 1024]⟩
abbrev S8x4096x256 : Shape := ⟨3, ![8, 4096, 256]⟩
abbrev S8x4096x384 : Shape := ⟨3, ![8, 4096, 384]⟩
abbrev S1024x1024 : Shape := ⟨2, ![1024, 1024]⟩
abbrev S1024 : Shape := ⟨1, ![1024]⟩
abbrev S1024x2816 : Shape := ⟨2, ![1024, 2816]⟩
abbrev S3x2816 : Shape := ⟨2, ![3, 2816]⟩
abbrev S2816 : Shape := ⟨1, ![2816]⟩
abbrev S2816x1024 : Shape := ⟨2, ![2816, 1024]⟩
abbrev S1x1024 : Shape := ⟨2, ![1, 1024]⟩
abbrev S1x2816 : Shape := ⟨2, ![1, 2816]⟩
abbrev S1x512x1024 : Shape := ⟨3, ![1, 512, 1024]⟩
abbrev S1x512x256 : Shape := ⟨3, ![1, 512, 256]⟩
abbrev S1x512x384 : Shape := ⟨3, ![1, 512, 384]⟩
abbrev S1x16x1024 : Shape := ⟨3, ![1, 16, 1024]⟩
abbrev S1x16x256 : Shape := ⟨3, ![1, 16, 256]⟩
abbrev S1x16x384 : Shape := ⟨3, ![1, 16, 384]⟩
abbrev S512x1024 : Shape := ⟨2, ![512, 1024]⟩
abbrev S528x1024 : Shape := ⟨2, ![528, 1024]⟩
abbrev S512x2816 : Shape := ⟨2, ![512, 2816]⟩
abbrev S512x384 : Shape := ⟨2, ![512, 384]⟩
abbrev S512x256 : Shape := ⟨2, ![512, 256]⟩
abbrev S512 : Shape := ⟨1, ![512]⟩
abbrev S512x1 : Shape := ⟨2, ![512, 1]⟩
abbrev S16x384 : Shape := ⟨2, ![16, 384]⟩
abbrev S16x256 : Shape := ⟨2, ![16, 256]⟩
abbrev S16x1024 : Shape := ⟨2, ![16, 1024]⟩
abbrev S16 : Shape := ⟨1, ![16]⟩
abbrev S16x1 : Shape := ⟨2, ![16, 1]⟩
abbrev S1024x256 : Shape := ⟨2, ![1024, 256]⟩
abbrev S528x256 : Shape := ⟨2, ![528, 256]⟩
abbrev S1x256 : Shape := ⟨2, ![1, 256]⟩

abbrev nBuf : Space → Nat
  | .hbm => 26
  | .vmem => 39
  | .smem => 0
  | _ => 0

abbrev bufTy : (tb : Table) → Fin (tcTables nBuf tb) → BufTy
  | .hbm, ⟨0, _⟩ => ⟨S8x4096x1024, .f32⟩
  | .hbm, ⟨1, _⟩ => ⟨S8x4096x256, .f32⟩
  | .hbm, ⟨2, _⟩ => ⟨S8x4096x384, .f32⟩
  | .hbm, ⟨3, _⟩ => ⟨S8x4096x384, .f32⟩
  | .hbm, ⟨4, _⟩ => ⟨S8x4096x384, .f32⟩
  | .hbm, ⟨5, _⟩ => ⟨S8x4096x384, .f32⟩
  | .hbm, ⟨6, _⟩ => ⟨S1024x1024, .f32⟩
  | .hbm, ⟨7, _⟩ => ⟨S1024, .f32⟩
  | .hbm, ⟨8, _⟩ => ⟨S1024, .f32⟩
  | .hbm, ⟨9, _⟩ => ⟨S1024x2816, .f32⟩
  | .hbm, ⟨10, _⟩ => ⟨S1024x2816, .f32⟩
  | .hbm, ⟨11, _⟩ => ⟨S3x2816, .f32⟩
  | .hbm, ⟨12, _⟩ => ⟨S2816, .f32⟩
  | .hbm, ⟨13, _⟩ => ⟨S2816x1024, .f32⟩
  | .hbm, ⟨14, _⟩ => ⟨S1024, .f32⟩
  | .hbm, ⟨15, _⟩ => ⟨S1024, .f32⟩
  | .hbm, ⟨16, _⟩ => ⟨S1024x1024, .bf16⟩
  | .hbm, ⟨17, _⟩ => ⟨S1x1024, .f32⟩
  | .hbm, ⟨18, _⟩ => ⟨S1x1024, .f32⟩
  | .hbm, ⟨19, _⟩ => ⟨S1024x2816, .bf16⟩
  | .hbm, ⟨20, _⟩ => ⟨S1024x2816, .bf16⟩
  | .hbm, ⟨21, _⟩ => ⟨S1x2816, .f32⟩
  | .hbm, ⟨22, _⟩ => ⟨S2816x1024, .bf16⟩
  | .hbm, ⟨23, _⟩ => ⟨S1x1024, .f32⟩
  | .hbm, ⟨24, _⟩ => ⟨S1x1024, .f32⟩
  | .hbm, ⟨25, _⟩ => ⟨S8x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x256, .f32⟩
  | .local _ .vmem, ⟨3, _⟩ => ⟨S1x512x256, .f32⟩
  | .local _ .vmem, ⟨4, _⟩ => ⟨S1x512x384, .f32⟩
  | .local _ .vmem, ⟨5, _⟩ => ⟨S1x512x384, .f32⟩
  | .local _ .vmem, ⟨6, _⟩ => ⟨S1x512x384, .f32⟩
  | .local _ .vmem, ⟨7, _⟩ => ⟨S1x512x384, .f32⟩
  | .local _ .vmem, ⟨8, _⟩ => ⟨S1x512x384, .f32⟩
  | .local _ .vmem, ⟨9, _⟩ => ⟨S1x512x384, .f32⟩
  | .local _ .vmem, ⟨10, _⟩ => ⟨S1x512x384, .f32⟩
  | .local _ .vmem, ⟨11, _⟩ => ⟨S1x512x384, .f32⟩
  | .local _ .vmem, ⟨12, _⟩ => ⟨S1x16x1024, .f32⟩
  | .local _ .vmem, ⟨13, _⟩ => ⟨S1x16x1024, .f32⟩
  | .local _ .vmem, ⟨14, _⟩ => ⟨S1x16x256, .f32⟩
  | .local _ .vmem, ⟨15, _⟩ => ⟨S1x16x256, .f32⟩
  | .local _ .vmem, ⟨16, _⟩ => ⟨S1x16x384, .f32⟩
  | .local _ .vmem, ⟨17, _⟩ => ⟨S1x16x384, .f32⟩
  | .local _ .vmem, ⟨18, _⟩ => ⟨S1x16x384, .f32⟩
  | .local _ .vmem, ⟨19, _⟩ => ⟨S1x16x384, .f32⟩
  | .local _ .vmem, ⟨20, _⟩ => ⟨S1x16x384, .f32⟩
  | .local _ .vmem, ⟨21, _⟩ => ⟨S1x16x384, .f32⟩
  | .local _ .vmem, ⟨22, _⟩ => ⟨S1x16x384, .f32⟩
  | .local _ .vmem, ⟨23, _⟩ => ⟨S1x16x384, .f32⟩
  | .local _ .vmem, ⟨24, _⟩ => ⟨S1024x1024, .bf16⟩
  | .local _ .vmem, ⟨25, _⟩ => ⟨S1x1024, .f32⟩
  | .local _ .vmem, ⟨26, _⟩ => ⟨S1x1024, .f32⟩
  | .local _ .vmem, ⟨27, _⟩ => ⟨S1024x2816, .bf16⟩
  | .local _ .vmem, ⟨28, _⟩ => ⟨S1024x2816, .bf16⟩
  | .local _ .vmem, ⟨29, _⟩ => ⟨S3x2816, .f32⟩
  | .local _ .vmem, ⟨30, _⟩ => ⟨S1x2816, .f32⟩
  | .local _ .vmem, ⟨31, _⟩ => ⟨S2816x1024, .bf16⟩
  | .local _ .vmem, ⟨32, _⟩ => ⟨S1x1024, .f32⟩
  | .local _ .vmem, ⟨33, _⟩ => ⟨S1x1024, .f32⟩
  | .local _ .vmem, ⟨34, _⟩ => ⟨S1x512x1024, .f32⟩
  | .local _ .vmem, ⟨35, _⟩ => ⟨S1x512x1024, .f32⟩
  | .local _ .vmem, ⟨36, _⟩ => ⟨S512x1024, .f32⟩
  | .local _ .vmem, ⟨37, _⟩ => ⟨S528x1024, .bf16⟩
  | .local _ .vmem, ⟨38, _⟩ => ⟨S512x2816, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg13_0 : Ref sig .tc := ⟨.vmem, 25, rfl⟩
abbrev cc0_stg14_0 : Ref sig .tc := ⟨.vmem, 26, rfl⟩
abbrev cc0_stg15_0 : Ref sig .tc := ⟨.vmem, 27, rfl⟩
abbrev cc0_stg16_0 : Ref sig .tc := ⟨.vmem, 28, rfl⟩
abbrev cc0_stg17_0 : Ref sig .tc := ⟨.vmem, 29, rfl⟩
abbrev cc0_stg18_0 : Ref sig .tc := ⟨.vmem, 30, rfl⟩
abbrev cc0_stg19_0 : Ref sig .tc := ⟨.vmem, 31, rfl⟩
abbrev cc0_stg20_0 : Ref sig .tc := ⟨.vmem, 32, rfl⟩
abbrev cc0_stg21_0 : Ref sig .tc := ⟨.vmem, 33, rfl⟩
abbrev cc0_stg22_0 : Ref sig .tc := ⟨.vmem, 34, rfl⟩
abbrev cc0_stg22_1 : Ref sig .tc := ⟨.vmem, 35, rfl⟩
abbrev cc0_scratch0 : Ref sig .tc := ⟨.vmem, 36, rfl⟩
abbrev cc0_scratch1 : Ref sig .tc := ⟨.vmem, 37, rfl⟩
abbrev cc0_scratch2 : Ref sig .tc := ⟨.vmem, 38, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem13_0 : DmaSem sig := 25
abbrev cc0_sem14_0 : DmaSem sig := 26
abbrev cc0_sem15_0 : DmaSem sig := 27
abbrev cc0_sem16_0 : DmaSem sig := 28
abbrev cc0_sem17_0 : DmaSem sig := 29
abbrev cc0_sem18_0 : DmaSem sig := 30
abbrev cc0_sem19_0 : DmaSem sig := 31
abbrev cc0_sem20_0 : DmaSem sig := 32
abbrev cc0_sem21_0 : DmaSem sig := 33
abbrev cc0_sem22_0 : DmaSem sig := 34
abbrev cc0_sem22_1 : DmaSem sig := 35

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_7 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_8 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_9 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_10 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_11 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x16x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x16x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x16x384 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x16x384 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x16x384 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x16x384 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1024x2816 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S1024x2816 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S3x2816 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 1 → Memref sig .tc .vmem S1x2816 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]

abbrev stage0_19 : Fin 1 → Memref sig .tc .vmem S2816x1024 .bf16 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false, false]

abbrev stage0_20 : Fin 1 → Memref sig .tc .vmem S1x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false, false]

abbrev stage0_21 : Fin 1 → Memref sig .tc .vmem S1x1024 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false, false]

abbrev stage0_22 : Fin 2 → Memref sig .tc .vmem S1x512x1024 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true, true]
-- ==== Reference2Ideal.lean ====
abbrev S8x4096x1024 : Shape := ⟨3, ![8, 4096, 1024]⟩
abbrev S8x4096x256 : Shape := ⟨3, ![8, 4096, 256]⟩
abbrev S8x4096x384 : Shape := ⟨3, ![8, 4096, 384]⟩
abbrev S1024x1024 : Shape := ⟨2, ![1024, 1024]⟩
abbrev S1024 : Shape := ⟨1, ![1024]⟩
abbrev S1024x2816 : Shape := ⟨2, ![1024, 2816]⟩
abbrev S3x2816 : Shape := ⟨2, ![3, 2816]⟩
abbrev S2816 : Shape := ⟨1, ![2816]⟩
abbrev S2816x1024 : Shape := ⟨2, ![2816, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x2816 : Shape := ⟨3, ![8, 4096, 2816]⟩
abbrev S8x4098x2816 : Shape := ⟨3, ![8, 4098, 2816]⟩
abbrev S1x2816 : Shape := ⟨2, ![1, 2816]⟩
abbrev S1x1x2816 : Shape := ⟨3, ![1, 1, 2816]⟩

abbrev nBuf : Space → Nat
  | .hbm => 133
  | .vmem => 0
  | .smem => 0
  | _ => 0

abbrev hbmTy0_0 (i : Nat) : BufTy := match i % 128 with
  | 0 => ⟨S8x4096x1024, .f32⟩
  | 1 => ⟨S8x4096x256, .f32⟩
  | 2 => ⟨S8x4096x384, .f32⟩
  | 3 => ⟨S8x4096x384, .f32⟩
  | 4 => ⟨S8x4096x384, .f32⟩
  | 5 => ⟨S8x4096x384, .f32⟩
  | 6 => ⟨S1024x1024, .f32⟩
  | 7 => ⟨S1024, .f32⟩
  | 8 => ⟨S1024, .f32⟩
  | 9 => ⟨S1024x2816, .f32⟩
  | 10 => ⟨S1024x2816, .f32⟩
  | 11 => ⟨S3x2816, .f32⟩
  | 12 => ⟨S2816, .f32⟩
  | 13 => ⟨S2816x1024, .f32⟩
  | 14 => ⟨S1024, .f32⟩
  | 15 => ⟨S1024, .f32⟩
  | 16 => ⟨S8x4096x384, .f32⟩
  | 17 => ⟨S8x4096x384, .f32⟩
  | 18 => ⟨S8x4096x1024, .f32⟩
  | 19 => ⟨S8x4096x1024, .f32⟩
  | 20 => ⟨S_, .f32⟩
  | 21 => ⟨S8x4096x1024, .f32⟩
  | 22 => ⟨S8x4096x1024, .f32⟩
  | 23 => ⟨S8x4096x1024, .f32⟩
  | 24 => ⟨S_, .f32⟩
  | 25 => ⟨S8x4096, .f32⟩
  | 26 => ⟨S8x4096x1, .f32⟩
  | 27 => ⟨S_, .f32⟩
  | 28 => ⟨S8x4096x1, .f32⟩
  | 29 => ⟨S8x4096x1, .f32⟩
  | 30 => ⟨S8x4096x1024, .f32⟩
  | 31 => ⟨S8x4096x1024, .f32⟩
  | 32 => ⟨S8x4096x1024, .f32⟩
  | 33 => ⟨S_, .f32⟩
  | 34 => ⟨S8x4096, .f32⟩
  | 35 => ⟨S8x4096x1, .f32⟩
  | 36 => ⟨S_, .f32⟩
  | 37 => ⟨S8x4096x1, .f32⟩
  | 38 => ⟨S8x4096x1, .f32⟩
  | 39 => ⟨S8x4096x1024, .f32⟩
  | 40 => ⟨S8x4096x1024, .f32⟩
  | 41 => ⟨S_, .f32⟩
  | 42 => ⟨S8x4096x1, .f32⟩
  | 43 => ⟨S8x4096x1, .f32⟩
  | 44 => ⟨S8x4096x1, .f32⟩
  | 45 => ⟨S8x4096x1024, .f32⟩
  | 46 => ⟨S8x4096x1024, .f32⟩
  | 47 => ⟨S1x1x1024, .f32⟩
  | 48 => ⟨S8x4096x1024, .f32⟩
  | 49 => ⟨S8x4096x1024, .f32⟩
  | 50 => ⟨S1x1x1024, .f32⟩
  | 51 => ⟨S8x4096x1024, .f32⟩
  | 52 => ⟨S8x4096x1024, .f32⟩
  | 53 => ⟨S8x4096x2816, .f32⟩
  | 54 => ⟨S_, .i32⟩
  | 55 => ⟨S_, .f32⟩
  | 56 => ⟨S8x4098x2816, .f32⟩
  | 57 => ⟨S8x4096x2816, .f32⟩
  | 58 => ⟨S1x2816, .f32⟩
  | 59 => ⟨S2816, .f32⟩
  | 60 => ⟨S1x1x2816, .f32⟩
  | 61 => ⟨S8x4096x2816, .f32⟩
  | 62 => ⟨S8x4096x2816, .f32⟩
  | 63 => ⟨S1x1x2816, .f32⟩
  | 64 => ⟨S8x4096x2816, .f32⟩
  | 65 => ⟨S8x4096x2816, .f32⟩
  | 66 => ⟨S8x4096x2816, .f32⟩
  | 67 => ⟨S1x2816, .f32⟩
  | 68 => ⟨S2816, .f32⟩
  | 69 => ⟨S1x1x2816, .f32⟩
  | 70 => ⟨S8x4096x2816, .f32⟩
  | 71 => ⟨S8x4096x2816, .f32⟩
  | 72 => ⟨S8x4096x2816, .f32⟩
  | 73 => ⟨S8x4096x2816, .f32⟩
  | 74 => ⟨S1x2816, .f32⟩
  | 75 => ⟨S2816, .f32⟩
  | 76 => ⟨S1x1x2816, .f32⟩
  | 77 => ⟨S8x4096x2816, .f32⟩
  | 78 => ⟨S8x4096x2816, .f32⟩
  | 79 => ⟨S8x4096x2816, .f32⟩
  | 80 => ⟨S8x4096x2816, .f32⟩
  | 81 => ⟨S8x4096x2816, .f32⟩
  | 82 => ⟨S_, .f32⟩
  | 83 => ⟨S8x4096x2816, .f32⟩
  | 84 => ⟨S8x4096x2816, .f32⟩
  | 85 => ⟨S8x4096x2816, .f32⟩
  | 86 => ⟨S_, .f32⟩
  | 87 => ⟨S8x4096x2816, .f32⟩
  | 88 => ⟨S8x4096x2816, .f32⟩
  | 89 => ⟨S8x4096x2816, .f32⟩
  | 90 => ⟨S_, .f32⟩
  | 91 => ⟨S8x4096x2816, .f32⟩
  | 92 => ⟨S8x4096x2816, .f32⟩
  | 93 => ⟨S_, .f32⟩
  | 94 => ⟨S8x4096x2816, .f32⟩
  | 95 => ⟨S8x4096x2816, .f32⟩
  | 96 => ⟨S8x4096x2816, .f32⟩
  | 97 => ⟨S8x4096x2816, .f32⟩
  | 98 => ⟨S8x4096x2816, .f32⟩
  | 99 => ⟨S8x4096x1024, .f32⟩
  | 100 => ⟨S_, .f32⟩
  | 101 => ⟨S8x4096x1024, .f32⟩
  | 102 => ⟨S8x4096x1024, .f32⟩
  | 103 => ⟨S8x4096x1024, .f32⟩
  | 104 => ⟨S_, .f32⟩
  | 105 => ⟨S8x4096, .f32⟩
  | 106 => ⟨S8x4096x1, .f32⟩
  | 107 => ⟨S_, .f32⟩
  | 108 => ⟨S8x4096x1, .f32⟩
  | 109 => ⟨S8x4096x1, .f32⟩
  | 110 => ⟨S8x4096x1024, .f32⟩
  | 111 => ⟨S8x4096x1024, .f32⟩
  | 112 => ⟨S8x4096x1024, .f32⟩
  | 113 => ⟨S_, .f32⟩
  | 114 => ⟨S8x4096, .f32⟩
  | 115 => ⟨S8x4096x1, .f32⟩
  | 116 => ⟨S_, .f32⟩
  | 117 => ⟨S8x4096x1, .f32⟩
  | 118 => ⟨S8x4096x1, .f32⟩
  | 119 => ⟨S8x4096x1024, .f32⟩
  | 120 => ⟨S8x4096x1024, .f32⟩
  | 121 => ⟨S_, .f32⟩
  | 122 => ⟨S8x4096x1, .f32⟩
  | 123 => ⟨S8x4096x1, .f32⟩
  | 124 => ⟨S8x4096x1, .f32⟩
  | 125 => ⟨S8x4096x1024, .f32⟩
  | 126 => ⟨S8x4096x1024, .f32⟩
  | 127 => ⟨S1x1x1024, .f32⟩
  | _ => ⟨S8x4096x1024, .f32⟩

abbrev hbmTy0_1 (i : Nat) : BufTy := match i % 128 with
  | 0 => ⟨S8x4096x1024, .f32⟩
  | 1 => ⟨S8x4096x1024, .f32⟩
  | 2 => ⟨S1x1x1024, .f32⟩
  | 3 => ⟨S8x4096x1024, .f32⟩
  | 4 => ⟨S8x4096x1024, .f32⟩
  | _ => ⟨S8x4096x1024, .f32⟩

abbrev hbmTy (i : Nat) : BufTy := match i / 128 with
  | 0 => hbmTy0_0 i
  | 1 => hbmTy0_1 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_cst : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_cst_0 : Ref sig .tc := ⟨.hbm, 24, rfl⟩
abbrev main_v7 : Ref sig .tc := ⟨.hbm, 25, rfl⟩
abbrev main_v8 : Ref sig .tc := ⟨.hbm, 26, rfl⟩
abbrev main_cst_1 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_cst_2 : Ref sig .tc := ⟨.hbm, 33, rfl⟩
abbrev main_v14 : Ref sig .tc := ⟨.hbm, 34, rfl⟩
abbrev main_v15 : Ref sig .tc := ⟨.hbm, 35, rfl⟩
abbrev main_cst_3 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_cst_4 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_c : Ref sig .tc := ⟨.hbm, 54, rfl⟩
abbrev main_call0_v0 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_5 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_cst_6 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_cst_7 : Ref sig .tc := ⟨.hbm, 90, rfl⟩
abbrev main_v64 : Ref sig .tc := ⟨.hbm, 91, rfl⟩
abbrev main_v65 : Ref sig .tc := ⟨.hbm, 92, rfl⟩
abbrev main_cst_8 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_cst_9 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_cst_10 : Ref sig .tc := ⟨.hbm, 104, rfl⟩
abbrev main_v75 : Ref sig .tc := ⟨.hbm, 105, rfl⟩
abbrev main_v76 : Ref sig .tc := ⟨.hbm, 106, rfl⟩
abbrev main_cst_11 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_cst_12 : Ref sig .tc := ⟨.hbm, 113, rfl⟩
abbrev main_v82 : Ref sig .tc := ⟨.hbm, 114, rfl⟩
abbrev main_v83 : Ref sig .tc := ⟨.hbm, 115, rfl⟩
abbrev main_cst_13 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_cst_14 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩

abbrev nD : Nat := 1
abbrev τ : Topo := Topo.v7x

variable {F : FTy → Type} [FloatOps F]
-- ==== Kernel3.lean ====
abbrev S8x4096x1024 : Shape := ⟨3, ![8, 4096, 1024]⟩
abbrev S8x4096 : Shape := ⟨2, ![8, 4096]⟩
abbrev S1024x2962 : Shape := ⟨2, ![1024, 2962]⟩
abbrev S4x64x64 : Shape := ⟨3, ![4, 64, 64]⟩
abbrev S256 : Shape := ⟨1, ![256]⟩
abbrev S32 : Shape := ⟨1, ![32]⟩
abbrev S_ : Shape := ⟨0, ![]⟩
abbrev S8x4096x1 : Shape := ⟨3, ![8, 4096, 1]⟩
abbrev S1x1x32 : Shape := ⟨3, ![1, 1, 32]⟩
abbrev S8x4096x32 : Shape := ⟨3, ![8, 4096, 32]⟩
abbrev S8x4096x128 : Shape := ⟨3, ![8, 4096, 128]⟩
abbrev S1024x3072 : Shape := ⟨2, ![1024, 3072]⟩
abbrev S4x4 : Shape := ⟨2, ![4, 4]⟩
abbrev S4x64x1x64 : Shape := ⟨4, ![4, 64, 1, 64]⟩
abbrev S4x1x4x1 : Shape := ⟨4, ![4, 1, 4, 1]⟩
abbrev S4x64x4x64 : Shape := ⟨4, ![4, 64, 4, 64]⟩
abbrev S256x256 : Shape := ⟨2, ![256, 256]⟩
abbrev S1x256 : Shape := ⟨2, ![1, 256]⟩
abbrev S8x4096x256 : Shape := ⟨3, ![8, 4096, 256]⟩
abbrev S8x4096x1536 : Shape := ⟨3, ![8, 4096, 1536]⟩
abbrev S8x384x4096 : Shape := ⟨3, ![8, 384, 4096]⟩
abbrev S8x256x2048 : Shape := ⟨3, ![8, 256, 2048]⟩
abbrev S8x2x4096x128 : Shape := ⟨4, ![8, 2, 4096, 128]⟩
abbrev S8x2x8x80x512 : Shape := ⟨5, ![8, 2, 8, 80, 512]⟩
abbrev S8x2x32x80x128 : Shape := ⟨5, ![8, 2, 32, 80, 128]⟩
abbrev S1x512x1024 : Shape := ⟨3, ![1, 512, 1024]⟩
abbrev S1x16x1024 : Shape := ⟨3, ![1, 16, 1024]⟩
abbrev S1x512x128 : Shape := ⟨3, ![1, 512, 128]⟩
abbrev S1x512x256 : Shape := ⟨3, ![1, 512, 256]⟩
abbrev S1x512x1536 : Shape := ⟨3, ![1, 512, 1536]⟩
abbrev S1x384x512 : Shape := ⟨3, ![1, 384, 512]⟩
abbrev S1x32x2048 : Shape := ⟨3, ![1, 32, 2048]⟩
abbrev S1x2x512x128 : Shape := ⟨4, ![1, 2, 512, 128]⟩
abbrev S1x2x1x80x512 : Shape := ⟨5, ![1, 2, 1, 80, 512]⟩
abbrev S1x2x4x80x128 : Shape := ⟨5, ![1, 2, 4, 80, 128]⟩
abbrev S512x128 : Shape := ⟨2, ![512, 128]⟩
abbrev S512x1024 : Shape := ⟨2, ![512, 1024]⟩
abbrev S128x512 : Shape := ⟨2, ![128, 512]⟩
abbrev S1024x256 : Shape := ⟨2, ![1024, 256]⟩
abbrev S512x256 : Shape := ⟨2, ![512, 256]⟩
abbrev S16x1024 : Shape := ⟨2, ![16, 1024]⟩
abbrev S16x256 : Shape := ⟨2, ![16, 256]⟩
abbrev S528x256 : Shape := ⟨2, ![528, 256]⟩
abbrev S1x128x512 : Shape := ⟨3, ![1, 128, 512]⟩
abbrev S32x128 : Shape := ⟨2, ![32, 128]⟩
abbrev S1x32x128 : Shape := ⟨3, ![1, 32, 128]⟩
abbrev S1x1x512x128 : Shape := ⟨4, ![1, 1, 512, 128]⟩
abbrev S80x512 : Shape := ⟨2, ![80, 512]⟩
abbrev S1x1x1x80x512 : Shape := ⟨5, ![1, 1, 1, 80, 512]⟩
abbrev S80x128 : Shape := ⟨2, ![80, 128]⟩
abbrev S1x1x1x80x128 : Shape := ⟨5, ![1, 1, 1, 80, 128]⟩

abbrev nBuf : Space → Nat
  | .hbm => 60
  | .vmem => 32
  | .smem => 0
  | _ => 0

abbrev bufTy : (tb : Table) → Fin (tcTables nBuf tb) → BufTy
  | .hbm, ⟨0, _⟩ => ⟨S8x4096x1024, .f32⟩
  | .hbm, ⟨1, _⟩ => ⟨S8x4096, .i32⟩
  | .hbm, ⟨2, _⟩ => ⟨S1024x2962, .f32⟩
  | .hbm, ⟨3, _⟩ => ⟨S4x64x64, .f32⟩
  | .hbm, ⟨4, _⟩ => ⟨S256, .f32⟩
  | .hbm, ⟨5, _⟩ => ⟨S32, .f32⟩
  | .hbm, ⟨6, _⟩ => ⟨S_, .f32⟩
  | .hbm, ⟨7, _⟩ => ⟨S32, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S8x4096, .f32⟩
  | .hbm, ⟨20, _⟩ => ⟨S8x4096x1, .f32⟩
  | .hbm, ⟨21, _⟩ => ⟨S1x1x32, .f32⟩
  | .hbm, ⟨22, _⟩ => ⟨S8x4096x32, .f32⟩
  | .hbm, ⟨23, _⟩ => ⟨S8x4096x32, .f32⟩
  | .hbm, ⟨24, _⟩ => ⟨S8x4096x32, .f32⟩
  | .hbm, ⟨25, _⟩ => ⟨S8x4096x32, .f32⟩
  | .hbm, ⟨26, _⟩ => ⟨S8x4096x32, .f32⟩
  | .hbm, ⟨27, _⟩ => ⟨S8x4096x128, .f32⟩
  | .hbm, ⟨28, _⟩ => ⟨S8x4096x32, .f32⟩
  | .hbm, ⟨29, _⟩ => ⟨S8x4096x32, .f32⟩
  | .hbm, ⟨30, _⟩ => ⟨S8x4096x128, .f32⟩
  | .hbm, ⟨31, _⟩ => ⟨S_, .i32⟩
  | .hbm, ⟨32, _⟩ => ⟨S_, .f32⟩
  | .hbm, ⟨33, _⟩ => ⟨S1024x3072, .f32⟩
  | .hbm, ⟨34, _⟩ => ⟨S1024x3072, .bf16⟩
  | .hbm, ⟨35, _⟩ => ⟨S4x4, .i32⟩
  | .hbm, ⟨36, _⟩ => ⟨S4x4, .i32⟩
  | .hbm, ⟨37, _⟩ => ⟨S_, .i32⟩
  | .hbm, ⟨38, _⟩ => ⟨S4x4, .i32⟩
  | .hbm, ⟨39, _⟩ => ⟨S4x4, .i32⟩
  | .hbm, ⟨40, _⟩ => ⟨S4x4, .i1⟩
  | .hbm, ⟨41, _⟩ => ⟨S4x4, .f32⟩
  | .hbm, ⟨42, _⟩ => ⟨S4x64x1x64, .f32⟩
  | .hbm, ⟨43, _⟩ => ⟨S4x1x4x1, .f32⟩
  | .hbm, ⟨44, _⟩ => ⟨S4x64x4x64, .f32⟩
  | .hbm, ⟨45, _⟩ => ⟨S4x64x4x64, .f32⟩
  | .hbm, ⟨46, _⟩ => ⟨S4x64x4x64, .f32⟩
  | .hbm, ⟨47, _⟩ => ⟨S256x256, .f32⟩
  | .hbm, ⟨48, _⟩ => ⟨S256x256, .bf16⟩
  | .hbm, ⟨49, _⟩ => ⟨S1x256, .f32⟩
  | .hbm, ⟨50, _⟩ => ⟨S8x4096x256, .f32⟩
  | .hbm, ⟨51, _⟩ => ⟨S8x4096x1536, .f32⟩
  | .hbm, ⟨52, _⟩ => ⟨S8x384x4096, .bf16⟩
  | .hbm, ⟨53, _⟩ => ⟨S8x256x2048, .f32⟩
  | .hbm, ⟨54, _⟩ => ⟨S8x256x2048, .f32⟩
  | .hbm, ⟨55, _⟩ => ⟨S8x4096x128, .f32⟩
  | .hbm, ⟨56, _⟩ => ⟨S8x2x4096x128, .bf16⟩
  | .hbm, ⟨57, _⟩ => ⟨S8x2x8x80x512, .bf16⟩
  | .hbm, ⟨58, _⟩ => ⟨S8x4096x128, .bf16⟩
  | .hbm, ⟨59, _⟩ => ⟨S8x2x32x80x128, .bf16⟩
  | .local _ .vmem, ⟨0, _⟩ => ⟨S1x512x1024, .f32⟩
  | .local _ .vmem, ⟨1, _⟩ => ⟨S1x512x1024, .f32⟩
  | .local _ .vmem, ⟨2, _⟩ => ⟨S1x16x1024, .f32⟩
  | .local _ .vmem, ⟨3, _⟩ => ⟨S1x16x1024, .f32⟩
  | .local _ .vmem, ⟨4, _⟩ => ⟨S1x512x128, .f32⟩
  | .local _ .vmem, ⟨5, _⟩ => ⟨S1x512x128, .f32⟩
  | .local _ .vmem, ⟨6, _⟩ => ⟨S1x512x128, .f32⟩
  | .local _ .vmem, ⟨7, _⟩ => ⟨S1x512x128, .f32⟩
  | .local _ .vmem, ⟨8, _⟩ => ⟨S1024x3072, .bf16⟩
  | .local _ .vmem, ⟨9, _⟩ => ⟨S256x256, .bf16⟩
  | .local _ .vmem, ⟨10, _⟩ => ⟨S1x256, .f32⟩
  | .local _ .vmem, ⟨11, _⟩ => ⟨S1x512x256, .f32⟩
  | .local _ .vmem, ⟨12, _⟩ => ⟨S1x512x256, .f32⟩
  | .local _ .vmem, ⟨13, _⟩ => ⟨S1x512x1536, .f32⟩
  | .local _ .vmem, ⟨14, _⟩ => ⟨S1x512x1536, .f32⟩
  | .local _ .vmem, ⟨15, _⟩ => ⟨S1x384x512, .bf16⟩
  | .local _ .vmem, ⟨16, _⟩ => ⟨S1x384x512, .bf16⟩
  | .local _ .vmem, ⟨17, _⟩ => ⟨S1x32x2048, .f32⟩
  | .local _ .vmem, ⟨18, _⟩ => ⟨S1x32x2048, .f32⟩
  | .local _ .vmem, ⟨19, _⟩ => ⟨S1x32x2048, .f32⟩
  | .local _ .vmem, ⟨20, _⟩ => ⟨S1x32x2048, .f32⟩
  | .local _ .vmem, ⟨21, _⟩ => ⟨S1x512x128, .f32⟩
  | .local _ .vmem, ⟨22, _⟩ => ⟨S1x512x128, .f32⟩
  | .local _ .vmem, ⟨23, _⟩ => ⟨S1x2x512x128, .bf16⟩
  | .local _ .vmem, ⟨24, _⟩ => ⟨S1x2x512x128, .bf16⟩
  | .local _ .vmem, ⟨25, _⟩ => ⟨S1x2x1x80x512, .bf16⟩
  | .local _ .vmem, ⟨26, _⟩ => ⟨S1x2x1x80x512, .bf16⟩
  | .local _ .vmem, ⟨27, _⟩ => ⟨S1x512x128, .bf16⟩
  | .local _ .vmem, ⟨28, _⟩ => ⟨S1x512x128, .bf16⟩
  | .local _ .vmem, ⟨29, _⟩ => ⟨S1x2x4x80x128, .bf16⟩
  | .local _ .vmem, ⟨30, _⟩ => ⟨S1x2x4x80x128, .bf16⟩
  | .local _ .vmem, ⟨31, _⟩ => ⟨S512x128, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_c : Ref sig .tc := ⟨.hbm, 31, rfl⟩
abbrev main_call0_v0 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_c_3 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38_0 : Ref sig .tc := ⟨.hbm, 50, rfl⟩
abbrev main_v38_1 : Ref sig .tc := ⟨.hbm, 51, rfl⟩
abbrev main_v38_2 : Ref sig .tc := ⟨.hbm, 52, rfl⟩
abbrev main_v38_3 : Ref sig .tc := ⟨.hbm, 53, rfl⟩
abbrev main_v38_4 : Ref sig .tc := ⟨.hbm, 54, rfl⟩
abbrev main_v38_5 : Ref sig .tc := ⟨.hbm, 55, rfl⟩
abbrev main_v38_6 : Ref sig .tc := ⟨.hbm, 56, rfl⟩
abbrev main_v38_7 : Ref sig .tc := ⟨.hbm, 57, rfl⟩
abbrev main_v38_8 : Ref sig .tc := ⟨.hbm, 58, rfl⟩
abbrev main_v38_9 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_stg15_0 : Ref sig .tc := ⟨.vmem, 27, rfl⟩
abbrev cc0_stg15_1 : Ref sig .tc := ⟨.vmem, 28, rfl⟩
abbrev cc0_stg16_0 : Ref sig .tc := ⟨.vmem, 29, rfl⟩
abbrev cc0_stg16_1 : Ref sig .tc := ⟨.vmem, 30, rfl⟩
abbrev cc0_scratch0 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26
abbrev cc0_sem15_0 : DmaSem sig := 27
abbrev cc0_sem15_1 : DmaSem sig := 28
abbrev cc0_sem16_0 : DmaSem sig := 29
abbrev cc0_sem16_1 : DmaSem sig := 30

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_14 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1024x3072 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x1536 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x384x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x32x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x32x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x2x512x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x2x1x80x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x512x128 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x2x4x80x128 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]
-- ==== Reference3Ideal.lean ====
abbrev S8x4096x1024 : Shape := ⟨3, ![8, 4096, 1024]⟩
abbrev S8x4096 : Shape := ⟨2, ![8, 4096]⟩
abbrev S1024x2962 : Shape := ⟨2, ![1024, 2962]⟩
abbrev S4x64x64 : Shape := ⟨3, ![4, 64, 64]⟩
abbrev S256 : Shape := ⟨1, ![256]⟩
abbrev S8x4096x2962 : Shape := ⟨3, ![8, 4096, 2962]⟩
abbrev S8x4096x256 : Shape := ⟨3, ![8, 4096, 256]⟩
abbrev S8x4096x384 : Shape := ⟨3, ![8, 4096, 384]⟩
abbrev S8x4096x128 : Shape := ⟨3, ![8, 4096, 128]⟩
abbrev S8x4096x18 : Shape := ⟨3, ![8, 4096, 18]⟩
abbrev S32 : Shape := ⟨1, ![32]⟩
abbrev S_ : Shape := ⟨0, ![]⟩
abbrev S8x4096x1 : Shape := ⟨3, ![8, 4096, 1]⟩
abbrev S1x1x32 : Shape := ⟨3, ![1, 1, 32]⟩
abbrev S8x4096x32 : Shape := ⟨3, ![8, 4096, 32]⟩
abbrev S8x4096x1x32 : Shape := ⟨4, ![8, 4096, 1, 32]⟩
abbrev S8x4096x6x64 : Shape := ⟨4, ![8, 4096, 6, 64]⟩
abbrev S8x4096x6x32 : Shape := ⟨4, ![8, 4096, 6, 32]⟩
abbrev S8x4096x1536 : Shape := ⟨3, ![8, 4096, 1536]⟩
abbrev S8x384x4096 : Shape := ⟨3, ![8, 384, 4096]⟩
abbrev S8x4096x2x64 : Shape := ⟨4, ![8, 4096, 2, 64]⟩
abbrev S8x4096x2x32 : Shape := ⟨4, ![8, 4096, 2, 32]⟩
abbrev S8x2x4096x64 : Shape := ⟨4, ![8, 2, 4096, 64]⟩
abbrev S4096 : Shape := ⟨1, ![4096]⟩
abbrev S4096x1 : Shape := ⟨2, ![4096, 1]⟩
abbrev S64 : Shape := ⟨1, ![64]⟩
abbrev S1x64 : Shape := ⟨2, ![1, 64]⟩
abbrev S4096x64 : Shape := ⟨2, ![4096, 64]⟩
abbrev S8x2x4096x128 : Shape := ⟨4, ![8, 2, 4096, 128]⟩
abbrev S8x256x2048 : Shape := ⟨3, ![8, 256, 2048]⟩
abbrev S8x8x512x2x64 : Shape := ⟨5, ![8, 8, 512, 2, 64]⟩
abbrev S8x2x8x64x512 : Shape := ⟨5, ![8, 2, 8, 64, 512]⟩
abbrev S8x2x8x16x512 : Shape := ⟨5, ![8, 2, 8, 16, 512]⟩
abbrev S8x2x8x80x512 : Shape := ⟨5, ![8, 2, 8, 80, 512]⟩
abbrev S8x32x128x2x64 : Shape := ⟨5, ![8, 32, 128, 2, 64]⟩
abbrev S8x2x32x64x128 : Shape := ⟨5, ![8, 2, 32, 64, 128]⟩
abbrev S8x2x32x16x128 : Shape := ⟨5, ![8, 2, 32, 16, 128]⟩
abbrev S8x2x32x80x128 : Shape := ⟨5, ![8, 2, 32, 80, 128]⟩
abbrev S8x4096x64 : Shape := ⟨3, ![8, 4096, 64]⟩
abbrev S8x4097x64 : Shape := ⟨3, ![8, 4097, 64]⟩
abbrev S1x4096x1 : Shape := ⟨3, ![1, 4096, 1]⟩
abbrev S1x64x64 : Shape := ⟨3, ![1, 64, 64]⟩
abbrev S64x64 : Shape := ⟨2, ![64, 64]⟩
abbrev S8x4099x64 : Shape := ⟨3, ![8, 4099, 64]⟩
abbrev S8x4103x64 : Shape := ⟨3, ![8, 4103, 64]⟩
abbrev S8x4111x64 : Shape := ⟨3, ![8, 4111, 64]⟩
abbrev S1x1x256 : Shape := ⟨3, ![1, 1, 256]⟩

abbrev nBuf : Space → Nat
  | .hbm => 335
  | .vmem => 0
  | .smem => 0
  | _ => 0

abbrev hbmTy0_0 (i : Nat) : BufTy := match i % 128 with
  | 0 => ⟨S8x4096x1024, .f32⟩
  | 1 => ⟨S8x4096, .i32⟩
  | 2 => ⟨S1024x2962, .f32⟩
  | 3 => ⟨S4x64x64, .f32⟩
  | 4 => ⟨S256, .f32⟩
  | 5 => ⟨S8x4096x2962, .f32⟩
  | 6 => ⟨S8x4096x256, .f32⟩
  | 7 => ⟨S8x4096x384, .f32⟩
  | 8 => ⟨S8x4096x384, .f32⟩
  | 9 => ⟨S8x4096x384, .f32⟩
  | 10 => ⟨S8x4096x384, .f32⟩
  | 11 => ⟨S8x4096x384, .f32⟩
  | 12 => ⟨S8x4096x128, .f32⟩
  | 13 => ⟨S8x4096x128, .f32⟩
  | 14 => ⟨S8x4096x128, .f32⟩
  | 15 => ⟨S8x4096x128, .f32⟩
  | 16 => ⟨S8x4096x128, .f32⟩
  | 17 => ⟨S8x4096x128, .f32⟩
  | 18 => ⟨S8x4096x18, .f32⟩
  | 19 => ⟨S32, .f32⟩
  | 20 => ⟨S_, .f32⟩
  | 21 => ⟨S32, .f32⟩
  | 22 => ⟨S32, .f32⟩
  | 23 => ⟨S_, .f32⟩
  | 24 => ⟨S32, .f32⟩
  | 25 => ⟨S32, .f32⟩
  | 26 => ⟨S32, .f32⟩
  | 27 => ⟨S_, .f32⟩
  | 28 => ⟨S32, .f32⟩
  | 29 => ⟨S32, .f32⟩
  | 30 => ⟨S_, .f32⟩
  | 31 => ⟨S32, .f32⟩
  | 32 => ⟨S32, .f32⟩
  | 33 => ⟨S8x4096, .f32⟩
  | 34 => ⟨S8x4096x1, .f32⟩
  | 35 => ⟨S1x1x32, .f32⟩
  | 36 => ⟨S8x4096x32, .f32⟩
  | 37 => ⟨S8x4096x32, .f32⟩
  | 38 => ⟨S8x4096x32, .f32⟩
  | 39 => ⟨S8x4096x32, .f32⟩
  | 40 => ⟨S8x4096x1x32, .f32⟩
  | 41 => ⟨S8x4096x32, .f32⟩
  | 42 => ⟨S8x4096x1x32, .f32⟩
  | 43 => ⟨S8x4096x6x64, .f32⟩
  | 44 => ⟨S8x4096x6x32, .f32⟩
  | 45 => ⟨S8x4096x6x32, .f32⟩
  | 46 => ⟨S8x4096x6x32, .f32⟩
  | 47 => ⟨S8x4096x6x32, .f32⟩
  | 48 => ⟨S8x4096x6x32, .f32⟩
  | 49 => ⟨S8x4096x6x32, .f32⟩
  | 50 => ⟨S8x4096x6x32, .f32⟩
  | 51 => ⟨S8x4096x6x32, .f32⟩
  | 52 => ⟨S8x4096x6x32, .f32⟩
  | 53 => ⟨S8x4096x6x32, .f32⟩
  | 54 => ⟨S8x4096x6x32, .f32⟩
  | 55 => ⟨S8x4096x6x32, .f32⟩
  | 56 => ⟨S8x4096x6x64, .f32⟩
  | 57 => ⟨S8x4096x384, .f32⟩
  | 58 => ⟨S8x4096x6x64, .f32⟩
  | 59 => ⟨S8x4096x6x32, .f32⟩
  | 60 => ⟨S8x4096x6x32, .f32⟩
  | 61 => ⟨S8x4096x6x32, .f32⟩
  | 62 => ⟨S8x4096x6x32, .f32⟩
  | 63 => ⟨S8x4096x6x32, .f32⟩
  | 64 => ⟨S8x4096x6x32, .f32⟩
  | 65 => ⟨S8x4096x6x32, .f32⟩
  | 66 => ⟨S8x4096x6x32, .f32⟩
  | 67 => ⟨S8x4096x6x32, .f32⟩
  | 68 => ⟨S8x4096x6x32, .f32⟩
  | 69 => ⟨S8x4096x6x32, .f32⟩
  | 70 => ⟨S8x4096x6x32, .f32⟩
  | 71 => ⟨S8x4096x6x64, .f32⟩
  | 72 => ⟨S8x4096x384, .f32⟩
  | 73 => ⟨S_, .f32⟩
  | 74 => ⟨S8x4096x384, .f32⟩
  | 75 => ⟨S8x4096x384, .f32⟩
  | 76 => ⟨S8x4096x1536, .f32⟩
  | 77 => ⟨S8x4096x6x64, .f32⟩
  | 78 => ⟨S8x4096x6x32, .f32⟩
  | 79 => ⟨S8x4096x6x32, .f32⟩
  | 80 => ⟨S8x4096x6x32, .f32⟩
  | 81 => ⟨S8x4096x6x32, .f32⟩
  | 82 => ⟨S8x4096x6x32, .f32⟩
  | 83 => ⟨S8x4096x6x32, .f32⟩
  | 84 => ⟨S8x4096x6x32, .f32⟩
  | 85 => ⟨S8x4096x6x32, .f32⟩
  | 86 => ⟨S8x4096x6x32, .f32⟩
  | 87 => ⟨S8x4096x6x32, .f32⟩
  | 88 => ⟨S8x4096x6x32, .f32⟩
  | 89 => ⟨S8x4096x6x32, .f32⟩
  | 90 => ⟨S8x4096x6x64, .f32⟩
  | 91 => ⟨S8x4096x384, .f32⟩
  | 92 => ⟨S_, .f32⟩
  | 93 => ⟨S8x4096x384, .f32⟩
  | 94 => ⟨S8x4096x384, .f32⟩
  | 95 => ⟨S8x384x4096, .f32⟩
  | 96 => ⟨S8x4096x2x64, .f32⟩
  | 97 => ⟨S8x4096x2x32, .f32⟩
  | 98 => ⟨S8x4096x2x32, .f32⟩
  | 99 => ⟨S8x4096x2x32, .f32⟩
  | 100 => ⟨S8x4096x2x32, .f32⟩
  | 101 => ⟨S8x4096x2x32, .f32⟩
  | 102 => ⟨S8x4096x2x32, .f32⟩
  | 103 => ⟨S8x4096x2x32, .f32⟩
  | 104 => ⟨S8x4096x2x32, .f32⟩
  | 105 => ⟨S8x4096x2x32, .f32⟩
  | 106 => ⟨S8x4096x2x32, .f32⟩
  | 107 => ⟨S8x4096x2x32, .f32⟩
  | 108 => ⟨S8x4096x2x32, .f32⟩
  | 109 => ⟨S8x4096x2x64, .f32⟩
  | 110 => ⟨S8x2x4096x64, .f32⟩
  | 111 => ⟨S4096, .i32⟩
  | 112 => ⟨S4096x1, .i32⟩
  | 113 => ⟨S_, .i32⟩
  | 114 => ⟨S_, .i32⟩
  | 115 => ⟨S4096x1, .i32⟩
  | 116 => ⟨S4096x1, .i32⟩
  | 117 => ⟨S4096x1, .i32⟩
  | 118 => ⟨S_, .i32⟩
  | 119 => ⟨S4096x1, .i32⟩
  | 120 => ⟨S4096x1, .i1⟩
  | 121 => ⟨S4096x1, .i32⟩
  | 122 => ⟨S4096x1, .i32⟩
  | 123 => ⟨S_, .i32⟩
  | 124 => ⟨S4096x1, .i32⟩
  | 125 => ⟨S4096x1, .i1⟩
  | 126 => ⟨S4096x1, .i1⟩
  | 127 => ⟨S_, .i32⟩
  | _ => ⟨S8x4096x1024, .f32⟩

abbrev hbmTy0_1 (i : Nat) : BufTy := match i % 128 with
  | 0 => ⟨S4096x1, .i32⟩
  | 1 => ⟨S4096x1, .i32⟩
  | 2 => ⟨S4096x1, .i32⟩
  | 3 => ⟨S64, .i32⟩
  | 4 => ⟨S1x64, .i32⟩
  | 5 => ⟨S4096x64, .i32⟩
  | 6 => ⟨S4096x64, .i32⟩
  | 7 => ⟨S4096x64, .i1⟩
  | 8 => ⟨S4096x64, .f32⟩
  | 9 => ⟨S8x2x4096x64, .f32⟩
  | 10 => ⟨S8x2x4096x128, .f32⟩
  | 11 => ⟨S8x4096x2x64, .f32⟩
  | 12 => ⟨S8x4096x2x32, .f32⟩
  | 13 => ⟨S8x4096x2x32, .f32⟩
  | 14 => ⟨S8x4096x2x32, .f32⟩
  | 15 => ⟨S8x4096x2x32, .f32⟩
  | 16 => ⟨S8x4096x2x32, .f32⟩
  | 17 => ⟨S8x4096x2x32, .f32⟩
  | 18 => ⟨S8x4096x2x32, .f32⟩
  | 19 => ⟨S8x4096x2x32, .f32⟩
  | 20 => ⟨S8x4096x2x32, .f32⟩
  | 21 => ⟨S8x4096x2x32, .f32⟩
  | 22 => ⟨S8x4096x2x32, .f32⟩
  | 23 => ⟨S8x4096x2x32, .f32⟩
  | 24 => ⟨S8x4096x2x64, .f32⟩
  | 25 => ⟨S8x4096x128, .f32⟩
  | 26 => ⟨S8x384x4096, .bf16⟩
  | 27 => ⟨S8x256x2048, .f32⟩
  | 28 => ⟨S8x256x2048, .f32⟩
  | 29 => ⟨S_, .i32⟩
  | 30 => ⟨S_, .f32⟩
  | 31 => ⟨S8x4096x128, .f32⟩
  | 32 => ⟨S8x2x4096x128, .bf16⟩
  | 33 => ⟨S8x8x512x2x64, .f32⟩
  | 34 => ⟨S8x2x8x64x512, .f32⟩
  | 35 => ⟨S_, .f32⟩
  | 36 => ⟨S8x2x8x16x512, .f32⟩
  | 37 => ⟨S8x2x8x80x512, .f32⟩
  | 38 => ⟨S8x2x8x80x512, .bf16⟩
  | 39 => ⟨S8x4096x128, .bf16⟩
  | 40 => ⟨S8x32x128x2x64, .f32⟩
  | 41 => ⟨S8x2x32x64x128, .f32⟩
  | 42 => ⟨S_, .f32⟩
  | 43 => ⟨S8x2x32x16x128, .f32⟩
  | 44 => ⟨S8x2x32x80x128, .f32⟩
  | 45 => ⟨S8x2x32x80x128, .bf16⟩
  | 46 => ⟨S4096, .i32⟩
  | 47 => ⟨S8x4096x64, .f32⟩
  | 48 => ⟨S_, .i32⟩
  | 49 => ⟨S_, .f32⟩
  | 50 => ⟨S8x4097x64, .f32⟩
  | 51 => ⟨S8x4096x64, .f32⟩
  | 52 => ⟨S8x4096x64, .f32⟩
  | 53 => ⟨S8x4096x64, .f32⟩
  | 54 => ⟨S_, .i32⟩
  | 55 => ⟨S4096, .i32⟩
  | 56 => ⟨S4096, .i32⟩
  | 57 => ⟨S_, .i32⟩
  | 58 => ⟨S4096, .i32⟩
  | 59 => ⟨S4096, .i32⟩
  | 60 => ⟨S_, .i32⟩
  | 61 => ⟨S4096, .i32⟩
  | 62 => ⟨S4096, .i32⟩
  | 63 => ⟨S_, .i32⟩
  | 64 => ⟨S4096, .i32⟩
  | 65 => ⟨S4096, .i32⟩
  | 66 => ⟨S4096, .i32⟩
  | 67 => ⟨S4096, .f32⟩
  | 68 => ⟨S1x4096x1, .f32⟩
  | 69 => ⟨S8x4096x64, .f32⟩
  | 70 => ⟨S8x4096x64, .f32⟩
  | 71 => ⟨S8x4096x64, .f32⟩
  | 72 => ⟨S1x64x64, .f32⟩
  | 73 => ⟨S64x64, .f32⟩
  | 74 => ⟨S8x4096x64, .f32⟩
  | 75 => ⟨S8x4096x64, .f32⟩
  | 76 => ⟨S_, .i32⟩
  | 77 => ⟨S_, .f32⟩
  | 78 => ⟨S8x4099x64, .f32⟩
  | 79 => ⟨S8x4096x64, .f32⟩
  | 80 => ⟨S8x4096x64, .f32⟩
  | 81 => ⟨S8x4096x64, .f32⟩
  | 82 => ⟨S8x4096x64, .f32⟩
  | 83 => ⟨S8x4096x64, .f32⟩
  | 84 => ⟨S8x4096x64, .f32⟩
  | 85 => ⟨S8x4096x64, .f32⟩
  | 86 => ⟨S_, .i32⟩
  | 87 => ⟨S4096, .i32⟩
  | 88 => ⟨S4096, .i32⟩
  | 89 => ⟨S_, .i32⟩
  | 90 => ⟨S4096, .i32⟩
  | 91 => ⟨S4096, .i32⟩
  | 92 => ⟨S_, .i32⟩
  | 93 => ⟨S4096, .i32⟩
  | 94 => ⟨S4096, .i32⟩
  | 95 => ⟨S_, .i32⟩
  | 96 => ⟨S4096, .i32⟩
  | 97 => ⟨S4096, .i32⟩
  | 98 => ⟨S4096, .i32⟩
  | 99 => ⟨S4096, .f32⟩
  | 100 => ⟨S1x4096x1, .f32⟩
  | 101 => ⟨S8x4096x64, .f32⟩
  | 102 => ⟨S8x4096x64, .f32⟩
  | 103 => ⟨S8x4096x64, .f32⟩
  | 104 => ⟨S1x64x64, .f32⟩
  | 105 => ⟨S64x64, .f32⟩
  | 106 => ⟨S8x4096x64, .f32⟩
  | 107 => ⟨S8x4096x64, .f32⟩
  | 108 => ⟨S_, .i32⟩
  | 109 => ⟨S_, .f32⟩
  | 110 => ⟨S8x4103x64, .f32⟩
  | 111 => ⟨S8x4096x64, .f32⟩
  | 112 => ⟨S8x4096x64, .f32⟩
  | 113 => ⟨S8x4096x64, .f32⟩
  | 114 => ⟨S8x4096x64, .f32⟩
  | 115 => ⟨S8x4096x64, .f32⟩
  | 116 => ⟨S8x4096x64, .f32⟩
  | 117 => ⟨S8x4096x64, .f32⟩
  | 118 => ⟨S8x4096x64, .f32⟩
  | 119 => ⟨S8x4096x64, .f32⟩
  | 120 => ⟨S8x4096x64, .f32⟩
  | 121 => ⟨S8x4096x64, .f32⟩
  | 122 => ⟨S8x4096x64, .f32⟩
  | 123 => ⟨S8x4096x64, .f32⟩
  | 124 => ⟨S8x4096x64, .f32⟩
  | 125 => ⟨S8x4096x64, .f32⟩
  | 126 => ⟨S_, .i32⟩
  | 127 => ⟨S4096, .i32⟩
  | _ => ⟨S8x4096x1024, .f32⟩

abbrev hbmTy0_2 (i : Nat) : BufTy := match i % 128 with
  | 0 => ⟨S4096, .i32⟩
  | 1 => ⟨S_, .i32⟩
  | 2 => ⟨S4096, .i32⟩
  | 3 => ⟨S4096, .i32⟩
  | 4 => ⟨S_, .i32⟩
  | 5 => ⟨S4096, .i32⟩
  | 6 => ⟨S4096, .i32⟩
  | 7 => ⟨S_, .i32⟩
  | 8 => ⟨S4096, .i32⟩
  | 9 => ⟨S4096, .i32⟩
  | 10 => ⟨S4096, .i32⟩
  | 11 => ⟨S4096, .f32⟩
  | 12 => ⟨S1x4096x1, .f32⟩
  | 13 => ⟨S8x4096x64, .f32⟩
  | 14 => ⟨S8x4096x64, .f32⟩
  | 15 => ⟨S8x4096x64, .f32⟩
  | 16 => ⟨S1x64x64, .f32⟩
  | 17 => ⟨S64x64, .f32⟩
  | 18 => ⟨S8x4096x64, .f32⟩
  | 19 => ⟨S8x4096x64, .f32⟩
  | 20 => ⟨S_, .i32⟩
  | 21 => ⟨S_, .f32⟩
  | 22 => ⟨S8x4111x64, .f32⟩
  | 23 => ⟨S8x4096x64, .f32⟩
  | 24 => ⟨S8x4096x64, .f32⟩
  | 25 => ⟨S8x4096x64, .f32⟩
  | 26 => ⟨S8x4096x64, .f32⟩
  | 27 => ⟨S8x4096x64, .f32⟩
  | 28 => ⟨S8x4096x64, .f32⟩
  | 29 => ⟨S8x4096x64, .f32⟩
  | 30 => ⟨S8x4096x64, .f32⟩
  | 31 => ⟨S8x4096x64, .f32⟩
  | 32 => ⟨S8x4096x64, .f32⟩
  | 33 => ⟨S8x4096x64, .f32⟩
  | 34 => ⟨S8x4096x64, .f32⟩
  | 35 => ⟨S8x4096x64, .f32⟩
  | 36 => ⟨S8x4096x64, .f32⟩
  | 37 => ⟨S8x4096x64, .f32⟩
  | 38 => ⟨S8x4096x64, .f32⟩
  | 39 => ⟨S8x4096x64, .f32⟩
  | 40 => ⟨S8x4096x64, .f32⟩
  | 41 => ⟨S8x4096x64, .f32⟩
  | 42 => ⟨S8x4096x64, .f32⟩
  | 43 => ⟨S8x4096x64, .f32⟩
  | 44 => ⟨S8x4096x64, .f32⟩
  | 45 => ⟨S8x4096x64, .f32⟩
  | 46 => ⟨S8x4096x64, .f32⟩
  | 47 => ⟨S8x4096x64, .f32⟩
  | 48 => ⟨S8x4096x64, .f32⟩
  | 49 => ⟨S8x4096x64, .f32⟩
  | 50 => ⟨S8x4096x64, .f32⟩
  | 51 => ⟨S8x4096x64, .f32⟩
  | 52 => ⟨S8x4096x64, .f32⟩
  | 53 => ⟨S8x4096x64, .f32⟩
  | 54 => ⟨S_, .i32⟩
  | 55 => ⟨S4096, .i32⟩
  | 56 => ⟨S4096, .i32⟩
  | 57 => ⟨S_, .i32⟩
  | 58 => ⟨S4096, .i32⟩
  | 59 => ⟨S4096, .i32⟩
  | 60 => ⟨S_, .i32⟩
  | 61 => ⟨S4096, .i32⟩
  | 62 => ⟨S4096, .i32⟩
  | 63 => ⟨S_, .i32⟩
  | 64 => ⟨S4096, .i32⟩
  | 65 => ⟨S4096, .i32⟩
  | 66 => ⟨S4096, .i32⟩
  | 67 => ⟨S4096, .f32⟩
  | 68 => ⟨S1x4096x1, .f32⟩
  | 69 => ⟨S8x4096x64, .f32⟩
  | 70 => ⟨S8x4096x64, .f32⟩
  | 71 => ⟨S8x4096x64, .f32⟩
  | 72 => ⟨S1x64x64, .f32⟩
  | 73 => ⟨S64x64, .f32⟩
  | 74 => ⟨S8x4096x64, .f32⟩
  | 75 => ⟨S8x4096x256, .f32⟩
  | 76 => ⟨S1x1x256, .f32⟩
  | 77 => ⟨S8x4096x256, .f32⟩
  | 78 => ⟨S8x4096x256, .f32⟩
  | _ => ⟨S8x4096x1024, .f32⟩

abbrev hbmTy (i : Nat) : BufTy := match i / 128 with
  | 0 => hbmTy0_0 i
  | 1 => hbmTy0_1 i
  | 2 => hbmTy0_2 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst : Ref sig .tc := ⟨.hbm, 20, rfl⟩
abbrev main_v15 : Ref sig .tc := ⟨.hbm, 21, rfl⟩
abbrev main_v16 : Ref sig .tc := ⟨.hbm, 22, rfl⟩
abbrev main_cst_0 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_1 : Ref sig .tc := ⟨.hbm, 27, rfl⟩
abbrev main_v20 : Ref sig .tc := ⟨.hbm, 28, rfl⟩
abbrev main_v21 : Ref sig .tc := ⟨.hbm, 29, rfl⟩
abbrev main_cst_2 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_cst_3 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_cst_4 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩
abbrev main_v91 : Ref sig .tc := ⟨.hbm, 102, rfl⟩
abbrev main_v92 : Ref sig .tc := ⟨.hbm, 103, rfl⟩
abbrev main_v93 : Ref sig .tc := ⟨.hbm, 104, rfl⟩
abbrev main_v94 : Ref sig .tc := ⟨.hbm, 105, rfl⟩
abbrev main_v95 : Ref sig .tc := ⟨.hbm, 106, rfl⟩
abbrev main_v96 : Ref sig .tc := ⟨.hbm, 107, rfl⟩
abbrev main_v97 : Ref sig .tc := ⟨.hbm, 108, rfl⟩
abbrev main_v98 : Ref sig .tc := ⟨.hbm, 109, rfl⟩
abbrev main_v99 : Ref sig .tc := ⟨.hbm, 110, rfl⟩
abbrev main_v100 : Ref sig .tc := ⟨.hbm, 111, rfl⟩
abbrev main_v101 : Ref sig .tc := ⟨.hbm, 112, rfl⟩
abbrev main_c : Ref sig .tc := ⟨.hbm, 113, rfl⟩
abbrev main_call0_v0 : Ref sig .tc := ⟨.hbm, 114, rfl⟩
abbrev main_call0_v1 : Ref sig .tc := ⟨.hbm, 115, rfl⟩
abbrev main_call0_v2 : Ref sig .tc := ⟨.hbm, 116, rfl⟩
abbrev main_call0_v3 : Ref sig .tc := ⟨.hbm, 117, rfl⟩
abbrev main_call0_v4 : Ref sig .tc := ⟨.hbm, 118, rfl⟩
abbrev main_call0_v5 : Ref sig .tc := ⟨.hbm, 119, rfl⟩
abbrev main_call0_v6 : Ref sig .tc := ⟨.hbm, 120, rfl⟩
abbrev main_call0_v7 : Ref sig .tc := ⟨.hbm, 121, rfl⟩
abbrev main_call0_v8 : Ref sig .tc := ⟨.hbm, 122, rfl⟩
abbrev main_call0_c : Ref sig .tc := ⟨.hbm, 123, rfl⟩
abbrev main_call0_v9 : Ref sig .tc := ⟨.hbm, 124, rfl⟩
abbrev main_call0_v10 : Ref sig .tc := ⟨.hbm, 125, rfl⟩
abbrev main_call0_v11 : Ref sig .tc := ⟨.hbm, 126, rfl⟩
abbrev main_call0_c_0 : Ref sig .tc := ⟨.hbm, 127, rfl⟩
abbrev main_call0_v12 : Ref sig .tc := ⟨.hbm, 128, rfl⟩
abbrev main_call0_v13 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_v113 : Ref sig .tc := ⟨.hbm, 141, rfl⟩
abbrev main_v114 : Ref sig .tc := ⟨.hbm, 142, rfl⟩
abbrev main_v115 : Ref sig .tc := ⟨.hbm, 143, rfl⟩
abbrev main_v116 : Ref sig .tc := ⟨.hbm, 144, rfl⟩
abbrev main_v117 : Ref sig .tc := ⟨.hbm, 145, rfl⟩
abbrev main_v118 : Ref sig .tc := ⟨.hbm, 146, rfl⟩
abbrev main_v119 : Ref sig .tc := ⟨.hbm, 147, rfl⟩
abbrev main_v120 : Ref sig .tc := ⟨.hbm, 148, rfl⟩
abbrev main_v121 : Ref sig .tc := ⟨.hbm, 149, rfl⟩
abbrev main_v122 : Ref sig .tc := ⟨.hbm, 150, rfl⟩
abbrev main_v123 : Ref sig .tc := ⟨.hbm, 151, rfl⟩
abbrev main_v124 : Ref sig .tc := ⟨.hbm, 152, rfl⟩
abbrev main_v125 : Ref sig .tc := ⟨.hbm, 153, rfl⟩
abbrev main_v126 : Ref sig .tc := ⟨.hbm, 154, rfl⟩
abbrev main_v127 : Ref sig .tc := ⟨.hbm, 155, rfl⟩
abbrev main_v128 : Ref sig .tc := ⟨.hbm, 156, rfl⟩
abbrev main_c_5 : Ref sig .tc := ⟨.hbm, 157, rfl⟩
abbrev main_call1_v0 : Ref sig .tc := ⟨.hbm, 158, rfl⟩
abbrev main_v129 : Ref sig .tc := ⟨.hbm, 159, rfl⟩
abbrev main_v130 : Ref sig .tc := ⟨.hbm, 160, rfl⟩
abbrev main_v131 : Ref sig .tc := ⟨.hbm, 161, rfl⟩
abbrev main_v132 : Ref sig .tc := ⟨.hbm, 162, rfl⟩
abbrev main_cst_6 : Ref sig .tc := ⟨.hbm, 163, rfl⟩
abbrev main_v133 : Ref sig .tc := ⟨.hbm, 164, rfl⟩
abbrev main_v134 : Ref sig .tc := ⟨.hbm, 165, rfl⟩
abbrev main_v135 : Ref sig .tc := ⟨.hbm, 166, rfl⟩
abbrev main_v136 : Ref sig .tc := ⟨.hbm, 167, rfl⟩
abbrev main_v137 : Ref sig .tc := ⟨.hbm, 168, rfl⟩
abbrev main_v138 : Ref sig .tc := ⟨.hbm, 169, rfl⟩
abbrev main_cst_7 : Ref sig .tc := ⟨.hbm, 170, rfl⟩
abbrev main_v139 : Ref sig .tc := ⟨.hbm, 171, rfl⟩
abbrev main_v140 : Ref sig .tc := ⟨.hbm, 172, rfl⟩
abbrev main_v141 : Ref sig .tc := ⟨.hbm, 173, rfl⟩
abbrev main_v142 : Ref sig .tc := ⟨.hbm, 174, rfl⟩
abbrev main_v143 : Ref sig .tc := ⟨.hbm, 175, rfl⟩
abbrev main_c_8 : Ref sig .tc := ⟨.hbm, 176, rfl⟩
abbrev main_call2_v0 : Ref sig .tc := ⟨.hbm, 177, rfl⟩
abbrev main_v144 : Ref sig .tc := ⟨.hbm, 178, rfl⟩
abbrev main_v145 : Ref sig .tc := ⟨.hbm, 179, rfl⟩
abbrev main_v146 : Ref sig .tc := ⟨.hbm, 180, rfl⟩
abbrev main_v147 : Ref sig .tc := ⟨.hbm, 181, rfl⟩
abbrev main_c_9 : Ref sig .tc := ⟨.hbm, 182, rfl⟩
abbrev main_v148 : Ref sig .tc := ⟨.hbm, 183, rfl⟩
abbrev main_v149 : Ref sig .tc := ⟨.hbm, 184, rfl⟩
abbrev main_c_10 : Ref sig .tc := ⟨.hbm, 185, rfl⟩
abbrev main_v150 : Ref sig .tc := ⟨.hbm, 186, rfl⟩
abbrev main_v151 : Ref sig .tc := ⟨.hbm, 187, rfl⟩
abbrev main_c_11 : Ref sig .tc := ⟨.hbm, 188, rfl⟩
abbrev main_v152 : Ref sig .tc := ⟨.hbm, 189, rfl⟩
abbrev main_v153 : Ref sig .tc := ⟨.hbm, 190, rfl⟩
abbrev main_c_12 : Ref sig .tc := ⟨.hbm, 191, rfl⟩
abbrev main_v154 : Ref sig .tc := ⟨.hbm, 192, rfl⟩
abbrev main_v155 : Ref sig .tc := ⟨.hbm, 193, rfl⟩
abbrev main_v156 : Ref sig .tc := ⟨.hbm, 194, rfl⟩
abbrev main_v157 : Ref sig .tc := ⟨.hbm, 195, rfl⟩
abbrev main_v158 : Ref sig .tc := ⟨.hbm, 196, rfl⟩
abbrev main_v159 : Ref sig .tc := ⟨.hbm, 197, rfl⟩
abbrev main_v160 : Ref sig .tc := ⟨.hbm, 198, rfl⟩
abbrev main_v161 : Ref sig .tc := ⟨.hbm, 199, rfl⟩
abbrev main_v162 : Ref sig .tc := ⟨.hbm, 200, rfl⟩
abbrev main_v163 : Ref sig .tc := ⟨.hbm, 201, rfl⟩
abbrev main_v164 : Ref sig .tc := ⟨.hbm, 202, rfl⟩
abbrev main_v165 : Ref sig .tc := ⟨.hbm, 203, rfl⟩
abbrev main_c_13 : Ref sig .tc := ⟨.hbm, 204, rfl⟩
abbrev main_call3_v0 : Ref sig .tc := ⟨.hbm, 205, rfl⟩
abbrev main_v166 : Ref sig .tc := ⟨.hbm, 206, rfl⟩
abbrev main_v167 : Ref sig .tc := ⟨.hbm, 207, rfl⟩
abbrev main_v168 : Ref sig .tc := ⟨.hbm, 208, rfl⟩
abbrev main_v169 : Ref sig .tc := ⟨.hbm, 209, rfl⟩
abbrev main_v170 : Ref sig .tc := ⟨.hbm, 210, rfl⟩
abbrev main_v171 : Ref sig .tc := ⟨.hbm, 211, rfl⟩
abbrev main_v172 : Ref sig .tc := ⟨.hbm, 212, rfl⟩
abbrev main_v173 : Ref sig .tc := ⟨.hbm, 213, rfl⟩
abbrev main_c_14 : Ref sig .tc := ⟨.hbm, 214, rfl⟩
abbrev main_v174 : Ref sig .tc := ⟨.hbm, 215, rfl⟩
abbrev main_v175 : Ref sig .tc := ⟨.hbm, 216, rfl⟩
abbrev main_c_15 : Ref sig .tc := ⟨.hbm, 217, rfl⟩
abbrev main_v176 : Ref sig .tc := ⟨.hbm, 218, rfl⟩
abbrev main_v177 : Ref sig .tc := ⟨.hbm, 219, rfl⟩
abbrev main_c_16 : Ref sig .tc := ⟨.hbm, 220, rfl⟩
abbrev main_v178 : Ref sig .tc := ⟨.hbm, 221, rfl⟩
abbrev main_v179 : Ref sig .tc := ⟨.hbm, 222, rfl⟩
abbrev main_c_17 : Ref sig .tc := ⟨.hbm, 223, rfl⟩
abbrev main_v180 : Ref sig .tc := ⟨.hbm, 224, rfl⟩
abbrev main_v181 : Ref sig .tc := ⟨.hbm, 225, rfl⟩
abbrev main_v182 : Ref sig .tc := ⟨.hbm, 226, rfl⟩
abbrev main_v183 : Ref sig .tc := ⟨.hbm, 227, rfl⟩
abbrev main_v184 : Ref sig .tc := ⟨.hbm, 228, rfl⟩
abbrev main_v185 : Ref sig .tc := ⟨.hbm, 229, rfl⟩
abbrev main_v186 : Ref sig .tc := ⟨.hbm, 230, rfl⟩
abbrev main_v187 : Ref sig .tc := ⟨.hbm, 231, rfl⟩
abbrev main_v188 : Ref sig .tc := ⟨.hbm, 232, rfl⟩
abbrev main_v189 : Ref sig .tc := ⟨.hbm, 233, rfl⟩
abbrev main_v190 : Ref sig .tc := ⟨.hbm, 234, rfl⟩
abbrev main_v191 : Ref sig .tc := ⟨.hbm, 235, rfl⟩
abbrev main_c_18 : Ref sig .tc := ⟨.hbm, 236, rfl⟩
abbrev main_call4_v0 : Ref sig .tc := ⟨.hbm, 237, rfl⟩
abbrev main_v192 : Ref sig .tc := ⟨.hbm, 238, rfl⟩
abbrev main_v193 : Ref sig .tc := ⟨.hbm, 239, rfl⟩
abbrev main_v194 : Ref sig .tc := ⟨.hbm, 240, rfl⟩
abbrev main_v195 : Ref sig .tc := ⟨.hbm, 241, rfl⟩
abbrev main_v196 : Ref sig .tc := ⟨.hbm, 242, rfl⟩
abbrev main_v197 : Ref sig .tc := ⟨.hbm, 243, rfl⟩
abbrev main_v198 : Ref sig .tc := ⟨.hbm, 244, rfl⟩
abbrev main_v199 : Ref sig .tc := ⟨.hbm, 245, rfl⟩
abbrev main_v200 : Ref sig .tc := ⟨.hbm, 246, rfl⟩
abbrev main_v201 : Ref sig .tc := ⟨.hbm, 247, rfl⟩
abbrev main_v202 : Ref sig .tc := ⟨.hbm, 248, rfl⟩
abbrev main_v203 : Ref sig .tc := ⟨.hbm, 249, rfl⟩
abbrev main_v204 : Ref sig .tc := ⟨.hbm, 250, rfl⟩
abbrev main_v205 : Ref sig .tc := ⟨.hbm, 251, rfl⟩
abbrev main_v206 : Ref sig .tc := ⟨.hbm, 252, rfl⟩
abbrev main_v207 : Ref sig .tc := ⟨.hbm, 253, rfl⟩
abbrev main_c_19 : Ref sig .tc := ⟨.hbm, 254, rfl⟩
abbrev main_v208 : Ref sig .tc := ⟨.hbm, 255, rfl⟩
abbrev main_v209 : Ref sig .tc := ⟨.hbm, 256, rfl⟩
abbrev main_c_20 : Ref sig .tc := ⟨.hbm, 257, rfl⟩
abbrev main_v210 : Ref sig .tc := ⟨.hbm, 258, rfl⟩
abbrev main_v211 : Ref sig .tc := ⟨.hbm, 259, rfl⟩
abbrev main_c_21 : Ref sig .tc := ⟨.hbm, 260, rfl⟩
abbrev main_v212 : Ref sig .tc := ⟨.hbm, 261, rfl⟩
abbrev main_v213 : Ref sig .tc := ⟨.hbm, 262, rfl⟩
abbrev main_c_22 : Ref sig .tc := ⟨.hbm, 263, rfl⟩
abbrev main_v214 : Ref sig .tc := ⟨.hbm, 264, rfl⟩
abbrev main_v215 : Ref sig .tc := ⟨.hbm, 265, rfl⟩
abbrev main_v216 : Ref sig .tc := ⟨.hbm, 266, rfl⟩
abbrev main_v217 : Ref sig .tc := ⟨.hbm, 267, rfl⟩
abbrev main_v218 : Ref sig .tc := ⟨.hbm, 268, rfl⟩
abbrev main_v219 : Ref sig .tc := ⟨.hbm, 269, rfl⟩
abbrev main_v220 : Ref sig .tc := ⟨.hbm, 270, rfl⟩
abbrev main_v221 : Ref sig .tc := ⟨.hbm, 271, rfl⟩
abbrev main_v222 : Ref sig .tc := ⟨.hbm, 272, rfl⟩
abbrev main_v223 : Ref sig .tc := ⟨.hbm, 273, rfl⟩
abbrev main_v224 : Ref sig .tc := ⟨.hbm, 274, rfl⟩
abbrev main_v225 : Ref sig .tc := ⟨.hbm, 275, rfl⟩
abbrev main_c_23 : Ref sig .tc := ⟨.hbm, 276, rfl⟩
abbrev main_call5_v0 : Ref sig .tc := ⟨.hbm, 277, rfl⟩
abbrev main_v226 : Ref sig .tc := ⟨.hbm, 278, rfl⟩
abbrev main_v227 : Ref sig .tc := ⟨.hbm, 279, rfl⟩
abbrev main_v228 : Ref sig .tc := ⟨.hbm, 280, rfl⟩
abbrev main_v229 : Ref sig .tc := ⟨.hbm, 281, rfl⟩
abbrev main_v230 : Ref sig .tc := ⟨.hbm, 282, rfl⟩
abbrev main_v231 : Ref sig .tc := ⟨.hbm, 283, rfl⟩
abbrev main_v232 : Ref sig .tc := ⟨.hbm, 284, rfl⟩
abbrev main_v233 : Ref sig .tc := ⟨.hbm, 285, rfl⟩
abbrev main_v234 : Ref sig .tc := ⟨.hbm, 286, rfl⟩
abbrev main_v235 : Ref sig .tc := ⟨.hbm, 287, rfl⟩
abbrev main_v236 : Ref sig .tc := ⟨.hbm, 288, rfl⟩
abbrev main_v237 : Ref sig .tc := ⟨.hbm, 289, rfl⟩
abbrev main_v238 : Ref sig .tc := ⟨.hbm, 290, rfl⟩
abbrev main_v239 : Ref sig .tc := ⟨.hbm, 291, rfl⟩
abbrev main_v240 : Ref sig .tc := ⟨.hbm, 292, rfl⟩
abbrev main_v241 : Ref sig .tc := ⟨.hbm, 293, rfl⟩
abbrev main_v242 : Ref sig .tc := ⟨.hbm, 294, rfl⟩
abbrev main_v243 : Ref sig .tc := ⟨.hbm, 295, rfl⟩
abbrev main_v244 : Ref sig .tc := ⟨.hbm, 296, rfl⟩
abbrev main_v245 : Ref sig .tc := ⟨.hbm, 297, rfl⟩
abbrev main_v246 : Ref sig .tc := ⟨.hbm, 298, rfl⟩
abbrev main_v247 : Ref sig .tc := ⟨.hbm, 299, rfl⟩
abbrev main_v248 : Ref sig .tc := ⟨.hbm, 300, rfl⟩
abbrev main_v249 : Ref sig .tc := ⟨.hbm, 301, rfl⟩
abbrev main_v250 : Ref sig .tc := ⟨.hbm, 302, rfl⟩
abbrev main_v251 : Ref sig .tc := ⟨.hbm, 303, rfl⟩
abbrev main_v252 : Ref sig .tc := ⟨.hbm, 304, rfl⟩
abbrev main_v253 : Ref sig .tc := ⟨.hbm, 305, rfl⟩
abbrev main_v254 : Ref sig .tc := ⟨.hbm, 306, rfl⟩
abbrev main_v255 : Ref sig .tc := ⟨.hbm, 307, rfl⟩
abbrev main_v256 : Ref sig .tc := ⟨.hbm, 308, rfl⟩
abbrev main_v257 : Ref sig .tc := ⟨.hbm, 309, rfl⟩
abbrev main_c_24 : Ref sig .tc := ⟨.hbm, 310, rfl⟩
abbrev main_v258 : Ref sig .tc := ⟨.hbm, 311, rfl⟩
abbrev main_v259 : Ref sig .tc := ⟨.hbm, 312, rfl⟩
abbrev main_c_25 : Ref sig .tc := ⟨.hbm, 313, rfl⟩
abbrev main_v260 : Ref sig .tc := ⟨.hbm, 314, rfl⟩
abbrev main_v261 : Ref sig .tc := ⟨.hbm, 315, rfl⟩
abbrev main_c_26 : Ref sig .tc := ⟨.hbm, 316, rfl⟩
abbrev main_v262 : Ref sig .tc := ⟨.hbm, 317, rfl⟩
abbrev main_v263 : Ref sig .tc := ⟨.hbm, 318, rfl⟩
abbrev main_c_27 : Ref sig .tc := ⟨.hbm, 319, rfl⟩
abbrev main_v264 : Ref sig .tc := ⟨.hbm, 320, rfl⟩
abbrev main_v265 : Ref sig .tc := ⟨.hbm, 321, rfl⟩
abbrev main_v266 : Ref sig .tc := ⟨.hbm, 322, rfl⟩
abbrev main_v267 : Ref sig .tc := ⟨.hbm, 323, rfl⟩
abbrev main_v268 : Ref sig .tc := ⟨.hbm, 324, rfl⟩
abbrev main_v269 : Ref sig .tc := ⟨.hbm, 325, rfl⟩
abbrev main_v270 : Ref sig .tc := ⟨.hbm, 326, rfl⟩
abbrev main_v271 : Ref sig .tc := ⟨.hbm, 327, rfl⟩
abbrev main_v272 : Ref sig .tc := ⟨.hbm, 328, rfl⟩
abbrev main_v273 : Ref sig .tc := ⟨.hbm, 329, rfl⟩
abbrev main_v274 : Ref sig .tc := ⟨.hbm, 330, rfl⟩
abbrev main_v275 : Ref sig .tc := ⟨.hbm, 331, rfl⟩
abbrev main_v276 : Ref sig .tc := ⟨.hbm, 332, rfl⟩
abbrev main_v277 : Ref sig .tc := ⟨.hbm, 333, rfl⟩
abbrev main_v278 : Ref sig .tc := ⟨.hbm, 334, rfl⟩

abbrev nD : Nat := 1
abbrev τ : Topo := Topo.v7x

variable {F : FTy → Type} [FloatOps F]
-- ==== Kernel4.lean ====
abbrev S8x4096x128 : Shape := ⟨3, ![8, 4096, 128]⟩
abbrev S8x4096 : Shape := ⟨2, ![8, 4096]⟩
abbrev S32x64 : Shape := ⟨2, ![32, 64]⟩
abbrev S2048x128 : Shape := ⟨2, ![2048, 128]⟩
abbrev S128 : Shape := ⟨1, ![128]⟩
abbrev S128x64 : Shape := ⟨2, ![128, 64]⟩
abbrev S32 : Shape := ⟨1, ![32]⟩
abbrev S_ : Shape := ⟨0, ![]⟩
abbrev S8x255 : Shape := ⟨2, ![8, 255]⟩
abbrev S8x1 : Shape := ⟨2, ![8, 1]⟩
abbrev S8x256 : Shape := ⟨2, ![8, 256]⟩
abbrev S8x256x1 : Shape := ⟨3, ![8, 256, 1]⟩
abbrev S1x1x32 : Shape := ⟨3, ![1, 1, 32]⟩
abbrev S8x256x32 : Shape := ⟨3, ![8, 256, 32]⟩
abbrev S8x256x128 : Shape := ⟨3, ![8, 256, 128]⟩
abbrev S32x64x128 : Shape := ⟨3, ![32, 64, 128]⟩
abbrev S2x2 : Shape := ⟨2, ![2, 2]⟩
abbrev S1x128x1x64 : Shape := ⟨4, ![1, 128, 1, 64]⟩
abbrev S2x1x2x1 : Shape := ⟨4, ![2, 1, 2, 1]⟩
abbrev S2x128x2x64 : Shape := ⟨4, ![2, 128, 2, 64]⟩
abbrev S256x128 : Shape := ⟨2, ![256, 128]⟩
abbrev S16x64 : Shape := ⟨2, ![16, 64]⟩
abbrev S16x1x64 : Shape := ⟨3, ![16, 1, 64]⟩
abbrev S16x2x64 : Shape := ⟨3, ![16, 2, 64]⟩
abbrev S1x2048 : Shape := ⟨2, ![1, 2048]⟩
abbrev S16x64x128 : Shape := ⟨3, ![16, 64, 128]⟩
abbrev S16x1x64x1x128 : Shape := ⟨5, ![16, 1, 64, 1, 128]⟩
abbrev S1x2x1x2x1 : Shape := ⟨5, ![1, 2, 1, 2, 1]⟩
abbrev S16x2x64x2x128 : Shape := ⟨5, ![16, 2, 64, 2, 128]⟩
abbrev S2048x256 : Shape := ⟨2, ![2048, 256]⟩
abbrev S1x128 : Shape := ⟨2, ![1, 128]⟩
abbrev S2x128 : Shape := ⟨2, ![2, 128]⟩
abbrev S256 : Shape := ⟨1, ![256]⟩
abbrev S1x256 : Shape := ⟨2, ![1, 256]⟩
abbrev S8x256x2048 : Shape := ⟨3, ![8, 256, 2048]⟩
abbrev S8x128x256 : Shape := ⟨3, ![8, 128, 256]⟩
abbrev S1x256x2048 : Shape := ⟨3, ![1, 256, 2048]⟩
abbrev S1x256x128 : Shape := ⟨3, ![1, 256, 128]⟩
abbrev S1x128x256 : Shape := ⟨3, ![1, 128, 256]⟩
abbrev S256x2048 : Shape := ⟨2, ![256, 2048]⟩
abbrev S256x256 : Shape := ⟨2, ![256, 256]⟩
abbrev S128x256 : Shape := ⟨2, ![128, 256]⟩

abbrev nBuf : Space → Nat
  | .hbm => 130
  | .vmem => 24
  | .smem => 0
  | _ => 0

abbrev hbmTy0_0 (i : Nat) : BufTy := match i % 128 with
  | 0 => ⟨S8x4096x128, .f32⟩
  | 1 => ⟨S8x4096x128, .f32⟩
  | 2 => ⟨S8x4096, .i32⟩
  | 3 => ⟨S32x64, .f32⟩
  | 4 => ⟨S2048x128, .f32⟩
  | 5 => ⟨S128, .f32⟩
  | 6 => ⟨S128x64, .f32⟩
  | 7 => ⟨S32x64, .f32⟩
  | 8 => ⟨S2048x128, .f32⟩
  | 9 => ⟨S128, .f32⟩
  | 10 => ⟨S128x64, .f32⟩
  | 11 => ⟨S32, .f32⟩
  | 12 => ⟨S_, .f32⟩
  | 13 => ⟨S32, .f32⟩
  | 14 => ⟨S32, .f32⟩
  | 15 => ⟨S_, .f32⟩
  | 16 => ⟨S32, .f32⟩
  | 17 => ⟨S32, .f32⟩
  | 18 => ⟨S32, .f32⟩
  | 19 => ⟨S_, .f32⟩
  | 20 => ⟨S32, .f32⟩
  | 21 => ⟨S32, .f32⟩
  | 22 => ⟨S_, .f32⟩
  | 23 => ⟨S32, .f32⟩
  | 24 => ⟨S32, .f32⟩
  | 25 => ⟨S8x255, .i32⟩
  | 26 => ⟨S8x1, .i32⟩
  | 27 => ⟨S8x256, .i32⟩
  | 28 => ⟨S8x256, .f32⟩
  | 29 => ⟨S8x256x1, .f32⟩
  | 30 => ⟨S1x1x32, .f32⟩
  | 31 => ⟨S8x256x32, .f32⟩
  | 32 => ⟨S8x256x32, .f32⟩
  | 33 => ⟨S8x256x32, .f32⟩
  | 34 => ⟨S8x256x32, .f32⟩
  | 35 => ⟨S8x256x32, .f32⟩
  | 36 => ⟨S8x256x128, .f32⟩
  | 37 => ⟨S8x256x32, .f32⟩
  | 38 => ⟨S8x256x32, .f32⟩
  | 39 => ⟨S8x256x128, .f32⟩
  | 40 => ⟨S32x64x128, .f32⟩
  | 41 => ⟨S2x2, .i32⟩
  | 42 => ⟨S2x2, .i32⟩
  | 43 => ⟨S_, .i32⟩
  | 44 => ⟨S2x2, .i32⟩
  | 45 => ⟨S2x2, .i32⟩
  | 46 => ⟨S2x2, .i1⟩
  | 47 => ⟨S2x2, .f32⟩
  | 48 => ⟨S1x128x1x64, .f32⟩
  | 49 => ⟨S2x1x2x1, .f32⟩
  | 50 => ⟨S2x128x2x64, .f32⟩
  | 51 => ⟨S2x128x2x64, .f32⟩
  | 52 => ⟨S2x128x2x64, .f32⟩
  | 53 => ⟨S256x128, .f32⟩
  | 54 => ⟨S16x64, .f32⟩
  | 55 => ⟨S16x1x64, .f32⟩
  | 56 => ⟨S16x2x64, .f32⟩
  | 57 => ⟨S1x2048, .f32⟩
  | 58 => ⟨S16x64, .f32⟩
  | 59 => ⟨S16x1x64, .f32⟩
  | 60 => ⟨S16x2x64, .f32⟩
  | 61 => ⟨S1x2048, .f32⟩
  | 62 => ⟨S16x64x128, .f32⟩
  | 63 => ⟨S16x1x64x1x128, .f32⟩
  | 64 => ⟨S1x2x1x2x1, .f32⟩
  | 65 => ⟨S16x2x64x2x128, .f32⟩
  | 66 => ⟨S16x2x64x2x128, .f32⟩
  | 67 => ⟨S16x2x64x2x128, .f32⟩
  | 68 => ⟨S2048x256, .f32⟩
  | 69 => ⟨S2048x256, .bf16⟩
  | 70 => ⟨S16x64x128, .f32⟩
  | 71 => ⟨S16x1x64x1x128, .f32⟩
  | 72 => ⟨S1x2x1x2x1, .f32⟩
  | 73 => ⟨S16x2x64x2x128, .f32⟩
  | 74 => ⟨S16x2x64x2x128, .f32⟩
  | 75 => ⟨S16x2x64x2x128, .f32⟩
  | 76 => ⟨S2048x256, .f32⟩
  | 77 => ⟨S2048x256, .bf16⟩
  | 78 => ⟨S1x128, .f32⟩
  | 79 => ⟨S2x128, .f32⟩
  | 80 => ⟨S256, .f32⟩
  | 81 => ⟨S1x256, .f32⟩
  | 82 => ⟨S256x128, .bf16⟩
  | 83 => ⟨S32x64x128, .f32⟩
  | 84 => ⟨S2x2, .i32⟩
  | 85 => ⟨S2x2, .i32⟩
  | 86 => ⟨S_, .i32⟩
  | 87 => ⟨S2x2, .i32⟩
  | 88 => ⟨S2x2, .i32⟩
  | 89 => ⟨S2x2, .i1⟩
  | 90 => ⟨S2x2, .f32⟩
  | 91 => ⟨S1x128x1x64, .f32⟩
  | 92 => ⟨S2x1x2x1, .f32⟩
  | 93 => ⟨S2x128x2x64, .f32⟩
  | 94 => ⟨S2x128x2x64, .f32⟩
  | 95 => ⟨S2x128x2x64, .f32⟩
  | 96 => ⟨S256x128, .f32⟩
  | 97 => ⟨S16x64, .f32⟩
  | 98 => ⟨S16x1x64, .f32⟩
  | 99 => ⟨S16x2x64, .f32⟩
  | 100 => ⟨S1x2048, .f32⟩
  | 101 => ⟨S16x64, .f32⟩
  | 102 => ⟨S16x1x64, .f32⟩
  | 103 => ⟨S16x2x64, .f32⟩
  | 104 => ⟨S1x2048, .f32⟩
  | 105 => ⟨S16x64x128, .f32⟩
  | 106 => ⟨S16x1x64x1x128, .f32⟩
  | 107 => ⟨S1x2x1x2x1, .f32⟩
  | 108 => ⟨S16x2x64x2x128, .f32⟩
  | 109 => ⟨S16x2x64x2x128, .f32⟩
  | 110 => ⟨S16x2x64x2x128, .f32⟩
  | 111 => ⟨S2048x256, .f32⟩
  | 112 => ⟨S2048x256, .bf16⟩
  | 113 => ⟨S16x64x128, .f32⟩
  | 114 => ⟨S16x1x64x1x128, .f32⟩
  | 115 => ⟨S1x2x1x2x1, .f32⟩
  | 116 => ⟨S16x2x64x2x128, .f32⟩
  | 117 => ⟨S16x2x64x2x128, .f32⟩
  | 118 => ⟨S16x2x64x2x128, .f32⟩
  | 119 => ⟨S2048x256, .f32⟩
  | 120 => ⟨S2048x256, .bf16⟩
  | 121 => ⟨S1x128, .f32⟩
  | 122 => ⟨S2x128, .f32⟩
  | 123 => ⟨S256, .f32⟩
  | 124 => ⟨S1x256, .f32⟩
  | 125 => ⟨S256x128, .bf16⟩
  | 126 => ⟨S8x256x2048, .f32⟩
  | 127 => ⟨S8x256x2048, .f32⟩
  | _ => ⟨S8x4096x128, .f32⟩

abbrev hbmTy0_1 (i : Nat) : BufTy := match i % 128 with
  | 0 => ⟨S8x256x128, .bf16⟩
  | 1 => ⟨S8x128x256, .bf16⟩
  | _ => ⟨S8x4096x128, .f32⟩

abbrev hbmTy (i : Nat) : BufTy := match i / 128 with
  | 0 => hbmTy0_0 i
  | 1 => hbmTy0_1 i
  | _ => ⟨S8x4096x128, .f32⟩

abbrev bufTy : (tb : Table) → Fin (tcTables nBuf tb) → BufTy
  | .hbm, ⟨i, _⟩ => hbmTy i
  | .local _ .vmem, ⟨0, _⟩ => ⟨S1x256x2048, .f32⟩
  | .local _ .vmem, ⟨1, _⟩ => ⟨S1x256x2048, .f32⟩
  | .local _ .vmem, ⟨2, _⟩ => ⟨S1x256x2048, .f32⟩
  | .local _ .vmem, ⟨3, _⟩ => ⟨S1x256x2048, .f32⟩
  | .local _ .vmem, ⟨4, _⟩ => ⟨S1x2048, .f32⟩
  | .local _ .vmem, ⟨5, _⟩ => ⟨S1x2048, .f32⟩
  | .local _ .vmem, ⟨6, _⟩ => ⟨S2048x256, .bf16⟩
  | .local _ .vmem, ⟨7, _⟩ => ⟨S2048x256, .bf16⟩
  | .local _ .vmem, ⟨8, _⟩ => ⟨S1x256, .f32⟩
  | .local _ .vmem, ⟨9, _⟩ => ⟨S256x128, .bf16⟩
  | .local _ .vmem, ⟨10, _⟩ => ⟨S1x2048, .f32⟩
  | .local _ .vmem, ⟨11, _⟩ => ⟨S1x2048, .f32⟩
  | .local _ .vmem, ⟨12, _⟩ => ⟨S2048x256, .bf16⟩
  | .local _ .vmem, ⟨13, _⟩ => ⟨S2048x256, .bf16⟩
  | .local _ .vmem, ⟨14, _⟩ => ⟨S1x256, .f32⟩
  | .local _ .vmem, ⟨15, _⟩ => ⟨S256x128, .bf16⟩
  | .local _ .vmem, ⟨16, _⟩ => ⟨S1x256x128, .f32⟩
  | .local _ .vmem, ⟨17, _⟩ => ⟨S1x256x128, .f32⟩
  | .local _ .vmem, ⟨18, _⟩ => ⟨S1x256x128, .f32⟩
  | .local _ .vmem, ⟨19, _⟩ => ⟨S1x256x128, .f32⟩
  | .local _ .vmem, ⟨20, _⟩ => ⟨S1x256x128, .bf16⟩
  | .local _ .vmem, ⟨21, _⟩ => ⟨S1x256x128, .bf16⟩
  | .local _ .vmem, ⟨22, _⟩ => ⟨S1x128x256, .bf16⟩
  | .local _ .vmem, ⟨23, _⟩ => ⟨S1x128x256, .bf16⟩
  | _, _ => ⟨S8x4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_cst_1 : Ref sig .tc := ⟨.hbm, 19, rfl⟩
abbrev main_v6 : Ref sig .tc := ⟨.hbm, 20, rfl⟩
abbrev main_v7 : Ref sig .tc := ⟨.hbm, 21, rfl⟩
abbrev main_cst_2 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_c : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_c_3 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_v95 : Ref sig .tc := ⟨.hbm, 112, rfl⟩
abbrev main_v96 : Ref sig .tc := ⟨.hbm, 113, rfl⟩
abbrev main_v97 : Ref sig .tc := ⟨.hbm, 114, rfl⟩
abbrev main_v98 : Ref sig .tc := ⟨.hbm, 115, rfl⟩
abbrev main_v99 : Ref sig .tc := ⟨.hbm, 116, rfl⟩
abbrev main_v100 : Ref sig .tc := ⟨.hbm, 117, rfl⟩
abbrev main_v101 : Ref sig .tc := ⟨.hbm, 118, rfl⟩
abbrev main_v102 : Ref sig .tc := ⟨.hbm, 119, rfl⟩
abbrev main_v103 : Ref sig .tc := ⟨.hbm, 120, rfl⟩
abbrev main_v104 : Ref sig .tc := ⟨.hbm, 121, rfl⟩
abbrev main_v105 : Ref sig .tc := ⟨.hbm, 122, rfl⟩
abbrev main_v106 : Ref sig .tc := ⟨.hbm, 123, rfl⟩
abbrev main_v107 : Ref sig .tc := ⟨.hbm, 124, rfl⟩
abbrev main_v108 : Ref sig .tc := ⟨.hbm, 125, rfl⟩
abbrev main_v109 : Ref sig .tc := ⟨.hbm, 126, rfl⟩
abbrev main_v110 : Ref sig .tc := ⟨.hbm, 127, rfl⟩
abbrev main_v111_0 : Ref sig .tc := ⟨.hbm, 128, rfl⟩
abbrev main_v111_1 : Ref sig .tc := ⟨.hbm, 129, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg14_1 : Ref sig .tc := ⟨.vmem, 17, rfl⟩
abbrev cc0_stg15_0 : Ref sig .tc := ⟨.vmem, 18, rfl⟩
abbrev cc0_stg15_1 : Ref sig .tc := ⟨.vmem, 19, rfl⟩
abbrev cc0_stg16_0 : Ref sig .tc := ⟨.vmem, 20, rfl⟩
abbrev cc0_stg16_1 : Ref sig .tc := ⟨.vmem, 21, rfl⟩
abbrev cc0_stg17_0 : Ref sig .tc := ⟨.vmem, 22, rfl⟩
abbrev cc0_stg17_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem14_1 : DmaSem sig := 17
abbrev cc0_sem15_0 : DmaSem sig := 18
abbrev cc0_sem15_1 : DmaSem sig := 19
abbrev cc0_sem16_0 : DmaSem sig := 20
abbrev cc0_sem16_1 : DmaSem sig := 21
abbrev cc0_sem17_0 : DmaSem sig := 22
abbrev cc0_sem17_1 : DmaSem sig := 23

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2048x256 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2048x256 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S256x128 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S1x256x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x256x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x256x128 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1x128x256 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== Reference4Ideal.lean ====
abbrev S8x4096x128 : Shape := ⟨3, ![8, 4096, 128]⟩
abbrev S8x4096 : Shape := ⟨2, ![8, 4096]⟩
abbrev S32x64 : Shape := ⟨2, ![32, 64]⟩
abbrev S2048x128 : Shape := ⟨2, ![2048, 128]⟩
abbrev S128 : Shape := ⟨1, ![128]⟩
abbrev S128x64 : Shape := ⟨2, ![128, 64]⟩
abbrev S32 : Shape := ⟨1, ![32]⟩
abbrev S_ : Shape := ⟨0, ![]⟩
abbrev S8x255 : Shape := ⟨2, ![8, 255]⟩
abbrev S8x1 : Shape := ⟨2, ![8, 1]⟩
abbrev S8x256 : Shape := ⟨2, ![8, 256]⟩
abbrev S8x256x1 : Shape := ⟨3, ![8, 256, 1]⟩
abbrev S1x1x32 : Shape := ⟨3, ![1, 1, 32]⟩
abbrev S8x256x32 : Shape := ⟨3, ![8, 256, 32]⟩
abbrev S8x256x1x32 : Shape := ⟨4, ![8, 256, 1, 32]⟩
abbrev S8x256x16x2x64 : Shape := ⟨5, ![8, 256, 16, 2, 64]⟩
abbrev S8x255x16x2x64 : Shape := ⟨5, ![8, 255, 16, 2, 64]⟩
abbrev S8x1x16x2x64 : Shape := ⟨5, ![8, 1, 16, 2, 64]⟩
abbrev S8x256x32x2x64 : Shape := ⟨5, ![8, 256, 32, 2, 64]⟩
abbrev S1x1x32x1x64 : Shape := ⟨5, ![1, 1, 32, 1, 64]⟩
abbrev S8x256x2x32x64 : Shape := ⟨5, ![8, 256, 2, 32, 64]⟩
abbrev S8x256x2x2048 : Shape := ⟨4, ![8, 256, 2, 2048]⟩
abbrev S8x256x2x128 : Shape := ⟨4, ![8, 256, 2, 128]⟩
abbrev S1x1x1x128 : Shape := ⟨4, ![1, 1, 1, 128]⟩
abbrev S8x256x2x64 : Shape := ⟨4, ![8, 256, 2, 64]⟩
abbrev S8x256x2x32 : Shape := ⟨4, ![8, 256, 2, 32]⟩
abbrev S8x256x128 : Shape := ⟨3, ![8, 256, 128]⟩
abbrev S8x128x256 : Shape := ⟨3, ![8, 128, 256]⟩

abbrev nBuf : Space → Nat
  | .hbm => 120
  | .vmem => 0
  | .smem => 0
  | _ => 0

abbrev bufTy : (tb : Table) → Fin (tcTables nBuf tb) → BufTy
  | .hbm, ⟨0, _⟩ => ⟨S8x4096x128, .f32⟩
  | .hbm, ⟨1, _⟩ => ⟨S8x4096x128, .f32⟩
  | .hbm, ⟨2, _⟩ => ⟨S8x4096, .i32⟩
  | .hbm, ⟨3, _⟩ => ⟨S32x64, .f32⟩
  | .hbm, ⟨4, _⟩ => ⟨S2048x128, .f32⟩
  | .hbm, ⟨5, _⟩ => ⟨S128, .f32⟩
  | .hbm, ⟨6, _⟩ => ⟨S128x64, .f32⟩
  | .hbm, ⟨7, _⟩ => ⟨S32x64, .f32⟩
  | .hbm, ⟨8, _⟩ => ⟨S2048x128, .f32⟩
  | .hbm, ⟨9, _⟩ => ⟨S128, .f32⟩
  | .hbm, ⟨10, _⟩ => ⟨S128x64, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S_, .f32⟩
  | .hbm, ⟨16, _⟩ => ⟨S32, .f32⟩
  | .hbm, ⟨17, _⟩ => ⟨S32, .f32⟩
  | .hbm, ⟨18, _⟩ => ⟨S32, .f32⟩
  | .hbm, ⟨19, _⟩ => ⟨S_, .f32⟩
  | .hbm, ⟨20, _⟩ => ⟨S32, .f32⟩
  | .hbm, ⟨21, _⟩ => ⟨S32, .f32⟩
  | .hbm, ⟨22, _⟩ => ⟨S_, .f32⟩
  | .hbm, ⟨23, _⟩ => ⟨S32, .f32⟩
  | .hbm, ⟨24, _⟩ => ⟨S32, .f32⟩
  | .hbm, ⟨25, _⟩ => ⟨S8x255, .i32⟩
  | .hbm, ⟨26, _⟩ => ⟨S8x1, .i32⟩
  | .hbm, ⟨27, _⟩ => ⟨S8x256, .i32⟩
  | .hbm, ⟨28, _⟩ => ⟨S8x256, .f32⟩
  | .hbm, ⟨29, _⟩ => ⟨S8x256x1, .f32⟩
  | .hbm, ⟨30, _⟩ => ⟨S1x1x32, .f32⟩
  | .hbm, ⟨31, _⟩ => ⟨S8x256x32, .f32⟩
  | .hbm, ⟨32, _⟩ => ⟨S8x256x32, .f32⟩
  | .hbm, ⟨33, _⟩ => ⟨S8x256x32, .f32⟩
  | .hbm, ⟨34, _⟩ => ⟨S8x256x32, .f32⟩
  | .hbm, ⟨35, _⟩ => ⟨S8x256x1x32, .f32⟩
  | .hbm, ⟨36, _⟩ => ⟨S8x256x32, .f32⟩
  | .hbm, ⟨37, _⟩ => ⟨S8x256x1x32, .f32⟩
  | .hbm, ⟨38, _⟩ => ⟨S8x256x16x2x64, .f32⟩
  | .hbm, ⟨39, _⟩ => ⟨S8x255x16x2x64, .f32⟩
  | .hbm, ⟨40, _⟩ => ⟨S8x1x16x2x64, .f32⟩
  | .hbm, ⟨41, _⟩ => ⟨S8x256x16x2x64, .f32⟩
  | .hbm, ⟨42, _⟩ => ⟨S8x256x32x2x64, .f32⟩
  | .hbm, ⟨43, _⟩ => ⟨S1x1x32x1x64, .f32⟩
  | .hbm, ⟨44, _⟩ => ⟨S8x256x32x2x64, .f32⟩
  | .hbm, ⟨45, _⟩ => ⟨S8x256x32x2x64, .f32⟩
  | .hbm, ⟨46, _⟩ => ⟨S8x256x2x32x64, .f32⟩
  | .hbm, ⟨47, _⟩ => ⟨S8x256x2x2048, .f32⟩
  | .hbm, ⟨48, _⟩ => ⟨S8x256x2x128, .f32⟩
  | .hbm, ⟨49, _⟩ => ⟨S1x1x1x128, .f32⟩
  | .hbm, ⟨50, _⟩ => ⟨S8x256x2x128, .f32⟩
  | .hbm, ⟨51, _⟩ => ⟨S8x256x2x128, .f32⟩
  | .hbm, ⟨52, _⟩ => ⟨S8x256x2x128, .f32⟩
  | .hbm, ⟨53, _⟩ => ⟨S8x256x2x128, .f32⟩
  | .hbm, ⟨54, _⟩ => ⟨S_, .f32⟩
  | .hbm, ⟨55, _⟩ => ⟨S8x256x2x128, .f32⟩
  | .hbm, ⟨56, _⟩ => ⟨S8x256x2x128, .f32⟩
  | .hbm, ⟨57, _⟩ => ⟨S8x256x2x128, .f32⟩
  | .hbm, ⟨58, _⟩ => ⟨S_, .f32⟩
  | .hbm, ⟨59, _⟩ => ⟨S8x256x2x128, .f32⟩
  | .hbm, ⟨60, _⟩ => ⟨S8x256x2x128, .f32⟩
  | .hbm, ⟨61, _⟩ => ⟨S8x256x2x128, .f32⟩
  | .hbm, ⟨62, _⟩ => ⟨S_, .f32⟩
  | .hbm, ⟨63, _⟩ => ⟨S8x256x2x128, .f32⟩
  | .hbm, ⟨64, _⟩ => ⟨S8x256x2x128, .f32⟩
  | .hbm, ⟨65, _⟩ => ⟨S_, .f32⟩
  | .hbm, ⟨66, _⟩ => ⟨S8x256x2x128, .f32⟩
  | .hbm, ⟨67, _⟩ => ⟨S8x256x2x128, .f32⟩
  | .hbm, ⟨68, _⟩ => ⟨S8x256x2x128, .f32⟩
  | .hbm, ⟨69, _⟩ => ⟨S8x256x2x64, .f32⟩
  | .hbm, ⟨70, _⟩ => ⟨S8x256x2x32, .f32⟩
  | .hbm, ⟨71, _⟩ => ⟨S8x256x2x32, .f32⟩
  | .hbm, ⟨72, _⟩ => ⟨S8x256x2x32, .f32⟩
  | .hbm, ⟨73, _⟩ => ⟨S8x256x2x32, .f32⟩
  | .hbm, ⟨74, _⟩ => ⟨S8x256x2x32, .f32⟩
  | .hbm, ⟨75, _⟩ => ⟨S8x256x2x32, .f32⟩
  | .hbm, ⟨76, _⟩ => ⟨S8x256x2x32, .f32⟩
  | .hbm, ⟨77, _⟩ => ⟨S8x256x2x32, .f32⟩
  | .hbm, ⟨78, _⟩ => ⟨S8x256x2x32, .f32⟩
  | .hbm, ⟨79, _⟩ => ⟨S8x256x2x32, .f32⟩
  | .hbm, ⟨80, _⟩ => ⟨S8x256x2x32, .f32⟩
  | .hbm, ⟨81, _⟩ => ⟨S8x256x2x32, .f32⟩
  | .hbm, ⟨82, _⟩ => ⟨S8x256x2x64, .f32⟩
  | .hbm, ⟨83, _⟩ => ⟨S8x256x128, .f32⟩
  | .hbm, ⟨84, _⟩ => ⟨S8x256x16x2x64, .f32⟩
  | .hbm, ⟨85, _⟩ => ⟨S8x255x16x2x64, .f32⟩
  | .hbm, ⟨86, _⟩ => ⟨S8x1x16x2x64, .f32⟩
  | .hbm, ⟨87, _⟩ => ⟨S8x256x16x2x64, .f32⟩
  | .hbm, ⟨88, _⟩ => ⟨S8x256x32x2x64, .f32⟩
  | .hbm, ⟨89, _⟩ => ⟨S1x1x32x1x64, .f32⟩
  | .hbm, ⟨90, _⟩ => ⟨S8x256x32x2x64, .f32⟩
  | .hbm, ⟨91, _⟩ => ⟨S8x256x32x2x64, .f32⟩
  | .hbm, ⟨92, _⟩ => ⟨S8x256x2x32x64, .f32⟩
  | .hbm, ⟨93, _⟩ => ⟨S8x256x2x2048, .f32⟩
  | .hbm, ⟨94, _⟩ => ⟨S8x256x2x128, .f32⟩
  | .hbm, ⟨95, _⟩ => ⟨S1x1x1x128, .f32⟩
  | .hbm, ⟨96, _⟩ => ⟨S8x256x2x128, .f32⟩
  | .hbm, ⟨97, _⟩ => ⟨S8x256x2x128, .f32⟩
  | .hbm, ⟨98, _⟩ => ⟨S8x256x2x128, .f32⟩
  | .hbm, ⟨99, _⟩ => ⟨S8x256x2x128, .f32⟩
  | .hbm, ⟨100, _⟩ => ⟨S_, .f32⟩
  | .hbm, ⟨101, _⟩ => ⟨S8x256x2x128, .f32⟩
  | .hbm, ⟨102, _⟩ => ⟨S8x256x2x128, .f32⟩
  | .hbm, ⟨103, _⟩ => ⟨S8x256x2x128, .f32⟩
  | .hbm, ⟨104, _⟩ => ⟨S_, .f32⟩
  | .hbm, ⟨105, _⟩ => ⟨S8x256x2x128, .f32⟩
  | .hbm, ⟨106, _⟩ => ⟨S8x256x2x128, .f32⟩
  | .hbm, ⟨107, _⟩ => ⟨S8x256x2x128, .f32⟩
  | .hbm, ⟨108, _⟩ => ⟨S_, .f32⟩
  | .hbm, ⟨109, _⟩ => ⟨S8x256x2x128, .f32⟩
  | .hbm, ⟨110, _⟩ => ⟨S8x256x2x128, .f32⟩
  | .hbm, ⟨111, _⟩ => ⟨S_, .f32⟩
  | .hbm, ⟨112, _⟩ => ⟨S8x256x2x128, .f32⟩
  | .hbm, ⟨113, _⟩ => ⟨S8x256x2x128, .f32⟩
  | .hbm, ⟨114, _⟩ => ⟨S8x256x2x128, .f32⟩
  | .hbm, ⟨115, _⟩ => ⟨S8x256x2x64, .f32⟩
  | .hbm, ⟨116, _⟩ => ⟨S8x256x128, .f32⟩
  | .hbm, ⟨117, _⟩ => ⟨S8x256x128, .bf16⟩
  | .hbm, ⟨118, _⟩ => ⟨S8x128x256, .f32⟩
  | .hbm, ⟨119, _⟩ => ⟨S8x128x256, .bf16⟩
  | _, _ => ⟨S8x4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_cst_1 : Ref sig .tc := ⟨.hbm, 19, rfl⟩
abbrev main_v6 : Ref sig .tc := ⟨.hbm, 20, rfl⟩
abbrev main_v7 : Ref sig .tc := ⟨.hbm, 21, rfl⟩
abbrev main_cst_2 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_3 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_4 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_5 : Ref sig .tc := ⟨.hbm, 62, rfl⟩
abbrev main_v45 : Ref sig .tc := ⟨.hbm, 63, rfl⟩
abbrev main_v46 : Ref sig .tc := ⟨.hbm, 64, rfl⟩
abbrev main_cst_6 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_cst_7 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_cst_8 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_cst_9 : Ref sig .tc := ⟨.hbm, 108, rfl⟩
abbrev main_v87 : Ref sig .tc := ⟨.hbm, 109, rfl⟩
abbrev main_v88 : Ref sig .tc := ⟨.hbm, 110, rfl⟩
abbrev main_cst_10 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩

abbrev nD : Nat := 1
abbrev τ : Topo := Topo.v7x

variable {F : FTy → Type} [FloatOps F]
-- ==== Proof.PostIdealRun.lean ====
/- The run of the idealized kernel body of the output projection and feed-forward call, with the budget its length needs. -/
module

public import proofs.«01_k».proof.Proof.Gen.Kernel2Ideal.Frame.Runs

@[expose] public section

-- membership in a rectangle of production extents (`View.cover_of_tiled`): the elaborator's structural look
-- recurses once per coordinate of the long axes
set_option maxRecDepth 16384

noncomputable section

namespace Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 2000000 in
/-- What the body's stores leave in each output's staging memref, as pieces (last first), WITH the
    proof that on whole staging memrefs — the inputs' at their contents, the other outputs' at
    anything, the scratch buffers at anything, the body runs to the continuation holding the inputs' as they were,
    a scratch it stored into and does not carry with its pieces (`LT·`) written over some contents, each output's buffer with its pieces written: the printed functions are their skeletons
    (`Gen.*_eq_skeleton`), which `sl_exec` runs (Lib/Exec.lean); the pieces are
    the witness that run finds (assigned when `iexact` hands the buffer to the continuation). -/
noncomputable def kernelRun0_A (c : Dev nD) (i : grid0.Coords) (arg2 : Memref sig .tc .vmem S1x512x1024 .f32) (harg2 : arg2.IsWhole) (arg3 : Memref sig .tc .vmem S1x512x256 .f32) (harg3 : arg3.IsWhole) (arg4 : Memref sig .tc .vmem S1x512x384 .f32) (harg4 : arg4.IsWhole) (arg5 : Memref sig .tc .vmem S1x512x384 .f32) (harg5 : arg5.IsWhole) (arg6 : Memref sig .tc .vmem S1x512x384 .f32) (harg6 : arg6.IsWhole) (arg7 : Memref sig .tc .vmem S1x512x384 .f32) (harg7 : arg7.IsWhole) (arg8 : Memref sig .tc .vmem S1x16x1024 .f32) (harg8 : arg8.IsWhole) (arg9 : Memref sig .tc .vmem S1x16x256 .f32) (harg9 : arg9.IsWhole) (arg10 : Memref sig .tc .vmem S1x16x384 .f32) (harg10 : arg10.IsWhole) (arg11 : Memref sig .tc .vmem S1x16x384 .f32) (harg11 : arg11.IsWhole) (arg12 : Memref sig .tc .vmem S1x16x384 .f32) (harg12 : arg12.IsWhole) (arg13 : Memref sig .tc .vmem S1x16x384 .f32) (harg13 : arg13.IsWhole) (arg14 : Memref sig .tc .vmem S1024x1024 .bf16) (harg14 : arg14.IsWhole) (arg15 : Memref sig .tc .vmem S1x1024 .f32) (harg15 : arg15.IsWhole) (arg16 : Memref sig .tc .vmem S1x1024 .f32) (harg16 : arg16.IsWhole) (arg17 : Memref sig .tc .vmem S1024x2816 .bf16) (harg17 : arg17.IsWhole) (arg18 : Memref sig .tc .vmem S1024x2816 .bf16) (harg18 : arg18.IsWhole) (arg19 : Memref sig .tc .vmem S3x2816 .f32) (harg19 : arg19.IsWhole) (arg20 : Memref sig .tc .vmem S1x2816 .f32) (harg20 : arg20.IsWhole) (arg21 : Memref sig .tc .vmem S2816x1024 .bf16) (harg21 : arg21.IsWhole) (arg22 : Memref sig .tc .vmem S1x1024 .f32) (harg22 : arg22.IsWhole) (arg23 : Memref sig .tc .vmem S1x1024 .f32) (harg23 : arg23.IsWhole) (arg24 : Memref sig .tc .vmem S1x512x1024 .f32) (harg24 : arg24.IsWhole) (arg25 : Memref sig .tc .vmem S512x1024 .f32) (harg25 : arg25.IsWhole) (arg26 : Memref sig .tc .vmem S528x1024 .bf16) (harg26 : arg26.IsWhole) (arg27 : Memref sig .tc .vmem S512x2816 .bf16) (harg27 : arg27.IsWhole)
    (x0 : Vec F S1x512x1024 .f32) (x1 : Vec F S1x512x256 .f32) (x2 : Vec F S1x512x384 .f32) (x3 : Vec F S1x512x384 .f32) (x4 : Vec F S1x512x384 .f32) (x5 : Vec F S1x512x384 .f32) (x6 : Vec F S1x16x1024 .f32) (x7 : Vec F S1x16x256 .f32) (x8 : Vec F S1x16x384 .f32) (x9 : Vec F S1x16x384 .f32) (x10 : Vec F S1x16x384 .f32) (x11 : Vec F S1x16x384 .f32) (x12 : Vec F S1024x1024 .bf16) (x13 : Vec F S1x1024 .f32) (x14 : Vec F S1x1024 .f32) (x15 : Vec F S1024x2816 .bf16) (x16 : Vec F S1024x2816 .bf16) (x17 : Vec F S3x2816 .f32) (x18 : Vec F S1x2816 .f32) (x19 : Vec F S2816x1024 .bf16) (x20 : Vec F S1x1024 .f32) (x21 : Vec F S1x1024 .f32) :
    Σ' (L22 : List (View.Piece (Elt F) S1x512x1024 .f32)), Σ' (LT0 : List (View.Piece (Elt F) S512x1024 .f32)), Σ' (LT1 : List (View.Piece (Elt F) S528x1024 .bf16)), { LT2 : List (View.Piece (Elt F) S512x2816 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ owns (c : Thread nD τ) arg22 fullShare x20 ∗ owns (c : Thread nD τ) arg23 fullShare x21 ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ owns (c : Thread nD τ) arg22 fullShare x20 ∗ owns (c : Thread nD τ) arg23 fullShare x21 ∗ (∃ f, arg24.view.loc (c : Thread nD τ) ↦[arg24.view.set]{fullShare} arg24.view.writes (Elt F) f L22) ∗ (∃ f, arg25.view.loc (c : Thread nD τ) ↦[arg25.view.set]{fullShare} arg25.view.writes (Elt F) f LT0) ∗ (∃ f, arg26.view.loc (c : Thread nD τ) ↦[arg26.view.set]{fullShare} arg26.view.writes (Elt F) f LT1) ∗ (∃ f, arg27.view.loc (c : Thread nD τ) ↦[arg27.view.set]{fullShare} arg27.view.writes (Elt F) f LT2)) -∗ K ⟨⟩))
          ⊢ wp frame (wpE (defs₀ (F := F)) Variants.none c none) E (cc0_out_proj_ffn i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K } := by
  refine ⟨?_, ?_, ?_, ?_, fun E K => ?run⟩
  case run =>
    simp only [cc0_out_proj_ffn_eq_skeleton]; unfold cc0_out_proj_ffn_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%d22, %f22, -, H22⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg18.eq_unread hf16; obtain rfl := harg19.eq_unread hf17; obtain rfl := harg20.eq_unread hf18; obtain rfl := harg21.eq_unread hf19; obtain rfl := harg22.eq_unread hf20; obtain rfl := harg23.eq_unread hf21
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]
    · iexists _; isplitr; · ipureintro; exact harg17.read_unread _
      iexact H15
    isplitl [H16]
    · iexists _; isplitr; · ipureintro; exact harg18.read_unread _
      iexact H16
    isplitl [H17]
    · iexists _; isplitr; · ipureintro; exact harg19.read_unread _
      iexact H17
    isplitl [H18]
    · iexists _; isplitr; · ipureintro; exact harg20.read_unread _
      iexact H18
    isplitl [H19]
    · iexists _; isplitr; · ipureintro; exact harg21.read_unread _
      iexact H19
    isplitl [H20]
    · iexists _; isplitr; · ipureintro; exact harg22.read_unread _
      iexact H20
    isplitl [H21]
    · iexists _; isplitr; · ipureintro; exact harg23.read_unread _
      iexact H21
    isplitl [H22]; · iexists _; iexact H22
    isplitl [HS0]; · iexists _; iexact HS0
    isplitl [HS1]; · iexists _; iexact HS1
    iexists _; iexact HS2

end Cert.Kernel2Ideal.Gen

end
-- ==== Proof.PostIdealFrame.lean ====
/- The frame of the idealized output projection and feed-forward call, over its body's run. -/
module

public import proofs.«01_k».proof.Proof.PostIdealRun
public import Idealize.ShloMosaic.Lib.Claim

@[expose] public section

-- membership in a rectangle of production extents (`View.cover_of_tiled`): the elaborator's structural look
-- recurses once per coordinate of the long axes
set_option maxRecDepth 16384

noncomputable section

namespace Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The run's pieces for output 22 tile its block (1 store of `S1x512x1024`, checked by the kernel's evaluation: Lib/Ring.lean `Piece.tiledL`, linear in the pieces, through a loop's `@[irreducible]` trip theorem too), so they cover it. -/
theorem cover0_A_22 (c : Dev nD) (i : grid0.Coords) (arg2 : Memref sig .tc .vmem S1x512x1024 .f32) (harg2 : arg2.IsWhole) (arg3 : Memref sig .tc .vmem S1x512x256 .f32) (harg3 : arg3.IsWhole) (arg4 : Memref sig .tc .vmem S1x512x384 .f32) (harg4 : arg4.IsWhole) (arg5 : Memref sig .tc .vmem S1x512x384 .f32) (harg5 : arg5.IsWhole) (arg6 : Memref sig .tc .vmem S1x512x384 .f32) (harg6 : arg6.IsWhole) (arg7 : Memref sig .tc .vmem S1x512x384 .f32) (harg7 : arg7.IsWhole) (arg8 : Memref sig .tc .vmem S1x16x1024 .f32) (harg8 : arg8.IsWhole) (arg9 : Memref sig .tc .vmem S1x16x256 .f32) (harg9 : arg9.IsWhole) (arg10 : Memref sig .tc .vmem S1x16x384 .f32) (harg10 : arg10.IsWhole) (arg11 : Memref sig .tc .vmem S1x16x384 .f32) (harg11 : arg11.IsWhole) (arg12 : Memref sig .tc .vmem S1x16x384 .f32) (harg12 : arg12.IsWhole) (arg13 : Memref sig .tc .vmem S1x16x384 .f32) (harg13 : arg13.IsWhole) (arg14 : Memref sig .tc .vmem S1024x1024 .bf16) (harg14 : arg14.IsWhole) (arg15 : Memref sig .tc .vmem S1x1024 .f32) (harg15 : arg15.IsWhole) (arg16 : Memref sig .tc .vmem S1x1024 .f32) (harg16 : arg16.IsWhole) (arg17 : Memref sig .tc .vmem S1024x2816 .bf16) (harg17 : arg17.IsWhole) (arg18 : Memref sig .tc .vmem S1024x2816 .bf16) (harg18 : arg18.IsWhole) (arg19 : Memref sig .tc .vmem S3x2816 .f32) (harg19 : arg19.IsWhole) (arg20 : Memref sig .tc .vmem S1x2816 .f32) (harg20 : arg20.IsWhole) (arg21 : Memref sig .tc .vmem S2816x1024 .bf16) (harg21 : arg21.IsWhole) (arg22 : Memref sig .tc .vmem S1x1024 .f32) (harg22 : arg22.IsWhole) (arg23 : Memref sig .tc .vmem S1x1024 .f32) (harg23 : arg23.IsWhole) (arg24 : Memref sig .tc .vmem S1x512x1024 .f32) (harg24 : arg24.IsWhole) (arg25 : Memref sig .tc .vmem S512x1024 .f32) (harg25 : arg25.IsWhole) (arg26 : Memref sig .tc .vmem S528x1024 .bf16) (harg26 : arg26.IsWhole) (arg27 : Memref sig .tc .vmem S512x2816 .bf16) (harg27 : arg27.IsWhole)
    (x0 : Vec F S1x512x1024 .f32) (x1 : Vec F S1x512x256 .f32) (x2 : Vec F S1x512x384 .f32) (x3 : Vec F S1x512x384 .f32) (x4 : Vec F S1x512x384 .f32) (x5 : Vec F S1x512x384 .f32) (x6 : Vec F S1x16x1024 .f32) (x7 : Vec F S1x16x256 .f32) (x8 : Vec F S1x16x384 .f32) (x9 : Vec F S1x16x384 .f32) (x10 : Vec F S1x16x384 .f32) (x11 : Vec F S1x16x384 .f32) (x12 : Vec F S1024x1024 .bf16) (x13 : Vec F S1x1024 .f32) (x14 : Vec F S1x1024 .f32) (x15 : Vec F S1024x2816 .bf16) (x16 : Vec F S1024x2816 .bf16) (x17 : Vec F S3x2816 .f32) (x18 : Vec F S1x2816 .f32) (x19 : Vec F S2816x1024 .bf16) (x20 : Vec F S1x1024 .f32) (x21 : Vec F S1x1024 .f32) (y : S1x512x1024.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16 x17 x18 x19 x20 x21).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16 x17 x18 x19 x20 x21).1 S1x512x1024.size (by sl_kernel_rfl) y

/-- What the run leaves in output 22's staging buffer: its pieces read back over junk. -/
def out0_A_22 (c : Dev nD) (i : grid0.Coords) (arg2 : Memref sig .tc .vmem S1x512x1024 .f32) (harg2 : arg2.IsWhole) (arg3 : Memref sig .tc .vmem S1x512x256 .f32) (harg3 : arg3.IsWhole) (arg4 : Memref sig .tc .vmem S1x512x384 .f32) (harg4 : arg4.IsWhole) (arg5 : Memref sig .tc .vmem S1x512x384 .f32) (harg5 : arg5.IsWhole) (arg6 : Memref sig .tc .vmem S1x512x384 .f32) (harg6 : arg6.IsWhole) (arg7 : Memref sig .tc .vmem S1x512x384 .f32) (harg7 : arg7.IsWhole) (arg8 : Memref sig .tc .vmem S1x16x1024 .f32) (harg8 : arg8.IsWhole) (arg9 : Memref sig .tc .vmem S1x16x256 .f32) (harg9 : arg9.IsWhole) (arg10 : Memref sig .tc .vmem S1x16x384 .f32) (harg10 : arg10.IsWhole) (arg11 : Memref sig .tc .vmem S1x16x384 .f32) (harg11 : arg11.IsWhole) (arg12 : Memref sig .tc .vmem S1x16x384 .f32) (harg12 : arg12.IsWhole) (arg13 : Memref sig .tc .vmem S1x16x384 .f32) (harg13 : arg13.IsWhole) (arg14 : Memref sig .tc .vmem S1024x1024 .bf16) (harg14 : arg14.IsWhole) (arg15 : Memref sig .tc .vmem S1x1024 .f32) (harg15 : arg15.IsWhole) (arg16 : Memref sig .tc .vmem S1x1024 .f32) (harg16 : arg16.IsWhole) (arg17 : Memref sig .tc .vmem S1024x2816 .bf16) (harg17 : arg17.IsWhole) (arg18 : Memref sig .tc .vmem S1024x2816 .bf16) (harg18 : arg18.IsWhole) (arg19 : Memref sig .tc .vmem S3x2816 .f32) (harg19 : arg19.IsWhole) (arg20 : Memref sig .tc .vmem S1x2816 .f32) (harg20 : arg20.IsWhole) (arg21 : Memref sig .tc .vmem S2816x1024 .bf16) (harg21 : arg21.IsWhole) (arg22 : Memref sig .tc .vmem S1x1024 .f32) (harg22 : arg22.IsWhole) (arg23 : Memref sig .tc .vmem S1x1024 .f32) (harg23 : arg23.IsWhole) (arg24 : Memref sig .tc .vmem S1x512x1024 .f32) (harg24 : arg24.IsWhole) (arg25 : Memref sig .tc .vmem S512x1024 .f32) (harg25 : arg25.IsWhole) (arg26 : Memref sig .tc .vmem S528x1024 .bf16) (harg26 : arg26.IsWhole) (arg27 : Memref sig .tc .vmem S512x2816 .bf16) (harg27 : arg27.IsWhole)
    (x0 : Vec F S1x512x1024 .f32) (x1 : Vec F S1x512x256 .f32) (x2 : Vec F S1x512x384 .f32) (x3 : Vec F S1x512x384 .f32) (x4 : Vec F S1x512x384 .f32) (x5 : Vec F S1x512x384 .f32) (x6 : Vec F S1x16x1024 .f32) (x7 : Vec F S1x16x256 .f32) (x8 : Vec F S1x16x384 .f32) (x9 : Vec F S1x16x384 .f32) (x10 : Vec F S1x16x384 .f32) (x11 : Vec F S1x16x384 .f32) (x12 : Vec F S1024x1024 .bf16) (x13 : Vec F S1x1024 .f32) (x14 : Vec F S1x1024 .f32) (x15 : Vec F S1024x2816 .bf16) (x16 : Vec F S1024x2816 .bf16) (x17 : Vec F S3x2816 .f32) (x18 : Vec F S1x2816 .f32) (x19 : Vec F S2816x1024 .bf16) (x20 : Vec F S1x1024 .f32) (x21 : Vec F S1x1024 .f32) : Vec F S1x512x1024 .f32 :=
  VO0_22.read (Elt F) (VO0_22.writes (Elt F) VO0_22.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16 x17 x18 x19 x20 x21).1)

/-! ## What the outputs hold after each point -/

/-- What the outputs' staging buffers hold after the body at point `t`: the run's contents at
    the point's memrefs and input blocks. -/
def outsAt0 (c : Dev nD) (t : Fin cfg0.N) : Vec F S1x512x1024 .f32 :=
  out0_A_22 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t)

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => (outsAt0 m c t)
    | ⟨_ + 23, h⟩ => absurd h (Nat.not_lt.2 (Nat.le_add_left _ _))
  Φ _ := Pipeline.ΦA spec0 c
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = iblk m c 20 t := by dsimp only [dats]
theorem after0_21 (c : Dev nD) (t : Fin cfg0.N) : (dats m 0 c).after 21 t = iblk m c 21 t := by dsimp only [dats]
theorem after0_22 (c : Dev nD) (t : Fin cfg0.N) : (dats m 0 c).after 22 t = (outsAt0 m c t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d
theorem before0_20 (c : Dev nD) (t : Fin cfg0.N) (d) : (dats m 0 c).before 20 t d = iblk m c 20 t :=
  before0_20_of m (dats m 0 c) (A_eq m c 20) (after0_20 m c) t d
theorem before0_21 (c : Dev nD) (t : Fin cfg0.N) (d) : (dats m 0 c).before 21 t d = iblk m c 21 t :=
  before0_21_of m (dats m 0 c) (A_eq m c 21) (after0_21 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t))

set_option maxHeartbeats 2000000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22]
  rw [show (dats m 0 c).Φ t.castSucc = Pipeline.ΦA spec0 c from rfl, PhiA0_eq]
  unfold outsAt0
  unfold out0_A_22
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩⟩
  iapply ((kernelRun0_A c (grid0.coords t) _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t)).2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexists _; iexact H22
  isplitl [HS0]; · iexact HS0
  isplitl [HS1]; · iexact HS1
  isplitl [HS2]; · iexact HS2
  iintro ⟨H0, H1, H2, H3, H4, H5, H6, H7, H8, H9, H10, H11, H12, H13, H14, H15, H16, H17, H18, H19, H20, H21, ⟨%e22, H22⟩, ⟨%fT0, HS0⟩, ⟨%fT1, HS1⟩, ⟨%fT2, HS2⟩⟩
  isplitl [HS0 HS1 HS2 Hg]
  · isplitl [HS0 HS1 HS2]
    · isplitl [HS0]
      · iexists _; unfold owns; iexists _; isplitr
        swap; · iexact HS0
        ipureintro; rfl
      isplitl [HS1]
      · iexists _; unfold owns; iexists _; isplitr
        swap; · iexact HS1
        ipureintro; rfl
      iexists _; unfold owns; iexists _; isplitr
      swap; · iexact HS2
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  unfold owns; iexists _; isplitr
  swap; · iexact H22
  ipureintro; exact View.read_writes_of_cover _ _ _ _ _ (cover0_A_22 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  frame_of m ρ (dats m) (A_eq m) (run_main m ρ)

/-- THE FRAME: `Cert.quiescent_Kernel2Ideal`'s statement (Defs.lean) at any `F` — Proof.lean cites it at `Bits`:
    `theorem Cert.Proof.claim : Cert.Claim := ⟨Cert.Kernel2Ideal.Gen.facts, fun m ρ _ => Cert.Kernel2Ideal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15))
      ∧ r.2.sem = fun _ => 0) :=
  θ_run_and (unchanged m ρ) ((θ_run defs _ _).mono (fun _ h => h.2) (run_main_quiescent m ρ))

end Cert.Kernel2Ideal.Gen

end
-- ==== Proof.PostIdealValue.lean ====
/- What the idealized output projection and feed-forward call leaves in its result array: block by block and as a run. -/
module

public import proofs.«01_k».proof.Proof.PostIdealFrame
public import Idealize.ShloMosaic.Lib.Pipeline.Value

@[expose] public section

noncomputable section

namespace Cert.Kernel2Ideal.Value

open Cert.Kernel2Ideal Cert.Kernel2Ideal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 22's array: the run's contents for that window after the body (`Gen.outsAt0`), read through the window's block. -/
theorem flushed22 (c : Dev nD) (t : Fin cfg0.N) :
    (dats m 0 c).flushed 22 t = (cfg0.win 22).cut (grid0.coords t) (outsAt0 m c t) := by
  show (cfg0.win 22).cut (grid0.coords t) ((dats m 0 c).after 22 t) = _
  rw [after0_22]

/-- … so at a point where case A runs, what its write-back would write is that case's NAMED TERM for the window (`Gen.out0_A_22`: the pieces
    its run found, read back) at the point's memrefs and input blocks, and for an output the case reads back what the point before left (`Gen.outsAt0` at `t - 1`) — the kernel's one case, `Gen.outsAt0` by definition. -/
theorem flushed22_A (c : Dev nD) (t : Fin cfg0.N) :
    (dats m 0 c).flushed 22 t = (cfg0.win 22).cut (grid0.coords t) (out0_A_22 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t)) := by
  simp only [flushed22, outsAt0]

/-- The index map sends distinct grid points to distinct block indices (decided over the 64 points). -/
theorem idx_inj22 : ∀ t t' : Fin cfg0.N, win0_22.index t = win0_22.index t' → t = t' :=
  (by decide +kernel : ∀ t t' : Fin grid0.N, win0_22.index t = win0_22.index t' → t = t')

/-- So two flushing points' blocks share no array index (Lib/Pipeline/Cells.lean `Window.disjoint_blk`). -/
theorem disjoint22 : ∀ t t' : Fin cfg0.N, (cfg0.win 22).flush t = true → (cfg0.win 22).flush t' = true → t ≠ t' →
    Disjoint ((cfg0.win 22).blk t).view.set ((cfg0.win 22).blk t').view.set :=
  fun t t' _ _ hne => (cfg0.win 22).disjoint_blk fun h => hne (idx_inj22 t t' h)

/-- BLOCK `t` OF THE FINAL ARRAY, read back through the window, is what point `t` wrote back (`flushed22`), for every
    point that writes back: no other point's block meets it. -/
theorem blocks22 (c : Dev nD) (t : Fin cfg0.N) (hf : (cfg0.win 22).flush t = true) :
    ((cfg0.win 22).blk t).view.read (Elt F) ((dats m 0 c).arrAt 22 cfg0.N) = (dats m 0 c).flushed 22 t :=
  (dats m 0 c).read_blk_arrAt_eq_flushed 22 disjoint22 cfg0.N t t.isLt hf

/-- An index that no flushing point's block covers keeps output window 22's array contents at region entry. -/
theorem entry22 (c : Dev nD) (i : S8x4096x1024.Idx) (h : ∀ t : Fin cfg0.N, (cfg0.win 22).flush t = true → i ∉ ((cfg0.win 22).blk t).view.set) :
    (dats m 0 c).arrAt 22 cfg0.N i = V m c (Pipeline.arrRef spec0 22) i := by
  rw [(dats m 0 c).arrAt_apply_of_forall_not_mem 22 cfg0.N i (fun t _ hf => h t hf), A_eq]

/-- After the frame run, output window 22's array is `(dats m 0 c).arrAt 22 N`. -/
theorem post22 (r : PUnit × MemSt nD τ sig (Elt F)) (h : Pipeline.FramePost cfgs (dats m) 0 (V m) r) (c : Dev nD) :
    r.2.mem ((c : Thread nD τ).loc main_v9) = (dats m 0 c).arrAt 22 cfg0.N :=
  (h c).1 22

/-- After the frame run, argument `main_arg0` is as launched: input window 6 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 6).trans (((dats m 0 c).arrAt_in 6 rfl _).trans ((A_eq m c 6).trans (V_main_arg0 m c)))

/-- After the frame run, argument `main_arg1` is as launched: input window 7 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 7).trans (((dats m 0 c).arrAt_in 7 rfl _).trans ((A_eq m c 7).trans (V_main_arg1 m c)))

/-- After the frame run, argument `main_arg2` is as launched: input window 8 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 8).trans (((dats m 0 c).arrAt_in 8 rfl _).trans ((A_eq m c 8).trans (V_main_arg2 m c)))

/-- After the frame run, argument `main_arg3` is as launched: input window 9 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 9).trans (((dats m 0 c).arrAt_in 9 rfl _).trans ((A_eq m c 9).trans (V_main_arg3 m c)))

/-- After the frame run, argument `main_arg4` is as launched: input window 10 stages it and never writes it back. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 10).trans (((dats m 0 c).arrAt_in 10 rfl _).trans ((A_eq m c 10).trans (V_main_arg4 m c)))

/-- After the frame run, argument `main_arg5` is as launched: input window 11 stages it and never writes it back. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).1 11).trans (((dats m 0 c).arrAt_in 11 rfl _).trans ((A_eq m c 11).trans (V_main_arg5 m c)))

/-- After the frame run, argument `main_arg6` is as launched: no window stages it, and the run leaves the region's other buffers as they were. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)

/-- After the frame run, argument `main_arg7` is as launched: no window stages it, and the run leaves the region's other buffers as they were. -/
theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).2 main_arg7 (Pipeline.mem_restRefs_of main_arg7 (by decide) (by decide))).trans (V_main_arg7 m c)

/-- After the frame run, argument `main_arg8` is as launched: no window stages it, and the run leaves the region's other buffers as they were. -/
theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).2 main_arg8 (Pipeline.mem_restRefs_of main_arg8 (by decide) (by decide))).trans (V_main_arg8 m c)

/-- After the frame run, argument `main_arg9` is as launched: no window stages it, and the run leaves the region's other buffers as they were. -/
theorem kept_main_arg9 (r : PUnit × MemSt nD τ sig (Elt F)) (h : Pipeline.FramePost cfgs (dats m) 0 (V m) r) (c : Dev nD) :
    r.2.mem ((c : Thread nD τ).loc main_arg9) = m ((c : Thread nD τ).loc main_arg9) :=
  ((h c).2 main_arg9 (Pipeline.mem_restRefs_of main_arg9 (by decide) (by decide))).trans (V_main_arg9 m c)

/-- After the frame run, argument `main_arg10` is as launched: no window stages it, and the run leaves the region's other buffers as they were. -/
theorem kept_main_arg10 (r : PUnit × MemSt nD τ sig (Elt F)) (h : Pipeline.FramePost cfgs (dats m) 0 (V m) r) (c : Dev nD) :
    r.2.mem ((c : Thread nD τ).loc main_arg10) = m ((c : Thread nD τ).loc main_arg10) :=
  ((h c).2 main_arg10 (Pipeline.mem_restRefs_of main_arg10 (by decide) (by decide))).trans (V_main_arg10 m c)

/-- After the frame run, argument `main_arg11` is as launched: input window 17 stages it and never writes it back. -/
theorem kept_main_arg11 (r : PUnit × MemSt nD τ sig (Elt F)) (h : Pipeline.FramePost cfgs (dats m) 0 (V m) r) (c : Dev nD) :
    r.2.mem ((c : Thread nD τ).loc main_arg11) = m ((c : Thread nD τ).loc main_arg11) :=
  ((h c).1 17).trans (((dats m 0 c).arrAt_in 17 rfl _).trans ((A_eq m c 17).trans (V_main_arg11 m c)))

/-- After the frame run, argument `main_arg12` is as launched: no window stages it, and the run leaves the region's other buffers as they were. -/
theorem kept_main_arg12 (r : PUnit × MemSt nD τ sig (Elt F)) (h : Pipeline.FramePost cfgs (dats m) 0 (V m) r) (c : Dev nD) :
    r.2.mem ((c : Thread nD τ).loc main_arg12) = m ((c : Thread nD τ).loc main_arg12) :=
  ((h c).2 main_arg12 (Pipeline.mem_restRefs_of main_arg12 (by decide) (by decide))).trans (V_main_arg12 m c)

/-- After the frame run, argument `main_arg13` is as launched: no window stages it, and the run leaves the region's other buffers as they were. -/
theorem kept_main_arg13 (r : PUnit × MemSt nD τ sig (Elt F)) (h : Pipeline.FramePost cfgs (dats m) 0 (V m) r) (c : Dev nD) :
    r.2.mem ((c : Thread nD τ).loc main_arg13) = m ((c : Thread nD τ).loc main_arg13) :=
  ((h c).2 main_arg13 (Pipeline.mem_restRefs_of main_arg13 (by decide) (by decide))).trans (V_main_arg13 m c)

/-- After the frame run, argument `main_arg14` is as launched: no window stages it, and the run leaves the region's other buffers as they were. -/
theorem kept_main_arg14 (r : PUnit × MemSt nD τ sig (Elt F)) (h : Pipeline.FramePost cfgs (dats m) 0 (V m) r) (c : Dev nD) :
    r.2.mem ((c : Thread nD τ).loc main_arg14) = m ((c : Thread nD τ).loc main_arg14) :=
  ((h c).2 main_arg14 (Pipeline.mem_restRefs_of main_arg14 (by decide) (by decide))).trans (V_main_arg14 m c)

/-- After the frame run, argument `main_arg15` is as launched: no window stages it, and the run leaves the region's other buffers as they were. -/
theorem kept_main_arg15 (r : PUnit × MemSt nD τ sig (Elt F)) (h : Pipeline.FramePost cfgs (dats m) 0 (V m) r) (c : Dev nD) :
    r.2.mem ((c : Thread nD τ).loc main_arg15) = m ((c : Thread nD τ).loc main_arg15) :=
  ((h c).2 main_arg15 (Pipeline.mem_restRefs_of main_arg15 (by decide) (by decide))).trans (V_main_arg15 m c)

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v9) = (dats m 0 c).arrAt 22 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15) :=
  (θ_run defs _ _).mono (fun r h c => ⟨post22 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c,
      kept_main_arg10 m r h c,
      kept_main_arg11 m r h c,
      kept_main_arg12 m r h c,
      kept_main_arg13 m r h c,
      kept_main_arg14 m r h c,
      kept_main_arg15 m r h c⟩)
    (run_main m ρ)

end Cert.Kernel2Ideal.Value

end
-- ==== Proof.WinWords.lean ====
/- The integer words of the window attention: the first key block of a query tile, and the window's condition on the two
   positions, both read as statements about natural numbers. -/
module

public import proofs.«01_k».proof.Proof.Gen.KernelIdeal.Skeleton
public import Idealize.ShloMosaic.Lib.WordCmp

@[expose] public section

set_option maxRecDepth 16384

noncomputable section

namespace Cert.WinWords

open Idealize.ShloMosaic Idealize.ShloMosaic.TcCoe Idealize.SL.Sem
open Cert.KernelIdeal Cert.KernelIdeal.Gen

/-- The query at position `a` sees the key at position `b`: the key is not later, and at most 511 positions earlier. -/
abbrev Sees (a b : Nat) : Prop := b ≤ a ∧ a < b + 512

/-- The two comparisons of the position difference, as one statement about the positions. -/
theorem sees_word (a b : Nat) (ha : a < 65536) (hb : b < 65536) :
    IntOp.andi (IntOp.cmpi .sge (IntOp.subi (BitVec.ofNat 32 a) (BitVec.ofNat 32 b)) 0#32)
        (IntOp.cmpi .slt (IntOp.subi (BitVec.ofNat 32 a) (BitVec.ofNat 32 b)) 512#32)
      = BitVec.ofBool (decide (Sees a b)) := by
  rw [WordCmp.andi_sge_zero_slt_ofNat (k := 512) (by decide)]
  congr 1
  refine decide_eq_decide.mpr ?_
  show (BitVec.ofNat 32 a - BitVec.ofNat 32 b).toNat < 512 ↔ _
  rw [BitVec.toNat_sub, BitVec.toNat_ofNat, BitVec.toNat_ofNat]
  unfold Sees
  omega

/-- A selection on that bit is a choice on the statement. -/
theorem select_sees {α : Type} (a b : Nat) (x y : α) :
    Scalar.select (BitVec.ofBool (decide (Sees a b))) x y = if Sees a b then x else y := by
  by_cases h : Sees a b
  · rw [if_pos h, decide_eq_true h]; rfl
  · rw [if_neg h, decide_eq_false h]; rfl

/-- The first of the six key blocks that the query tile `j` reads. -/
def first (j : Nat) : Nat := min 26 (2 * j - 4)

theorem first_le (j : Nat) : first j ≤ 26 := Nat.min_le_left _ _

/-- The clamped block number of the kernel is `first`. -/
theorem first_word : ∀ j : Fin 16, Scalar.minsi 26#32 (Scalar.maxsi 0#32
    (Scalar.subi (Scalar.muli (BitVec.ofNat 32 j.val) 2#32) 4#32)) = BitVec.ofNat 32 (first j.val) := by decide +kernel

/-- Every key seen by a query of tile `j` lies in the tile's span of six blocks. -/
theorem seen_in_span (j r b : Nat) (hj : j < 16) (hr : r < 256) (hb : b < 4096) (h : Sees (256 * j + r) b) :
    128 * first j ≤ b ∧ b < 128 * first j + 768 := by
  unfold Sees at h; unfold first; omega

/-- Where the key rows of the tile start. -/
theorem off1 : ∀ i : grid0.Coords, k0_off1 i 1 = 128 * first (i 1).val := by decide +kernel

/-- Which value block the `u`-th load of the first head pair reads, -/
theorem off2 : ∀ i : grid0.Coords, ∀ u : Fin 6, k0_off2 i (BitVec.ofNat 32 u.val) 2 = first (i 1).val + u.val := by
  decide +kernel

/-- and of the second. -/
theorem off3 : ∀ i : grid0.Coords, ∀ u : Fin 6, k0_off3 i (BitVec.ofNat 32 u.val) 2 = first (i 1).val + u.val := by
  decide +kernel

/-- The kernel's condition on the key row `κ` of the span and the query row `r` of the tile. -/
theorem span_word (i : grid0.Coords) (κ r : Nat) (hκ : κ < 768) (hr : r < 256) :
    IntOp.andi
        (IntOp.cmpi .sge (IntOp.subi (IntOp.addi (Scalar.muli (BitVec.ofNat 32 (i 1).val) 256#32) (BitVec.ofNat 32 r))
          (IntOp.addi (Scalar.muli (Scalar.minsi 26#32 (Scalar.maxsi 0#32
            (Scalar.subi (Scalar.muli (BitVec.ofNat 32 (i 1).val) 2#32) 4#32))) 128#32) (BitVec.ofNat 32 κ))) 0#32)
        (IntOp.cmpi .slt (IntOp.subi (IntOp.addi (Scalar.muli (BitVec.ofNat 32 (i 1).val) 256#32) (BitVec.ofNat 32 r))
          (IntOp.addi (Scalar.muli (Scalar.minsi 26#32 (Scalar.maxsi 0#32
            (Scalar.subi (Scalar.muli (BitVec.ofNat 32 (i 1).val) 2#32) 4#32))) 128#32) (BitVec.ofNat 32 κ))) 512#32)
      = BitVec.ofBool (decide (Sees (256 * (i 1).val + r) (128 * first (i 1).val + κ))) := by
  have hj : (i 1).val < 16 := (i 1).isLt
  have hf := first_le (i 1).val
  have e := first_word ⟨(i 1).val, hj⟩
  dsimp only at e
  rw [e]
  have ea : IntOp.addi (Scalar.muli (BitVec.ofNat 32 (i 1).val) 256#32) (BitVec.ofNat 32 r)
      = BitVec.ofNat 32 (256 * (i 1).val + r) := by
    unfold Scalar.muli
    rw [WordCmp.muli_ofNat _ 256, WordCmp.addi_ofNat, Nat.mul_comm]
  have eb : IntOp.addi (Scalar.muli (BitVec.ofNat 32 (first (i 1).val)) 128#32) (BitVec.ofNat 32 κ)
      = BitVec.ofNat 32 (128 * first (i 1).val + κ) := by
    unfold Scalar.muli
    rw [WordCmp.muli_ofNat _ 128, WordCmp.addi_ofNat, Nat.mul_comm]
  rw [ea, eb]
  exact sees_word _ _ (by omega) (by omega)

end Cert.WinWords

end
-- ==== Proof.WinBody.lean ====
/- The window attention's kernel body, element by element: what each payload of one grid point is at an index, in terms of
   the loaded blocks. `score` is a query's score against a key of the tile's span (scaled dot product, or the mask's value),
   `weight` its unnormalised softmax weight, `out` the gated, normalised head value that the body stores. -/
module

public import proofs.«01_k».proof.Proof.Gen.KernelIdeal.Skeleton
public import proofs.«01_k».proof.Proof.WinWords
public import Idealize.ShloMosaic.Lib.Pointwise
public import Idealize.ShloMosaic.Lib.IdealHost
public import Idealize.ShloMosaic.PureOps.IdealRules

@[expose] public section

set_option maxRecDepth 16384

noncomputable section

namespace Cert.WinBody

open Idealize.ShloMosaic Idealize.ShloMosaic.TcCoe Idealize.SL.Sem
open Cert.KernelIdeal Cert.KernelIdeal.Gen Cert.WinWords

/-- The mask: zero where the query row `r` of the tile sees the key row `κ` of the span, minus infinity elsewhere. -/
def bias (i : grid0.Coords) (κ : Fin 768) (r : Fin 256) : EReal :=
  if Sees (256 * (i 1).val + r.val) (128 * first (i 1).val + κ.val) then 0 else ⊥

/-- The masked score of head `h`'s query row `r` against key row `κ`. -/
def score (i : grid0.Coords) (qt : FVec Ideal S1x384x256 .bf16) (kw : FVec Ideal S1x768x128 .bf16) (h : Fin 6)
    (r : Fin 256) (κ : Fin 768) : EReal :=
  (∑ e : Fin 64, kw (ix3 0 κ ⟨64 * (h.val / 3) + e.val, by omega⟩) * qt (ix3 0 ⟨64 * h.val + e.val, by omega⟩ r))
    + bias i κ r

/-- The mask's named constant is minus infinity. -/
theorem mask_value : Named.named (F := Ideal) (φ := .f32) κ "mask" 0xF149F2CA#32 = (⊥ : EReal) :=
  IdealRules.named_const.ideal_named_scalar _ _ _ _ rfl

theorem pay4_apply (i : grid0.Coords) (κ' : Fin 768) (l : Fin 768) (r : Fin 256) (hl : l.val % 256 = r.val) :
    k0_pay4 (F := Ideal) i (ix2 κ' l) = bias i κ' r := by
  have key : ∀ x : Nat, x = r.val → Scalar.select (IntOp.andi
        (IntOp.cmpi .sge (IntOp.subi (IntOp.addi (Scalar.muli (BitVec.ofNat 32 (i 1).val) 256#32) (BitVec.ofNat 32 x))
          (IntOp.addi (Scalar.muli (Scalar.minsi 26#32 (Scalar.maxsi 0#32
            (Scalar.subi (Scalar.muli (BitVec.ofNat 32 (i 1).val) 2#32) 4#32))) 128#32) (BitVec.ofNat 32 κ'.val))) 0#32)
        (IntOp.cmpi .slt (IntOp.subi (IntOp.addi (Scalar.muli (BitVec.ofNat 32 (i 1).val) 256#32) (BitVec.ofNat 32 x))
          (IntOp.addi (Scalar.muli (Scalar.minsi 26#32 (Scalar.maxsi 0#32
            (Scalar.subi (Scalar.muli (BitVec.ofNat 32 (i 1).val) 2#32) 4#32))) 128#32) (BitVec.ofNat 32 κ'.val))) 512#32))
        (0 : EReal) (Named.named (F := Ideal) (φ := .f32) κ "mask" 0xF149F2CA#32) = bias i κ' r := by
    rintro x rfl
    rw [span_word i κ'.val r.val κ'.isLt r.isLt, select_sees, mask_value]
    rfl
  pointwise [k0_pay4]
  split_ifs with h1 h2
  · exact key _ (by omega)
  · exact key _ (by omega)
  · exact key _ (by omega)

/-- The scores of the first three heads, side by side along the lanes. -/
theorem pay6_apply (i : grid0.Coords) (v0 : FVec Ideal S1x384x256 .bf16) (v9 : FVec Ideal S1x768x128 .bf16)
    (h : Fin 6) (hh : h.val < 3) (r : Fin 256) (l : Fin 768) (hl : l.val = 256 * h.val + r.val) (κ' : Fin 768) :
    k0_pay6 (F := Ideal) i v0 v9 (ix2 κ' l) = score i v0 v9 h r κ' := by
  pointwise [k0_pay6, k0_pay5, k0_pay3, k0_pay2]
  unfold score
  rw [pay4_apply i κ' l r (by omega)]
  congr 1
  have z : (∑ x : Fin 64, v9 (ix3 0 κ' ⟨64 + x.val, by omega⟩)
      * if h : l.val < 256 then (0 : EReal) else if h : l.val - 256 < 256 then 0 else 0) = 0 :=
    Finset.sum_eq_zero fun x _ => by split_ifs <;> exact mul_zero _
  refine Eq.trans (congrArg _ z) ?_
  rw [add_zero]
  refine Finset.sum_congr rfl fun x _ => ?_
  have hx := x.isLt
  have hr := r.isLt
  refine congrArg₂ (· * ·) (congrArg v9 (by idx_ext <;> omega)) ?_
  split_ifs with h1 h2
  all_goals exact congrArg v0 (by idx_ext <;> omega)

/-- The largest score of a query, over the keys of the span. -/
def top (S : Fin 768 → EReal) : EReal := Finset.fold max (Ideal.ofBits FTy.f32 0xFF800000#32) S Finset.univ

/-- The unnormalised softmax weight of each key. -/
def weight (S : Fin 768 → EReal) (κ' : Fin 768) : EReal := Ideal.exp2 (S κ' - top S)

/-- One element of a head's normalised output: the weighted sum of the values, divided by row 64's weighted sum. -/
def attend (S : Fin 768 → EReal) (V : Fin 768 → Fin 80 → EReal) (d : Fin 64) : EReal :=
  (∑ κ', V κ' ⟨d.val, by omega⟩ * weight S κ') * Ideal.div 1 (∑ κ', V κ' 64 * weight S κ')

/-- The gate: the logistic function of the gate's entry. -/
def sig (x : EReal) : EReal := Ideal.div 1 (1 + Ideal.exp (0 - x))

theorem pay8_apply (i : grid0.Coords) (v0 : FVec Ideal S1x384x256 .bf16) (v9 : FVec Ideal S1x768x128 .bf16)
    (h : Fin 6) (hh : h.val < 3) (r : Fin 256) (l : Fin 768) (hl : l.val = 256 * h.val + r.val) (κ' : Fin 768) :
    k0_pay8 (F := Ideal) (k0_pay6 i v0 v9) (k0_pay7 i v0 v9) (ix2 κ' l) = weight (score i v0 v9 h r) κ' := by
  have e : ∀ k, k0_pay6 (F := Ideal) i v0 v9 (ix2 k l) = score i v0 v9 h r k := pay6_apply i v0 v9 h hh r l hl
  pointwise [k0_pay8, k0_pay7]
  simp only [e]
  rfl

/-- The scores of the last three heads, before the softmax. -/
def score2 (v1 : FVec Ideal S384x256 .bf16) (v10 : FVec Ideal S768x128 .bf16) (v27 : FVec Ideal S768x768 .f32)
    (v28 : FVec Ideal S64x256 .bf16) : FVec Ideal S768x768 .f32 :=
  addf (matmul dot_S768x128_S128x768_S768x768_1_0_0_1_n_n none v10
    (concatenate S128x768 1
      [⟨S128x256, concatenate S128x256 0 [⟨S64x256, v28⟩, ⟨S64x256, extractStridedSlice S64x256 ![192, 0] v1
          slices_S384x256_o192_0_S64x256⟩] concatenates_S64x256_S64x256_S128x256_d0⟩,
       ⟨S128x256, concatenate S128x256 0 [⟨S64x256, v28⟩, ⟨S64x256, extractStridedSlice S64x256 ![256, 0] v1
          slices_S384x256_o256_0_S64x256⟩] concatenates_S64x256_S64x256_S128x256_d0⟩,
       ⟨S128x256, concatenate S128x256 0 [⟨S64x256, v28⟩, ⟨S64x256, extractStridedSlice S64x256 ![320, 0] v1
          slices_S384x256_o320_0_S64x256⟩] concatenates_S64x256_S64x256_S128x256_d0⟩]
      concatenates_S128x256_S128x256_S128x256_S128x768_d1)
    (constant S768x768 .f32 0x00000000#32)) v27

theorem score2_apply (i : grid0.Coords) (v0 : FVec Ideal S1x384x256 .bf16) (v9 : FVec Ideal S1x768x128 .bf16)
    (h : Fin 6) (hh : 3 ≤ h.val) (r : Fin 256) (l : Fin 768) (hl : l.val + 768 = 256 * h.val + r.val) (κ' : Fin 768) :
    score2 (k0_pay2 v0) (k0_pay3 v9) (k0_pay4 i) k0_pay5 (ix2 κ' l) = score i v0 v9 h r κ' := by
  pointwise [score2, k0_pay5, k0_pay3, k0_pay2]
  unfold score
  rw [pay4_apply i κ' l r (by omega)]
  congr 1
  have z : (∑ x : Fin 64, v9 (ix3 0 κ' ⟨x.val, by omega⟩)
      * if h : l.val < 256 then (0 : EReal) else if h : l.val - 256 < 256 then 0 else 0) = 0 :=
    Finset.sum_eq_zero fun x _ => by split_ifs <;> exact mul_zero _
  refine Eq.trans (congrArg (· + _) z) ?_
  rw [zero_add]
  refine Finset.sum_congr rfl fun x _ => ?_
  have hx := x.isLt
  have hr := r.isLt
  have hh6 := h.isLt
  refine congrArg₂ (· * ·) (congrArg v9 (by idx_ext <;> omega)) ?_
  split_ifs with h1 h2
  all_goals exact congrArg v0 (by idx_ext <;> omega)

theorem pay14_eq (v1 : FVec Ideal S384x256 .bf16) (v10 : FVec Ideal S768x128 .bf16) (v27 : FVec Ideal S768x768 .f32)
    (v28 : FVec Ideal S64x256 .bf16) :
    k0_pay14 v1 v10 v27 v28 = truncf .bf16 (exp2 (subf (score2 v1 v10 v27 v28) (broadcastTo S768x768
      (shapeCast S1x768 (multiReduction .maximumf [0] S768 (score2 v1 v10 v27 v28) 0xFF800000#32 reduces_S768x768_S768
        (.inl rfl) rfl) shapeCasts_S768_S1x768) broadcasts_S1x768_S768x768))) bitsLt_bf16_f32 := rfl

theorem pay14_apply (i : grid0.Coords) (v0 : FVec Ideal S1x384x256 .bf16) (v9 : FVec Ideal S1x768x128 .bf16)
    (h : Fin 6) (hh : 3 ≤ h.val) (r : Fin 256) (l : Fin 768) (hl : l.val + 768 = 256 * h.val + r.val) (κ' : Fin 768) :
    k0_pay14 (F := Ideal) (k0_pay2 v0) (k0_pay3 v9) (k0_pay4 i) k0_pay5 (ix2 κ' l) = weight (score i v0 v9 h r) κ' := by
  have e := score2_apply i v0 v9 h hh r l hl
  rw [pay14_eq]
  generalize score2 (k0_pay2 v0) (k0_pay3 v9) (k0_pay4 i) k0_pay5 = s at e ⊢
  pointwise
  simp only [e]
  rfl

/-- A span's values, read from its six loaded blocks. -/
def span (b : Fin 6 → FVec Ideal S1x1x1x80x128 .bf16) (κ' : Fin 768) (d : Fin 80) : EReal :=
  b ⟨κ'.val / 128, by omega⟩ (ix5 0 0 0 d ⟨κ'.val % 128, by omega⟩)

theorem span_at (b : Fin 6 → FVec Ideal S1x1x1x80x128 .bf16) (κ' : Fin 768) (d : Fin 80) (u : Fin 6) (x : Fin 128)
    (h : κ'.val = 128 * u.val + x.val) : b u (ix5 0 0 0 d x) = span b κ' d := by
  unfold span
  exact congr (congrArg b (Fin.ext (by dsimp only; omega))) (by idx_ext <;> omega)

theorem pay9_apply (b : Fin 6 → FVec Ideal S1x1x1x80x128 .bf16) (κ' : Fin 768) (d : Fin 80) :
    k0_pay9 (F := Ideal) (b 0) (b 1) (b 2) (b 3) (b 4) (b 5) (ix2 d κ') = span b κ' d := by
  have hk := κ'.isLt
  pointwise [k0_pay9]
  split_ifs
  all_goals first
    | exact span_at b κ' d 0 _ (by show κ'.val = 128 * 0 + _; dsimp only; omega)
    | exact span_at b κ' d 1 _ (by show κ'.val = 128 * 1 + _; dsimp only; omega)
    | exact span_at b κ' d 2 _ (by show κ'.val = 128 * 2 + _; dsimp only; omega)
    | exact span_at b κ' d 3 _ (by show κ'.val = 128 * 3 + _; dsimp only; omega)
    | exact span_at b κ' d 4 _ (by show κ'.val = 128 * 4 + _; dsimp only; omega)
    | exact span_at b κ' d 5 _ (by show κ'.val = 128 * 5 + _; dsimp only; omega)

theorem pay10_apply (v43 : FVec Ideal S768x768 .bf16) (v68 : FVec Ideal S80x768 .bf16) (S : Fin 768 → EReal)
    (V : Fin 768 → Fin 80 → EReal) (l : Fin 768) (hw : ∀ κ', v43 (ix2 κ' l) = weight S κ')
    (hv : ∀ κ' d, v68 (ix2 d κ') = V κ' d) (d : Fin 64) :
    k0_pay10 v43 v68 (constant S80x768 .f32 0x00000000#32) (ix2 d l) = attend S V d := by
  pointwise [k0_pay10]
  simp only [hw, hv]
  rfl

/-- The second product is the first one, at its own six blocks. -/
theorem pay18_eq (v93 : FVec Ideal S768x768 .bf16) (b : Fin 6 → FVec Ideal S1x1x1x80x128 .bf16) :
    k0_pay18 v93 (k0_pay15 (b 0)) (k0_pay16 (b 1)) (k0_pay17 (b 2)) (b 3) (b 4) (b 5)
      = k0_pay10 v93 (k0_pay9 (b 0) (b 1) (b 2) (b 3) (b 4) (b 5)) (constant S80x768 .f32 0x00000000#32) := rfl

/-- What head `h` stores for query row `r`, from the loaded blocks. -/
def headOut (i : grid0.Coords) (qt : FVec Ideal S1x384x256 .bf16) (g : FVec Ideal S1x256x128 .f32)
    (kw : FVec Ideal S1x768x128 .bf16) (b : Fin 2 → Fin 6 → FVec Ideal S1x1x1x80x128 .bf16) (h : Fin 6) (r : Fin 256)
    (d : Fin 64) : EReal :=
  attend (score i qt kw h r) (span (b ⟨h.val / 3, by omega⟩)) d * sig (g (ix3 0 r ⟨3 * h.val + 2, by omega⟩))

theorem pay22_apply (g : FVec Ideal S1x256x128 .f32) (n : Fin 128) (r : Fin 256) :
    k0_pay22 (F := Ideal) g (ix2 n r) = sig (g (ix3 0 r n)) := by
  pointwise [k0_pay22]
  rfl

/-- THE STORED BLOCK at row `r` and lane `64 h + d`. -/
theorem block_apply (i : grid0.Coords) (qt : FVec Ideal S1x384x256 .bf16) (g : FVec Ideal S1x256x128 .f32)
    (kw : FVec Ideal S1x768x128 .bf16) (b : Fin 2 → Fin 6 → FVec Ideal S1x1x1x80x128 .bf16) (h : Fin 6) (r : Fin 256)
    (d : Fin 64) (n : Fin 384) (hn : n.val = 64 * h.val + d.val) (p0 p1 : FVec Ideal S768x768 .bf16)
    (hp0 : p0 = k0_pay8 (k0_pay6 i qt kw) (k0_pay7 i qt kw))
    (hp1 : p1 = k0_pay14 (k0_pay2 qt) (k0_pay3 kw) (k0_pay4 i) k0_pay5)
    (o0 o1 : FVec Ideal S64x768 .f32)
    (ho0 : o0 = k0_pay10 p0 (k0_pay9 (b 0 0) (b 0 1) (b 0 2) (b 0 3) (b 0 4) (b 0 5)) (constant S80x768 .f32 0x00000000#32))
    (ho1 : o1 = k0_pay10 p1 (k0_pay9 (b 1 0) (b 1 1) (b 1 2) (b 1 3) (b 1 4) (b 1 5)) (constant S80x768 .f32 0x00000000#32)) :
    k0_pay1 (extractStridedSlice S64x256 ![0, 0] o1 slices_S64x768_o0_0_S64x256)
        (extractStridedSlice S64x256 ![0, 256] o1 slices_S64x768_o0_256_S64x256)
        (extractStridedSlice S64x256 ![0, 512] o1 slices_S64x768_o0_512_S64x256) (k0_pay22 g)
        (k0_pay23 (extractStridedSlice S64x256 ![0, 0] o0 slices_S64x768_o0_0_S64x256) g)
        (k0_pay24 (extractStridedSlice S64x256 ![0, 256] o0 slices_S64x768_o0_256_S64x256) g)
        (k0_pay25 (extractStridedSlice S64x256 ![0, 512] o0 slices_S64x768_o0_512_S64x256) g) (ix3 0 r n)
      = headOut i qt g kw b h r d := by
  have e0 : ∀ (hh : h.val < 3) (d' : Fin 64) (l : Fin 768), d'.val = d.val → l.val = 256 * h.val + r.val →
      o0 (ix2 d' l) = attend (score i qt kw h r) (span (b ⟨h.val / 3, by omega⟩)) d := by
    intro hh d' l hd hl
    obtain rfl : d' = d := Fin.ext hd
    rw [ho0, hp0]
    refine pay10_apply _ _ _ _ l (pay8_apply i qt kw h hh r l hl) (fun κ' d => ?_) _
    rw [pay9_apply]
    exact congrArg (fun u => span (b u) κ' d) (Fin.ext (by show 0 = h.val / 3; omega))
  have e1 : ∀ (hh : 3 ≤ h.val) (d' : Fin 64) (l : Fin 768), d'.val = d.val → l.val + 768 = 256 * h.val + r.val →
      o1 (ix2 d' l) = attend (score i qt kw h r) (span (b ⟨h.val / 3, by omega⟩)) d := by
    intro hh d' l hd hl
    obtain rfl : d' = d := Fin.ext hd
    rw [ho1, hp1]
    refine pay10_apply _ _ _ _ l (pay14_apply i qt kw h hh r l hl) (fun κ' d => ?_) _
    rw [pay9_apply]
    exact congrArg (fun u => span (b u) κ' d) (Fin.ext (by show 1 = h.val / 3; omega))
  clear ho0 ho1 hp0 hp1
  have hr := r.isLt
  have hd := d.isLt
  have hg : ∀ n' : Fin 128, n'.val = 3 * h.val + 2 → k0_pay22 (F := Ideal) g (ix2 n' r)
      = sig (g (ix3 0 r ⟨3 * h.val + 2, by omega⟩)) := fun n' hn' => by
    rw [pay22_apply]
    exact congrArg (fun u => sig (g (ix3 0 r u))) (Fin.ext hn')
  generalize hG : k0_pay22 (F := Ideal) g = G at hg
  pointwise [k0_pay1, k0_pay23, k0_pay24, k0_pay25]
  unfold headOut
  simp only [hG]
  split_ifs
  all_goals first
    | exact congrArg₂ (· * ·) (e0 (by omega) _ _ (by first | omega | (dsimp only; omega)) (by first | omega | (dsimp only; omega))) (hg _ (by first | omega | (dsimp only; omega)))
    | exact congrArg₂ (· * ·) (e1 (by omega) _ _ (by first | omega | (dsimp only; omega)) (by first | omega | (dsimp only; omega))) (hg _ (by first | omega | (dsimp only; omega)))

/-- The same for the stored value in the body's own words. -/
theorem stored_apply (i : grid0.Coords) (qt : FVec Ideal S1x384x256 .bf16) (g : FVec Ideal S1x256x128 .f32)
    (kw : FVec Ideal S1x768x128 .bf16) (a0 a1 a2 a3 a4 a5 b0 b1 b2 b3 b4 b5 : FVec Ideal S1x1x1x80x128 .bf16) (h : Fin 6) (r : Fin 256)
    (d : Fin 64) (n : Fin 384) (hn : n.val = 64 * h.val + d.val) :
    k0_pay1 (F := Ideal) (k0_pay19 (k0_pay14 (k0_pay2 qt) (k0_pay3 kw) (k0_pay4 i) k0_pay5) (k0_pay15 b0) (k0_pay16 b1) (k0_pay17 b2) b3 b4 b5)
        (k0_pay20 (k0_pay14 (k0_pay2 qt) (k0_pay3 kw) (k0_pay4 i) k0_pay5) (k0_pay15 b0) (k0_pay16 b1) (k0_pay17 b2) b3 b4 b5)
        (k0_pay21 (k0_pay14 (k0_pay2 qt) (k0_pay3 kw) (k0_pay4 i) k0_pay5) (k0_pay15 b0) (k0_pay16 b1) (k0_pay17 b2) b3 b4 b5)
        (k0_pay22 g)
        (k0_pay23 (k0_pay11 (k0_pay8 (k0_pay6 i qt kw) (k0_pay7 i qt kw)) (k0_pay9 a0 a1 a2 a3 a4 a5) (constant S80x768 .f32 0x00000000#32)) g)
        (k0_pay24 (k0_pay12 (k0_pay8 (k0_pay6 i qt kw) (k0_pay7 i qt kw)) (k0_pay9 a0 a1 a2 a3 a4 a5) (constant S80x768 .f32 0x00000000#32)) g)
        (k0_pay25 (k0_pay13 (k0_pay8 (k0_pay6 i qt kw) (k0_pay7 i qt kw)) (k0_pay9 a0 a1 a2 a3 a4 a5) (constant S80x768 .f32 0x00000000#32)) g)
        (ix3 0 r n)
      = headOut i qt g kw ![![a0, a1, a2, a3, a4, a5], ![b0, b1, b2, b3, b4, b5]] h r d :=
  block_apply i qt g kw ![![a0, a1, a2, a3, a4, a5], ![b0, b1, b2, b3, b4, b5]] h r d n hn _ _ rfl rfl _ _ rfl rfl

end Cert.WinBody

end
-- ==== Proof.WinArray.lean ====
/- From the blocks to the arrays: the result array of the window attention's pipeline, element by element, in terms of the
   launch arrays. -/
module

public import proofs.«01_k».proof.Proof.Gen.KernelIdeal.Value
public import proofs.«01_k».proof.Proof.WinBody
public import Idealize.ShloMosaic.Lib.Pipeline.ValueKit

@[expose] public section

set_option maxRecDepth 16384

noncomputable section

namespace Cert.WinArray

open Idealize.ShloMosaic Idealize.ShloMosaic.TcCoe Idealize.SL.Sem
open Cert.KernelIdeal Cert.KernelIdeal.Gen Cert.WinWords Cert.WinBody

/-- The factor the host multiplies the queries with: an eighth over the logarithm of two. -/
def qscale : EReal := Ideal.div (Ideal.ofBits FTy.f32 0x3E000000#32) (Ideal.log (Ideal.ofBits FTy.f32 0x40000000#32))

/-- Position `t`'s score, in head `h`, against row `κ` of its tile's span. -/
def winScore (q : FVec Ideal S8x4096x384 .f32) (k : FVec Ideal S8x4096x128 .f32) (b : Fin 8) (t : Fin 4096) (h : Fin 6)
    (κ' : Fin 768) : EReal :=
  (∑ e : Fin 64, k (ix3 b ⟨128 * first (t.val / 256) + κ'.val, by have := first_le (t.val / 256); omega⟩
      ⟨64 * (h.val / 3) + e.val, by omega⟩) * (q (ix3 b t ⟨64 * h.val + e.val, by omega⟩) * qscale))
    + if Sees t.val (128 * first (t.val / 256) + κ'.val) then 0 else ⊥

/-- The value rows of that span: 64 of the head's values, then rows of ones. -/
def winVal (v : FVec Ideal S8x4096x128 .f32) (b : Fin 8) (t : Fin 4096) (h : Fin 6) (κ' : Fin 768) (d : Fin 80) : EReal :=
  if hd : d.val < 64 then v (ix3 b ⟨128 * first (t.val / 256) + κ'.val, by have := first_le (t.val / 256); omega⟩
    ⟨64 * (h.val / 3) + d.val, by omega⟩) else 1

/-- The result at position `t`, head `h` and lane `d`. -/
def winHead (q : FVec Ideal S8x4096x384 .f32) (g : FVec Ideal S8x4096x128 .f32) (k v : FVec Ideal S8x4096x128 .f32)
    (b : Fin 8) (t : Fin 4096) (h : Fin 6) (d : Fin 64) : EReal :=
  attend (winScore q k b t h) (winVal v b t h) d * sig (g (ix3 b t ⟨3 * h.val + 2, by omega⟩))

/-- THE RESULT of the kernel, as one function of its four arguments. -/
def winOut (q : FVec Ideal S8x4096x384 .f32) (g : FVec Ideal S8x4096x128 .f32) (k v : FVec Ideal S8x4096x128 .f32) :
    FVec Ideal S8x4096x384 .f32 := fun i =>
  winHead q g k v (i 0) (i 1) ⟨(i 2).val / 64, by have := (i 2).isLt; change _ < 384 at this; omega⟩
    ⟨(i 2).val % 64, by omega⟩

variable (m : (ℓ : Loc nD τ sig) → ℓ.ty.Contents (Elt Ideal))

/-- The block index maps: the batch and the query tile. -/
theorem idx : ∀ t : Fin cfg0.N,
    win0_0.index t = ![(grid0.coords t 0).val, 0, (grid0.coords t 1).val]
    ∧ win0_1.index t = ![(grid0.coords t 0).val, (grid0.coords t 1).val, 0]
    ∧ win0_2.index t = ![(grid0.coords t 0).val, 0, 0] ∧ win0_3.index t = ![(grid0.coords t 0).val, 0, 0, 0, 0]
    ∧ win0_4.index t = ![(grid0.coords t 0).val, (grid0.coords t 1).val, 0] :=
  (by decide +kernel : ∀ t : Fin grid0.N, _)

abbrev argQ (c : Dev nD) : FVec Ideal S8x4096x384 .f32 := m ((c.tc : Thread nD τ).loc main_arg0)
abbrev argG (c : Dev nD) : FVec Ideal S8x4096x128 .f32 := m ((c.tc : Thread nD τ).loc main_arg1)
abbrev argK (c : Dev nD) : FVec Ideal S8x4096x128 .f32 := m ((c.tc : Thread nD τ).loc main_arg2)
abbrev argV (c : Dev nD) : FVec Ideal S8x4096x128 .f32 := m ((c.tc : Thread nD τ).loc main_arg3)

/-- The position of row `r` of grid point `t`'s tile. -/
def pos (t : Fin cfg0.N) (r : Fin 256) : Fin 4096 :=
  ⟨256 * (grid0.coords t 1).val + r.val, by have h : (grid0.coords t 1).val < 16 := (grid0.coords t 1).isLt; omega⟩

/-- Its batch. -/
def bat (t : Fin cfg0.N) : Fin 8 := ⟨(grid0.coords t 0).val, (grid0.coords t 0).isLt⟩

/-- The transposed, scaled queries the host hands over, -/
theorem entry0 (c : Dev nD) (b : Fin 8) (n : Fin 384) (t : Fin 4096) :
    (V (F := Ideal) m c main_v5 : FVec Ideal S8x384x4096 .bf16) (ix3 b n t) = argQ m c (ix3 b t n) * qscale := by
  entry_read
  pointwise
  rfl

/-- the keys, -/
theorem entry2 (c : Dev nD) (b : Fin 8) (s : Fin 4096) (n : Fin 128) :
    (V (F := Ideal) m c main_v6 : FVec Ideal S8x4096x128 .bf16) (ix3 b s n) = argK m c (ix3 b s n) := by
  entry_read
  pointwise

/-- the values, transposed and cut into blocks of 128 positions, -/
theorem entry3 (c : Dev nD) (b : Fin 8) (u : Fin 2) (s : Fin 32) (d : Fin 64) (x : Fin 128) :
    (V (F := Ideal) m c main_v11 : FVec Ideal S8x2x32x80x128 .bf16) (ix5 b u s ⟨d.val, by omega⟩ x)
      = argV m c (ix3 b ⟨128 * s.val + x.val, by omega⟩ ⟨64 * u.val + d.val, by omega⟩) := by
  have hd := d.isLt
  entry_read
  pointwise
  exact congrArg (argV m c) (by idx_ext <;> omega)

/-- and the row of ones under them. -/
theorem entry3_one (c : Dev nD) (b : Fin 8) (u : Fin 2) (s : Fin 32) (x : Fin 128) :
    (V (F := Ideal) m c main_v11 : FVec Ideal S8x2x32x80x128 .bf16) (ix5 b u s 64 x) = (1 : EReal) := by
  entry_read
  pointwise

theorem blk0 (c : Dev nD) (t : Fin cfg0.N) (r : Fin 256) (n : Fin 384) :
    iblk (F := Ideal) m c 0 t (ix3 0 n r) = argQ m c (ix3 (bat t) (pos t r) n) * qscale := by
  refine Eq.trans ?_ (entry0 m c (bat t) n (pos t r))
  blk_ext [iblk, idx t, bat, pos]

theorem blk1 (c : Dev nD) (t : Fin cfg0.N) (r : Fin 256) (n : Fin 128) :
    iblk (F := Ideal) m c 1 t (ix3 0 r n) = argG m c (ix3 (bat t) (pos t r) n) := by
  blk_point [iblk, V, idx t, bat, pos]

theorem blk2 (c : Dev nD) (t : Fin cfg0.N) (s : Fin 4096) (n : Fin 128) :
    iblk (F := Ideal) m c 2 t (ix3 0 s n) = argK m c (ix3 (bat t) s n) := by
  refine Eq.trans ?_ (entry2 m c (bat t) s n)
  blk_ext [iblk, idx t, bat]

theorem blk3 (c : Dev nD) (t : Fin cfg0.N) (u : Fin 2) (s : Fin 32) (d : Fin 64) (x : Fin 128) :
    iblk (F := Ideal) m c 3 t (ix5 0 u s ⟨d.val, by omega⟩ x)
      = argV m c (ix3 (bat t) ⟨128 * s.val + x.val, by omega⟩ ⟨64 * u.val + d.val, by omega⟩) := by
  refine Eq.trans ?_ (entry3 m c (bat t) u s d x)
  blk_ext [iblk, idx t, bat]

theorem blk3_one (c : Dev nD) (t : Fin cfg0.N) (u : Fin 2) (s : Fin 32) (x : Fin 128) :
    iblk (F := Ideal) m c 3 t (ix5 0 u s 64 x) = (1 : EReal) := by
  refine Eq.trans ?_ (entry3_one m c (bat t) u s x)
  blk_ext [iblk, idx t, bat]

/-- An attended element is determined by the scores, the element's own values and row 64's. -/
theorem attend_congr (S S' : Fin 768 → EReal) (W W' : Fin 768 → Fin 80 → EReal) (d : Fin 64) (hS : ∀ κ', S κ' = S' κ')
    (hV : ∀ κ', W κ' ⟨d.val, by omega⟩ = W' κ' ⟨d.val, by omega⟩) (hO : ∀ κ', W κ' 64 = W' κ' 64) :
    attend S W d = attend S' W' d := by
  obtain rfl : S = S' := funext hS
  unfold attend
  simp only [hV, hO]

/-- The spans of the two head pairs, when the loaded blocks are six successive tiles of `X`. -/
theorem span_tiles (a0 a1 a2 a3 a4 a5 b0 b1 b2 b3 b4 b5 : FVec Ideal S1x1x1x80x128 .bf16) (X : Fin 2 → Fin 32 → Fin 80 → Fin 128 → EReal)
    (f : Nat) (hf : f ≤ 26)
    (ha0 : ∀ d x, a0 (ix5 0 0 0 d x) = X 0 ⟨f + 0, by omega⟩ d x)
    (ha1 : ∀ d x, a1 (ix5 0 0 0 d x) = X 0 ⟨f + 1, by omega⟩ d x)
    (ha2 : ∀ d x, a2 (ix5 0 0 0 d x) = X 0 ⟨f + 2, by omega⟩ d x)
    (ha3 : ∀ d x, a3 (ix5 0 0 0 d x) = X 0 ⟨f + 3, by omega⟩ d x)
    (ha4 : ∀ d x, a4 (ix5 0 0 0 d x) = X 0 ⟨f + 4, by omega⟩ d x)
    (ha5 : ∀ d x, a5 (ix5 0 0 0 d x) = X 0 ⟨f + 5, by omega⟩ d x)
    (hb0 : ∀ d x, b0 (ix5 0 0 0 d x) = X 1 ⟨f + 0, by omega⟩ d x)
    (hb1 : ∀ d x, b1 (ix5 0 0 0 d x) = X 1 ⟨f + 1, by omega⟩ d x)
    (hb2 : ∀ d x, b2 (ix5 0 0 0 d x) = X 1 ⟨f + 2, by omega⟩ d x)
    (hb3 : ∀ d x, b3 (ix5 0 0 0 d x) = X 1 ⟨f + 3, by omega⟩ d x)
    (hb4 : ∀ d x, b4 (ix5 0 0 0 d x) = X 1 ⟨f + 4, by omega⟩ d x)
    (hb5 : ∀ d x, b5 (ix5 0 0 0 d x) = X 1 ⟨f + 5, by omega⟩ d x)
    (g : Fin 2) (κ' : Fin 768) (d : Fin 80) :
    span (![![a0, a1, a2, a3, a4, a5], ![b0, b1, b2, b3, b4, b5]] g) κ' d
      = X g ⟨f + κ'.val / 128, by omega⟩ d ⟨κ'.val % 128, by omega⟩ := by
  have key : ∀ u : Fin 6, ∀ x, ![![a0, a1, a2, a3, a4, a5], ![b0, b1, b2, b3, b4, b5]] g u (ix5 0 0 0 d x) = X g ⟨f + u.val, by omega⟩ d x := by
    intro u x
    match g, u with
    | 0, 0 => exact ha0 d x
    | 0, 1 => exact ha1 d x
    | 0, 2 => exact ha2 d x
    | 0, 3 => exact ha3 d x
    | 0, 4 => exact ha4 d x
    | 0, 5 => exact ha5 d x
    | 1, 0 => exact hb0 d x
    | 1, 1 => exact hb1 d x
    | 1, 2 => exact hb2 d x
    | 1, 3 => exact hb3 d x
    | 1, 4 => exact hb4 d x
    | 1, 5 => exact hb5 d x
  exact key _ _

/-- A read of the value tiles at an offset. -/
theorem tile_read (X : FVec Ideal S1x2x32x80x128 .bf16) (o : Fin 5 → Nat) (g : Fin 2) (f : Fin 32) (d : Fin 80) (x : Fin 128)
    (h0 : o 0 = 0) (h1 : o 1 = g.val) (h2 : o 2 = f.val) (h3 : o 3 = 0) (h4 : o 4 = 0) (b0 b1 b2 b3 b4) :
    X (ix5 ⟨o 0, b0⟩ ⟨o 1, b1⟩ ⟨o 2, b2⟩ ⟨o 3 + d.val, b3⟩ ⟨o 4 + x.val, b4⟩) = X (ix5 0 g f d x) := by
  have e0 : (⟨o 0, b0⟩ : Fin 1) = 0 := Fin.ext h0
  have e1 : (⟨o 1, b1⟩ : Fin 2) = g := Fin.ext h1
  have e2 : (⟨o 2, b2⟩ : Fin 32) = f := Fin.ext h2
  have e3 : (⟨o 3 + d.val, b3⟩ : Fin 80) = d := Fin.ext (by dsimp only; omega)
  have e4 : (⟨o 4 + x.val, b4⟩ : Fin 128) = x := Fin.ext (by dsimp only; omega)
  rw [e0, e1, e2, e3, e4]

/-- The stored block at grid point `t`, row `r` and lane `64 h + d`. -/
theorem point (c : Dev nD) (t : Fin cfg0.N) (h : Fin 6) (r : Fin 256) (d : Fin 64) (n : Fin 384)
    (hn : n.val = 64 * h.val + d.val) :
    outsAt0 (F := Ideal) m c t (ix3 0 r n) = winHead (argQ m c) (argG m c) (argK m c) (argV m c) (bat t) (pos t r) h d := by
  have hj : (grid0.coords t 1).val < 16 := (grid0.coords t 1).isLt
  have hf := first_le (grid0.coords t 1).val
  have hp : (pos t r).val / 256 = (grid0.coords t 1).val := by unfold pos; dsimp only; omega
  unfold outsAt0
  frame_out
  refine (stored_apply _ _ _ _ _ _ _ _ _ _ _ _ _ _ _ _ h r d n hn).trans ?_
  unfold headOut winHead
  refine congrArg₂ (· * ·) (attend_congr _ _ _ _ d (fun κ' => ?_) (fun κ' => ?_) fun κ' => ?_)
    (congrArg sig (blk1 m c t r _))
  · unfold score winScore bias
    refine congrArg₂ (· + ·) (Finset.sum_congr rfl fun e _ => congrArg₂ (· * ·) ?_ (blk0 m c t r _)) ?_
    · refine Eq.trans ?_ (blk2 m c t _ _)
      pointwise
      refine congrArg₂ (fun a b => iblk m c 2 t (ix3 0 a b)) (Fin.ext ?_) (Fin.ext (Nat.zero_add _))
      dsimp only
      rw [off1, hp]
    · rw [hp]; rfl
  all_goals
    refine (span_tiles _ _ _ _ _ _ _ _ _ _ _ _ (fun g s d x => iblk m c 3 t (ix5 0 g s d x)) (first (grid0.coords t 1).val)
      hf ?_ ?_ ?_ ?_ ?_ ?_ ?_ ?_ ?_ ?_ ?_ ?_ _ κ' _).trans ?_
  case refine_2.refine_13 =>
    refine (blk3 m c t _ _ d _).trans ?_
    unfold winVal
    rw [dif_pos d.isLt]
    refine congrArg (fun a => argV m c (ix3 (bat t) a _)) (Fin.ext ?_)
    dsimp only
    rw [hp]
    omega
  case refine_3.refine_13 =>
    refine (blk3_one m c t _ _ _).trans ?_
    unfold winVal
    rw [dif_neg (by decide)]
  all_goals
    intro d x
    pointwise
  case refine_2.refine_1 | refine_3.refine_1 => exact tile_read _ _ _ _ d x rfl rfl (off2 _ 0) rfl rfl _ _ _ _ _
  case refine_2.refine_2 | refine_3.refine_2 => exact tile_read _ _ _ _ d x rfl rfl (off2 _ 1) rfl rfl _ _ _ _ _
  case refine_2.refine_3 | refine_3.refine_3 => exact tile_read _ _ _ _ d x rfl rfl (off2 _ 2) rfl rfl _ _ _ _ _
  case refine_2.refine_4 | refine_3.refine_4 => exact tile_read _ _ _ _ d x rfl rfl (off2 _ 3) rfl rfl _ _ _ _ _
  case refine_2.refine_5 | refine_3.refine_5 => exact tile_read _ _ _ _ d x rfl rfl (off2 _ 4) rfl rfl _ _ _ _ _
  case refine_2.refine_6 | refine_3.refine_6 => exact tile_read _ _ _ _ d x rfl rfl (off2 _ 5) rfl rfl _ _ _ _ _
  case refine_2.refine_7 | refine_3.refine_7 => exact tile_read _ _ _ _ d x rfl rfl (off3 _ 0) rfl rfl _ _ _ _ _
  case refine_2.refine_8 | refine_3.refine_8 => exact tile_read _ _ _ _ d x rfl rfl (off3 _ 1) rfl rfl _ _ _ _ _
  case refine_2.refine_9 | refine_3.refine_9 => exact tile_read _ _ _ _ d x rfl rfl (off3 _ 2) rfl rfl _ _ _ _ _
  case refine_2.refine_10 | refine_3.refine_10 => exact tile_read _ _ _ _ d x rfl rfl (off3 _ 3) rfl rfl _ _ _ _ _
  case refine_2.refine_11 | refine_3.refine_11 => exact tile_read _ _ _ _ d x rfl rfl (off3 _ 4) rfl rfl _ _ _ _ _
  case refine_2.refine_12 | refine_3.refine_12 => exact tile_read _ _ _ _ d x rfl rfl (off3 _ 5) rfl rfl _ _ _ _ _

/-- THE RESULT ARRAY of the kernel. -/
theorem final (c : Dev nD) : (dats (F := Ideal) m 0 c).arrAt 4 (cfgs 0).N
    = winOut (argQ m c) (argG m c) (argK m c) (argV m c) := by
  refine (dats (F := Ideal) m 0 c).arrAt_eq_of_covers 4 _ (by decide +kernel) fun t _ y => ?_
  blk_simp
  rw [after0_4]
  have hn : (y 2).val < 384 := (y 2).isLt
  have e : y = ix3 0 (y 1) (y 2) := by idx_ext
  rw [e]
  refine (point m c t ⟨(y 2).val / 64, by omega⟩ (y 1) ⟨(y 2).val % 64, by omega⟩ (y 2) (by dsimp only; omega)).trans ?_
  have w : ∀ X : FVec Ideal S8x4096x384 .f32, X (ix3 (bat t) (pos t (y 1)) (y 2))
      = X ((win0_4.blk t).view.emb (ix3 0 (y 1) (y 2))) := fun X => by
    blk_ext [idx t, bat, pos]
  exact w (winOut (argQ m c) (argG m c) (argK m c) (argV m c))

end Cert.WinArray

end
-- ==== Proof.WinRef.lean ====
/- The reference's result, element by element: the dense masked softmax over all 4096 positions. -/
module

public import proofs.«01_k».proof.Proof.Gen.ReferenceIdeal.Read
public import proofs.«01_k».proof.Proof.WinWords
public import Idealize.ShloMosaic.Lib.Pointwise
public import Idealize.ShloMosaic.Lib.IdealHost

@[expose] public section

set_option maxRecDepth 16384

noncomputable section

namespace Cert.WinRef

open Idealize.ShloMosaic Idealize.ShloMosaic.TcCoe Idealize.SL.Sem
open Cert.ReferenceIdeal Cert.ReferenceIdeal.Gen Cert.ReferenceIdeal.Read Cert.WinWords

/-- Minus infinity, as the programs spell it. -/
theorem ofBits_neg_inf : Ideal.ofBits FTy.f32 0xFF800000#32 = (⊥ : EReal) := by simp [Ideal.ofBits, Ideal.ieee]

/-- The masked score of the query at `t` against the key at `s`. -/
def refScore (q : FVec Ideal S8x4096x384 .f32) (k : FVec Ideal S8x4096x128 .f32) (b : Fin 8) (t : Fin 4096) (h : Fin 6)
    (s : Fin 4096) : EReal :=
  if Sees t.val s.val then ∑ e : Fin 64, k (ix3 b s ⟨64 * (h.val / 3) + e.val, by omega⟩)
    * (q (ix3 b t ⟨64 * h.val + e.val, by omega⟩) * Ideal.ofBits FTy.f32 0x3E000000#32) else ⊥

/-- The largest score of a query. -/
def refTop (S : Fin 4096 → EReal) : EReal :=
  max (Ideal.ofBits FTy.f32 0xFF800000#32) (Finset.fold max (Ideal.ofBits FTy.f32 0xFF800000#32) S Finset.univ)

/-- The softmax over all positions. -/
def refProb (S : Fin 4096 → EReal) (s : Fin 4096) : EReal :=
  Ideal.div (Ideal.exp (S s - refTop S)) (0 + ∑ x, Ideal.exp (S x - refTop S))

/-- The logistic function. -/
def refSig (x : EReal) : EReal := Ideal.div 1 (1 + Ideal.exp (-x))

/-- THE REFERENCE'S RESULT at position `t`, head `h` and lane `d`. -/
def refHead (q : FVec Ideal S8x4096x384 .f32) (g : FVec Ideal S8x4096x128 .f32) (k v : FVec Ideal S8x4096x128 .f32)
    (b : Fin 8) (t : Fin 4096) (h : Fin 6) (d : Fin 64) : EReal :=
  refSig (g (ix3 b t ⟨3 * h.val + 2, by omega⟩)) * ∑ s : Fin 4096, v (ix3 b s ⟨64 * (h.val / 3) + d.val, by omega⟩)
    * if Sees t.val s.val then refProb (refScore q k b t h) s else 0

theorem mask_apply (t s : Fin 4096) :
    val_main_v15 (F := Ideal) (ix2 t s) = BitVec.ofBool (decide (Sees t.val s.val)) := by
  pointwise [val_main_v15, val_main_v14, val_main_v13, val_main_c_0, val_main_v12, val_main_v11, val_main_c, val_main_v10,
    val_main_v9, val_main_v8, val_main_v7, val_main_v6, val_main_v5]
  exact sees_word _ _ (by omega) (by omega)

theorem score_apply (q : FVec Ideal S8x4096x384 .f32) (k : FVec Ideal S8x4096x128 .f32) (b : Fin 8) (g : Fin 2) (r : Fin 3)
    (t s : Fin 4096) :
    val_main_v18 (F := Ideal) q k (ix5 b g r t s) = refScore q k b t ⟨3 * g.val + r.val, by omega⟩ s := by
  pointwise [val_main_v18, val_main_v17, val_main_v16, val_main_v3, val_main_v2, val_main_v1, val_main_v0, val_main_cst,
    val_main_call0_v1, val_main_call0_v2]
  rw [mask_apply, select_sees]
  unfold refScore
  have hg := g.isLt
  have hr := r.isLt
  refine if_congr Iff.rfl (Finset.sum_congr rfl fun e _ => congrArg₂ (· * ·) (congrArg k ?_)
    (congrArg (· * _) (congrArg q ?_))) ?_
  · idx_ext <;> omega
  · idx_ext <;> omega
  · exact ofBits_neg_inf

/-- A row's maximum, of any array. -/
theorem max_row (y : FVec Ideal S8x2x3x4096x4096 .f32) (c : FVec Ideal S_ .f32) (b : Fin 8) (g : Fin 2) (r : Fin 3)
    (t : Fin 4096) :
    Host.reduce FloatOps.maximumf y c reducesTo_S8x2x3x4096x4096_S8x2x3x4096_d4 h_S_ (ix4 b g r t)
      = Finset.fold max (c (Shape.Idx.first h_S_)) (fun s => y (ix5 b g r t s)) Finset.univ := by
  simp only [pointwise]

theorem top_apply (q : FVec Ideal S8x4096x384 .f32) (k : FVec Ideal S8x4096x128 .f32) (b : Fin 8) (g : Fin 2) (r : Fin 3)
    (t : Fin 4096) :
    val_main_v21 (F := Ideal) q k (ix4 b g r t) = refTop (refScore q k b t ⟨3 * g.val + r.val, by omega⟩) := by
  have e : (fun s => val_main_v18 (F := Ideal) q k (ix5 b g r t s)) = refScore q k b t ⟨3 * g.val + r.val, by omega⟩ :=
    funext fun s => score_apply q k b g r t s
  unfold refTop
  rw [← e, val_main_v21_apply, val_main_v20_apply]
  unfold val_main_v19
  generalize val_main_v18 (F := Ideal) q k = y
  rw [max_row]
  rfl

theorem exp_apply (q : FVec Ideal S8x4096x384 .f32) (k : FVec Ideal S8x4096x128 .f32) (b : Fin 8) (g : Fin 2) (r : Fin 3)
    (t s : Fin 4096) :
    val_main_v25 (F := Ideal) q k (ix5 b g r t s)
      = Ideal.exp (refScore q k b t ⟨3 * g.val + r.val, by omega⟩ s
          - refTop (refScore q k b t ⟨3 * g.val + r.val, by omega⟩)) := by
  rw [← score_apply, ← top_apply]
  unfold val_main_v25 val_main_v24 val_main_v23 val_main_v22
  generalize val_main_v18 (F := Ideal) q k = y
  generalize val_main_v21 (F := Ideal) q k = z
  pointwise

theorem prob_apply (q : FVec Ideal S8x4096x384 .f32) (k : FVec Ideal S8x4096x128 .f32) (b : Fin 8) (g : Fin 2) (r : Fin 3)
    (t s : Fin 4096) :
    val_main_v30 (F := Ideal) q k (ix5 b g r t s)
      = if Sees t.val s.val then refProb (refScore q k b t ⟨3 * g.val + r.val, by omega⟩) s else 0 := by
  have e : ∀ x, val_main_v25 (F := Ideal) q k (ix5 b g r t x) = _ := exp_apply q k b g r t
  unfold refProb
  simp only [← e]
  clear e
  unfold val_main_v30 val_main_v29 val_main_v28 val_main_v27 val_main_v26
  generalize val_main_v25 (F := Ideal) q k = y
  pointwise [val_main_call1_v1, val_main_call1_v2, val_main_cst_4]
  rw [mask_apply, select_sees]
  exact if_congr Iff.rfl rfl Ideal.ofBits_zero_f32

theorem out_apply (q : FVec Ideal S8x4096x384 .f32) (x k v : FVec Ideal S8x4096x128 .f32) (b : Fin 8) (t : Fin 4096)
    (h : Fin 6) (d : Fin 64) (n : Fin 384) (hn : n.val = 64 * h.val + d.val) :
    val_main_v44 (F := Ideal) q x k v (ix3 b t n) = refHead q x k v b t h d := by
  have hh := h.isLt
  have hd := d.isLt
  have e : ∀ s, val_main_v30 (F := Ideal) q k (ix5 b ⟨n.val / 192, by omega⟩ ⟨n.val / 64 % 3, by omega⟩ t s)
      = if Sees t.val s.val then refProb (refScore q k b t h) s else 0 := fun s => by
    rw [prob_apply]
    exact if_congr Iff.rfl (congrArg (fun u => refProb (refScore q k b t u) s) (Fin.ext (by dsimp only; omega))) rfl
  unfold val_main_v44 val_main_v43 val_main_v32 val_main_v31
  generalize val_main_v30 (F := Ideal) q k = y at e ⊢
  pointwise [val_main_v42, val_main_v41, val_main_v40, val_main_v39, val_main_v38, val_main_v37, val_main_v36, val_main_v35,
    val_main_v34, val_main_v33, val_main_v4, val_main_cst_6, val_main_cst_7]
  simp only [e]
  unfold refHead refSig
  refine congrArg₂ (· * ·) (congrArg (fun u => Ideal.div 1 (1 + Ideal.exp (-x u))) ?_)
    (Finset.sum_congr rfl fun s _ => congrArg (· * _) (congrArg v ?_))
  · idx_ext <;> omega
  · idx_ext <;> omega

end Cert.WinRef

end
-- ==== Proof.WinMath.lean ====
/- The mathematics of the window softmax, over the extended reals and free of any program: a masked softmax does not depend on
   the shift it is computed with, nor on the base of its exponential, and a sum over positions that vanishes outside a span
   is the sum over the span. -/
module

public import Idealize.ShloMosaic.PureOps
public import Idealize.ShloMosaic.PureOps.Ideal.Laws

@[expose] public section

noncomputable section

namespace Cert.WinMath

open Idealize.ShloMosaic

/-- A finite sum of reals, inside the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A non-negative real factor moves out of a sum of extended reals. -/
theorem sum_mul_coe {ι : Type} (s : Finset ι) (f : ι → EReal) (c : ℝ) (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha,
      EReal.right_distrib_of_nonneg_of_ne_top (EReal.coe_nonneg.mpr hc) (EReal.coe_ne_top c), ih]

variable {ι : Type} [Fintype ι]

/-- The masked softmax, over the reals: position `i`'s share of the exponentials of the positions that `P` holds of. -/
def soft (P : ι → Prop) [DecidablePred P] (r : ι → ℝ) (i : ι) : ℝ :=
  (if P i then Real.exp (r i) else 0) * (1 / ∑ j, if P j then Real.exp (r j) else 0)

theorem soft_off (P : ι → Prop) [DecidablePred P] (r : ι → ℝ) (i : ι) (h : ¬ P i) : soft P r i = 0 := by
  unfold soft; rw [if_neg h, zero_mul]

/-- A common shift of the exponents cancels. -/
theorem soft_shift (P : ι → Prop) [DecidablePred P] (r : ι → ℝ) (m : ℝ) (i : ι) :
    (if P i then Real.exp (r i - m) else 0) * (1 / ∑ j, if P j then Real.exp (r j - m) else 0) = soft P r i := by
  have e : ∀ j, (if P j then Real.exp (r j - m) else 0) = (if P j then Real.exp (r j) else 0) * Real.exp (-m) := fun j => by
    split_ifs
    · rw [← Real.exp_add]; rfl
    · rw [zero_mul]
  unfold soft
  simp only [e]
  rw [← Finset.sum_mul, one_div, one_div, mul_inv, mul_assoc]
  congr 1
  rw [mul_comm (Real.exp (-m)), mul_assoc, inv_mul_cancel₀ (Real.exp_ne_zero _), mul_one]

/-- The masked scores: real where `P` holds, minus infinity elsewhere. -/
def masked (P : ι → Prop) [DecidablePred P] (r : ι → ℝ) (i : ι) : EReal := if P i then (r i : EReal) else ⊥

/-- The largest of the masked scores is a real number, as soon as one position is not masked. -/
theorem top_real (P : ι → Prop) [DecidablePred P] (r : ι → ℝ) (hP : ∃ i, P i) :
    ∃ m : ℝ, Finset.fold max (⊥ : EReal) (masked P r) Finset.univ = (m : EReal) := by
  obtain ⟨i, hi⟩ := hP
  have lo : ((r i : ℝ) : EReal) ≤ Finset.fold max (⊥ : EReal) (masked P r) Finset.univ :=
    (Finset.le_fold_max _).mpr (Or.inr ⟨i, Finset.mem_univ i, by unfold masked; rw [if_pos hi]⟩)
  have hi : Finset.fold max (⊥ : EReal) (masked P r) Finset.univ < ⊤ :=
    (Finset.fold_max_lt _).mpr ⟨bot_lt_top, fun j _ => by
      unfold masked; split_ifs
      · exact EReal.coe_lt_top _
      · exact bot_lt_top⟩
  exact ⟨_, (EReal.coe_toReal hi.ne ((EReal.bot_lt_coe _).trans_le lo).ne').symm⟩

/-- An exponential of base `exp c`, on the extended reals. -/
structure IsExp (f : EReal → EReal) (c : ℝ) : Prop where
  bot : f ⊥ = 0
  coe : ∀ x : ℝ, f (x : EReal) = ((Real.exp (c * x) : ℝ) : EReal)

theorem isExp_exp : IsExp Ideal.exp 1 := ⟨rfl, fun x => by rw [one_mul]; rfl⟩

theorem isExp_exp2 : IsExp Ideal.exp2 (Real.log 2) :=
  ⟨rfl, fun x => congrArg (fun y : ℝ => (y : EReal)) (Real.rpow_def_of_pos (by norm_num) x)⟩

variable {f : EReal → EReal} {c : ℝ}

/-- A position's weight, over the reals. -/
theorem weight_coe (hf : IsExp f c) (P : ι → Prop) [DecidablePred P] (r : ι → ℝ) (m : ℝ) (i : ι) :
    f (masked P r i - (m : EReal)) = ((if P i then Real.exp (c * r i - c * m) else 0 : ℝ) : EReal) := by
  unfold masked
  split_ifs
  · rw [← EReal.coe_sub, hf.coe, mul_sub]
  · rw [EReal.bot_sub, hf.bot]; rfl

/-- A position's normalised weight, however the shift was chosen. -/
theorem prob_coe (hf : IsExp f c) (P : ι → Prop) [DecidablePred P] (r : ι → ℝ) (m : ℝ) (hP : ∃ i, P i) :
    ∃ z : ℝ, 0 < z ∧ ∑ i, f (masked P r i - (m : EReal)) = (z : EReal)
      ∧ ∀ i, f (masked P r i - (m : EReal)) * ((1 / z : ℝ) : EReal) = ((soft P (fun i => c * r i) i : ℝ) : EReal) := by
  refine ⟨∑ i, if P i then Real.exp (c * r i - c * m) else 0, ?_, ?_, fun i => ?_⟩
  · obtain ⟨i, hi⟩ := hP
    refine Finset.sum_pos' (fun j _ => ?_) ⟨i, Finset.mem_univ i, ?_⟩
    · split_ifs
      · exact (Real.exp_pos _).le
      · exact le_refl _
    · rw [if_pos hi]; exact Real.exp_pos _
  · rw [coe_sum]
    exact Finset.sum_congr rfl fun i _ => weight_coe hf P r m i
  · rw [weight_coe hf P r m i, ← EReal.coe_mul]
    exact congrArg _ (soft_shift P (fun i => c * r i) (c * m) i)

/-- A sum over positions that vanishes outside a span is the sum over the span. -/
theorem sum_span {M : Type} [AddCommMonoid M] {n w : Nat} (st : Nat) (hst : st + w ≤ n) (F : Fin n → M)
    (h0 : ∀ s : Fin n, ¬ (st ≤ s.val ∧ s.val < st + w) → F s = 0) :
    ∑ s, F s = ∑ k : Fin w, F ⟨st + k.val, by omega⟩ := by
  refine (Finset.sum_of_injOn (fun k : Fin w => (⟨st + k.val, by omega⟩ : Fin n)) ?_ ?_ ?_ ?_).symm
  · intro a _ b _ e
    have := congrArg Fin.val e
    exact Fin.ext (by dsimp only at this; omega)
  · intro a _; exact Finset.mem_coe.mpr (Finset.mem_univ _)
  · intro s _ hs
    refine h0 s fun hh => hs ⟨⟨s.val - st, by omega⟩, Finset.mem_coe.mpr (Finset.mem_univ _), Fin.ext (by dsimp only; omega)⟩
  · intro a _; rfl

/-- The softmax over a span is the softmax over all positions, when no unmasked position lies outside the span. -/
theorem soft_span {n w : Nat} (st : Nat) (hst : st + w ≤ n) (P : Fin n → Prop) [DecidablePred P] (r : Fin n → ℝ)
    (hP : ∀ s, P s → st ≤ s.val ∧ s.val < st + w) (k : Fin w) :
    soft (fun k : Fin w => P ⟨st + k.val, by omega⟩) (fun k => r ⟨st + k.val, by omega⟩) k
      = soft P r ⟨st + k.val, by omega⟩ := by
  unfold soft
  rw [sum_span st hst (fun s => if P s then Real.exp (r s) else 0) fun s hs => if_neg fun hp => hs (hP s hp)]

end Cert.WinMath

end
-- ==== Proof.WinEq.lean ====
/- THE EQUATION: at finite queries and keys the kernel's head value is the reference's. Both are the values weighted by the
   masked softmax of the same real scores; the kernel's scores carry the factor `1 / log 2`, which its power of two takes back,
   and its sum runs over the tile's span only, outside which every key is masked. -/
module

public import proofs.«01_k».proof.Proof.WinArray
public import proofs.«01_k».proof.Proof.WinRef
public import proofs.«01_k».proof.Proof.WinMath

@[expose] public section

set_option maxRecDepth 16384

noncomputable section

namespace Cert.WinEq

open Idealize.ShloMosaic Idealize.ShloMosaic.TcCoe
open Cert.KernelIdeal Cert.WinWords Cert.WinBody Cert.WinArray Cert.WinRef Cert.WinMath

theorem eighth : Ideal.ofBits FTy.f32 0x3E000000#32 = ((1 / 8 : ℝ) : EReal) := by
  simp [Ideal.ofBits, Ideal.ieee]; rw [← EReal.coe_mul]; norm_num

theorem two : Ideal.ofBits FTy.f32 0x40000000#32 = ((2 : ℝ) : EReal) := by
  simp [Ideal.ofBits, Ideal.ieee]; rw [← EReal.coe_mul]; norm_num

theorem log2_pos : 0 < Real.log 2 := Real.log_pos (by norm_num)

theorem qscale_eq : qscale = ((1 / 8 * (1 / Real.log 2) : ℝ) : EReal) := by
  unfold qscale
  rw [eighth, two, Ideal.log_coe, if_neg (by norm_num), Ideal.div_coe log2_pos.ne', ← EReal.coe_mul]

/-- The real score of the query at `t` against the key at `s`. -/
def realScore (q : S8x4096x384.Idx → ℝ) (k : S8x4096x128.Idx → ℝ) (b : Fin 8) (t : Fin 4096) (h : Fin 6) (s : Fin 4096) : ℝ :=
  ∑ e : Fin 64, k (ix3 b s ⟨64 * (h.val / 3) + e.val, by omega⟩) * (q (ix3 b t ⟨64 * h.val + e.val, by omega⟩) * (1 / 8))

theorem refScore_eq (q : S8x4096x384.Idx → ℝ) (k : S8x4096x128.Idx → ℝ) (b : Fin 8) (t : Fin 4096) (h : Fin 6) :
    refScore (fun i => ((q i : ℝ) : EReal)) (fun i => ((k i : ℝ) : EReal)) b t h
      = masked (fun s : Fin 4096 => Sees t.val s.val) (realScore q k b t h) := by
  funext s
  unfold refScore masked realScore
  refine if_congr Iff.rfl ?_ rfl
  rw [coe_sum, eighth]
  exact Finset.sum_congr rfl fun e _ => by rw [← EReal.coe_mul, ← EReal.coe_mul]

/-- The kernel's scores on its span: the same real scores, over the logarithm of two. -/
theorem winScore_eq (q : S8x4096x384.Idx → ℝ) (k : S8x4096x128.Idx → ℝ) (b : Fin 8) (t : Fin 4096) (h : Fin 6) :
    winScore (fun i => ((q i : ℝ) : EReal)) (fun i => ((k i : ℝ) : EReal)) b t h
      = masked (fun s : Fin 768 => Sees t.val (128 * first (t.val / 256) + s.val))
          (fun s => realScore q k b t h ⟨128 * first (t.val / 256) + s.val, by have := first_le (t.val / 256); omega⟩
            / Real.log 2) := by
  funext s
  unfold winScore masked
  have e : ∀ x : Fin 64, (((k (ix3 b ⟨128 * first (t.val / 256) + s.val, by have := first_le (t.val / 256); omega⟩
        ⟨64 * (h.val / 3) + x.val, by omega⟩) : ℝ) : EReal)
        * (((q (ix3 b t ⟨64 * h.val + x.val, by omega⟩) : ℝ) : EReal) * qscale))
      = ((k (ix3 b ⟨128 * first (t.val / 256) + s.val, by have := first_le (t.val / 256); omega⟩
        ⟨64 * (h.val / 3) + x.val, by omega⟩) * (q (ix3 b t ⟨64 * h.val + x.val, by omega⟩) * (1 / 8)) * (1 / Real.log 2) : ℝ)
        : EReal) := fun x => by
    rw [qscale_eq, ← EReal.coe_mul, ← EReal.coe_mul]
    refine congrArg _ ?_
    ring
  rw [Finset.sum_congr rfl fun x _ => e x, ← coe_sum, ← Finset.sum_mul]
  split_ifs
  · rw [add_zero]; refine congrArg _ ?_; unfold realScore; ring
  · exact EReal.add_bot _

theorem sees_self (t : Nat) : Sees t t := ⟨le_refl t, by omega⟩

/-- The kernel's attended value, as a sum over the span. -/
theorem attend_eq (q : S8x4096x384.Idx → ℝ) (k : S8x4096x128.Idx → ℝ) (v : FVec Ideal S8x4096x128 .f32) (b : Fin 8)
    (t : Fin 4096) (h : Fin 6) (d : Fin 64) :
    attend (winScore (fun i => ((q i : ℝ) : EReal)) (fun i => ((k i : ℝ) : EReal)) b t h) (winVal v b t h) d
      = ∑ s : Fin 4096, v (ix3 b s ⟨64 * (h.val / 3) + d.val, by omega⟩)
          * ((soft (fun s : Fin 4096 => Sees t.val s.val) (realScore q k b t h) s : ℝ) : EReal) := by
  have hf := first_le (t.val / 256)
  have hspan : ∀ s : Fin 4096, Sees t.val s.val →
      128 * first (t.val / 256) ≤ s.val ∧ s.val < 128 * first (t.val / 256) + 768 := fun s hs => by
    refine seen_in_span (t.val / 256) (t.val % 256) s.val (by omega) (by omega) s.isLt ?_
    rwa [Nat.div_add_mod]
  have hex : ∃ s : Fin 768, Sees t.val (128 * first (t.val / 256) + s.val) := by
    have h1 := hspan t (sees_self _)
    refine ⟨⟨t.val - 128 * first (t.val / 256), by omega⟩, ?_⟩
    dsimp only
    rw [Nat.add_sub_cancel' h1.1]
    exact sees_self _
  rw [winScore_eq]
  obtain ⟨m, hm⟩ := top_real (fun s : Fin 768 => Sees t.val (128 * first (t.val / 256) + s.val))
    (fun s => realScore q k b t h ⟨128 * first (t.val / 256) + s.val, by omega⟩ / Real.log 2) hex
  obtain ⟨z, hz, hsum, hprob⟩ := prob_coe isExp_exp2 (fun s : Fin 768 => Sees t.val (128 * first (t.val / 256) + s.val))
    (fun s => realScore q k b t h ⟨128 * first (t.val / 256) + s.val, by omega⟩ / Real.log 2) m hex
  unfold attend weight top
  rw [ofBits_neg_inf, hm]
  have one : ∀ s : Fin 768, winVal v b t h s 64 = 1 := fun s => dif_neg (by decide)
  have val : ∀ s : Fin 768, winVal v b t h s ⟨d.val, by omega⟩
      = v (ix3 b ⟨128 * first (t.val / 256) + s.val, by omega⟩ ⟨64 * (h.val / 3) + d.val, by omega⟩) := fun s =>
    dif_pos d.isLt
  simp only [one, one_mul, val]
  rw [hsum, Ideal.div_coe hz.ne', one_mul, sum_mul_coe _ _ _ (by positivity)]
  refine Eq.trans ?_ (sum_span (n := 4096) (w := 768) (128 * first (t.val / 256)) (by omega) _ fun s hs => by
    rw [soft_off (ι := Fin 4096) _ _ s fun hp => hs (hspan s hp), EReal.coe_zero, mul_zero]).symm
  refine Finset.sum_congr rfl fun s _ => ?_
  rw [mul_assoc, hprob]
  refine congrArg (_ * ·) (congrArg _ ?_)
  rw [← soft_span (128 * first (t.val / 256)) (by omega) _ _ hspan s]
  refine congrArg (fun r => soft _ r s) (funext fun s => ?_)
  exact mul_div_cancel₀ _ log2_pos.ne'

/-- The reference's share of a position. -/
theorem refProb_eq (q : S8x4096x384.Idx → ℝ) (k : S8x4096x128.Idx → ℝ) (b : Fin 8) (t : Fin 4096) (h : Fin 6) (s : Fin 4096) :
    (if Sees t.val s.val then refProb (refScore (fun i => ((q i : ℝ) : EReal)) (fun i => ((k i : ℝ) : EReal)) b t h) s else 0)
      = ((soft (fun s : Fin 4096 => Sees t.val s.val) (realScore q k b t h) s : ℝ) : EReal) := by
  have hex : ∃ s : Fin 4096, Sees t.val s.val := ⟨t, sees_self _⟩
  rw [refScore_eq]
  obtain ⟨m, hm⟩ := top_real (fun s : Fin 4096 => Sees t.val s.val) (realScore q k b t h) hex
  obtain ⟨z, hz, hsum, hprob⟩ := prob_coe isExp_exp (fun s : Fin 4096 => Sees t.val s.val) (realScore q k b t h) m hex
  split_ifs with hs
  · unfold refProb refTop
    rw [ofBits_neg_inf, hm, max_eq_right bot_le, hsum, zero_add, Ideal.div_coe hz.ne', hprob]
    simp only [one_mul]
  · rw [soft_off (ι := Fin 4096) _ _ s hs]; rfl

theorem sig_eq (x : EReal) : WinBody.sig x = refSig x := by
  unfold WinBody.sig refSig
  rw [zero_sub]

/-- THE TWO HEADS AGREE. -/
theorem head_eq (q : FVec Ideal S8x4096x384 .f32) (g k v : FVec Ideal S8x4096x128 .f32)
    (hq : ∀ i, ∃ r : ℝ, q i = (r : EReal)) (hk : ∀ i, ∃ r : ℝ, k i = (r : EReal))
    (b : Fin 8) (t : Fin 4096) (h : Fin 6) (d : Fin 64) :
    winHead q g k v b t h d = refHead q g k v b t h d := by
  choose q' hq' using hq
  choose k' hk' using hk
  obtain rfl : q = fun i => ((q' i : ℝ) : EReal) := funext hq'
  obtain rfl : k = fun i => ((k' i : ℝ) : EReal) := funext hk'
  unfold winHead refHead
  rw [attend_eq, sig_eq, mul_comm]
  refine congrArg (_ * ·) (Finset.sum_congr rfl fun s _ => ?_)
  rw [refProb_eq]

end Cert.WinEq

end
-- ==== Proof.WinClaim.lean ====
/- THE CLAIM about the window attention: from memories that agree on the arguments, at finite queries and keys, the kernel's
   result array and the reference's are the same function of the arguments. -/
module

public import proofs.«01_k».proof.Defs
public import proofs.«01_k».proof.Proof.WinEq
public import proofs.«01_k».proof.Proof.Gen.Pre_finite_qk

@[expose] public section

set_option maxRecDepth 16384

noncomputable section

namespace Cert.WinClaim

open Idealize.ShloMosaic Idealize.ShloMosaic.TcCoe Idealize.SL.Sem

/-- A number whose absolute value is below infinity is real. -/
theorem real_of_mask (x : EReal)
    (h : FloatOps.cmpf (F := Ideal) (φ := .f32) .olt (FloatOps.hostAbsf (F := Ideal) (φ := .f32) x)
      (FloatOps.ofBits (F := Ideal) .f32 0x7F800000#32) = 1#1) : ∃ r : ℝ, x = (r : EReal) := by
  have e : FloatOps.ofBits (F := Ideal) .f32 0x7F800000#32 = (⊤ : EReal) := by
    show Ideal.ofBits FTy.f32 0x7F800000#32 = ⊤
    simp [Ideal.ofBits, Ideal.ieee]
  rw [e] at h
  induction x using EReal.rec with
  | bot => exact absurd h (by simp [FloatOps.cmpf, FloatOps.hostAbsf, Ideal.cmp])
  | top => exact absurd h (by simp [FloatOps.cmpf, FloatOps.hostAbsf, Ideal.cmp])
  | coe r => exact ⟨r, rfl⟩

/-- The two value arrays agree at real queries and keys. -/
theorem arrays_eq (q : FVec Ideal Cert.KernelIdeal.S8x4096x384 .f32)
    (g k v : FVec Ideal Cert.KernelIdeal.S8x4096x128 .f32)
    (hq : ∀ i, ∃ r : ℝ, q i = (r : EReal)) (hk : ∀ i, ∃ r : ℝ, k i = (r : EReal)) :
    Cert.ReferenceIdeal.Read.val_main_v44 (F := Ideal) q g k v = Cert.WinArray.winOut q g k v := by
  funext i
  have hi : i = ix3 (i 0) (i 1) (i 2) := by idx_ext
  have h2 : (i 2).val < 384 := (i 2).isLt
  refine Eq.trans (congrArg _ hi) ?_
  refine (Cert.WinRef.out_apply q g k v (i 0) (i 1) ⟨(i 2).val / 64, by omega⟩ ⟨(i 2).val % 64, by omega⟩ (i 2)
    (by show (i 2).val = 64 * ((i 2).val / 64) + (i 2).val % 64; omega)).trans ?_
  exact (Cert.WinEq.head_eq q g k v hq hk (i 0) (i 1) ⟨(i 2).val / 64, by omega⟩ ⟨(i 2).val % 64, by omega⟩).symm

/-- The idealized kernel and the idealized reference end with equal results. -/
theorem algebraic : Cert.algebraic_KernelIdeal_ReferenceIdeal_pre_finite_qk := by
  intro m ρ m' ρ' hpre hagree
  refine ⟨fun c => Cert.WinArray.winOut (Cert.WinArray.argQ m c) (Cert.WinArray.argG m c) (Cert.WinArray.argK m c)
    (Cert.WinArray.argV m c), ?_, ?_⟩
  · exact (θ_run Cert.KernelIdeal.defs _ _).mono (fun _ h c => ⟨(h c).1.trans (Cert.WinArray.final m c), (h c).2⟩)
      (Cert.KernelIdeal.Value.run_blocks (F := Ideal) m ρ)
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v44_eq, (hagree c).1, (hagree c).2.1, (hagree c).2.2.1, (hagree c).2.2.2]
  exact arrays_eq _ _ _ _ (fun i => real_of_mask _ (congrFun (hpre c).1 i)) (fun i => real_of_mask _ (congrFun (hpre c).2 i))

/-- The reference leaves its arguments and ends quiet. -/
theorem frame (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ (fun r => (∀ c : Dev Cert.ReferenceIdeal.nD,
        r.2.mem ((c.tc : Thread _ _).loc Cert.ReferenceIdeal.main_arg0) = m ((c.tc : Thread _ _).loc Cert.ReferenceIdeal.main_arg0)
        ∧ r.2.mem ((c.tc : Thread _ _).loc Cert.ReferenceIdeal.main_arg1) = m ((c.tc : Thread _ _).loc Cert.ReferenceIdeal.main_arg1)
        ∧ r.2.mem ((c.tc : Thread _ _).loc Cert.ReferenceIdeal.main_arg2) = m ((c.tc : Thread _ _).loc Cert.ReferenceIdeal.main_arg2)
        ∧ r.2.mem ((c.tc : Thread _ _).loc Cert.ReferenceIdeal.main_arg3) = m ((c.tc : Thread _ _).loc Cert.ReferenceIdeal.main_arg3))
        ∧ r.2.sem = fun _ => 0) :=
  (θ_run Cert.ReferenceIdeal.defs _ _).mono
    (fun r h => ⟨fun c => (h c).2, sem_eq_zero_of_no_sems (by decide) r.2⟩)
    (Cert.ReferenceIdeal.Value.run (F := Ideal) m ρ)

/-- The kernel's named mask constant is minus infinity. -/
theorem preserves : Cert.preserves_Kernel_KernelIdeal :=
  IdealRules.named_const.statement Cert.KernelIdeal.κ "mask" .f32 0xF149F2CA#32 ⊥ rfl

end Cert.WinClaim

end
-- ==== Proof.PostWords.lean ====
module
public import Idealize.ShloMosaic.Lib.Pipeline.ValueKit

/-!
The layer's tail on one position, in mathematical words: the row the mixing branches
leave, the two layer norms, the short convolution over the gate and the feed-forward sum.
-/

@[expose] public section
noncomputable section

namespace Cert.PostWords
open Idealize.ShloMosaic

/-- The square root of two, as the programs spell it: the weight of the residual. -/
def alpha : EReal := Ideal.ofBits FTy.f32 0x3FB504F3#32
/-- 1024, the width of a row. -/
def width : EReal := Ideal.ofBits FTy.f32 0x44800000#32
/-- The small number a layer norm adds to the variance. -/
def eps : EReal := Ideal.ofBits FTy.f32 0x3727C5AC#32
/-- One half. -/
def half : EReal := Ideal.ofBits FTy.f32 0x3F000000#32
/-- The factor of the cube in the tanh approximation. -/
def cubeC : EReal := Ideal.ofBits FTy.f32 0x3D372713#32
/-- The factor in front of it. -/
def tanhC : EReal := Ideal.ofBits FTy.f32 0x3F4C422A#32

/-- The mean of a row. -/
def mean (p : Fin 1024 → EReal) : EReal := Ideal.div (∑ k, p k) width

/-- The layer norm of a row. -/
def lnorm (p g b : Fin 1024 → EReal) (n : Fin 1024) : EReal :=
  (p n - mean p) * Ideal.rsqrt (Ideal.div (∑ k, (p k - mean p) * (p k - mean p)) width + eps) * g n + b n

/-- Three branches side by side. -/
def cat (a : Fin 256 → EReal) (b c : Fin 384 → EReal) (k : Fin 1024) : EReal :=
  if h : k.val < 256 then a ⟨k.val, h⟩ else if h' : k.val - 256 < 384 then b ⟨k.val - 256, h'⟩
  else c ⟨k.val - 256 - 384, by omega⟩

/-- A row times a matrix. -/
def rowMul {K : ℕ} (a : Fin K → EReal) (w : Fin K → EReal) : EReal := ∑ k, a k * w k

/-- The residual with what was added to it. -/
def pre (x s : Fin 1024 → EReal) (n : Fin 1024) : EReal := alpha * x n + s n

/-- The normed row of residual and mixed branches. -/
def mixed (x : Fin 1024 → EReal) (a : Fin 256 → EReal) (b c : Fin 384 → EReal) (w : Fin 1024 → Fin 1024 → EReal)
    (g d : Fin 1024 → EReal) : Fin 1024 → EReal :=
  lnorm (pre x fun n => rowMul (cat a b c) fun k => w k n) g d

/-- The activation, by its tanh approximation. -/
def gelu (h : EReal) : EReal := half * h * (1 + Ideal.tanh (tanhC * (h + cubeC * (h * h * h))))

/-- The gate's short convolution on three successive positions. -/
def conv (cb c0 c1 c2 h0 h1 h2 : EReal) : EReal := cb + h0 * c0 + h1 * c1 + h2 * c2

/-- A feed-forward lane: the gate, convolved over a row and the two before it and activated, times the other branch. -/
def lane (p2 p1 p0 : Fin 1024 → EReal) (wg wu : Fin 1024 → EReal) (c0 c1 c2 cb : EReal) : EReal :=
  gelu (conv cb c0 c1 c2 (rowMul p2 wg) (rowMul p1 wg) (rowMul p0 wg)) * rowMul p0 wu

/-- THE RESULT on a row, from its mixed row `p0` and the two before it. -/
def outRow (p2 p1 p0 : Fin 1024 → EReal) (wg wu : Fin 1024 → Fin 2816 → EReal) (cw : Fin 3 → Fin 2816 → EReal)
    (cb : Fin 2816 → EReal) (wd : Fin 2816 → Fin 1024 → EReal) (g b : Fin 1024 → EReal) : Fin 1024 → EReal :=
  lnorm (pre p0 fun n => rowMul (fun f => lane p2 p1 p0 (fun k => wg k f) (fun k => wu k f) (cw 0 f) (cw 1 f) (cw 2 f) (cb f))
    fun f => wd f n) g b

end Cert.PostWords

end
-- ==== Proof.PostBody.lean ====
module
public import proofs.«01_k».proof.Proof.PostIdealValue
public import proofs.«01_k».proof.Proof.PostWords
public import Idealize.ShloMosaic.Lib.Pipeline.ValueKit

/-!
What the layer's tail kernel computes in one grid step, read at one element: the three
scratch buffers read back, and the payloads as the row functions of `PostWords`.
-/

@[expose] public section
set_option maxRecDepth 16384
noncomputable section
namespace Cert.PostBody
open Idealize.ShloMosaic Idealize.ShloMosaic.TcCoe Idealize.SL.Sem
open Cert.Kernel2Ideal Cert.Kernel2Ideal.Gen Cert.PostWords

/-- The activations, stored in eleven column pieces, read back whole. -/
theorem act_read (p0 p1 p2 p3 p4 p5 p6 p7 p8 p9 p10 : FVec Ideal S512x256 .bf16) (A : FVec Ideal S512x2816 .bf16)
    (q0 : ∀ (r : Fin 512) (n : Fin 256), p0 (ix2 r n) = A (ix2 r ⟨0 + n.val, by omega⟩))
    (q1 : ∀ (r : Fin 512) (n : Fin 256), p1 (ix2 r n) = A (ix2 r ⟨256 + n.val, by omega⟩))
    (q2 : ∀ (r : Fin 512) (n : Fin 256), p2 (ix2 r n) = A (ix2 r ⟨512 + n.val, by omega⟩))
    (q3 : ∀ (r : Fin 512) (n : Fin 256), p3 (ix2 r n) = A (ix2 r ⟨768 + n.val, by omega⟩))
    (q4 : ∀ (r : Fin 512) (n : Fin 256), p4 (ix2 r n) = A (ix2 r ⟨1024 + n.val, by omega⟩))
    (q5 : ∀ (r : Fin 512) (n : Fin 256), p5 (ix2 r n) = A (ix2 r ⟨1280 + n.val, by omega⟩))
    (q6 : ∀ (r : Fin 512) (n : Fin 256), p6 (ix2 r n) = A (ix2 r ⟨1536 + n.val, by omega⟩))
    (q7 : ∀ (r : Fin 512) (n : Fin 256), p7 (ix2 r n) = A (ix2 r ⟨1792 + n.val, by omega⟩))
    (q8 : ∀ (r : Fin 512) (n : Fin 256), p8 (ix2 r n) = A (ix2 r ⟨2048 + n.val, by omega⟩))
    (q9 : ∀ (r : Fin 512) (n : Fin 256), p9 (ix2 r n) = A (ix2 r ⟨2304 + n.val, by omega⟩))
    (q10 : ∀ (r : Fin 512) (n : Fin 256), p10 (ix2 r n) = A (ix2 r ⟨2560 + n.val, by omega⟩)) :
    (View.whole cc0_scratch2).readCov (Val := Elt Ideal) [⟨Rect.unit ![0, 2560] ![512, 256] inb_S512x2816_S512x256_0_2560, p10⟩,
      ⟨Rect.unit ![0, 2304] ![512, 256] inb_S512x2816_S512x256_0_2304, p9⟩,
      ⟨Rect.unit ![0, 2048] ![512, 256] inb_S512x2816_S512x256_0_2048, p8⟩,
      ⟨Rect.unit ![0, 1792] ![512, 256] inb_S512x2816_S512x256_0_1792, p7⟩,
      ⟨Rect.unit ![0, 1536] ![512, 256] inb_S512x2816_S512x256_0_1536, p6⟩,
      ⟨Rect.unit ![0, 1280] ![512, 256] inb_S512x2816_S512x256_0_1280, p5⟩,
      ⟨Rect.unit ![0, 1024] ![512, 256] inb_S512x2816_S512x256_0_1024, p4⟩,
      ⟨Rect.unit ![0, 768] ![512, 256] inb_S512x2816_S512x256_0_768, p3⟩,
      ⟨Rect.unit ![0, 512] ![512, 256] inb_S512x2816_S512x256_0_512, p2⟩,
      ⟨Rect.unit ![0, 256] ![512, 256] inb_S512x2816_S512x256_0_256, p1⟩,
      ⟨Rect.unit ![0, 0] ![512, 256] inb_S512x2816_S512x256_0_0, p0⟩]
      (Rect.unit ![0, 0] ![512, 2816] inb_S512x2816_S512x2816_0_0).toLoadRect = A := by
  rw [View.readCov_eq_canon']
  funext i
  show View.canon _ _ = _
  canon_tiles x h
  all_goals
    have ex : x = ix2 (x 0) (x 1) := by idx_ext
    rw [ex]
    first
    | refine (q0 _ _).trans (congrArg A ?_); idx_ext <;> omega
    | refine (q1 _ _).trans (congrArg A ?_); idx_ext <;> omega
    | refine (q2 _ _).trans (congrArg A ?_); idx_ext <;> omega
    | refine (q3 _ _).trans (congrArg A ?_); idx_ext <;> omega
    | refine (q4 _ _).trans (congrArg A ?_); idx_ext <;> omega
    | refine (q5 _ _).trans (congrArg A ?_); idx_ext <;> omega
    | refine (q6 _ _).trans (congrArg A ?_); idx_ext <;> omega
    | refine (q7 _ _).trans (congrArg A ?_); idx_ext <;> omega
    | refine (q8 _ _).trans (congrArg A ?_); idx_ext <;> omega
    | refine (q9 _ _).trans (congrArg A ?_); idx_ext <;> omega
    | refine (q10 _ _).trans (congrArg A ?_); idx_ext <;> omega

/-- The halo and the tile cover the buffer of rows. -/
theorem full_cover (H : FVec Ideal S16x1024 .bf16) (T : FVec Ideal S512x1024 .bf16) (y : S528x1024.Idx) :
    ∃ p ∈ ([⟨Rect.unit ![16, 0] ![512, 1024] inb_S528x1024_S512x1024_16_0, T⟩,
      ⟨Rect.unit ![0, 0] ![16, 1024] inb_S528x1024_S16x1024_0_0, H⟩] : List (View.Piece (Elt Ideal) S528x1024 .bf16)),
      y ∈ p.1.set := by
  by_cases hy : (y 0).val < 16
  · refine ⟨_, List.mem_cons_of_mem _ List.mem_cons_self, ?_⟩
    rw [Rect.mem_set_unit]
    intro a
    match a with
    | ⟨0, _⟩ => exact ⟨Nat.zero_le _, hy⟩
    | ⟨1, _⟩ => exact ⟨Nat.zero_le _, (y 1).isLt⟩
  · refine ⟨_, List.mem_cons_self, ?_⟩
    rw [Rect.mem_set_unit]
    intro a
    match a with
    | ⟨0, _⟩ => exact ⟨by show 16 ≤ (y 0).val; omega, (y 0).isLt⟩
    | ⟨1, _⟩ => exact ⟨Nat.zero_le _, (y 1).isLt⟩

/-- The rows with their halo read back whole: sixteen halo rows, then the tile's. -/
theorem full_read (H : FVec Ideal S16x1024 .bf16) (T : FVec Ideal S512x1024 .bf16) (R : FVec Ideal S528x1024 .bf16)
    (hH : ∀ (r : Fin 16) (n : Fin 1024), H (ix2 r n) = R (ix2 ⟨r.val, by omega⟩ n))
    (hT : ∀ (r : Fin 512) (n : Fin 1024), T (ix2 r n) = R (ix2 ⟨16 + r.val, by omega⟩ n)) :
    (View.whole cc0_scratch1).readCov (Val := Elt Ideal) [⟨Rect.unit ![16, 0] ![512, 1024] inb_S528x1024_S512x1024_16_0, T⟩,
      ⟨Rect.unit ![0, 0] ![16, 1024] inb_S528x1024_S16x1024_0_0, H⟩]
      (Rect.unit ![0, 0] ![528, 1024] inb_S528x1024_S528x1024_0_0).toLoadRect = R := by
  rw [View.readCov_eq_canon']
  funext i
  show View.canon _ _ = _
  canon_tiles x h using full_cover H T _
  all_goals
    have ex : x = ix2 (x 0) (x 1) := by idx_ext
    rw [ex]
    first
    | refine (hT _ _).trans (congrArg R ?_); idx_ext <;> omega
    | refine (hH _ _).trans (congrArg R ?_); idx_ext <;> omega

/-- The tile's rows read back from below the halo. -/
theorem tail_read (H : FVec Ideal S16x1024 .bf16) (T : FVec Ideal S512x1024 .bf16) :
    (View.whole cc0_scratch1).readCov (Val := Elt Ideal) [⟨Rect.unit ![16, 0] ![512, 1024] inb_S528x1024_S512x1024_16_0, T⟩,
      ⟨Rect.unit ![0, 0] ![16, 1024] inb_S528x1024_S16x1024_0_0, H⟩]
      (Rect.unit ![16, 0] ![512, 1024] inb_S528x1024_S512x1024_16_0).toLoadRect = T := by
  rw [View.readCov_eq_canon']
  funext j
  exact View.canon_cons_emb _ _ _ j

/-- The rows of the residual, read back whole. -/
theorem rows_read (X : FVec Ideal S512x1024 .f32) :
    (View.whole cc0_scratch0).readCov (Val := Elt Ideal) [⟨Rect.unit ![0, 0] ![512, 1024] inb_S512x1024_S512x1024_0_0, X⟩]
      (Rect.unit ![0, 0] ![512, 1024] inb_S512x1024_S512x1024_0_0).toLoadRect = X :=
  View.readCov_unit_lit' _ _ _ (by decide)

/-- The row of residual and mixed branches of a tile, after its layer norm. -/
theorem tile_apply (o1 o2 o3 yb : Vec Ideal S1x512x384 .f32) (ya : Vec Ideal S1x512x256 .f32) (x : Vec Ideal S1x512x1024 .f32)
    (w : Vec Ideal S1024x1024 .bf16) (g b : Vec Ideal S1x1024 .f32) (r : Fin 512) (n : Fin 1024) :
    k0_pay6 (F := Ideal) (k0_pay2 o1 o2 o3 ya yb x w) (k0_pay3 g) (k0_pay4 b) (k0_pay5 o1 o2 o3 ya yb x w) (ix2 r n)
      = mixed (fun k => x (ix3 0 r k)) (fun k => ya (ix3 0 r k)) (fun k => yb (ix3 0 r k))
          (fun k => o1 (ix3 0 r k) + o2 (ix3 0 r k) + o3 (ix3 0 r k)) (fun k n => w (ix2 k n))
          (fun k => g (ix2 0 k)) (fun k => b (ix2 0 k)) n := by
  have e : (fun n => k0_pay2 (F := Ideal) o1 o2 o3 ya yb x w (ix2 r n))
      = pre (fun k => x (ix3 0 r k)) (fun n => rowMul (cat (fun k => ya (ix3 0 r k)) (fun k => yb (ix3 0 r k))
          (fun k => o1 (ix3 0 r k) + o2 (ix3 0 r k) + o3 (ix3 0 r k))) (fun k => w (ix2 k n))) := funext fun n => by
    pointwise [k0_pay2]
    rfl
  have u : k0_pay5 (F := Ideal) o1 o2 o3 ya yb x w (ix2 r 0) = mean (fun n => k0_pay2 (F := Ideal) o1 o2 o3 ya yb x w (ix2 r n)) := by
    unfold k0_pay5
    generalize k0_pay2 (F := Ideal) o1 o2 o3 ya yb x w = z
    pointwise
    rfl
  unfold mixed
  rw [← e]
  generalize k0_pay2 (F := Ideal) o1 o2 o3 ya yb x w = z at u ⊢
  generalize k0_pay5 (F := Ideal) o1 o2 o3 ya yb x w = v at u ⊢
  pointwise [k0_pay6, k0_pay3, k0_pay4]
  rw [u]
  rfl

/-- The same for the halo, which is zero in front of the sequence. -/
theorem halo_apply (c : BitVec 1) (o1 o2 o3 yb : Vec Ideal S1x16x384 .f32) (ya : Vec Ideal S1x16x256 .f32)
    (x : Vec Ideal S1x16x1024 .f32) (w : Vec Ideal S1024x1024 .bf16) (g b : Vec Ideal S1x1024 .f32) (r : Fin 16) (n : Fin 1024) :
    k0_pay8 (F := Ideal) c (k0_pay7 o1 o2 o3 ya yb) x w g b (ix2 r n)
      = Scalar.select c (mixed (fun k => x (ix3 0 r k)) (fun k => ya (ix3 0 r k)) (fun k => yb (ix3 0 r k))
          (fun k => o1 (ix3 0 r k) + o2 (ix3 0 r k) + o3 (ix3 0 r k)) (fun k n => w (ix2 k n))
          (fun k => g (ix2 0 k)) (fun k => b (ix2 0 k)) n) 0 := by
  have e : (fun k => k0_pay7 (F := Ideal) o1 o2 o3 ya yb (ix2 r k))
      = cat (fun k => ya (ix3 0 r k)) (fun k => yb (ix3 0 r k))
          (fun k => o1 (ix3 0 r k) + o2 (ix3 0 r k) + o3 (ix3 0 r k)) := funext fun k => by
    pointwise [k0_pay7]
    rfl
  unfold mixed
  simp only [← e]
  generalize k0_pay7 (F := Ideal) o1 o2 o3 ya yb = z
  pointwise [k0_pay8]
  rfl

/-- THE ACTIVATION at row `r` and lane `f`, from the rows with their halo and the tile's rows. -/
def actAt (F : FVec Ideal S528x1024 .bf16) (T : FVec Ideal S512x1024 .bf16) (wg wu : Vec Ideal S1024x2816 .bf16)
    (cw : Vec Ideal S3x2816 .f32) (cb : Vec Ideal S1x2816 .f32) : FVec Ideal S512x2816 .bf16 := fun i =>
  gelu (conv (cb (ix2 0 (i 1))) (cw (ix2 0 (i 1))) (cw (ix2 1 (i 1))) (cw (ix2 2 (i 1)))
    (rowMul (fun k => F (ix2 ⟨14 + (i 0).val, by have := (i 0).isLt; simp at this; omega⟩ k)) (fun k => wg (ix2 k (i 1))))
    (rowMul (fun k => F (ix2 ⟨15 + (i 0).val, by have := (i 0).isLt; simp at this; omega⟩ k)) (fun k => wg (ix2 k (i 1))))
    (rowMul (fun k => F (ix2 ⟨16 + (i 0).val, by have := (i 0).isLt; simp at this; omega⟩ k)) (fun k => wg (ix2 k (i 1)))))
    * rowMul (fun k => T (ix2 (i 0) k)) (fun k => wu (ix2 k (i 1)))

/-- The second half: from the residual's rows and the activations to the result. -/
theorem out_apply (X : FVec Ideal S512x1024 .f32) (A : FVec Ideal S512x2816 .bf16) (wd : Vec Ideal S2816x1024 .bf16)
    (g b : Vec Ideal S1x1024 .f32) (r : Fin 512) (n : Fin 1024) :
    k0_pay1 (F := Ideal) (k0_pay62 g) (k0_pay63 b) (k0_pay64 X A wd) (k0_pay65 X A wd) (ix3 0 r n)
      = lnorm (pre (fun k => X (ix2 r k)) (fun n => rowMul (fun f => A (ix2 r f)) (fun f => wd (ix2 f n))))
          (fun k => g (ix2 0 k)) (fun k => b (ix2 0 k)) n := by
  have e : ∀ n, k0_pay64 (F := Ideal) X A wd (ix2 r n)
      = pre (fun k => X (ix2 r k)) (fun n => rowMul (fun f => A (ix2 r f)) (fun f => wd (ix2 f n))) n
        - mean (pre (fun k => X (ix2 r k)) (fun n => rowMul (fun f => A (ix2 r f)) (fun f => wd (ix2 f n)))) := fun n => by
    pointwise [k0_pay64]
    rfl
  unfold lnorm
  simp only [← e]
  unfold k0_pay65
  generalize k0_pay64 (F := Ideal) X A wd = z
  pointwise [k0_pay1, k0_pay62, k0_pay63]
  rfl

/-- The rows with their halo as one array. -/
def stack (H : FVec Ideal S16x1024 .bf16) (T : FVec Ideal S512x1024 .bf16) : FVec Ideal S528x1024 .bf16 := fun i =>
  if h : (i 0).val < 16 then H (ix2 ⟨(i 0).val, h⟩ (i 1))
  else T (ix2 ⟨(i 0).val - 16, by have := (i 0).isLt; simp at this; omega⟩ (i 1))

theorem stack_read (H : FVec Ideal S16x1024 .bf16) (T : FVec Ideal S512x1024 .bf16) :
    (View.whole cc0_scratch1).readCov (Val := Elt Ideal) [⟨Rect.unit ![16, 0] ![512, 1024] inb_S528x1024_S512x1024_16_0, T⟩,
      ⟨Rect.unit ![0, 0] ![16, 1024] inb_S528x1024_S16x1024_0_0, H⟩]
      (Rect.unit ![0, 0] ![528, 1024] inb_S528x1024_S528x1024_0_0).toLoadRect = stack H T :=
  full_read H T _ (fun r n => by
    unfold stack
    rw [dif_pos (show ((ix2 (⟨r.val, by omega⟩ : Fin 528) n : S528x1024.Idx) 0).val < 16 from r.isLt)]
    rfl) (fun r n => by
    unfold stack
    rw [dif_neg (show ¬ ((ix2 (⟨16 + r.val, by omega⟩ : Fin 528) n : S528x1024.Idx) 0).val < 16 from by
      show ¬ 16 + r.val < 16
      omega)]
    refine congrArg T ?_
    idx_ext <;> omega)

theorem out_of (X : FVec Ideal S512x1024 .f32) (A Y : FVec Ideal S512x2816 .bf16) (wd : Vec Ideal S2816x1024 .bf16)
    (g b : Vec Ideal S1x1024 .f32) (h : Y = A) (r : Fin 512) (n : Fin 1024) :
    k0_pay1 (F := Ideal) (k0_pay62 g) (k0_pay63 b) (k0_pay64 X Y wd) (k0_pay65 X Y wd) (ix3 0 r n)
      = lnorm (pre (fun k => X (ix2 r k)) (fun n => rowMul (fun f => A (ix2 r f)) (fun f => wd (ix2 f n))))
          (fun k => g (ix2 0 k)) (fun k => b (ix2 0 k)) n := by
  rw [h]
  exact out_apply X A wd g b r n

end Cert.PostBody
end
-- ==== Proof.PostBlock.lean ====
module
public import proofs.«01_k».proof.Proof.PostBody

/-!
The block the layer's tail kernel stores in one grid step, by rows of the blocks it reads.
-/

@[expose] public section
set_option maxRecDepth 16384
noncomputable section
namespace Cert.PostBlock
open Idealize.ShloMosaic Idealize.ShloMosaic.TcCoe Idealize.SL.Sem
open Cert.Kernel2Ideal Cert.Kernel2Ideal.Gen Cert.PostWords Cert.PostBody

theorem row_two (r : Fin 512) (h : (16 + r.val + 528 - 2) % 528 < 528) :
    (⟨(16 + r.val + 528 - 2) % 528, h⟩ : Fin 528) = ⟨14 + r.val, by omega⟩ := Fin.ext (by dsimp only; omega)

theorem row_one (r : Fin 512) (h : (16 + r.val + 528 - 1) % 528 < 528) :
    (⟨(16 + r.val + 528 - 1) % 528, h⟩ : Fin 528) = ⟨15 + r.val, by omega⟩ := Fin.ext (by dsimp only; omega)

/-- Whether a step's tile has rows in front of it. -/
abbrev hasHalo (t : Fin cfg0.N) : BitVec 1 := Scalar.cmpi CmpIPredicate.sgt (BitVec.ofNat 32 ↑(grid0.coords t 1)) 0#32

/-- The second half over any mixed rows `M`: the halo's sixteen, then the tile's. -/
theorem rows (X : FVec Ideal S512x1024 .f32) (H : FVec Ideal S16x1024 .bf16) (M : Fin 528 → Fin 1024 → EReal)
    (wg wu : FVec Ideal S1024x2816 .bf16) (cw : FVec Ideal S3x2816 .f32) (cb : FVec Ideal S1x2816 .f32)
    (wd : FVec Ideal S2816x1024 .bf16) (g b : FVec Ideal S1x1024 .f32)
    (hH : ∀ (r : Fin 16) (n : Fin 1024), H (ix2 r n) = M ⟨r.val, by omega⟩ n)
    (hX : ∀ (r : Fin 512) (n : Fin 1024), X (ix2 r n) = M ⟨16 + r.val, by omega⟩ n) (r : Fin 512) (n : Fin 1024) :
    lnorm (pre (fun k => X (ix2 r k)) fun n => rowMul (fun f => actAt (stack H (k0_pay10 (k0_pay9 X))) (k0_pay10 (k0_pay9 X)) wg wu cw cb (ix2 r f))
      fun f => wd (ix2 f n)) (fun k => g (ix2 0 k)) (fun k => b (ix2 0 k)) n
      = outRow (M ⟨14 + r.val, by omega⟩) (M ⟨15 + r.val, by omega⟩) (M ⟨16 + r.val, by omega⟩)
          (fun k f => wg (ix2 k f)) (fun k f => wu (ix2 k f)) (fun k f => cw (ix2 k f)) (fun f => cb (ix2 0 f))
          (fun f n => wd (ix2 f n)) (fun k => g (ix2 0 k)) (fun k => b (ix2 0 k)) n := by
  have hT' : ∀ (r : Fin 512) (n : Fin 1024), k0_pay10 (F := Ideal) (k0_pay9 X) (ix2 r n) = M ⟨16 + r.val, by omega⟩ n := fun r n => by
    rw [← hX]
    pointwise [k0_pay10, k0_pay9]
  generalize k0_pay10 (F := Ideal) (k0_pay9 X) = T at hT' ⊢
  have hR' : ∀ (r : Fin 528) (n : Fin 1024), stack H T (ix2 r n) = M r n := fun r n => by
    unfold stack
    by_cases h : r.val < 16
    · exact (dif_pos h).trans (hH ⟨r.val, h⟩ n)
    · refine (dif_neg h).trans ((hT' ⟨r.val - 16, by omega⟩ n).trans (congrArg (fun u => M u n) (Fin.ext ?_)))
      show 16 + (r.val - 16) = r.val
      omega
  generalize stack H T = R at hR' ⊢
  have hA : ∀ f, actAt R T wg wu cw cb (ix2 r f) = lane (M ⟨14 + r.val, by omega⟩) (M ⟨15 + r.val, by omega⟩) (M ⟨16 + r.val, by omega⟩)
      (fun k => wg (ix2 k f)) (fun k => wu (ix2 k f)) (cw (ix2 0 f)) (cw (ix2 1 f)) (cw (ix2 2 f)) (cb (ix2 0 f)) := fun f => by
    show gelu (conv _ _ _ _ (rowMul (fun k => R (ix2 ⟨14 + r.val, _⟩ k)) _) (rowMul (fun k => R (ix2 ⟨15 + r.val, _⟩ k)) _)
      (rowMul (fun k => R (ix2 ⟨16 + r.val, _⟩ k)) _)) * rowMul (fun k => T (ix2 r k)) _ = _
    simp only [hR', hT']
    rfl
  simp only [hA, hX]
  rfl

variable (m : (ℓ : Loc nD τ sig) → ℓ.ty.Contents (Elt Ideal))

set_option maxHeartbeats 2000000 in
/-- THE STORED BLOCK, given what the mixed rows of the halo and of the tile are. -/
theorem block (c : Dev nD) (t : Fin cfg0.N)
    (x0 : FVec Ideal S1x512x1024 .f32)
    (x1 : FVec Ideal S1x512x256 .f32)
    (x2 : FVec Ideal S1x512x384 .f32)
    (x3 : FVec Ideal S1x512x384 .f32)
    (x4 : FVec Ideal S1x512x384 .f32)
    (x5 : FVec Ideal S1x512x384 .f32)
    (x6 : FVec Ideal S1x16x1024 .f32)
    (x7 : FVec Ideal S1x16x256 .f32)
    (x8 : FVec Ideal S1x16x384 .f32)
    (x9 : FVec Ideal S1x16x384 .f32)
    (x10 : FVec Ideal S1x16x384 .f32)
    (x11 : FVec Ideal S1x16x384 .f32)
    (x12 : FVec Ideal S1024x1024 .bf16)
    (x13 : FVec Ideal S1x1024 .f32)
    (x14 : FVec Ideal S1x1024 .f32)
    (x15 : FVec Ideal S1024x2816 .bf16)
    (x16 : FVec Ideal S1024x2816 .bf16)
    (x17 : FVec Ideal S3x2816 .f32)
    (x18 : FVec Ideal S1x2816 .f32)
    (x19 : FVec Ideal S2816x1024 .bf16)
    (x20 : FVec Ideal S1x1024 .f32)
    (x21 : FVec Ideal S1x1024 .f32)
    (e0 : (iblk (F := Ideal) m c 0 t : FVec Ideal S1x512x1024 .f32) = x0)
    (e1 : (iblk (F := Ideal) m c 1 t : FVec Ideal S1x512x256 .f32) = x1)
    (e2 : (iblk (F := Ideal) m c 2 t : FVec Ideal S1x512x384 .f32) = x2)
    (e3 : (iblk (F := Ideal) m c 3 t : FVec Ideal S1x512x384 .f32) = x3)
    (e4 : (iblk (F := Ideal) m c 4 t : FVec Ideal S1x512x384 .f32) = x4)
    (e5 : (iblk (F := Ideal) m c 5 t : FVec Ideal S1x512x384 .f32) = x5)
    (e6 : (iblk (F := Ideal) m c 6 t : FVec Ideal S1x16x1024 .f32) = x6)
    (e7 : (iblk (F := Ideal) m c 7 t : FVec Ideal S1x16x256 .f32) = x7)
    (e8 : (iblk (F := Ideal) m c 8 t : FVec Ideal S1x16x384 .f32) = x8)
    (e9 : (iblk (F := Ideal) m c 9 t : FVec Ideal S1x16x384 .f32) = x9)
    (e10 : (iblk (F := Ideal) m c 10 t : FVec Ideal S1x16x384 .f32) = x10)
    (e11 : (iblk (F := Ideal) m c 11 t : FVec Ideal S1x16x384 .f32) = x11)
    (e12 : (iblk (F := Ideal) m c 12 t : FVec Ideal S1024x1024 .bf16) = x12)
    (e13 : (iblk (F := Ideal) m c 13 t : FVec Ideal S1x1024 .f32) = x13)
    (e14 : (iblk (F := Ideal) m c 14 t : FVec Ideal S1x1024 .f32) = x14)
    (e15 : (iblk (F := Ideal) m c 15 t : FVec Ideal S1024x2816 .bf16) = x15)
    (e16 : (iblk (F := Ideal) m c 16 t : FVec Ideal S1024x2816 .bf16) = x16)
    (e17 : (iblk (F := Ideal) m c 17 t : FVec Ideal S3x2816 .f32) = x17)
    (e18 : (iblk (F := Ideal) m c 18 t : FVec Ideal S1x2816 .f32) = x18)
    (e19 : (iblk (F := Ideal) m c 19 t : FVec Ideal S2816x1024 .bf16) = x19)
    (e20 : (iblk (F := Ideal) m c 20 t : FVec Ideal S1x1024 .f32) = x20)
    (e21 : (iblk (F := Ideal) m c 21 t : FVec Ideal S1x1024 .f32) = x21)
    (M : Fin 528 → Fin 1024 → EReal)
    (hM : ∀ (r : Fin 16) (n : Fin 1024), Scalar.select (hasHalo t)
      (mixed (fun k => x6 (ix3 0 r k)) (fun k => x7 (ix3 0 r k)) (fun k => x8 (ix3 0 r k))
        (fun k => x9 (ix3 0 r k) + x10 (ix3 0 r k) + x11 (ix3 0 r k))
        (fun k n => x12 (ix2 k n)) (fun k => x13 (ix2 0 k)) (fun k => x14 (ix2 0 k)) n) 0 = M ⟨r.val, by omega⟩ n)
    (hT : ∀ (r : Fin 512) (n : Fin 1024),
      mixed (fun k => x0 (ix3 0 r k)) (fun k => x1 (ix3 0 r k)) (fun k => x2 (ix3 0 r k))
        (fun k => x3 (ix3 0 r k) + x4 (ix3 0 r k) + x5 (ix3 0 r k))
        (fun k n => x12 (ix2 k n)) (fun k => x13 (ix2 0 k)) (fun k => x14 (ix2 0 k)) n = M ⟨16 + r.val, by omega⟩ n)
    (r : Fin 512) (n : Fin 1024) :
    (outsAt0 (F := Ideal) m c t : FVec Ideal S1x512x1024 .f32) (ix3 0 r n)
      = outRow (M ⟨14 + r.val, by omega⟩) (M ⟨15 + r.val, by omega⟩) (M ⟨16 + r.val, by omega⟩)
          (fun k f => x15 (ix2 k f)) (fun k f => x16 (ix2 k f)) (fun k f => x17 (ix2 k f)) (fun f => x18 (ix2 0 f))
          (fun f n => x19 (ix2 f n)) (fun k => x20 (ix2 0 k)) (fun k => x21 (ix2 0 k)) n := by
  unfold outsAt0; frame_out
  rw [tail_read, stack_read]
  rw [e0, e1, e2, e3, e4, e5, e6, e7, e8, e9, e10, e11, e12, e13, e14, e15, e16, e17, e18, e19, e20, e21]
  clear e0 e1 e2 e3 e4 e5 e6 e7 e8 e9 e10 e11 e12 e13 e14 e15 e16 e17 e18 e19 e20 e21
  have hH' : ∀ (r : Fin 16) (n : Fin 1024), k0_pay8 (F := Ideal) (hasHalo t) (k0_pay7 x9 x10 x11 x7 x8) x6 x12 x13 x14 (ix2 r n)
      = M ⟨r.val, by omega⟩ n := fun r n => (halo_apply _ x9 x10 x11 x8 x7 x6 x12 x13 x14 r n).trans (hM r n)
  have hX' : ∀ (r : Fin 512) (n : Fin 1024), k0_pay6 (F := Ideal) (k0_pay2 x3 x4 x5 x1 x2 x0 x12) (k0_pay3 x13) (k0_pay4 x14)
      (k0_pay5 x3 x4 x5 x1 x2 x0 x12) (ix2 r n) = M ⟨16 + r.val, by omega⟩ n := fun r n =>
    (tile_apply x3 x4 x5 x2 x1 x0 x12 x13 x14 r n).trans (hT r n)
  clear hM hT
  generalize k0_pay6 (F := Ideal) _ _ _ _ = X at hX' ⊢
  generalize k0_pay8 (F := Ideal) _ _ _ _ _ _ = H at hH' ⊢
  refine Eq.trans ?_ (rows X H M x15 x16 x17 x18 x19 x20 x21 hH' hX' r n)
  clear hH' hX'
  generalize k0_pay10 (F := Ideal) _ = T
  generalize stack H T = R
  refine out_of _ (actAt R T x15 x16 x17 x18) _ _ _ _ (act_read _ _ _ _ _ _ _ _ _ _ _ _ ?_ ?_ ?_ ?_ ?_ ?_ ?_ ?_ ?_ ?_ ?_) r n
  all_goals
    intro r n
    pointwise [k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61]
    simp only [row_two, row_one]
    rfl

end Cert.PostBlock
end
-- ==== Proof.PostOut.lean ====
module
public import proofs.«01_k».proof.Proof.PostIdealValue
public import proofs.«01_k».proof.Proof.PostWords

/-!
The result of the layer's tail as one function of its sixteen arguments.
-/

@[expose] public section
noncomputable section

namespace Cert.PostOut
open Idealize.ShloMosaic Idealize.ShloMosaic.TcCoe Idealize.SL.Sem
open Cert.Kernel2Ideal Cert.PostWords

/-- The mixed row at position `t` of batch `b`. -/
def mixedAt (x : FVec Ideal S8x4096x1024 .f32) (ya : FVec Ideal S8x4096x256 .f32) (yb o1 o2 o3 : FVec Ideal S8x4096x384 .f32)
    (wo : FVec Ideal S1024x1024 .f32) (g d : FVec Ideal S1024 .f32) (b : Fin 8) (t : Fin 4096) : Fin 1024 → EReal :=
  mixed (fun k => x (ix3 b t k)) (fun k => ya (ix3 b t k)) (fun k => yb (ix3 b t k))
    (fun k => o1 (ix3 b t k) + o2 (ix3 b t k) + o3 (ix3 b t k)) (fun k n => wo (ix2 k n)) (fun k => g (ix1 k)) (fun k => d (ix1 k))

/-- The row `d` positions before `t`, zero in front of the sequence. -/
def back (d : ℕ) (M : Fin 4096 → Fin 1024 → EReal) (t : Fin 4096) : Fin 1024 → EReal :=
  if d ≤ t.val then M ⟨t.val - d, by omega⟩ else fun _ => 0

/-- The result at position `t` of batch `b`. -/
def outAt (x : FVec Ideal S8x4096x1024 .f32) (ya : FVec Ideal S8x4096x256 .f32) (yb o1 o2 o3 : FVec Ideal S8x4096x384 .f32)
    (wo : FVec Ideal S1024x1024 .f32) (g d : FVec Ideal S1024 .f32) (wg wu : FVec Ideal S1024x2816 .f32)
    (cw : FVec Ideal S3x2816 .f32) (cb : FVec Ideal S2816 .f32) (wd : FVec Ideal S2816x1024 .f32) (g' d' : FVec Ideal S1024 .f32)
    (b : Fin 8) (t : Fin 4096) : Fin 1024 → EReal :=
  outRow (back 2 (mixedAt x ya yb o1 o2 o3 wo g d b) t) (back 1 (mixedAt x ya yb o1 o2 o3 wo g d b) t)
    (mixedAt x ya yb o1 o2 o3 wo g d b t) (fun k f => wg (ix2 k f)) (fun k f => wu (ix2 k f)) (fun k f => cw (ix2 k f))
    (fun f => cb (ix1 f)) (fun f n => wd (ix2 f n)) (fun k => g' (ix1 k)) (fun k => d' (ix1 k))

/-- THE RESULT. -/
def postOut (x : FVec Ideal S8x4096x1024 .f32) (ya : FVec Ideal S8x4096x256 .f32) (yb o1 o2 o3 : FVec Ideal S8x4096x384 .f32)
    (wo : FVec Ideal S1024x1024 .f32) (g d : FVec Ideal S1024 .f32) (wg wu : FVec Ideal S1024x2816 .f32)
    (cw : FVec Ideal S3x2816 .f32) (cb : FVec Ideal S2816 .f32) (wd : FVec Ideal S2816x1024 .f32) (g' d' : FVec Ideal S1024 .f32) :
    FVec Ideal S8x4096x1024 .f32 := fun i => outAt x ya yb o1 o2 o3 wo g d wg wu cw cb wd g' d' (i 0) (i 1) (i 2)

end Cert.PostOut

end
-- ==== Proof.PostArray.lean ====
module
public import proofs.«01_k».proof.Proof.PostBlock
public import proofs.«01_k».proof.Proof.PostOut
public import Idealize.ShloMosaic.Lib.Pipeline.ValueKit

/-!
From the blocks to the array: the tail kernel's result, element by element, in terms of its arguments.
-/

@[expose] public section
set_option maxRecDepth 16384
noncomputable section
namespace Cert.PostArray
open Idealize.ShloMosaic Idealize.ShloMosaic.TcCoe Idealize.SL.Sem
open Cert.Kernel2Ideal Cert.Kernel2Ideal.Gen Cert.PostWords Cert.PostOut

variable (m : (ℓ : Loc nD τ sig) → ℓ.ty.Contents (Elt Ideal))

abbrev arg0 (c : Dev nD) : FVec Ideal S8x4096x1024 .f32 := m ((c.tc : Thread nD τ).loc main_arg0)
abbrev arg1 (c : Dev nD) : FVec Ideal S8x4096x256 .f32 := m ((c.tc : Thread nD τ).loc main_arg1)
abbrev arg2 (c : Dev nD) : FVec Ideal S8x4096x384 .f32 := m ((c.tc : Thread nD τ).loc main_arg2)
abbrev arg3 (c : Dev nD) : FVec Ideal S8x4096x384 .f32 := m ((c.tc : Thread nD τ).loc main_arg3)
abbrev arg4 (c : Dev nD) : FVec Ideal S8x4096x384 .f32 := m ((c.tc : Thread nD τ).loc main_arg4)
abbrev arg5 (c : Dev nD) : FVec Ideal S8x4096x384 .f32 := m ((c.tc : Thread nD τ).loc main_arg5)
abbrev arg6 (c : Dev nD) : FVec Ideal S1024x1024 .f32 := m ((c.tc : Thread nD τ).loc main_arg6)
abbrev arg7 (c : Dev nD) : FVec Ideal S1024 .f32 := m ((c.tc : Thread nD τ).loc main_arg7)
abbrev arg8 (c : Dev nD) : FVec Ideal S1024 .f32 := m ((c.tc : Thread nD τ).loc main_arg8)
abbrev arg9 (c : Dev nD) : FVec Ideal S1024x2816 .f32 := m ((c.tc : Thread nD τ).loc main_arg9)
abbrev arg10 (c : Dev nD) : FVec Ideal S1024x2816 .f32 := m ((c.tc : Thread nD τ).loc main_arg10)
abbrev arg11 (c : Dev nD) : FVec Ideal S3x2816 .f32 := m ((c.tc : Thread nD τ).loc main_arg11)
abbrev arg12 (c : Dev nD) : FVec Ideal S2816 .f32 := m ((c.tc : Thread nD τ).loc main_arg12)
abbrev arg13 (c : Dev nD) : FVec Ideal S2816x1024 .f32 := m ((c.tc : Thread nD τ).loc main_arg13)
abbrev arg14 (c : Dev nD) : FVec Ideal S1024 .f32 := m ((c.tc : Thread nD τ).loc main_arg14)
abbrev arg15 (c : Dev nD) : FVec Ideal S1024 .f32 := m ((c.tc : Thread nD τ).loc main_arg15)

/-- The block index maps. -/
theorem idx : ∀ t : Fin cfg0.N,
    win0_0.index t = ![(grid0.coords t 0).val, (grid0.coords t 1).val, 0]
    ∧ win0_1.index t = ![(grid0.coords t 0).val, (grid0.coords t 1).val, 0]
    ∧ win0_2.index t = ![(grid0.coords t 0).val, (grid0.coords t 1).val, 0]
    ∧ win0_3.index t = ![(grid0.coords t 0).val, (grid0.coords t 1).val, 0]
    ∧ win0_4.index t = ![(grid0.coords t 0).val, (grid0.coords t 1).val, 0]
    ∧ win0_5.index t = ![(grid0.coords t 0).val, (grid0.coords t 1).val, 0]
    ∧ win0_6.index t = ![(grid0.coords t 0).val, 32 * (grid0.coords t 1).val - 1, 0]
    ∧ win0_7.index t = ![(grid0.coords t 0).val, 32 * (grid0.coords t 1).val - 1, 0]
    ∧ win0_8.index t = ![(grid0.coords t 0).val, 32 * (grid0.coords t 1).val - 1, 0]
    ∧ win0_9.index t = ![(grid0.coords t 0).val, 32 * (grid0.coords t 1).val - 1, 0]
    ∧ win0_10.index t = ![(grid0.coords t 0).val, 32 * (grid0.coords t 1).val - 1, 0]
    ∧ win0_11.index t = ![(grid0.coords t 0).val, 32 * (grid0.coords t 1).val - 1, 0]
    ∧ win0_12.index t = ![0, 0]
    ∧ win0_13.index t = ![0, 0]
    ∧ win0_14.index t = ![0, 0]
    ∧ win0_15.index t = ![0, 0]
    ∧ win0_16.index t = ![0, 0]
    ∧ win0_17.index t = ![0, 0]
    ∧ win0_18.index t = ![0, 0]
    ∧ win0_19.index t = ![0, 0]
    ∧ win0_20.index t = ![0, 0]
    ∧ win0_21.index t = ![0, 0]
    ∧ win0_22.index t = ![(grid0.coords t 0).val, (grid0.coords t 1).val, 0] :=
  (by decide +kernel : ∀ t : Fin grid0.N, _)

/-- A tile has rows in front of it unless it is a sequence's first. -/
theorem halo_flag : ∀ t : Fin cfg0.N, PostBlock.hasHalo t = if (grid0.coords t 1).val = 0 then 0#1 else 1#1 :=
  (by decide +kernel : ∀ t : Fin grid0.N, _)

/-- The position of row `r` of grid point `t`'s tile. -/
def pos (t : Fin cfg0.N) (r : Fin 512) : Fin 4096 :=
  ⟨512 * (grid0.coords t 1).val + r.val, by have h : (grid0.coords t 1).val < 8 := (grid0.coords t 1).isLt; omega⟩

/-- The position of row `r` of its halo. -/
def hpos (t : Fin cfg0.N) (r : Fin 16) : Fin 4096 :=
  ⟨16 * (32 * (grid0.coords t 1).val - 1) + r.val, by have h : (grid0.coords t 1).val < 8 := (grid0.coords t 1).isLt; omega⟩

/-- Its batch. -/
def bat (t : Fin cfg0.N) : Fin 8 := ⟨(grid0.coords t 0).val, (grid0.coords t 0).isLt⟩

theorem entry12 (c : Dev nD) (k : Fin 1024) (n : Fin 1024) :
    (V (F := Ideal) m c main_v0 : FVec Ideal S1024x1024 .bf16) (ix2 k n) = arg6 m c (ix2 k n) := by
  entry_read
  pointwise

theorem blk12 (c : Dev nD) (t : Fin cfg0.N) (k : Fin 1024) (n : Fin 1024) :
    iblk (F := Ideal) m c 12 t (ix2 k n) = arg6 m c (ix2 k n) := by
  refine Eq.trans ?_ (entry12 m c k n)
  blk_ext [iblk, idx t]

theorem entry15 (c : Dev nD) (k : Fin 1024) (n : Fin 2816) :
    (V (F := Ideal) m c main_v3 : FVec Ideal S1024x2816 .bf16) (ix2 k n) = arg9 m c (ix2 k n) := by
  entry_read
  pointwise

theorem blk15 (c : Dev nD) (t : Fin cfg0.N) (k : Fin 1024) (n : Fin 2816) :
    iblk (F := Ideal) m c 15 t (ix2 k n) = arg9 m c (ix2 k n) := by
  refine Eq.trans ?_ (entry15 m c k n)
  blk_ext [iblk, idx t]

theorem entry16 (c : Dev nD) (k : Fin 1024) (n : Fin 2816) :
    (V (F := Ideal) m c main_v4 : FVec Ideal S1024x2816 .bf16) (ix2 k n) = arg10 m c (ix2 k n) := by
  entry_read
  pointwise

theorem blk16 (c : Dev nD) (t : Fin cfg0.N) (k : Fin 1024) (n : Fin 2816) :
    iblk (F := Ideal) m c 16 t (ix2 k n) = arg10 m c (ix2 k n) := by
  refine Eq.trans ?_ (entry16 m c k n)
  blk_ext [iblk, idx t]

theorem entry19 (c : Dev nD) (k : Fin 2816) (n : Fin 1024) :
    (V (F := Ideal) m c main_v6 : FVec Ideal S2816x1024 .bf16) (ix2 k n) = arg13 m c (ix2 k n) := by
  entry_read
  pointwise

theorem blk19 (c : Dev nD) (t : Fin cfg0.N) (k : Fin 2816) (n : Fin 1024) :
    iblk (F := Ideal) m c 19 t (ix2 k n) = arg13 m c (ix2 k n) := by
  refine Eq.trans ?_ (entry19 m c k n)
  blk_ext [iblk, idx t]

theorem entry13 (c : Dev nD) (n : Fin 1024) :
    (V (F := Ideal) m c main_v1 : FVec Ideal S1x1024 .f32) (ix2 0 n) = arg7 m c (ix1 n) := by
  entry_read
  pointwise

theorem blk13 (c : Dev nD) (t : Fin cfg0.N) (n : Fin 1024) :
    iblk (F := Ideal) m c 13 t (ix2 0 n) = arg7 m c (ix1 n) := by
  refine Eq.trans ?_ (entry13 m c n)
  blk_ext [iblk, idx t]

theorem entry14 (c : Dev nD) (n : Fin 1024) :
    (V (F := Ideal) m c main_v2 : FVec Ideal S1x1024 .f32) (ix2 0 n) = arg8 m c (ix1 n) := by
  entry_read
  pointwise

theorem blk14 (c : Dev nD) (t : Fin cfg0.N) (n : Fin 1024) :
    iblk (F := Ideal) m c 14 t (ix2 0 n) = arg8 m c (ix1 n) := by
  refine Eq.trans ?_ (entry14 m c n)
  blk_ext [iblk, idx t]

theorem entry18 (c : Dev nD) (n : Fin 2816) :
    (V (F := Ideal) m c main_v5 : FVec Ideal S1x2816 .f32) (ix2 0 n) = arg12 m c (ix1 n) := by
  entry_read
  pointwise

theorem blk18 (c : Dev nD) (t : Fin cfg0.N) (n : Fin 2816) :
    iblk (F := Ideal) m c 18 t (ix2 0 n) = arg12 m c (ix1 n) := by
  refine Eq.trans ?_ (entry18 m c n)
  blk_ext [iblk, idx t]

theorem entry20 (c : Dev nD) (n : Fin 1024) :
    (V (F := Ideal) m c main_v7 : FVec Ideal S1x1024 .f32) (ix2 0 n) = arg14 m c (ix1 n) := by
  entry_read
  pointwise

theorem blk20 (c : Dev nD) (t : Fin cfg0.N) (n : Fin 1024) :
    iblk (F := Ideal) m c 20 t (ix2 0 n) = arg14 m c (ix1 n) := by
  refine Eq.trans ?_ (entry20 m c n)
  blk_ext [iblk, idx t]

theorem entry21 (c : Dev nD) (n : Fin 1024) :
    (V (F := Ideal) m c main_v8 : FVec Ideal S1x1024 .f32) (ix2 0 n) = arg15 m c (ix1 n) := by
  entry_read
  pointwise

theorem blk21 (c : Dev nD) (t : Fin cfg0.N) (n : Fin 1024) :
    iblk (F := Ideal) m c 21 t (ix2 0 n) = arg15 m c (ix1 n) := by
  refine Eq.trans ?_ (entry21 m c n)
  blk_ext [iblk, idx t]

theorem blk17 (c : Dev nD) (t : Fin cfg0.N) (k : Fin 3) (n : Fin 2816) :
    iblk (F := Ideal) m c 17 t (ix2 k n) = arg11 m c (ix2 k n) := by
  blk_point [iblk, V, idx t]

theorem blk0 (c : Dev nD) (t : Fin cfg0.N) (r : Fin 512) (n : Fin 1024) :
    iblk (F := Ideal) m c 0 t (ix3 0 r n) = arg0 m c (ix3 (bat t) (pos t r) n) := by
  blk_point [iblk, V, idx t, bat, pos]

theorem blk6 (c : Dev nD) (t : Fin cfg0.N) (r : Fin 16) (n : Fin 1024) :
    iblk (F := Ideal) m c 6 t (ix3 0 r n) = arg0 m c (ix3 (bat t) (hpos t r) n) := by
  blk_point [iblk, V, idx t, bat, hpos]

theorem blk1 (c : Dev nD) (t : Fin cfg0.N) (r : Fin 512) (n : Fin 256) :
    iblk (F := Ideal) m c 1 t (ix3 0 r n) = arg1 m c (ix3 (bat t) (pos t r) n) := by
  blk_point [iblk, V, idx t, bat, pos]

theorem blk7 (c : Dev nD) (t : Fin cfg0.N) (r : Fin 16) (n : Fin 256) :
    iblk (F := Ideal) m c 7 t (ix3 0 r n) = arg1 m c (ix3 (bat t) (hpos t r) n) := by
  blk_point [iblk, V, idx t, bat, hpos]

theorem blk2 (c : Dev nD) (t : Fin cfg0.N) (r : Fin 512) (n : Fin 384) :
    iblk (F := Ideal) m c 2 t (ix3 0 r n) = arg2 m c (ix3 (bat t) (pos t r) n) := by
  blk_point [iblk, V, idx t, bat, pos]

theorem blk8 (c : Dev nD) (t : Fin cfg0.N) (r : Fin 16) (n : Fin 384) :
    iblk (F := Ideal) m c 8 t (ix3 0 r n) = arg2 m c (ix3 (bat t) (hpos t r) n) := by
  blk_point [iblk, V, idx t, bat, hpos]

theorem blk3 (c : Dev nD) (t : Fin cfg0.N) (r : Fin 512) (n : Fin 384) :
    iblk (F := Ideal) m c 3 t (ix3 0 r n) = arg3 m c (ix3 (bat t) (pos t r) n) := by
  blk_point [iblk, V, idx t, bat, pos]

theorem blk9 (c : Dev nD) (t : Fin cfg0.N) (r : Fin 16) (n : Fin 384) :
    iblk (F := Ideal) m c 9 t (ix3 0 r n) = arg3 m c (ix3 (bat t) (hpos t r) n) := by
  blk_point [iblk, V, idx t, bat, hpos]

theorem blk4 (c : Dev nD) (t : Fin cfg0.N) (r : Fin 512) (n : Fin 384) :
    iblk (F := Ideal) m c 4 t (ix3 0 r n) = arg4 m c (ix3 (bat t) (pos t r) n) := by
  blk_point [iblk, V, idx t, bat, pos]

theorem blk10 (c : Dev nD) (t : Fin cfg0.N) (r : Fin 16) (n : Fin 384) :
    iblk (F := Ideal) m c 10 t (ix3 0 r n) = arg4 m c (ix3 (bat t) (hpos t r) n) := by
  blk_point [iblk, V, idx t, bat, hpos]

theorem blk5 (c : Dev nD) (t : Fin cfg0.N) (r : Fin 512) (n : Fin 384) :
    iblk (F := Ideal) m c 5 t (ix3 0 r n) = arg5 m c (ix3 (bat t) (pos t r) n) := by
  blk_point [iblk, V, idx t, bat, pos]

theorem blk11 (c : Dev nD) (t : Fin cfg0.N) (r : Fin 16) (n : Fin 384) :
    iblk (F := Ideal) m c 11 t (ix3 0 r n) = arg5 m c (ix3 (bat t) (hpos t r) n) := by
  blk_point [iblk, V, idx t, bat, hpos]

theorem mixed_congr {x x' : Fin 1024 → EReal} {a a' : Fin 256 → EReal} {b b' c c' : Fin 384 → EReal}
    {w w' : Fin 1024 → Fin 1024 → EReal} {g g' d d' : Fin 1024 → EReal} (hx : ∀ k, x k = x' k) (ha : ∀ k, a k = a' k)
    (hb : ∀ k, b k = b' k) (hc : ∀ k, c k = c' k) (hw : ∀ k n, w k n = w' k n) (hg : ∀ k, g k = g' k) (hd : ∀ k, d k = d' k)
    (n : Fin 1024) : mixed x a b c w g d n = mixed x' a' b' c' w' g' d' n := by
  obtain rfl := funext hx
  obtain rfl := funext ha
  obtain rfl := funext hb
  obtain rfl := funext hc
  obtain rfl := funext fun k => funext (hw k)
  obtain rfl := funext hg
  obtain rfl := funext hd
  rfl

theorem outRow_congr {p2 p2' p1 p1' p0 p0' : Fin 1024 → EReal} {wg wg' wu wu' : Fin 1024 → Fin 2816 → EReal}
    {cw cw' : Fin 3 → Fin 2816 → EReal} {cb cb' : Fin 2816 → EReal} {wd wd' : Fin 2816 → Fin 1024 → EReal}
    {g g' b b' : Fin 1024 → EReal} (h2 : p2 = p2') (h1 : p1 = p1') (h0 : p0 = p0') (hg : ∀ k n, wg k n = wg' k n)
    (hu : ∀ k n, wu k n = wu' k n) (hc : ∀ k n, cw k n = cw' k n) (hb : ∀ k, cb k = cb' k) (hd : ∀ k n, wd k n = wd' k n)
    (hg' : ∀ k, g k = g' k) (hb' : ∀ k, b k = b' k) (n : Fin 1024) :
    outRow p2 p1 p0 wg wu cw cb wd g b n = outRow p2' p1' p0' wg' wu' cw' cb' wd' g' b' n := by
  subst h2 h1 h0
  obtain rfl := funext fun k => funext (hg k)
  obtain rfl := funext fun k => funext (hu k)
  obtain rfl := funext fun k => funext (hc k)
  obtain rfl := funext hb
  obtain rfl := funext fun k => funext (hd k)
  obtain rfl := funext hg'
  obtain rfl := funext hb'
  rfl

theorem select_one (a b : EReal) : Scalar.select 1#1 a b = a := rfl

theorem add3 {a b c a' b' c' : EReal} (h : a = a') (i : b = b') (j : c = c') : a + b + c = a' + b' + c' := by rw [h, i, j]

/-- The mixed rows of a grid point's halo and tile. -/
def span (M : Fin 4096 → Fin 1024 → EReal) (j : Fin 8) (u : Fin 528) : Fin 1024 → EReal :=
  if h : 16 ≤ 512 * j.val + u.val then M ⟨512 * j.val + u.val - 16, by omega⟩ else fun _ => 0

theorem span_back (M : Fin 4096 → Fin 1024 → EReal) (j : Fin 8) (r : Fin 512) (d : ℕ) (hd : d ≤ 16) (t : Fin 4096)
    (ht : t.val = 512 * j.val + r.val) (u : Fin 528) (hu : u.val + d = 16 + r.val) : span M j u = back d M t := by
  unfold span back
  by_cases h : d ≤ t.val
  · rw [dif_pos (by omega), if_pos h]
    exact congrArg M (Fin.ext (by dsimp only; omega))
  · rw [dif_neg (by omega), if_neg h]

theorem span_tile (M : Fin 4096 → Fin 1024 → EReal) (j : Fin 8) (r : Fin 512) (t : Fin 4096)
    (ht : t.val = 512 * j.val + r.val) (u : Fin 528) (hu : u.val = 16 + r.val) : span M j u = M t := by
  unfold span
  rw [dif_pos (by omega)]
  exact congrArg M (Fin.ext (by dsimp only; omega))

theorem span_lt (t : Fin cfg0.N) (r : Fin 16) : 512 * (grid0.coords t 1).val + r.val - 16 < 4096 := by
  have h : (grid0.coords t 1).val < 8 := (grid0.coords t 1).isLt
  omega

theorem span_hpos (t : Fin cfg0.N) (r : Fin 16) (h : (grid0.coords t 1).val ≠ 0) :
    (⟨512 * (grid0.coords t 1).val + r.val - 16, span_lt t r⟩ : Fin 4096) = hpos t r :=
  Fin.ext (by unfold hpos; dsimp only; omega)

set_option maxHeartbeats 1000000 in
/-- The stored block at grid point `t`, row `r` and lane `n`. -/
theorem point (c : Dev nD) (t : Fin cfg0.N) (r : Fin 512) (n : Fin 1024) :
    (outsAt0 (F := Ideal) m c t : FVec Ideal S1x512x1024 .f32) (ix3 0 r n)
      = outAt (arg0 m c) (arg1 m c) (arg2 m c) (arg3 m c) (arg4 m c) (arg5 m c) (arg6 m c) (arg7 m c) (arg8 m c) (arg9 m c) (arg10 m c) (arg11 m c) (arg12 m c) (arg13 m c) (arg14 m c) (arg15 m c) (bat t) (pos t r) n := by
  refine (PostBlock.block m c t _ _ _ _ _ _ _ _ _ _ _ _ _ _ _ _ _ _ _ _ _ _ rfl rfl rfl rfl rfl rfl rfl rfl rfl rfl rfl rfl rfl rfl rfl rfl rfl rfl rfl rfl rfl rfl
    (span (mixedAt (arg0 m c) (arg1 m c) (arg2 m c) (arg3 m c) (arg4 m c) (arg5 m c) (arg6 m c) (arg7 m c) (arg8 m c) (bat t)) (grid0.coords t 1)) (fun r n => ?_) (fun r n => ?_) r n).trans ?_
  · rw [halo_flag]
    unfold span
    by_cases h : (grid0.coords t 1).val = 0
    · rw [if_pos h, dif_neg (by dsimp only; omega)]
      rfl
    · rw [if_neg h, dif_pos (by dsimp only; omega)]
      refine (select_one _ _).trans ?_
      unfold mixedAt
      have e : (⟨512 * (grid0.coords t 1).val + r.val - 16, span_lt t r⟩ : Fin 4096) = hpos t r := span_hpos t r h
      refine (mixed_congr (fun k => blk6 m c t r k) (fun k => blk7 m c t r k) (fun k => blk8 m c t r k)
        (fun k => add3 (blk9 m c t r k) (blk10 m c t r k) (blk11 m c t r k))
        (fun k n => blk12 m c t k n) (fun k => blk13 m c t k) (fun k => blk14 m c t k) n).trans ?_
      rw [← e]
  · rw [span_tile _ _ r (pos t r) rfl _ rfl]
    exact mixed_congr (fun k => blk0 m c t r k) (fun k => blk1 m c t r k) (fun k => blk2 m c t r k)
      (fun k => add3 (blk3 m c t r k) (blk4 m c t r k) (blk5 m c t r k))
      (fun k n => blk12 m c t k n) (fun k => blk13 m c t k) (fun k => blk14 m c t k) n
  · exact outRow_congr (span_back _ _ r 2 (by omega) (pos t r) rfl _ (by dsimp only; omega))
      (span_back _ _ r 1 (by omega) (pos t r) rfl _ (by dsimp only; omega)) (span_tile _ _ r (pos t r) rfl _ rfl)
      (fun k f => blk15 m c t k f) (fun k f => blk16 m c t k f) (fun k f => blk17 m c t k f) (fun f => blk18 m c t f)
      (fun f n => blk19 m c t f n) (fun k => blk20 m c t k) (fun k => blk21 m c t k) n

/-- THE RESULT ARRAY of the kernel. -/
theorem final (c : Dev nD) : (dats (F := Ideal) m 0 c).arrAt 22 (cfgs 0).N
    = postOut (arg0 m c) (arg1 m c) (arg2 m c) (arg3 m c) (arg4 m c) (arg5 m c) (arg6 m c) (arg7 m c) (arg8 m c) (arg9 m c) (arg10 m c) (arg11 m c) (arg12 m c) (arg13 m c) (arg14 m c) (arg15 m c) := by
  refine (dats (F := Ideal) m 0 c).arrAt_eq_of_covers 22 _ (by decide +kernel) fun t _ y => ?_
  blk_simp
  rw [after0_22]
  have hn : (y 2).val < 1024 := (y 2).isLt
  have e : y = ix3 0 (y 1) (y 2) := by idx_ext
  rw [e]
  refine (point m c t (y 1) (y 2)).trans ?_
  have w : ∀ X : FVec Ideal S8x4096x1024 .f32, X (ix3 (bat t) (pos t (y 1)) (y 2))
      = X ((win0_22.blk t).view.emb (ix3 0 (y 1) (y 2))) := fun X => by
    blk_ext [idx t, bat, pos]
  exact w (postOut (arg0 m c) (arg1 m c) (arg2 m c) (arg3 m c) (arg4 m c) (arg5 m c) (arg6 m c) (arg7 m c) (arg8 m c) (arg9 m c) (arg10 m c) (arg11 m c) (arg12 m c) (arg13 m c) (arg14 m c) (arg15 m c))

end Cert.PostArray
end
-- ==== Proof.PostRef.lean ====
module
public import proofs.«01_k».proof.Proof.Gen.Reference2Ideal.Read
public import proofs.«01_k».proof.Proof.PostOut
public import Idealize.ShloMosaic.Lib.Pointwise
public import Idealize.ShloMosaic.Lib.IdealHost

/-!
The tail's reference, element by element: the plain formulas over the whole sequence give the same rows.
-/

@[expose] public section
set_option maxRecDepth 16384
noncomputable section
namespace Cert.PostRef
open Idealize.ShloMosaic Idealize.ShloMosaic.TcCoe Idealize.SL.Sem
open Cert.Reference2Ideal Cert.Reference2Ideal.Gen Cert.Reference2Ideal.Read Cert.PostWords Cert.PostOut

/-- The three branches side by side. -/
theorem cat_apply (x1 : FVec Ideal S8x4096x256 .f32) (x2 : FVec Ideal S8x4096x384 .f32) (x3 : FVec Ideal S8x4096x384 .f32) (x4 : FVec Ideal S8x4096x384 .f32) (x5 : FVec Ideal S8x4096x384 .f32) (b : Fin 8) (t : Fin 4096) (k : Fin 1024) :
    val_main_v2 (F := Ideal) x1 x2 x3 x4 x5 (ix3 b t k)
      = cat (fun k => x1 (ix3 b t k)) (fun k => x2 (ix3 b t k)) (fun k => x3 (ix3 b t k) + x4 (ix3 b t k) + x5 (ix3 b t k)) k := by
  pointwise [val_main_v2, val_main_v1, val_main_v0]
  unfold cat
  rfl

/-- The first sum. -/
theorem pre_apply (x0 : FVec Ideal S8x4096x1024 .f32) (x1 : FVec Ideal S8x4096x256 .f32) (x2 : FVec Ideal S8x4096x384 .f32) (x3 : FVec Ideal S8x4096x384 .f32) (x4 : FVec Ideal S8x4096x384 .f32) (x5 : FVec Ideal S8x4096x384 .f32) (x6 : FVec Ideal S1024x1024 .f32) (b : Fin 8) (t : Fin 4096) (n : Fin 1024) :
    val_main_v6 (F := Ideal) x0 x1 x2 x3 x4 x5 x6 (ix3 b t n)
      = pre (fun k => x0 (ix3 b t k)) (fun n => rowMul (cat (fun k => x1 (ix3 b t k)) (fun k => x2 (ix3 b t k))
          (fun k => x3 (ix3 b t k) + x4 (ix3 b t k) + x5 (ix3 b t k))) fun k => x6 (ix2 k n)) n := by
  have e := fun k => cat_apply x1 x2 x3 x4 x5 b t k
  unfold val_main_v6 val_main_v5 val_main_v3
  generalize val_main_v2 (F := Ideal) x1 x2 x3 x4 x5 = y at e ⊢
  pointwise [val_main_v4, val_main_cst]
  unfold pre rowMul alpha
  simp only [e]

theorem mean1 (x0 : FVec Ideal S8x4096x1024 .f32) (x1 : FVec Ideal S8x4096x256 .f32) (x2 : FVec Ideal S8x4096x384 .f32) (x3 : FVec Ideal S8x4096x384 .f32) (x4 : FVec Ideal S8x4096x384 .f32) (x5 : FVec Ideal S8x4096x384 .f32) (x6 : FVec Ideal S1024x1024 .f32) (b : Fin 8) (t : Fin 4096) :
    val_main_v10 (F := Ideal) x0 x1 x2 x3 x4 x5 x6 (ix3 b t 0) = mean fun k => val_main_v6 (F := Ideal) x0 x1 x2 x3 x4 x5 x6 (ix3 b t k) := by
  unfold val_main_v10 val_main_v8 val_main_v7
  generalize val_main_v6 (F := Ideal) x0 x1 x2 x3 x4 x5 x6 = y
  pointwise [val_main_v9, val_main_cst_1, val_main_cst_0]
  unfold mean width
  simp only [Ideal.ofBits_zero_f32, zero_add]

theorem dev1 (x0 : FVec Ideal S8x4096x1024 .f32) (x1 : FVec Ideal S8x4096x256 .f32) (x2 : FVec Ideal S8x4096x384 .f32) (x3 : FVec Ideal S8x4096x384 .f32) (x4 : FVec Ideal S8x4096x384 .f32) (x5 : FVec Ideal S8x4096x384 .f32) (x6 : FVec Ideal S1024x1024 .f32) (b : Fin 8) (t : Fin 4096) (n : Fin 1024) :
    val_main_v12 (F := Ideal) x0 x1 x2 x3 x4 x5 x6 (ix3 b t n) = val_main_v6 (F := Ideal) x0 x1 x2 x3 x4 x5 x6 (ix3 b t n)
      - mean fun k => val_main_v6 (F := Ideal) x0 x1 x2 x3 x4 x5 x6 (ix3 b t k) := by
  rw [← mean1]
  unfold val_main_v12 val_main_v11
  generalize val_main_v6 (F := Ideal) x0 x1 x2 x3 x4 x5 x6 = y
  generalize val_main_v10 (F := Ideal) x0 x1 x2 x3 x4 x5 x6 = z
  pointwise

theorem var1 (x0 : FVec Ideal S8x4096x1024 .f32) (x1 : FVec Ideal S8x4096x256 .f32) (x2 : FVec Ideal S8x4096x384 .f32) (x3 : FVec Ideal S8x4096x384 .f32) (x4 : FVec Ideal S8x4096x384 .f32) (x5 : FVec Ideal S8x4096x384 .f32) (x6 : FVec Ideal S1024x1024 .f32) (b : Fin 8) (t : Fin 4096) :
    val_main_v17 (F := Ideal) x0 x1 x2 x3 x4 x5 x6 (ix3 b t 0) = Ideal.div (∑ k, val_main_v12 (F := Ideal) x0 x1 x2 x3 x4 x5 x6 (ix3 b t k)
      * val_main_v12 (F := Ideal) x0 x1 x2 x3 x4 x5 x6 (ix3 b t k)) width := by
  unfold val_main_v17 val_main_v15 val_main_v14 val_main_v13
  generalize val_main_v12 (F := Ideal) x0 x1 x2 x3 x4 x5 x6 = y
  pointwise [val_main_v16, val_main_cst_3, val_main_cst_2]
  unfold width
  simp only [Ideal.ofBits_zero_f32, zero_add]

/-- A layer normalization. -/
theorem ln1 (x0 : FVec Ideal S8x4096x1024 .f32) (x1 : FVec Ideal S8x4096x256 .f32) (x2 : FVec Ideal S8x4096x384 .f32) (x3 : FVec Ideal S8x4096x384 .f32) (x4 : FVec Ideal S8x4096x384 .f32) (x5 : FVec Ideal S8x4096x384 .f32) (x6 : FVec Ideal S1024x1024 .f32) (y7 y8 : FVec Ideal S1024 .f32) (b : Fin 8) (t : Fin 4096) (n : Fin 1024) :
    val_main_v30 (F := Ideal) x0 x1 x2 x3 x4 x5 x6 y7 y8 (ix3 b t n)
      = lnorm (fun k => val_main_v6 (F := Ideal) x0 x1 x2 x3 x4 x5 x6 (ix3 b t k)) (fun k => y7 (ix1 k)) (fun k => y8 (ix1 k)) n := by
  unfold lnorm
  have e := fun k => dev1 x0 x1 x2 x3 x4 x5 x6 b t k
  have ev := var1 x0 x1 x2 x3 x4 x5 x6 b t
  have em := mean1 x0 x1 x2 x3 x4 x5 x6 b t
  simp only [e] at ev
  rw [← em] at ev
  dsimp only
  rw [← em, ← ev]
  clear e ev em
  unfold val_main_v30 val_main_v27 val_main_v24 val_main_v23 val_main_v22 val_main_v21 val_main_v19 val_main_v18
  generalize val_main_v6 (F := Ideal) x0 x1 x2 x3 x4 x5 x6 = y
  generalize val_main_v10 (F := Ideal) x0 x1 x2 x3 x4 x5 x6 = z
  generalize val_main_v17 (F := Ideal) x0 x1 x2 x3 x4 x5 x6 = w
  pointwise [val_main_v26, val_main_v25, val_main_v29, val_main_v28, val_main_v20, val_main_cst_4]
  unfold eps
  rfl

theorem mean2 (x0 : FVec Ideal S8x4096x1024 .f32) (x1 : FVec Ideal S8x4096x256 .f32) (x2 : FVec Ideal S8x4096x384 .f32) (x3 : FVec Ideal S8x4096x384 .f32) (x4 : FVec Ideal S8x4096x384 .f32) (x5 : FVec Ideal S8x4096x384 .f32) (x6 : FVec Ideal S1024x1024 .f32) (x7 : FVec Ideal S1024 .f32) (x8 : FVec Ideal S1024 .f32) (x9 : FVec Ideal S1024x2816 .f32) (x10 : FVec Ideal S1024x2816 .f32) (x11 : FVec Ideal S3x2816 .f32) (x12 : FVec Ideal S2816 .f32) (x13 : FVec Ideal S2816x1024 .f32) (b : Fin 8) (t : Fin 4096) :
    val_main_v78 (F := Ideal) x0 x1 x2 x3 x4 x5 x6 x7 x8 x9 x10 x11 x12 x13 (ix3 b t 0) = mean fun k => val_main_v74 (F := Ideal) x0 x1 x2 x3 x4 x5 x6 x7 x8 x9 x10 x11 x12 x13 (ix3 b t k) := by
  unfold val_main_v78 val_main_v76 val_main_v75
  generalize val_main_v74 (F := Ideal) x0 x1 x2 x3 x4 x5 x6 x7 x8 x9 x10 x11 x12 x13 = y
  pointwise [val_main_v77, val_main_cst_11, val_main_cst_10]
  unfold mean width
  simp only [Ideal.ofBits_zero_f32, zero_add]

theorem dev2 (x0 : FVec Ideal S8x4096x1024 .f32) (x1 : FVec Ideal S8x4096x256 .f32) (x2 : FVec Ideal S8x4096x384 .f32) (x3 : FVec Ideal S8x4096x384 .f32) (x4 : FVec Ideal S8x4096x384 .f32) (x5 : FVec Ideal S8x4096x384 .f32) (x6 : FVec Ideal S1024x1024 .f32) (x7 : FVec Ideal S1024 .f32) (x8 : FVec Ideal S1024 .f32) (x9 : FVec Ideal S1024x2816 .f32) (x10 : FVec Ideal S1024x2816 .f32) (x11 : FVec Ideal S3x2816 .f32) (x12 : FVec Ideal S2816 .f32) (x13 : FVec Ideal S2816x1024 .f32) (b : Fin 8) (t : Fin 4096) (n : Fin 1024) :
    val_main_v80 (F := Ideal) x0 x1 x2 x3 x4 x5 x6 x7 x8 x9 x10 x11 x12 x13 (ix3 b t n) = val_main_v74 (F := Ideal) x0 x1 x2 x3 x4 x5 x6 x7 x8 x9 x10 x11 x12 x13 (ix3 b t n)
      - mean fun k => val_main_v74 (F := Ideal) x0 x1 x2 x3 x4 x5 x6 x7 x8 x9 x10 x11 x12 x13 (ix3 b t k) := by
  rw [← mean2]
  unfold val_main_v80 val_main_v79
  generalize val_main_v74 (F := Ideal) x0 x1 x2 x3 x4 x5 x6 x7 x8 x9 x10 x11 x12 x13 = y
  generalize val_main_v78 (F := Ideal) x0 x1 x2 x3 x4 x5 x6 x7 x8 x9 x10 x11 x12 x13 = z
  pointwise

theorem var2 (x0 : FVec Ideal S8x4096x1024 .f32) (x1 : FVec Ideal S8x4096x256 .f32) (x2 : FVec Ideal S8x4096x384 .f32) (x3 : FVec Ideal S8x4096x384 .f32) (x4 : FVec Ideal S8x4096x384 .f32) (x5 : FVec Ideal S8x4096x384 .f32) (x6 : FVec Ideal S1024x1024 .f32) (x7 : FVec Ideal S1024 .f32) (x8 : FVec Ideal S1024 .f32) (x9 : FVec Ideal S1024x2816 .f32) (x10 : FVec Ideal S1024x2816 .f32) (x11 : FVec Ideal S3x2816 .f32) (x12 : FVec Ideal S2816 .f32) (x13 : FVec Ideal S2816x1024 .f32) (b : Fin 8) (t : Fin 4096) :
    val_main_v85 (F := Ideal) x0 x1 x2 x3 x4 x5 x6 x7 x8 x9 x10 x11 x12 x13 (ix3 b t 0) = Ideal.div (∑ k, val_main_v80 (F := Ideal) x0 x1 x2 x3 x4 x5 x6 x7 x8 x9 x10 x11 x12 x13 (ix3 b t k)
      * val_main_v80 (F := Ideal) x0 x1 x2 x3 x4 x5 x6 x7 x8 x9 x10 x11 x12 x13 (ix3 b t k)) width := by
  unfold val_main_v85 val_main_v83 val_main_v82 val_main_v81
  generalize val_main_v80 (F := Ideal) x0 x1 x2 x3 x4 x5 x6 x7 x8 x9 x10 x11 x12 x13 = y
  pointwise [val_main_v84, val_main_cst_13, val_main_cst_12]
  unfold width
  simp only [Ideal.ofBits_zero_f32, zero_add]

/-- A layer normalization. -/
theorem ln2 (x0 : FVec Ideal S8x4096x1024 .f32) (x1 : FVec Ideal S8x4096x256 .f32) (x2 : FVec Ideal S8x4096x384 .f32) (x3 : FVec Ideal S8x4096x384 .f32) (x4 : FVec Ideal S8x4096x384 .f32) (x5 : FVec Ideal S8x4096x384 .f32) (x6 : FVec Ideal S1024x1024 .f32) (x7 : FVec Ideal S1024 .f32) (x8 : FVec Ideal S1024 .f32) (x9 : FVec Ideal S1024x2816 .f32) (x10 : FVec Ideal S1024x2816 .f32) (x11 : FVec Ideal S3x2816 .f32) (x12 : FVec Ideal S2816 .f32) (x13 : FVec Ideal S2816x1024 .f32) (y14 y15 : FVec Ideal S1024 .f32) (b : Fin 8) (t : Fin 4096) (n : Fin 1024) :
    val_main_v98 (F := Ideal) x0 x1 x2 x3 x4 x5 x6 x7 x8 x9 x10 x11 x12 x13 y14 y15 (ix3 b t n)
      = lnorm (fun k => val_main_v74 (F := Ideal) x0 x1 x2 x3 x4 x5 x6 x7 x8 x9 x10 x11 x12 x13 (ix3 b t k)) (fun k => y14 (ix1 k)) (fun k => y15 (ix1 k)) n := by
  unfold lnorm
  have e := fun k => dev2 x0 x1 x2 x3 x4 x5 x6 x7 x8 x9 x10 x11 x12 x13 b t k
  have ev := var2 x0 x1 x2 x3 x4 x5 x6 x7 x8 x9 x10 x11 x12 x13 b t
  have em := mean2 x0 x1 x2 x3 x4 x5 x6 x7 x8 x9 x10 x11 x12 x13 b t
  simp only [e] at ev
  rw [← em] at ev
  dsimp only
  rw [← em, ← ev]
  clear e ev em
  unfold val_main_v98 val_main_v95 val_main_v92 val_main_v91 val_main_v90 val_main_v89 val_main_v87 val_main_v86
  generalize val_main_v74 (F := Ideal) x0 x1 x2 x3 x4 x5 x6 x7 x8 x9 x10 x11 x12 x13 = y
  generalize val_main_v78 (F := Ideal) x0 x1 x2 x3 x4 x5 x6 x7 x8 x9 x10 x11 x12 x13 = z
  generalize val_main_v85 (F := Ideal) x0 x1 x2 x3 x4 x5 x6 x7 x8 x9 x10 x11 x12 x13 = w
  pointwise [val_main_v94, val_main_v93, val_main_v97, val_main_v96, val_main_v88, val_main_cst_14]
  unfold eps
  rfl

/-- The mixed rows. -/
theorem mixed_apply (x0 : FVec Ideal S8x4096x1024 .f32) (x1 : FVec Ideal S8x4096x256 .f32) (x2 : FVec Ideal S8x4096x384 .f32) (x3 : FVec Ideal S8x4096x384 .f32) (x4 : FVec Ideal S8x4096x384 .f32) (x5 : FVec Ideal S8x4096x384 .f32) (x6 : FVec Ideal S1024x1024 .f32) (x7 : FVec Ideal S1024 .f32) (x8 : FVec Ideal S1024 .f32) (b : Fin 8) (t : Fin 4096) (n : Fin 1024) :
    val_main_v30 (F := Ideal) x0 x1 x2 x3 x4 x5 x6 x7 x8 (ix3 b t n) = mixedAt x0 x1 x2 x3 x4 x5 x6 x7 x8 b t n := by
  rw [ln1]
  simp only [pre_apply]
  rfl

/-- The gate's projection. -/
theorem gate_apply (x0 : FVec Ideal S8x4096x1024 .f32) (x1 : FVec Ideal S8x4096x256 .f32) (x2 : FVec Ideal S8x4096x384 .f32) (x3 : FVec Ideal S8x4096x384 .f32) (x4 : FVec Ideal S8x4096x384 .f32) (x5 : FVec Ideal S8x4096x384 .f32) (x6 : FVec Ideal S1024x1024 .f32) (x7 : FVec Ideal S1024 .f32) (x8 : FVec Ideal S1024 .f32) (x9 : FVec Ideal S1024x2816 .f32) (b : Fin 8) (t : Fin 4096) (f : Fin 2816) :
    val_main_v31 (F := Ideal) x0 x1 x2 x3 x4 x5 x6 x7 x8 x9 (ix3 b t f) = rowMul (mixedAt x0 x1 x2 x3 x4 x5 x6 x7 x8 b t) fun k => x9 (ix2 k f) := by
  have e := fun k => mixed_apply x0 x1 x2 x3 x4 x5 x6 x7 x8 b t k
  unfold val_main_v31
  generalize val_main_v30 (F := Ideal) x0 x1 x2 x3 x4 x5 x6 x7 x8 = y at e ⊢
  pointwise
  unfold rowMul
  simp only [e]

/-- The other projection. -/
theorem up_apply (x0 : FVec Ideal S8x4096x1024 .f32) (x1 : FVec Ideal S8x4096x256 .f32) (x2 : FVec Ideal S8x4096x384 .f32) (x3 : FVec Ideal S8x4096x384 .f32) (x4 : FVec Ideal S8x4096x384 .f32) (x5 : FVec Ideal S8x4096x384 .f32) (x6 : FVec Ideal S1024x1024 .f32) (x7 : FVec Ideal S1024 .f32) (x8 : FVec Ideal S1024 .f32) (x10 : FVec Ideal S1024x2816 .f32) (b : Fin 8) (t : Fin 4096) (f : Fin 2816) :
    val_main_v69 (F := Ideal) x0 x1 x2 x3 x4 x5 x6 x7 x8 x10 (ix3 b t f) = rowMul (mixedAt x0 x1 x2 x3 x4 x5 x6 x7 x8 b t) fun k => x10 (ix2 k f) := by
  have e := fun k => mixed_apply x0 x1 x2 x3 x4 x5 x6 x7 x8 b t k
  unfold val_main_v69
  generalize val_main_v30 (F := Ideal) x0 x1 x2 x3 x4 x5 x6 x7 x8 = y at e ⊢
  pointwise
  unfold rowMul
  simp only [e]

/-- The zero row's projection. -/
theorem rowMul_zero (w : Fin 1024 → EReal) : rowMul (fun _ => 0) w = 0 := by
  unfold rowMul
  simp only [zero_mul, Finset.sum_const_zero]

theorem back_mul (d : ℕ) (M : Fin 4096 → Fin 1024 → EReal) (t : Fin 4096) (w : Fin 1024 → EReal) :
    rowMul (back d M t) w = if d ≤ t.val then rowMul (M ⟨t.val - d, by omega⟩) w else 0 := by
  unfold back
  split
  · rfl
  · exact rowMul_zero w

/-- The convolution over positions. -/
theorem conv_apply (x0 : FVec Ideal S8x4096x1024 .f32) (x1 : FVec Ideal S8x4096x256 .f32) (x2 : FVec Ideal S8x4096x384 .f32) (x3 : FVec Ideal S8x4096x384 .f32) (x4 : FVec Ideal S8x4096x384 .f32) (x5 : FVec Ideal S8x4096x384 .f32) (x6 : FVec Ideal S1024x1024 .f32) (x7 : FVec Ideal S1024 .f32) (x8 : FVec Ideal S1024 .f32) (x9 : FVec Ideal S1024x2816 .f32) (x11 : FVec Ideal S3x2816 .f32) (x12 : FVec Ideal S2816 .f32) (b : Fin 8) (t : Fin 4096) (f : Fin 2816) :
    val_main_v55 (F := Ideal) x0 x1 x2 x3 x4 x5 x6 x7 x8 x9 x11 x12 (ix3 b t f)
      = conv (x12 (ix1 f)) (x11 (ix2 0 f)) (x11 (ix2 1 f)) (x11 (ix2 2 f))
          (rowMul (back 2 (mixedAt x0 x1 x2 x3 x4 x5 x6 x7 x8 b) t) fun k => x9 (ix2 k f)) (rowMul (back 1 (mixedAt x0 x1 x2 x3 x4 x5 x6 x7 x8 b) t) fun k => x9 (ix2 k f))
          (rowMul (mixedAt x0 x1 x2 x3 x4 x5 x6 x7 x8 b t) fun k => x9 (ix2 k f)) := by
  have e := fun t => gate_apply x0 x1 x2 x3 x4 x5 x6 x7 x8 x9 b t f
  rw [back_mul, back_mul]
  simp only [← e]
  clear e
  unfold val_main_v55 val_main_v54 val_main_v49 val_main_v48 val_main_v47 val_main_v42 val_main_v41 val_main_v38 val_main_v33 val_main_v32
  generalize val_main_v31 (F := Ideal) x0 x1 x2 x3 x4 x5 x6 x7 x8 x9 = y
  pointwise [val_main_v53, val_main_v52, val_main_v51, val_main_v50, val_main_v46, val_main_v45, val_main_v44, val_main_v43, val_main_v40, val_main_v39, val_main_v37, val_main_v36, val_main_v35, val_main_v34, val_main_call0_v0, val_main_c]
  unfold conv
  have hz : FloatOps.sitofp (F := Ideal) FTy.f32 0#32 = (0 : EReal) := by
    show ((((0#32 : BitVec 32).toInt : ℤ) : ℝ) : EReal) = 0
    simp
  have ht := t.isLt
  refine congrArg₂ (· + ·) (congrArg₂ (· + ·) (congrArg (_ + ·) (congrArg (· * _) ?_)) (congrArg (· * _) ?_)) rfl
  · by_cases h : 2 ≤ t.val
    · rw [dif_pos ⟨h, by omega⟩, if_pos h]
    · rw [dif_neg (by omega), if_neg h, hz]
  · by_cases h : 1 ≤ t.val
    · rw [dif_pos ⟨by omega, by omega⟩, if_pos h]
      exact congrArg y (congrArg (fun u => ix3 b u f) (Fin.ext (by dsimp only; omega)))
    · rw [dif_neg (by omega), if_neg h, hz]

/-- The gated unit's activation. -/
theorem gelu_apply (x0 : FVec Ideal S8x4096x1024 .f32) (x1 : FVec Ideal S8x4096x256 .f32) (x2 : FVec Ideal S8x4096x384 .f32) (x3 : FVec Ideal S8x4096x384 .f32) (x4 : FVec Ideal S8x4096x384 .f32) (x5 : FVec Ideal S8x4096x384 .f32) (x6 : FVec Ideal S1024x1024 .f32) (x7 : FVec Ideal S1024 .f32) (x8 : FVec Ideal S1024 .f32) (x9 : FVec Ideal S1024x2816 .f32) (x11 : FVec Ideal S3x2816 .f32) (x12 : FVec Ideal S2816 .f32) (b : Fin 8) (t : Fin 4096) (f : Fin 2816) :
    val_main_v68 (F := Ideal) x0 x1 x2 x3 x4 x5 x6 x7 x8 x9 x11 x12 (ix3 b t f) = gelu (val_main_v55 (F := Ideal) x0 x1 x2 x3 x4 x5 x6 x7 x8 x9 x11 x12 (ix3 b t f)) := by
  unfold val_main_v68 val_main_v67 val_main_v65 val_main_v63 val_main_v62 val_main_v60 val_main_v59 val_main_v57 val_main_v56
  generalize val_main_v55 (F := Ideal) x0 x1 x2 x3 x4 x5 x6 x7 x8 x9 x11 x12 = y
  pointwise [val_main_v66, val_main_cst_8, val_main_v64, val_main_cst_7, val_main_v61, val_main_cst_6, val_main_v58, val_main_cst_5]
  unfold gelu half cubeC tanhC
  rw [← mul_assoc, mul_comm (y (ix3 b t f)) (Ideal.ofBits _ _)]

/-- The gated unit. -/
theorem lane_apply (x0 : FVec Ideal S8x4096x1024 .f32) (x1 : FVec Ideal S8x4096x256 .f32) (x2 : FVec Ideal S8x4096x384 .f32) (x3 : FVec Ideal S8x4096x384 .f32) (x4 : FVec Ideal S8x4096x384 .f32) (x5 : FVec Ideal S8x4096x384 .f32) (x6 : FVec Ideal S1024x1024 .f32) (x7 : FVec Ideal S1024 .f32) (x8 : FVec Ideal S1024 .f32) (x9 : FVec Ideal S1024x2816 .f32) (x10 : FVec Ideal S1024x2816 .f32) (x11 : FVec Ideal S3x2816 .f32) (x12 : FVec Ideal S2816 .f32) (b : Fin 8) (t : Fin 4096) (f : Fin 2816) :
    val_main_v70 (F := Ideal) x0 x1 x2 x3 x4 x5 x6 x7 x8 x9 x10 x11 x12 (ix3 b t f)
      = lane (back 2 (mixedAt x0 x1 x2 x3 x4 x5 x6 x7 x8 b) t) (back 1 (mixedAt x0 x1 x2 x3 x4 x5 x6 x7 x8 b) t) (mixedAt x0 x1 x2 x3 x4 x5 x6 x7 x8 b t) (fun k => x9 (ix2 k f)) (fun k => x10 (ix2 k f))
          (x11 (ix2 0 f)) (x11 (ix2 1 f)) (x11 (ix2 2 f)) (x12 (ix1 f)) := by
  rw [val_main_v70_apply, gelu_apply, conv_apply, up_apply]
  rfl

/-- The second sum. -/
theorem sum_apply (x0 : FVec Ideal S8x4096x1024 .f32) (x1 : FVec Ideal S8x4096x256 .f32) (x2 : FVec Ideal S8x4096x384 .f32) (x3 : FVec Ideal S8x4096x384 .f32) (x4 : FVec Ideal S8x4096x384 .f32) (x5 : FVec Ideal S8x4096x384 .f32) (x6 : FVec Ideal S1024x1024 .f32) (x7 : FVec Ideal S1024 .f32) (x8 : FVec Ideal S1024 .f32) (x9 : FVec Ideal S1024x2816 .f32) (x10 : FVec Ideal S1024x2816 .f32) (x11 : FVec Ideal S3x2816 .f32) (x12 : FVec Ideal S2816 .f32) (x13 : FVec Ideal S2816x1024 .f32) (b : Fin 8) (t : Fin 4096) (n : Fin 1024) :
    val_main_v74 (F := Ideal) x0 x1 x2 x3 x4 x5 x6 x7 x8 x9 x10 x11 x12 x13 (ix3 b t n)
      = pre (mixedAt x0 x1 x2 x3 x4 x5 x6 x7 x8 b t) (fun n => rowMul (fun f => lane (back 2 (mixedAt x0 x1 x2 x3 x4 x5 x6 x7 x8 b) t) (back 1 (mixedAt x0 x1 x2 x3 x4 x5 x6 x7 x8 b) t) (mixedAt x0 x1 x2 x3 x4 x5 x6 x7 x8 b t)
          (fun k => x9 (ix2 k f)) (fun k => x10 (ix2 k f)) (x11 (ix2 0 f)) (x11 (ix2 1 f)) (x11 (ix2 2 f)) (x12 (ix1 f)))
          fun f => x13 (ix2 f n)) n := by
  have e := fun f => lane_apply x0 x1 x2 x3 x4 x5 x6 x7 x8 x9 x10 x11 x12 b t f
  unfold pre rowMul
  simp only [← e, ← mixed_apply]
  clear e
  unfold val_main_v74 val_main_v73 val_main_v71
  generalize val_main_v70 (F := Ideal) x0 x1 x2 x3 x4 x5 x6 x7 x8 x9 x10 x11 x12 = y
  generalize val_main_v30 (F := Ideal) x0 x1 x2 x3 x4 x5 x6 x7 x8 = z
  pointwise [val_main_v72, val_main_cst_9]
  unfold alpha
  rfl

theorem result_apply (x0 : FVec Ideal S8x4096x1024 .f32) (x1 : FVec Ideal S8x4096x256 .f32) (x2 : FVec Ideal S8x4096x384 .f32) (x3 : FVec Ideal S8x4096x384 .f32) (x4 : FVec Ideal S8x4096x384 .f32) (x5 : FVec Ideal S8x4096x384 .f32) (x6 : FVec Ideal S1024x1024 .f32) (x7 : FVec Ideal S1024 .f32) (x8 : FVec Ideal S1024 .f32) (x9 : FVec Ideal S1024x2816 .f32) (x10 : FVec Ideal S1024x2816 .f32) (x11 : FVec Ideal S3x2816 .f32) (x12 : FVec Ideal S2816 .f32) (x13 : FVec Ideal S2816x1024 .f32) (x14 : FVec Ideal S1024 .f32) (x15 : FVec Ideal S1024 .f32) (b : Fin 8) (t : Fin 4096) (n : Fin 1024) :
    val_main_v98 (F := Ideal) x0 x1 x2 x3 x4 x5 x6 x7 x8 x9 x10 x11 x12 x13 x14 x15 (ix3 b t n) = outAt x0 x1 x2 x3 x4 x5 x6 x7 x8 x9 x10 x11 x12 x13 x14 x15 b t n := by
  rw [ln2]
  simp only [sum_apply]
  rfl

/-- THE REFERENCE'S RESULT. -/
theorem result (x0 : FVec Ideal S8x4096x1024 .f32) (x1 : FVec Ideal S8x4096x256 .f32) (x2 : FVec Ideal S8x4096x384 .f32) (x3 : FVec Ideal S8x4096x384 .f32) (x4 : FVec Ideal S8x4096x384 .f32) (x5 : FVec Ideal S8x4096x384 .f32) (x6 : FVec Ideal S1024x1024 .f32) (x7 : FVec Ideal S1024 .f32) (x8 : FVec Ideal S1024 .f32) (x9 : FVec Ideal S1024x2816 .f32) (x10 : FVec Ideal S1024x2816 .f32) (x11 : FVec Ideal S3x2816 .f32) (x12 : FVec Ideal S2816 .f32) (x13 : FVec Ideal S2816x1024 .f32) (x14 : FVec Ideal S1024 .f32) (x15 : FVec Ideal S1024 .f32) :
    val_main_v98 (F := Ideal) x0 x1 x2 x3 x4 x5 x6 x7 x8 x9 x10 x11 x12 x13 x14 x15 = postOut x0 x1 x2 x3 x4 x5 x6 x7 x8 x9 x10 x11 x12 x13 x14 x15 := by
  funext i
  have e : i = ix3 (i 0) (i 1) (i 2) := by idx_ext
  rw [e]
  exact result_apply x0 x1 x2 x3 x4 x5 x6 x7 x8 x9 x10 x11 x12 x13 x14 x15 (i 0) (i 1) (i 2)

end Cert.PostRef
end
-- ==== Proof.PostClaim.lean ====
/- The claims about the output projection and the convolutional feed-forward block. -/
module

public import proofs.«01_k».proof.Defs
public import proofs.«01_k».proof.Proof.PostArray
public import proofs.«01_k».proof.Proof.PostRef
public import proofs.«01_k».proof.Proof.Gen.Reference2Ideal.Run

@[expose] public section

set_option maxRecDepth 16384

noncomputable section

namespace Cert.PostClaim

open Idealize.ShloMosaic Idealize.ShloMosaic.TcCoe Idealize.SL.Sem

/-- The reference leaves its arguments and ends quiet. -/
theorem frame : Cert.quiescent_Reference2Ideal := fun m ρ _ =>
  (θ_run Cert.Reference2Ideal.defs _ _).mono
    (fun r h => ⟨fun c => (h c).2, sem_eq_zero_of_no_sems (by decide) r.2⟩)
    (Cert.Reference2Ideal.Value.run (F := Ideal) m ρ)

/-- The result at equal arguments. -/
theorem post_congr {x0 y0 : FVec Ideal Cert.Kernel2Ideal.S8x4096x1024 .f32} (h0 : x0 = y0) {x1 y1 : FVec Ideal
    Cert.Kernel2Ideal.S8x4096x256 .f32} (h1 : x1 = y1) {x2 y2 : FVec Ideal Cert.Kernel2Ideal.S8x4096x384 .f32} (h2 : x2 =
    y2) {x3 y3 : FVec Ideal Cert.Kernel2Ideal.S8x4096x384 .f32} (h3 : x3 = y3) {x4 y4 : FVec Ideal
    Cert.Kernel2Ideal.S8x4096x384 .f32} (h4 : x4 = y4) {x5 y5 : FVec Ideal Cert.Kernel2Ideal.S8x4096x384 .f32} (h5 : x5 =
    y5) {x6 y6 : FVec Ideal Cert.Kernel2Ideal.S1024x1024 .f32} (h6 : x6 = y6) {x7 y7 : FVec Ideal Cert.Kernel2Ideal.S1024
    .f32} (h7 : x7 = y7) {x8 y8 : FVec Ideal Cert.Kernel2Ideal.S1024 .f32} (h8 : x8 = y8) {x9 y9 : FVec Ideal
    Cert.Kernel2Ideal.S1024x2816 .f32} (h9 : x9 = y9) {x10 y10 : FVec Ideal Cert.Kernel2Ideal.S1024x2816 .f32} (h10 : x10 =
    y10) {x11 y11 : FVec Ideal Cert.Kernel2Ideal.S3x2816 .f32} (h11 : x11 = y11) {x12 y12 : FVec Ideal
    Cert.Kernel2Ideal.S2816 .f32} (h12 : x12 = y12) {x13 y13 : FVec Ideal Cert.Kernel2Ideal.S2816x1024 .f32} (h13 : x13 =
    y13) {x14 y14 : FVec Ideal Cert.Kernel2Ideal.S1024 .f32} (h14 : x14 = y14) {x15 y15 : FVec Ideal Cert.Kernel2Ideal.S1024
    .f32} (h15 : x15 = y15) :
    Cert.PostOut.postOut x0 x1 x2 x3 x4 x5 x6 x7 x8 x9 x10 x11 x12 x13 x14 x15
      = Cert.PostOut.postOut y0 y1 y2 y3 y4 y5 y6 y7 y8 y9 y10 y11 y12 y13 y14 y15 := by
  subst h0 h1 h2 h3 h4 h5 h6 h7 h8 h9 h10 h11 h12 h13 h14 h15
  rfl

/-- The idealized kernel and the idealized reference end with equal results. -/
theorem algebraic : Cert.algebraic_Kernel2Ideal_Reference2Ideal := by
  intro m ρ m' ρ' _ hagree
  refine ⟨fun c => Cert.PostOut.postOut (Cert.PostArray.arg0 m c) (Cert.PostArray.arg1 m c) (Cert.PostArray.arg2 m c) (Cert.PostArray.arg3 m c) (Cert.PostArray.arg4 m c) (Cert.PostArray.arg5 m c) (Cert.PostArray.arg6 m c) (Cert.PostArray.arg7 m c) (Cert.PostArray.arg8 m c) (Cert.PostArray.arg9 m c) (Cert.PostArray.arg10 m c) (Cert.PostArray.arg11 m c) (Cert.PostArray.arg12 m c) (Cert.PostArray.arg13 m c) (Cert.PostArray.arg14 m c) (Cert.PostArray.arg15 m c), ?_, ?_⟩
  · exact (θ_run Cert.Kernel2Ideal.defs _ _).mono (fun _ h c => ⟨(h c).1.trans (Cert.PostArray.final m c), (h c).2⟩)
      (Cert.Kernel2Ideal.Value.run_blocks (F := Ideal) m ρ)
  refine (θ_run Cert.Reference2Ideal.defs _ _).mono (fun _ h c => ⟨(h c).1.trans ?_, (h c).2⟩)
    (Cert.Reference2Ideal.Value.run (F := Ideal) m' ρ')
  refine (Cert.Reference2Ideal.Read.val_main_v98_eq _).trans ((Cert.PostRef.result _ _ _ _ _ _ _ _ _ _ _ _ _ _ _ _).trans ?_)
  exact post_congr ((hagree c).1) ((hagree c).2.1) ((hagree c).2.2.1) ((hagree c).2.2.2.1) ((hagree c).2.2.2.2.1) ((hagree c).2.2.2.2.2.1)
    ((hagree c).2.2.2.2.2.2.1) ((hagree c).2.2.2.2.2.2.2.1) ((hagree c).2.2.2.2.2.2.2.2.1) ((hagree c).2.2.2.2.2.2.2.2.2.1)
    ((hagree c).2.2.2.2.2.2.2.2.2.2.1) ((hagree c).2.2.2.2.2.2.2.2.2.2.2.1) ((hagree c).2.2.2.2.2.2.2.2.2.2.2.2.1) ((hagree
    c).2.2.2.2.2.2.2.2.2.2.2.2.2.1) ((hagree c).2.2.2.2.2.2.2.2.2.2.2.2.2.2.1) ((hagree c).2.2.2.2.2.2.2.2.2.2.2.2.2.2.2)

end Cert.PostClaim

end
-- ==== Proof.InWords.lean ====
module
public import Idealize.ShloMosaic.Lib.Pipeline.ValueKit

/-!
The input projection of one position in mathematical words: a row times the columns of the
projection, and the rotation of a head by the position's angles.
-/

@[expose] public section
noncomputable section

namespace Cert.InWords
open Idealize.ShloMosaic

/-- Column `n` of the projection of a row. -/
def proj (x : Fin 1024 → EReal) (w : Fin 1024 → ℕ → EReal) (n : ℕ) : EReal := ∑ k, x k * w k n

/-- Column `n` of the rotated heads of width 64 of the row `h`: lane `l` of a head's first half is turned with lane
`l + 32`, by the angle whose cosine and sine are `c` and `s` at `l`. -/
def turn (h c s : ℕ → EReal) (n : ℕ) : EReal :=
  if n % 64 < 32 then h n * c (n % 32) + h (n + 32) * -s (n % 32) else h n * c (n % 32) + h (n - 32) * s (n % 32)

/-- One eighth: the inverse square root of a head's width. -/
def eighth : EReal := Ideal.ofBits FTy.f32 0x3E000000#32
/-- The scale of the queries: one eighth times the base-two logarithm of the number e. -/
def qScale : EReal := Ideal.ofBits FTy.f32 0x3E38AA3B#32

/-- The retention rows: queries, keys, values and gates side by side. -/
def retWord (h c s : ℕ → EReal) (n : ℕ) : EReal :=
  if n < 384 then turn h c s (256 + n) else if n < 768 then turn h c s (256 + n) * eighth else h (256 + n)

/-- The scaled queries of the sparse attention. -/
def qWord (h c s : ℕ → EReal) (n : ℕ) : EReal := turn h c s (1792 + n) * qScale

/-- The selected keys of head `g` and, in the upper lanes, a one at the position's block. -/
def ksWord (h c s : ℕ → EReal) (t g l : ℕ) : EReal :=
  if l < 64 then turn h c s (2432 + 64 * g + l) else if l - 64 = t / 64 then 1 else 0

/-- A head's values, then ones. -/
def vWord (h : ℕ → EReal) (base g r : ℕ) : EReal := if r < 64 then h (base + 64 * g + r) else 1

end Cert.InWords
end
-- ==== Proof.InBody.lean ====
module
public import proofs.«01_k».proof.Proof.Gen.Kernel3Ideal.Frame
public import proofs.«01_k».proof.Proof.InWords
public import Idealize.ShloMosaic.Lib.Pipeline.ValueKit

/-!
What the input projection's kernel computes in one grid step, read at one element: twelve products
of the tile with 256 columns of the weights, and the rotation of 128 lanes by two lane shifts.
-/

@[expose] public section
set_option maxRecDepth 16384
noncomputable section
namespace Cert.InBody
open Idealize.ShloMosaic Idealize.ShloMosaic.TcCoe Idealize.SL.Sem
open Cert.Kernel3Ideal Cert.Kernel3Ideal.Gen Cert.InWords

/-- The weights' columns, zero past the last. -/
def wcol (w : FVec Ideal S1024x3072 .bf16) (k : Fin 1024) (n : ℕ) : EReal := if h : n < 3072 then w (ix2 k ⟨n, h⟩) else 0

/-- The tile's rows times the columns of the weights. -/
def rows (x : FVec Ideal S1x512x1024 .f32) (w : FVec Ideal S1024x3072 .bf16) (r : Fin 512) : ℕ → EReal :=
  proj (fun k => x (ix3 0 r k)) (wcol w)

theorem wcol_at (w : FVec Ideal S1024x3072 .bf16) (k : Fin 1024) (m : Fin 3072) : wcol w k m.val = w (ix2 k m) := by
  unfold wcol
  rw [dif_pos m.isLt]

/-- A product of the tile with 256 columns. -/
theorem mul_apply (x : FVec Ideal S1x512x1024 .f32) (v : FVec Ideal S1024x256 .bf16) (r : Fin 512) (n : Fin 256) :
    k0_pay13 (F := Ideal) (k0_pay4 x) v (ix2 r n) = ∑ k : Fin 1024, x (ix3 0 r k) * v (ix2 k n) := by
  pointwise [k0_pay13, k0_pay4]

theorem chunk256 (x : FVec Ideal S1x512x1024 .f32) (w : FVec Ideal S1024x3072 .bf16) (r : Fin 512) (n : Fin 256) :
    k0_pay13 (F := Ideal) (k0_pay4 x) (View.ld (Val := Elt Ideal) (S := S1024x3072) (e' := EltTy.bf16) w (Rect.unit ![0, 256] ![1024, 256] inb_S1024x3072_S1024x256_0_256)) (ix2 r n)
      = rows x w r (256 + n.val) := by
  rw [mul_apply]
  unfold rows proj
  refine Finset.sum_congr rfl fun k _ => congrArg (x (ix3 0 r k) * ·) ?_
  refine Eq.trans ?_ (wcol_at w k ⟨256 + n.val, by omega⟩).symm
  pointwise

theorem chunk512 (x : FVec Ideal S1x512x1024 .f32) (w : FVec Ideal S1024x3072 .bf16) (r : Fin 512) (n : Fin 256) :
    k0_pay13 (F := Ideal) (k0_pay4 x) (View.ld (Val := Elt Ideal) (S := S1024x3072) (e' := EltTy.bf16) w (Rect.unit ![0, 512] ![1024, 256] inb_S1024x3072_S1024x256_0_512)) (ix2 r n)
      = rows x w r (512 + n.val) := by
  rw [mul_apply]
  unfold rows proj
  refine Finset.sum_congr rfl fun k _ => congrArg (x (ix3 0 r k) * ·) ?_
  refine Eq.trans ?_ (wcol_at w k ⟨512 + n.val, by omega⟩).symm
  pointwise

theorem chunk768 (x : FVec Ideal S1x512x1024 .f32) (w : FVec Ideal S1024x3072 .bf16) (r : Fin 512) (n : Fin 256) :
    k0_pay13 (F := Ideal) (k0_pay4 x) (View.ld (Val := Elt Ideal) (S := S1024x3072) (e' := EltTy.bf16) w (Rect.unit ![0, 768] ![1024, 256] inb_S1024x3072_S1024x256_0_768)) (ix2 r n)
      = rows x w r (768 + n.val) := by
  rw [mul_apply]
  unfold rows proj
  refine Finset.sum_congr rfl fun k _ => congrArg (x (ix3 0 r k) * ·) ?_
  refine Eq.trans ?_ (wcol_at w k ⟨768 + n.val, by omega⟩).symm
  pointwise

theorem chunk1024 (x : FVec Ideal S1x512x1024 .f32) (w : FVec Ideal S1024x3072 .bf16) (r : Fin 512) (n : Fin 256) :
    k0_pay13 (F := Ideal) (k0_pay4 x) (View.ld (Val := Elt Ideal) (S := S1024x3072) (e' := EltTy.bf16) w (Rect.unit ![0, 1024] ![1024, 256] inb_S1024x3072_S1024x256_0_1024)) (ix2 r n)
      = rows x w r (1024 + n.val) := by
  rw [mul_apply]
  unfold rows proj
  refine Finset.sum_congr rfl fun k _ => congrArg (x (ix3 0 r k) * ·) ?_
  refine Eq.trans ?_ (wcol_at w k ⟨1024 + n.val, by omega⟩).symm
  pointwise

theorem chunk1280 (x : FVec Ideal S1x512x1024 .f32) (w : FVec Ideal S1024x3072 .bf16) (r : Fin 512) (n : Fin 256) :
    k0_pay13 (F := Ideal) (k0_pay4 x) (View.ld (Val := Elt Ideal) (S := S1024x3072) (e' := EltTy.bf16) w (Rect.unit ![0, 1280] ![1024, 256] inb_S1024x3072_S1024x256_0_1280)) (ix2 r n)
      = rows x w r (1280 + n.val) := by
  rw [mul_apply]
  unfold rows proj
  refine Finset.sum_congr rfl fun k _ => congrArg (x (ix3 0 r k) * ·) ?_
  refine Eq.trans ?_ (wcol_at w k ⟨1280 + n.val, by omega⟩).symm
  pointwise

theorem chunk1536 (x : FVec Ideal S1x512x1024 .f32) (w : FVec Ideal S1024x3072 .bf16) (r : Fin 512) (n : Fin 256) :
    k0_pay13 (F := Ideal) (k0_pay4 x) (View.ld (Val := Elt Ideal) (S := S1024x3072) (e' := EltTy.bf16) w (Rect.unit ![0, 1536] ![1024, 256] inb_S1024x3072_S1024x256_0_1536)) (ix2 r n)
      = rows x w r (1536 + n.val) := by
  rw [mul_apply]
  unfold rows proj
  refine Finset.sum_congr rfl fun k _ => congrArg (x (ix3 0 r k) * ·) ?_
  refine Eq.trans ?_ (wcol_at w k ⟨1536 + n.val, by omega⟩).symm
  pointwise

theorem chunk1792 (x : FVec Ideal S1x512x1024 .f32) (w : FVec Ideal S1024x3072 .bf16) (r : Fin 512) (n : Fin 256) :
    k0_pay13 (F := Ideal) (k0_pay4 x) (View.ld (Val := Elt Ideal) (S := S1024x3072) (e' := EltTy.bf16) w (Rect.unit ![0, 1792] ![1024, 256] inb_S1024x3072_S1024x256_0_1792)) (ix2 r n)
      = rows x w r (1792 + n.val) := by
  rw [mul_apply]
  unfold rows proj
  refine Finset.sum_congr rfl fun k _ => congrArg (x (ix3 0 r k) * ·) ?_
  refine Eq.trans ?_ (wcol_at w k ⟨1792 + n.val, by omega⟩).symm
  pointwise

theorem chunk2048 (x : FVec Ideal S1x512x1024 .f32) (w : FVec Ideal S1024x3072 .bf16) (r : Fin 512) (n : Fin 256) :
    k0_pay13 (F := Ideal) (k0_pay4 x) (View.ld (Val := Elt Ideal) (S := S1024x3072) (e' := EltTy.bf16) w (Rect.unit ![0, 2048] ![1024, 256] inb_S1024x3072_S1024x256_0_2048)) (ix2 r n)
      = rows x w r (2048 + n.val) := by
  rw [mul_apply]
  unfold rows proj
  refine Finset.sum_congr rfl fun k _ => congrArg (x (ix3 0 r k) * ·) ?_
  refine Eq.trans ?_ (wcol_at w k ⟨2048 + n.val, by omega⟩).symm
  pointwise

theorem chunk2304 (x : FVec Ideal S1x512x1024 .f32) (w : FVec Ideal S1024x3072 .bf16) (r : Fin 512) (n : Fin 256) :
    k0_pay13 (F := Ideal) (k0_pay4 x) (View.ld (Val := Elt Ideal) (S := S1024x3072) (e' := EltTy.bf16) w (Rect.unit ![0, 2304] ![1024, 256] inb_S1024x3072_S1024x256_0_2304)) (ix2 r n)
      = rows x w r (2304 + n.val) := by
  rw [mul_apply]
  unfold rows proj
  refine Finset.sum_congr rfl fun k _ => congrArg (x (ix3 0 r k) * ·) ?_
  refine Eq.trans ?_ (wcol_at w k ⟨2304 + n.val, by omega⟩).symm
  pointwise

theorem chunk2560 (x : FVec Ideal S1x512x1024 .f32) (w : FVec Ideal S1024x3072 .bf16) (r : Fin 512) (n : Fin 256) :
    k0_pay13 (F := Ideal) (k0_pay4 x) (View.ld (Val := Elt Ideal) (S := S1024x3072) (e' := EltTy.bf16) w (Rect.unit ![0, 2560] ![1024, 256] inb_S1024x3072_S1024x256_0_2560)) (ix2 r n)
      = rows x w r (2560 + n.val) := by
  rw [mul_apply]
  unfold rows proj
  refine Finset.sum_congr rfl fun k _ => congrArg (x (ix3 0 r k) * ·) ?_
  refine Eq.trans ?_ (wcol_at w k ⟨2560 + n.val, by omega⟩).symm
  pointwise

theorem chunk2816 (x : FVec Ideal S1x512x1024 .f32) (w : FVec Ideal S1024x3072 .bf16) (r : Fin 512) (n : Fin 256) :
    k0_pay13 (F := Ideal) (k0_pay4 x) (View.ld (Val := Elt Ideal) (S := S1024x3072) (e' := EltTy.bf16) w (Rect.unit ![0, 2816] ![1024, 256] inb_S1024x3072_S1024x256_0_2816)) (ix2 r n)
      = rows x w r (2816 + n.val) := by
  rw [mul_apply]
  unfold rows proj
  refine Finset.sum_congr rfl fun k _ => congrArg (x (ix3 0 r k) * ·) ?_
  refine Eq.trans ?_ (wcol_at w k ⟨2816 + n.val, by omega⟩).symm
  pointwise

theorem first_lane : ∀ n : Fin 128, IntOp.cmpi CmpIPredicate.slt (IntOp.andi (BitVec.ofNat 32 n.val) 63#32) 32#32
    = if n.val % 64 < 32 then 1#1 else 0#1 := by decide +kernel

/-- Whether a lane lies in the first half of its head. -/
def firsts : IVec S512x128 1 :=
  cmpi .slt (andi (iota .tc S512x128 32 [1] iota_S512x128_d1_w32) (broadcast S512x128 63#32)) (broadcast S512x128 32#32)

/-- The rotation of 128 lanes: each with the lane half a head away. -/
def rope (y c s : FVec Ideal S512x128 .f32) : FVec Ideal S512x128 .f32 :=
  addf (mulf y c) (mulf (select firsts (dynamicRotate 1 96#32 none y rotates_S512x128_d1)
    (dynamicRotate 1 32#32 none y rotates_S512x128_d1)) s)

theorem rope_apply (y c s : FVec Ideal S512x128 .f32) (r : Fin 512) (n : Fin 128) :
    rope y c s (ix2 r n) = y (ix2 r n) * c (ix2 r n)
      + (if n.val % 64 < 32 then y (ix2 r ⟨(n.val + 128 - 96) % 128, Nat.mod_lt _ (by omega)⟩)
          else y (ix2 r ⟨(n.val + 128 - 32) % 128, Nat.mod_lt _ (by omega)⟩)) * s (ix2 r n) := by
  pointwise [rope, firsts]
  rw [first_lane]
  by_cases h : n.val % 64 < 32
  · rw [if_pos h, if_pos h]
    rfl
  · rw [if_neg h, if_neg h]
    rfl

/-- The rotation of 128 lanes of a row `h`, with the position's cosines and signed sines in the lanes. -/
theorem rope_turn (y c s : FVec Ideal S512x128 .f32) (h C S : ℕ → EReal) (b : ℕ) (r : Fin 512)
    (hy : ∀ n : Fin 128, y (ix2 r n) = h (b + n.val))
    (hc : ∀ n : Fin 128, c (ix2 r n) = C (n.val % 32))
    (hs : ∀ n : Fin 128, s (ix2 r n) = if n.val % 64 < 32 then -S (n.val % 32) else S (n.val % 32))
    (hb : b % 64 = 0) (n : Fin 128) : rope y c s (ix2 r n) = turn h C S (b + n.val) := by
  rw [rope_apply, hc, hs, hy]
  unfold turn
  have e : (b + n.val) % 32 = n.val % 32 := by omega
  by_cases hn : n.val % 64 < 32
  · rw [if_pos hn, if_pos hn, if_pos (by omega), hy, e]
    have a : b + (n.val + 128 - 96) % 128 = b + n.val + 32 := by omega
    rw [a]
  · rw [if_neg hn, if_neg hn, if_neg (by omega), hy, e]
    have a : b + (n.val + 128 - 32) % 128 = b + n.val - 32 := by omega
    rw [a]

end Cert.InBody
end
-- ==== Proof.InBlock.lean ====
module
public import proofs.«01_k».proof.Proof.InBody

/-!
The retention rows, the gates, the queries and the windowed keys the input projection's kernel stores in one grid step.
-/

@[expose] public section
set_option maxRecDepth 16384
noncomputable section
namespace Cert.InBlock
open Idealize.ShloMosaic Idealize.ShloMosaic.TcCoe Idealize.SL.Sem
open Cert.Kernel3Ideal Cert.Kernel3Ideal.Gen Cert.InWords Cert.InBody

/-- The first and the second 128 of 256 columns. -/
def lo (Y : FVec Ideal S512x256 .f32) : FVec Ideal S512x128 .f32 :=
  extractStridedSlice S512x128 ![0, 0] Y slices_S512x256_o0_0_S512x128
def hi (Y : FVec Ideal S512x256 .f32) : FVec Ideal S512x128 .f32 :=
  extractStridedSlice S512x128 ![0, 128] Y slices_S512x256_o0_128_S512x128

theorem lo_apply (Y : FVec Ideal S512x256 .f32) (h : ℕ → EReal) (b : ℕ) (r : Fin 512)
    (hY : ∀ n : Fin 256, Y (ix2 r n) = h (b + n.val)) (n : Fin 128) : lo Y (ix2 r n) = h (b + n.val) := by
  refine Eq.trans ?_ (hY ⟨n.val, by omega⟩)
  pointwise [lo]

theorem hi_apply (Y : FVec Ideal S512x256 .f32) (h : ℕ → EReal) (b : ℕ) (r : Fin 512)
    (hY : ∀ n : Fin 256, Y (ix2 r n) = h (b + n.val)) (n : Fin 128) : hi Y (ix2 r n) = h (b + 128 + n.val) := by
  refine Eq.trans ?_ ((hY ⟨128 + n.val, by omega⟩).trans (congrArg h (by dsimp only; omega)))
  pointwise [hi]

theorem cast_apply (Z : FVec Ideal S512x128 .f32) (r : Fin 512) (n : Fin 128) :
    shapeCast S1x512x128 Z shapeCasts_S512x128_S1x512x128 (ix3 0 r n) = Z (ix2 r n) := by
  pointwise

theorem castb_apply (Z : FVec Ideal S512x128 .f32) (r : Fin 512) (n : Fin 128) :
    shapeCast S1x512x128 (truncf .bf16 Z bitsLt_bf16_f32) shapeCasts_S512x128_S1x512x128 (ix3 0 r n) = Z (ix2 r n) := by
  pointwise

theorem scaled_apply (Z : FVec Ideal S512x128 .f32) (r : Fin 512) (n : Fin 128) :
    shapeCast S1x512x128 (mulf Z (broadcast S512x128 (Scalar.ofBits .f32 0x3E000000#32))) shapeCasts_S512x128_S1x512x128 (ix3 0 r n)
      = Z (ix2 r n) * eighth := by
  pointwise
  rfl

theorem query_apply (Z : FVec Ideal S512x128 .f32) (r : Fin 512) (n : Fin 128) :
    shapeCast S1x128x512 (truncf .bf16 (transpose S128x512 [1, 0]
      (mulf Z (broadcast S512x128 (Scalar.ofBits .f32 0x3E38AA3B#32))) transposes_S512x128_p1_0_S128x512) bitsLt_bf16_f32)
      shapeCasts_S128x512_S1x128x512 (ix3 0 n r) = Z (ix2 r n) * qScale := by
  pointwise
  rfl

theorem pay2_apply (x : FVec Ideal S1x512x128 .f32) (r : Fin 512) (n : Fin 128) :
    k0_pay2 (F := Ideal) x (ix2 r n) = x (ix3 0 r n) := by
  pointwise [k0_pay2]

theorem pay3_apply (x : FVec Ideal S1x512x128 .f32) (r : Fin 512) (n : Fin 128) :
    k0_pay3 (F := Ideal) x (ix2 r n) = x (ix3 0 r n) := by
  pointwise [k0_pay3]

/-- The rotation of the first 128 of 256 columns that start at column `b`. -/
theorem lo_turn (Y : FVec Ideal S512x256 .f32) (x2 x3 : FVec Ideal S1x512x128 .f32) (h C S : ℕ → EReal) (b : ℕ) (r : Fin 512)
    (hY : ∀ n : Fin 256, Y (ix2 r n) = h (b + n.val)) (hc : ∀ n : Fin 128, x2 (ix3 0 r n) = C (n.val % 32))
    (hs : ∀ n : Fin 128, x3 (ix3 0 r n) = if n.val % 64 < 32 then -S (n.val % 32) else S (n.val % 32))
    (hb : b % 64 = 0) (n : Fin 128) : rope (lo Y) (k0_pay2 x2) (k0_pay3 x3) (ix2 r n) = turn h C S (b + n.val) :=
  rope_turn _ _ _ h C S b r (lo_apply Y h b r hY) (fun n => (pay2_apply x2 r n).trans (hc n))
    (fun n => (pay3_apply x3 r n).trans (hs n)) hb n

theorem hi_turn (Y : FVec Ideal S512x256 .f32) (x2 x3 : FVec Ideal S1x512x128 .f32) (h C S : ℕ → EReal) (b : ℕ) (r : Fin 512)
    (hY : ∀ n : Fin 256, Y (ix2 r n) = h (b + n.val)) (hc : ∀ n : Fin 128, x2 (ix3 0 r n) = C (n.val % 32))
    (hs : ∀ n : Fin 128, x3 (ix3 0 r n) = if n.val % 64 < 32 then -S (n.val % 32) else S (n.val % 32))
    (hb : b % 64 = 0) (n : Fin 128) : rope (hi Y) (k0_pay2 x2) (k0_pay3 x3) (ix2 r n) = turn h C S (b + 128 + n.val) :=
  rope_turn _ _ _ h C S (b + 128) r (hi_apply Y h b r hY) (fun n => (pay2_apply x2 r n).trans (hc n))
    (fun n => (pay3_apply x3 r n).trans (hs n)) (by omega) n

/-- The pieces of a stored block read back. -/
theorem ret_read (p0 p1 p2 p3 p4 p5 p6 p7 p8 p9 p10 p11 : FVec Ideal S1x512x128 .f32) (W : FVec Ideal S1x512x1536 .f32)
    (q0 : ∀ (r : Fin 512) (n : Fin 128), p0 (ix3 0 r n) = W (ix3 0 r ⟨0 + n.val, by omega⟩))
    (q1 : ∀ (r : Fin 512) (n : Fin 128), p1 (ix3 0 r n) = W (ix3 0 r ⟨128 + n.val, by omega⟩))
    (q2 : ∀ (r : Fin 512) (n : Fin 128), p2 (ix3 0 r n) = W (ix3 0 r ⟨256 + n.val, by omega⟩))
    (q3 : ∀ (r : Fin 512) (n : Fin 128), p3 (ix3 0 r n) = W (ix3 0 r ⟨384 + n.val, by omega⟩))
    (q4 : ∀ (r : Fin 512) (n : Fin 128), p4 (ix3 0 r n) = W (ix3 0 r ⟨512 + n.val, by omega⟩))
    (q5 : ∀ (r : Fin 512) (n : Fin 128), p5 (ix3 0 r n) = W (ix3 0 r ⟨640 + n.val, by omega⟩))
    (q6 : ∀ (r : Fin 512) (n : Fin 128), p6 (ix3 0 r n) = W (ix3 0 r ⟨768 + n.val, by omega⟩))
    (q7 : ∀ (r : Fin 512) (n : Fin 128), p7 (ix3 0 r n) = W (ix3 0 r ⟨896 + n.val, by omega⟩))
    (q8 : ∀ (r : Fin 512) (n : Fin 128), p8 (ix3 0 r n) = W (ix3 0 r ⟨1024 + n.val, by omega⟩))
    (q9 : ∀ (r : Fin 512) (n : Fin 128), p9 (ix3 0 r n) = W (ix3 0 r ⟨1152 + n.val, by omega⟩))
    (q10 : ∀ (r : Fin 512) (n : Fin 128), p10 (ix3 0 r n) = W (ix3 0 r ⟨1280 + n.val, by omega⟩))
    (q11 : ∀ (r : Fin 512) (n : Fin 128), p11 (ix3 0 r n) = W (ix3 0 r ⟨1408 + n.val, by omega⟩)) (i : S1x512x1536.Idx) :
    View.canon (Val := Elt Ideal) (s := S1x512x1536) (e := EltTy.f32) [⟨Rect.unit ![0, 0, 1408] ![1, 512, 128] inb_S1x512x1536_S1x512x128_0_0_1408, p11⟩,
      ⟨Rect.unit ![0, 0, 1280] ![1, 512, 128] inb_S1x512x1536_S1x512x128_0_0_1280, p10⟩,
      ⟨Rect.unit ![0, 0, 1152] ![1, 512, 128] inb_S1x512x1536_S1x512x128_0_0_1152, p9⟩,
      ⟨Rect.unit ![0, 0, 1024] ![1, 512, 128] inb_S1x512x1536_S1x512x128_0_0_1024, p8⟩,
      ⟨Rect.unit ![0, 0, 896] ![1, 512, 128] inb_S1x512x1536_S1x512x128_0_0_896, p7⟩,
      ⟨Rect.unit ![0, 0, 768] ![1, 512, 128] inb_S1x512x1536_S1x512x128_0_0_768, p6⟩,
      ⟨Rect.unit ![0, 0, 640] ![1, 512, 128] inb_S1x512x1536_S1x512x128_0_0_640, p5⟩,
      ⟨Rect.unit ![0, 0, 512] ![1, 512, 128] inb_S1x512x1536_S1x512x128_0_0_512, p4⟩,
      ⟨Rect.unit ![0, 0, 384] ![1, 512, 128] inb_S1x512x1536_S1x512x128_0_0_384, p3⟩,
      ⟨Rect.unit ![0, 0, 256] ![1, 512, 128] inb_S1x512x1536_S1x512x128_0_0_256, p2⟩,
      ⟨Rect.unit ![0, 0, 128] ![1, 512, 128] inb_S1x512x1536_S1x512x128_0_0_128, p1⟩,
      ⟨Rect.unit ![0, 0, 0] ![1, 512, 128] inb_S1x512x1536_S1x512x128_0_0_0, p0⟩] i = W i := by
  canon_tiles x h
  all_goals
    have ex : x = ix3 0 (x 1) (x 2) := by idx_ext
    rw [ex]
    first
    | refine (q0 _ _).trans (congrArg W ?_); idx_ext <;> omega
    | refine (q1 _ _).trans (congrArg W ?_); idx_ext <;> omega
    | refine (q2 _ _).trans (congrArg W ?_); idx_ext <;> omega
    | refine (q3 _ _).trans (congrArg W ?_); idx_ext <;> omega
    | refine (q4 _ _).trans (congrArg W ?_); idx_ext <;> omega
    | refine (q5 _ _).trans (congrArg W ?_); idx_ext <;> omega
    | refine (q6 _ _).trans (congrArg W ?_); idx_ext <;> omega
    | refine (q7 _ _).trans (congrArg W ?_); idx_ext <;> omega
    | refine (q8 _ _).trans (congrArg W ?_); idx_ext <;> omega
    | refine (q9 _ _).trans (congrArg W ?_); idx_ext <;> omega
    | refine (q10 _ _).trans (congrArg W ?_); idx_ext <;> omega
    | refine (q11 _ _).trans (congrArg W ?_); idx_ext <;> omega

/-- The pieces of a stored block read back. -/
theorem q_read (p0 p1 p2 : FVec Ideal S1x128x512 .bf16) (W : FVec Ideal S1x384x512 .bf16)
    (q0 : ∀ (n : Fin 128) (r : Fin 512), p0 (ix3 0 n r) = W (ix3 0 ⟨0 + n.val, by omega⟩ r))
    (q1 : ∀ (n : Fin 128) (r : Fin 512), p1 (ix3 0 n r) = W (ix3 0 ⟨128 + n.val, by omega⟩ r))
    (q2 : ∀ (n : Fin 128) (r : Fin 512), p2 (ix3 0 n r) = W (ix3 0 ⟨256 + n.val, by omega⟩ r)) (i : S1x384x512.Idx) :
    View.canon (Val := Elt Ideal) (s := S1x384x512) (e := EltTy.bf16) [⟨Rect.unit ![0, 256, 0] ![1, 128, 512] inb_S1x384x512_S1x128x512_0_256_0, p2⟩,
      ⟨Rect.unit ![0, 128, 0] ![1, 128, 512] inb_S1x384x512_S1x128x512_0_128_0, p1⟩,
      ⟨Rect.unit ![0, 0, 0] ![1, 128, 512] inb_S1x384x512_S1x128x512_0_0_0, p0⟩] i = W i := by
  canon_tiles x h
  all_goals
    have ex : x = ix3 0 (x 1) (x 2) := by idx_ext
    rw [ex]
    first
    | refine (q0 _ _).trans (congrArg W ?_); idx_ext <;> omega
    | refine (q1 _ _).trans (congrArg W ?_); idx_ext <;> omega
    | refine (q2 _ _).trans (congrArg W ?_); idx_ext <;> omega

theorem ret_q (h c s : ℕ → EReal) (n m : ℕ) (l : n < 384) (e : m = 256 + n) : turn h c s m = retWord h c s n := by
  unfold retWord
  rw [if_pos l, e]

theorem ret_k (h c s : ℕ → EReal) (n m : ℕ) (l : 384 ≤ n) (l' : n < 768) (e : m = 256 + n) :
    turn h c s m * eighth = retWord h c s n := by
  unfold retWord
  rw [if_neg (by omega), if_pos l', e]

theorem ret_v (h c s : ℕ → EReal) (n m : ℕ) (l : 768 ≤ n) (e : m = 256 + n) : h m = retWord h c s n := by
  unfold retWord
  rw [if_neg (by omega), if_neg (by omega), e]

variable (m : (ℓ : Loc nD τ sig) → ℓ.ty.Contents (Elt Ideal)) (c : Dev nD) (t : Fin cfg0.N)

set_option maxHeartbeats 2000000 in
/-- The gates. -/
theorem gate (x0 : FVec Ideal S1x512x1024 .f32) (x2 x3 : FVec Ideal S1x512x128 .f32) (x4 : FVec Ideal S1024x3072 .bf16)
    (e0 : (iblk (F := Ideal) m c 0 t : FVec Ideal S1x512x1024 .f32) = x0)
    (e2 : (iblk (F := Ideal) m c 2 t : FVec Ideal S1x512x128 .f32) = x2)
    (e3 : (iblk (F := Ideal) m c 3 t : FVec Ideal S1x512x128 .f32) = x3)
    (e4 : (iblk (F := Ideal) m c 4 t : FVec Ideal S1024x3072 .bf16) = x4)
    (C S : Fin 512 → ℕ → EReal) (hc : ∀ (r : Fin 512) (n : Fin 128), x2 (ix3 0 r n) = C r (n.val % 32))
    (hs : ∀ (r : Fin 512) (n : Fin 128), x3 (ix3 0 r n) = if n.val % 64 < 32 then -S r (n.val % 32) else S r (n.val % 32))
    (r : Fin 512) (n : Fin 128) :
    ((outsAt0 (F := Ideal) m c t).2.2.2.2.2.1 : FVec Ideal S1x512x128 .f32) (ix3 0 r n)
      = rows x0 x4 r (2944 + n.val) := by
  unfold outsAt0; frame_out
  simp only [e0, e2, e3, e4]
  clear e0 e2 e3 e4
  exact (cast_apply (hi (k0_pay13 (k0_pay4 x0) _)) r n).trans (hi_apply _ _ 2816 r (chunk2816 x0 x4 r) n)

set_option maxHeartbeats 2000000 in
/-- The windowed keys. -/
theorem keysW (x0 : FVec Ideal S1x512x1024 .f32) (x2 x3 : FVec Ideal S1x512x128 .f32) (x4 : FVec Ideal S1024x3072 .bf16)
    (e0 : (iblk (F := Ideal) m c 0 t : FVec Ideal S1x512x1024 .f32) = x0)
    (e2 : (iblk (F := Ideal) m c 2 t : FVec Ideal S1x512x128 .f32) = x2)
    (e3 : (iblk (F := Ideal) m c 3 t : FVec Ideal S1x512x128 .f32) = x3)
    (e4 : (iblk (F := Ideal) m c 4 t : FVec Ideal S1024x3072 .bf16) = x4)
    (C S : Fin 512 → ℕ → EReal) (hc : ∀ (r : Fin 512) (n : Fin 128), x2 (ix3 0 r n) = C r (n.val % 32))
    (hs : ∀ (r : Fin 512) (n : Fin 128), x3 (ix3 0 r n) = if n.val % 64 < 32 then -S r (n.val % 32) else S r (n.val % 32))
    (r : Fin 512) (n : Fin 128) :
    ((outsAt0 (F := Ideal) m c t).2.2.2.2.2.2.2.2.1 : FVec Ideal S1x512x128 .bf16) (ix3 0 r n)
      = turn (rows x0 x4 r) (C r) (S r) (2688 + n.val) := by
  unfold outsAt0; frame_out
  simp only [e0, e2, e3, e4]
  clear e0 e2 e3 e4
  exact (castb_apply (rope (hi (k0_pay13 (k0_pay4 x0) _)) (k0_pay2 x2) (k0_pay3 x3)) r n).trans
    (hi_turn _ x2 x3 _ (C r) (S r) 2560 r (chunk2560 x0 x4 r) (hc r) (hs r) rfl n)

set_option maxHeartbeats 2000000 in
/-- The scaled queries, positions along the lanes. -/
theorem queries (x0 : FVec Ideal S1x512x1024 .f32) (x2 x3 : FVec Ideal S1x512x128 .f32) (x4 : FVec Ideal S1024x3072 .bf16)
    (e0 : (iblk (F := Ideal) m c 0 t : FVec Ideal S1x512x1024 .f32) = x0)
    (e2 : (iblk (F := Ideal) m c 2 t : FVec Ideal S1x512x128 .f32) = x2)
    (e3 : (iblk (F := Ideal) m c 3 t : FVec Ideal S1x512x128 .f32) = x3)
    (e4 : (iblk (F := Ideal) m c 4 t : FVec Ideal S1024x3072 .bf16) = x4)
    (C S : Fin 512 → ℕ → EReal) (hc : ∀ (r : Fin 512) (n : Fin 128), x2 (ix3 0 r n) = C r (n.val % 32))
    (hs : ∀ (r : Fin 512) (n : Fin 128), x3 (ix3 0 r n) = if n.val % 64 < 32 then -S r (n.val % 32) else S r (n.val % 32))
    (n : Fin 384) (r : Fin 512) :
    ((outsAt0 (F := Ideal) m c t).2.2.1 : FVec Ideal S1x384x512 .bf16) (ix3 0 n r)
      = qWord (rows x0 x4 r) (C r) (S r) n.val := by
  unfold outsAt0; frame_out
  simp only [e0, e2, e3, e4]
  clear e0 e2 e3 e4
  refine q_read _ _ _ (fun i => qWord (rows x0 x4 (i 2)) (C (i 2)) (S (i 2)) (i 1).val) ?_ ?_ ?_ (ix3 0 n r)
  · intro n r
    exact (query_apply (rope (lo (k0_pay13 (k0_pay4 x0) _)) (k0_pay2 x2) (k0_pay3 x3)) r n).trans
      (congrArg (· * qScale) ((lo_turn _ x2 x3 _ (C r) (S r) 1792 r (chunk1792 x0 x4 r) (hc r) (hs r) rfl n).trans
        (congrArg (turn _ _ _) (show 1792 + n.val = 1792 + (0 + n.val) by omega))))
  · intro n r
    exact (query_apply (rope (hi (k0_pay13 (k0_pay4 x0) _)) (k0_pay2 x2) (k0_pay3 x3)) r n).trans
      (congrArg (· * qScale) ((hi_turn _ x2 x3 _ (C r) (S r) 1792 r (chunk1792 x0 x4 r) (hc r) (hs r) rfl n).trans
        (congrArg (turn _ _ _) (show 1920 + n.val = 1792 + (128 + n.val) by omega))))
  · intro n r
    exact (query_apply (rope (lo (k0_pay13 (k0_pay4 x0) _)) (k0_pay2 x2) (k0_pay3 x3)) r n).trans
      (congrArg (· * qScale) ((lo_turn _ x2 x3 _ (C r) (S r) 2048 r (chunk2048 x0 x4 r) (hc r) (hs r) rfl n).trans
        (congrArg (turn _ _ _) (show 2048 + n.val = 1792 + (256 + n.val) by omega))))

set_option maxHeartbeats 2000000 in
/-- The retention rows. -/
theorem ret (x0 : FVec Ideal S1x512x1024 .f32) (x2 x3 : FVec Ideal S1x512x128 .f32) (x4 : FVec Ideal S1024x3072 .bf16)
    (e0 : (iblk (F := Ideal) m c 0 t : FVec Ideal S1x512x1024 .f32) = x0)
    (e2 : (iblk (F := Ideal) m c 2 t : FVec Ideal S1x512x128 .f32) = x2)
    (e3 : (iblk (F := Ideal) m c 3 t : FVec Ideal S1x512x128 .f32) = x3)
    (e4 : (iblk (F := Ideal) m c 4 t : FVec Ideal S1024x3072 .bf16) = x4)
    (C S : Fin 512 → ℕ → EReal) (hc : ∀ (r : Fin 512) (n : Fin 128), x2 (ix3 0 r n) = C r (n.val % 32))
    (hs : ∀ (r : Fin 512) (n : Fin 128), x3 (ix3 0 r n) = if n.val % 64 < 32 then -S r (n.val % 32) else S r (n.val % 32))
    (r : Fin 512) (n : Fin 1536) :
    ((outsAt0 (F := Ideal) m c t).2.1 : FVec Ideal S1x512x1536 .f32) (ix3 0 r n)
      = retWord (rows x0 x4 r) (C r) (S r) n.val := by
  unfold outsAt0; frame_out
  simp only [e0, e2, e3, e4]
  clear e0 e2 e3 e4
  refine ret_read _ _ _ _ _ _ _ _ _ _ _ _ (fun i => retWord (rows x0 x4 (i 1)) (C (i 1)) (S (i 1)) (i 2).val) ?_ ?_ ?_ ?_ ?_ ?_ ?_ ?_ ?_ ?_ ?_ ?_ (ix3 0 r n)
  · intro r n
    exact (cast_apply (rope (lo (k0_pay13 (k0_pay4 x0) _)) (k0_pay2 x2) (k0_pay3 x3)) r n).trans
      ((lo_turn _ x2 x3 _ (C r) (S r) 256 r (chunk256 x0 x4 r) (hc r) (hs r) rfl n).trans
        (ret_q _ _ _ (0 + n.val) _ (by omega) (by omega)))
  · intro r n
    exact (cast_apply (rope (hi (k0_pay13 (k0_pay4 x0) _)) (k0_pay2 x2) (k0_pay3 x3)) r n).trans
      ((hi_turn _ x2 x3 _ (C r) (S r) 256 r (chunk256 x0 x4 r) (hc r) (hs r) rfl n).trans
        (ret_q _ _ _ (128 + n.val) _ (by omega) (by omega)))
  · intro r n
    exact (cast_apply (rope (lo (k0_pay13 (k0_pay4 x0) _)) (k0_pay2 x2) (k0_pay3 x3)) r n).trans
      ((lo_turn _ x2 x3 _ (C r) (S r) 512 r (chunk512 x0 x4 r) (hc r) (hs r) rfl n).trans
        (ret_q _ _ _ (256 + n.val) _ (by omega) (by omega)))
  · intro r n
    exact (scaled_apply (rope (hi (k0_pay13 (k0_pay4 x0) _)) (k0_pay2 x2) (k0_pay3 x3)) r n).trans
      ((congrArg (· * eighth) (hi_turn _ x2 x3 _ (C r) (S r) 512 r (chunk512 x0 x4 r) (hc r) (hs r) rfl n)).trans
        (ret_k _ _ _ (384 + n.val) _ (by omega) (by omega) (by omega)))
  · intro r n
    exact (scaled_apply (rope (lo (k0_pay13 (k0_pay4 x0) _)) (k0_pay2 x2) (k0_pay3 x3)) r n).trans
      ((congrArg (· * eighth) (lo_turn _ x2 x3 _ (C r) (S r) 768 r (chunk768 x0 x4 r) (hc r) (hs r) rfl n)).trans
        (ret_k _ _ _ (512 + n.val) _ (by omega) (by omega) (by omega)))
  · intro r n
    exact (scaled_apply (rope (hi (k0_pay13 (k0_pay4 x0) _)) (k0_pay2 x2) (k0_pay3 x3)) r n).trans
      ((congrArg (· * eighth) (hi_turn _ x2 x3 _ (C r) (S r) 768 r (chunk768 x0 x4 r) (hc r) (hs r) rfl n)).trans
        (ret_k _ _ _ (640 + n.val) _ (by omega) (by omega) (by omega)))
  · intro r n
    exact (cast_apply (lo (k0_pay13 (k0_pay4 x0) _)) r n).trans (lo_apply _ _ 1024 r (chunk1024 x0 x4 r) n |>.trans
      (ret_v _ _ _ (768 + n.val) _ (by omega) (by omega)))
  · intro r n
    exact (cast_apply (hi (k0_pay13 (k0_pay4 x0) _)) r n).trans (hi_apply _ _ 1024 r (chunk1024 x0 x4 r) n |>.trans
      (ret_v _ _ _ (896 + n.val) _ (by omega) (by omega)))
  · intro r n
    exact (cast_apply (lo (k0_pay13 (k0_pay4 x0) _)) r n).trans (lo_apply _ _ 1280 r (chunk1280 x0 x4 r) n |>.trans
      (ret_v _ _ _ (1024 + n.val) _ (by omega) (by omega)))
  · intro r n
    exact (cast_apply (hi (k0_pay13 (k0_pay4 x0) _)) r n).trans (hi_apply _ _ 1280 r (chunk1280 x0 x4 r) n |>.trans
      (ret_v _ _ _ (1152 + n.val) _ (by omega) (by omega)))
  · intro r n
    exact (cast_apply (lo (k0_pay13 (k0_pay4 x0) _)) r n).trans (lo_apply _ _ 1536 r (chunk1536 x0 x4 r) n |>.trans
      (ret_v _ _ _ (1280 + n.val) _ (by omega) (by omega)))
  · intro r n
    exact (cast_apply (hi (k0_pay13 (k0_pay4 x0) _)) r n).trans (hi_apply _ _ 1536 r (chunk1536 x0 x4 r) n |>.trans
      (ret_v _ _ _ (1408 + n.val) _ (by omega) (by omega)))

end Cert.InBlock
end
-- ==== Proof.InBlockB.lean ====
module
public import proofs.«01_k».proof.Proof.InBlock

/-!
The selected keys, the values and the rows of sixteen positions the input projection's kernel stores in one grid step.
-/

@[expose] public section
set_option maxRecDepth 16384
noncomputable section
namespace Cert.InBlockB
open Idealize.ShloMosaic Idealize.ShloMosaic.TcCoe Idealize.SL.Sem
open Cert.InBlock
open Cert.Kernel3Ideal Cert.Kernel3Ideal.Gen Cert.InWords Cert.InBody

/-- The position of row `r` of step `j`'s tile, as the kernel computes it. -/
theorem pos_word : ∀ (j : Fin 8) (r : Fin 512),
    IntOp.addi (IntOp.muli (BitVec.ofNat 32 j.val) 512#32) (BitVec.ofNat 32 r.val) = BitVec.ofNat 32 (512 * j.val + r.val) := by
  decide +kernel

/-- A position over 64, rounded down, as the kernel computes it. -/
def block64 (b : BitVec 32) : BitVec 32 :=
  Scalar.select (IntOp.andi (IntOp.cmpi .ne (IntOp.subi (BitVec.setWidth 32 (IntOp.cmpi .sgt b 0#32))
      (BitVec.setWidth 32 (IntOp.cmpi .slt b 0#32)))
    (Scalar.subi (Scalar.extui (Scalar.cmpi .sgt 64#32 0#32)) (Scalar.extui (Scalar.cmpi .slt 64#32 0#32))))
    (IntOp.cmpi .ne (IntOp.remsi ArithUnit.vector b 64#32) 0#32))
    (IntOp.subi (IntOp.divsi ArithUnit.vector b 64#32) 1#32) (IntOp.divsi ArithUnit.vector b 64#32)

theorem block64_nat : ∀ t : Fin 4096, block64 (BitVec.ofNat 32 t.val) = BitVec.ofNat 32 (t.val / 64) := by
  decide +kernel

theorem lane_block : ∀ (n : Fin 128) (q : Fin 64), 64 ≤ n.val →
    IntOp.cmpi CmpIPredicate.eq (IntOp.subi (BitVec.ofNat 32 n.val) 64#32) (BitVec.ofNat 32 q.val)
      = if n.val - 64 = q.val then 1#1 else 0#1 := by decide +kernel

theorem onehot (i : grid0.Coords) (r : Fin 512) (n : Fin 128) (hn : 64 ≤ n.val) :
    k0_pay11 (F := Ideal) k0_pay7 (k0_pay8 i) (k0_pay9 i) (k0_pay10 i) (ix2 r n)
      = if n.val - 64 = (512 * (i 1).val + r.val) / 64 then 1 else 0 := by
  have hj : (i 1).val < 8 := (i 1).isLt
  have e : IntOp.addi (Scalar.muli (BitVec.ofNat 32 (i 1).val) 512#32) (BitVec.ofNat 32 r.val)
      = BitVec.ofNat 32 (512 * (i 1).val + r.val) := pos_word ⟨(i 1).val, hj⟩ r
  pointwise [k0_pay11, k0_pay7, k0_pay8, k0_pay9, k0_pay10, k0_pay6]
  rw [e]
  show Scalar.select (IntOp.cmpi .eq _ (block64 (BitVec.ofNat 32 (512 * (i 1).val + r.val)))) _ _ = _
  rw [block64_nat ⟨512 * (i 1).val + r.val, by omega⟩]
  have l := lane_block n ⟨(512 * (i 1).val + r.val) / 64, by omega⟩ hn
  dsimp only at l ⊢
  rw [l]
  by_cases h : n.val - 64 = (512 * (i 1).val + r.val) / 64
  · rw [if_pos h, if_pos h]
    rfl
  · rw [if_neg h, if_neg h]
    rfl

theorem first_half : ∀ n : Fin 128, IntOp.cmpi CmpIPredicate.slt (BitVec.ofNat 32 n.val) 64#32
    = if n.val < 64 then 1#1 else 0#1 := by decide +kernel

theorem ks_first (Z O : FVec Ideal S512x128 .f32) (r : Fin 512) (n : Fin 128) :
    shapeCast S1x1x512x128 (truncf .bf16 (select k0_pay5 Z O) bitsLt_bf16_f32) shapeCasts_S512x128_S1x1x512x128 (ix4 0 0 r n)
      = if n.val < 64 then Z (ix2 r n) else O (ix2 r n) := by
  pointwise [k0_pay5]
  rw [first_half]
  by_cases h : n.val < 64
  · rw [if_pos h, if_pos h]
    rfl
  · rw [if_neg h, if_neg h]
    rfl

theorem ks_second (Z O : FVec Ideal S512x128 .f32) (r : Fin 512) (n : Fin 128) :
    shapeCast S1x1x512x128 (truncf .bf16 (select k0_pay5 (dynamicRotate 1 64#32 none Z rotates_S512x128_d1) O) bitsLt_bf16_f32)
      shapeCasts_S512x128_S1x1x512x128 (ix4 0 0 r n)
      = if n.val < 64 then Z (ix2 r ⟨(n.val + 128 - 64) % 128, Nat.mod_lt _ (by omega)⟩) else O (ix2 r n) := by
  pointwise [k0_pay5]
  rw [first_half]
  by_cases h : n.val < 64
  · rw [if_pos h, if_pos h]
    rfl
  · rw [if_neg h, if_neg h]
    rfl

theorem first_row : ∀ n : Fin 80, IntOp.cmpi CmpIPredicate.slt (BitVec.ofNat 32 n.val) 64#32
    = if n.val < 64 then 1#1 else 0#1 := by decide +kernel

theorem v_first (Z : FVec Ideal S512x128 .f32) (r : Fin 80) (u : Fin 512) :
    shapeCast S1x1x1x80x512 (truncf .bf16 (extractStridedSlice S80x512 ![0, 0] (select k0_pay12 (transpose S128x512 [1, 0] Z transposes_S512x128_p1_0_S128x512)
      (broadcast S128x512 (Scalar.ofBits (F := Ideal) .f32 0x3F800000#32))) slices_S128x512_o0_0_S80x512) bitsLt_bf16_f32)
      shapeCasts_S80x512_S1x1x1x80x512 (ix5 0 0 0 r u)
      = if r.val < 64 then Z (ix2 u ⟨r.val, by omega⟩) else 1 := by
  pointwise [k0_pay12]
  rw [first_row]
  by_cases h : r.val < 64
  · rw [if_pos h, if_pos h]
    refine (congrArg Z ?_ : _)
    idx_ext <;> omega
  · rw [if_neg h, if_neg h]
    rfl

theorem v_second (Z : FVec Ideal S512x128 .f32) (r : Fin 80) (u : Fin 512) :
    shapeCast S1x1x1x80x512 (truncf .bf16 (extractStridedSlice S80x512 ![0, 0] (select k0_pay12 (dynamicRotate 0 64#32 none (transpose S128x512 [1, 0] Z transposes_S512x128_p1_0_S128x512) rotates_S128x512_d0)
      (broadcast S128x512 (Scalar.ofBits (F := Ideal) .f32 0x3F800000#32))) slices_S128x512_o0_0_S80x512) bitsLt_bf16_f32)
      shapeCasts_S80x512_S1x1x1x80x512 (ix5 0 0 0 r u)
      = if r.val < 64 then Z (ix2 u ⟨(r.val + 128 - 64) % 128, Nat.mod_lt _ (by omega)⟩) else 1 := by
  pointwise [k0_pay12]
  rw [first_row]
  by_cases h : r.val < 64
  · rw [if_pos h, if_pos h]
    refine (congrArg Z ?_ : _)
    idx_ext <;> omega
  · rw [if_neg h, if_neg h]
    rfl

theorem w_first0 (Z : FVec Ideal S512x128 .f32) (r : Fin 80) (u : Fin 128) :
    shapeCast S1x1x1x80x128 (truncf .bf16 (extractStridedSlice S80x128 ![0, 0] (select k0_pay12 (transpose S128x512 [1, 0] Z transposes_S512x128_p1_0_S128x512)
      (broadcast S128x512 (Scalar.ofBits (F := Ideal) .f32 0x3F800000#32))) slices_S128x512_o0_0_S80x128) bitsLt_bf16_f32)
      shapeCasts_S80x128_S1x1x1x80x128 (ix5 0 0 0 r u)
      = if r.val < 64 then Z (ix2 ⟨0 + u.val, by omega⟩ ⟨r.val, by omega⟩) else 1 := by
  pointwise [k0_pay12]
  rw [first_row]
  by_cases h : r.val < 64
  · rw [if_pos h, if_pos h]
    refine (congrArg Z ?_ : _)
    idx_ext <;> omega
  · rw [if_neg h, if_neg h]
    rfl

theorem w_second0 (Z : FVec Ideal S512x128 .f32) (r : Fin 80) (u : Fin 128) :
    shapeCast S1x1x1x80x128 (truncf .bf16 (extractStridedSlice S80x128 ![0, 0] (select k0_pay12 (dynamicRotate 0 64#32 none (transpose S128x512 [1, 0] Z transposes_S512x128_p1_0_S128x512) rotates_S128x512_d0)
      (broadcast S128x512 (Scalar.ofBits (F := Ideal) .f32 0x3F800000#32))) slices_S128x512_o0_0_S80x128) bitsLt_bf16_f32)
      shapeCasts_S80x128_S1x1x1x80x128 (ix5 0 0 0 r u)
      = if r.val < 64 then Z (ix2 ⟨0 + u.val, by omega⟩ ⟨(r.val + 128 - 64) % 128, Nat.mod_lt _ (by omega)⟩) else 1 := by
  pointwise [k0_pay12]
  rw [first_row]
  by_cases h : r.val < 64
  · rw [if_pos h, if_pos h]
    refine (congrArg Z ?_ : _)
    idx_ext <;> omega
  · rw [if_neg h, if_neg h]
    rfl

theorem w_first1 (Z : FVec Ideal S512x128 .f32) (r : Fin 80) (u : Fin 128) :
    shapeCast S1x1x1x80x128 (truncf .bf16 (extractStridedSlice S80x128 ![0, 128] (select k0_pay12 (transpose S128x512 [1, 0] Z transposes_S512x128_p1_0_S128x512)
      (broadcast S128x512 (Scalar.ofBits (F := Ideal) .f32 0x3F800000#32))) slices_S128x512_o0_128_S80x128) bitsLt_bf16_f32)
      shapeCasts_S80x128_S1x1x1x80x128 (ix5 0 0 0 r u)
      = if r.val < 64 then Z (ix2 ⟨128 + u.val, by omega⟩ ⟨r.val, by omega⟩) else 1 := by
  pointwise [k0_pay12]
  rw [first_row]
  by_cases h : r.val < 64
  · rw [if_pos h, if_pos h]
    refine (congrArg Z ?_ : _)
    idx_ext <;> omega
  · rw [if_neg h, if_neg h]
    rfl

theorem w_second1 (Z : FVec Ideal S512x128 .f32) (r : Fin 80) (u : Fin 128) :
    shapeCast S1x1x1x80x128 (truncf .bf16 (extractStridedSlice S80x128 ![0, 128] (select k0_pay12 (dynamicRotate 0 64#32 none (transpose S128x512 [1, 0] Z transposes_S512x128_p1_0_S128x512) rotates_S128x512_d0)
      (broadcast S128x512 (Scalar.ofBits (F := Ideal) .f32 0x3F800000#32))) slices_S128x512_o0_128_S80x128) bitsLt_bf16_f32)
      shapeCasts_S80x128_S1x1x1x80x128 (ix5 0 0 0 r u)
      = if r.val < 64 then Z (ix2 ⟨128 + u.val, by omega⟩ ⟨(r.val + 128 - 64) % 128, Nat.mod_lt _ (by omega)⟩) else 1 := by
  pointwise [k0_pay12]
  rw [first_row]
  by_cases h : r.val < 64
  · rw [if_pos h, if_pos h]
    refine (congrArg Z ?_ : _)
    idx_ext <;> omega
  · rw [if_neg h, if_neg h]
    rfl

theorem w_first2 (Z : FVec Ideal S512x128 .f32) (r : Fin 80) (u : Fin 128) :
    shapeCast S1x1x1x80x128 (truncf .bf16 (extractStridedSlice S80x128 ![0, 256] (select k0_pay12 (transpose S128x512 [1, 0] Z transposes_S512x128_p1_0_S128x512)
      (broadcast S128x512 (Scalar.ofBits (F := Ideal) .f32 0x3F800000#32))) slices_S128x512_o0_256_S80x128) bitsLt_bf16_f32)
      shapeCasts_S80x128_S1x1x1x80x128 (ix5 0 0 0 r u)
      = if r.val < 64 then Z (ix2 ⟨256 + u.val, by omega⟩ ⟨r.val, by omega⟩) else 1 := by
  pointwise [k0_pay12]
  rw [first_row]
  by_cases h : r.val < 64
  · rw [if_pos h, if_pos h]
    refine (congrArg Z ?_ : _)
    idx_ext <;> omega
  · rw [if_neg h, if_neg h]
    rfl

theorem w_second2 (Z : FVec Ideal S512x128 .f32) (r : Fin 80) (u : Fin 128) :
    shapeCast S1x1x1x80x128 (truncf .bf16 (extractStridedSlice S80x128 ![0, 256] (select k0_pay12 (dynamicRotate 0 64#32 none (transpose S128x512 [1, 0] Z transposes_S512x128_p1_0_S128x512) rotates_S128x512_d0)
      (broadcast S128x512 (Scalar.ofBits (F := Ideal) .f32 0x3F800000#32))) slices_S128x512_o0_256_S80x128) bitsLt_bf16_f32)
      shapeCasts_S80x128_S1x1x1x80x128 (ix5 0 0 0 r u)
      = if r.val < 64 then Z (ix2 ⟨256 + u.val, by omega⟩ ⟨(r.val + 128 - 64) % 128, Nat.mod_lt _ (by omega)⟩) else 1 := by
  pointwise [k0_pay12]
  rw [first_row]
  by_cases h : r.val < 64
  · rw [if_pos h, if_pos h]
    refine (congrArg Z ?_ : _)
    idx_ext <;> omega
  · rw [if_neg h, if_neg h]
    rfl

theorem w_first3 (Z : FVec Ideal S512x128 .f32) (r : Fin 80) (u : Fin 128) :
    shapeCast S1x1x1x80x128 (truncf .bf16 (extractStridedSlice S80x128 ![0, 384] (select k0_pay12 (transpose S128x512 [1, 0] Z transposes_S512x128_p1_0_S128x512)
      (broadcast S128x512 (Scalar.ofBits (F := Ideal) .f32 0x3F800000#32))) slices_S128x512_o0_384_S80x128) bitsLt_bf16_f32)
      shapeCasts_S80x128_S1x1x1x80x128 (ix5 0 0 0 r u)
      = if r.val < 64 then Z (ix2 ⟨384 + u.val, by omega⟩ ⟨r.val, by omega⟩) else 1 := by
  pointwise [k0_pay12]
  rw [first_row]
  by_cases h : r.val < 64
  · rw [if_pos h, if_pos h]
    refine (congrArg Z ?_ : _)
    idx_ext <;> omega
  · rw [if_neg h, if_neg h]
    rfl

theorem w_second3 (Z : FVec Ideal S512x128 .f32) (r : Fin 80) (u : Fin 128) :
    shapeCast S1x1x1x80x128 (truncf .bf16 (extractStridedSlice S80x128 ![0, 384] (select k0_pay12 (dynamicRotate 0 64#32 none (transpose S128x512 [1, 0] Z transposes_S512x128_p1_0_S128x512) rotates_S128x512_d0)
      (broadcast S128x512 (Scalar.ofBits (F := Ideal) .f32 0x3F800000#32))) slices_S128x512_o0_384_S80x128) bitsLt_bf16_f32)
      shapeCasts_S80x128_S1x1x1x80x128 (ix5 0 0 0 r u)
      = if r.val < 64 then Z (ix2 ⟨384 + u.val, by omega⟩ ⟨(r.val + 128 - 64) % 128, Nat.mod_lt _ (by omega)⟩) else 1 := by
  pointwise [k0_pay12]
  rw [first_row]
  by_cases h : r.val < 64
  · rw [if_pos h, if_pos h]
    refine (congrArg Z ?_ : _)
    idx_ext <;> omega
  · rw [if_neg h, if_neg h]
    rfl

variable (m : (ℓ : Loc nD τ sig) → ℓ.ty.Contents (Elt Ideal)) (c : Dev nD) (t : Fin cfg0.N)

end Cert.InBlockB
end
-- ==== Proof.InBlockC.lean ====
module
public import proofs.«01_k».proof.Proof.InBlockB

/-!
The selected keys, the values and the rows of sixteen positions the input projection's kernel stores in one grid step.
-/

@[expose] public section
set_option maxRecDepth 16384
noncomputable section
namespace Cert.InBlockC
open Idealize.ShloMosaic Idealize.ShloMosaic.TcCoe Idealize.SL.Sem
open Cert.InBlock Cert.InBlockB
open Cert.Kernel3Ideal Cert.Kernel3Ideal.Gen Cert.InWords Cert.InBody

/-- The pieces of a stored block read back. -/
theorem ks_read (p0 p1 : FVec Ideal S1x1x512x128 .bf16) (W : FVec Ideal S1x2x512x128 .bf16)
    (q0 : ∀ (r : Fin 512) (n : Fin 128), p0 (ix4 0 0 r n) = W (ix4 0 0 r n))
    (q1 : ∀ (r : Fin 512) (n : Fin 128), p1 (ix4 0 0 r n) = W (ix4 0 1 r n)) (i : S1x2x512x128.Idx) :
    View.canon (Val := Elt Ideal) (s := S1x2x512x128) (e := EltTy.bf16) [⟨Rect.unit ![0, 1, 0, 0] ![1, 1, 512, 128] inb_S1x2x512x128_S1x1x512x128_0_1_0_0, p1⟩,
      ⟨Rect.unit ![0, 0, 0, 0] ![1, 1, 512, 128] inb_S1x2x512x128_S1x1x512x128_0_0_0_0, p0⟩] i = W i := by
  canon_tiles x h
  all_goals
    have ex : x = ix4 0 0 (x 2) (x 3) := by idx_ext
    rw [ex]
    first
    | refine (q0 _ _).trans (congrArg W ?_); idx_ext <;> omega
    | refine (q1 _ _).trans (congrArg W ?_); idx_ext <;> omega

/-- The pieces of a stored block read back. -/
theorem vs_read (p0 p1 : FVec Ideal S1x1x1x80x512 .bf16) (W : FVec Ideal S1x2x1x80x512 .bf16)
    (q0 : ∀ (r : Fin 80) (u : Fin 512), p0 (ix5 0 0 0 r u) = W (ix5 0 0 0 r u))
    (q1 : ∀ (r : Fin 80) (u : Fin 512), p1 (ix5 0 0 0 r u) = W (ix5 0 1 0 r u)) (i : S1x2x1x80x512.Idx) :
    View.canon (Val := Elt Ideal) (s := S1x2x1x80x512) (e := EltTy.bf16) [⟨Rect.unit ![0, 1, 0, 0, 0] ![1, 1, 1, 80, 512] inb_S1x2x1x80x512_S1x1x1x80x512_0_1_0_0_0, p1⟩,
      ⟨Rect.unit ![0, 0, 0, 0, 0] ![1, 1, 1, 80, 512] inb_S1x2x1x80x512_S1x1x1x80x512_0_0_0_0_0, p0⟩] i = W i := by
  canon_tiles x h
  all_goals
    have ex : x = ix5 0 0 0 (x 3) (x 4) := by idx_ext
    rw [ex]
    first
    | refine (q0 _ _).trans (congrArg W ?_); idx_ext <;> omega
    | refine (q1 _ _).trans (congrArg W ?_); idx_ext <;> omega

/-- The pieces of a stored block read back. -/
theorem vw_read (p0 p1 p2 p3 p4 p5 p6 p7 : FVec Ideal S1x1x1x80x128 .bf16) (W : FVec Ideal S1x2x4x80x128 .bf16)
    (q0 : ∀ (r : Fin 80) (u : Fin 128), p0 (ix5 0 0 0 r u) = W (ix5 0 0 0 r u))
    (q1 : ∀ (r : Fin 80) (u : Fin 128), p1 (ix5 0 0 0 r u) = W (ix5 0 0 1 r u))
    (q2 : ∀ (r : Fin 80) (u : Fin 128), p2 (ix5 0 0 0 r u) = W (ix5 0 0 2 r u))
    (q3 : ∀ (r : Fin 80) (u : Fin 128), p3 (ix5 0 0 0 r u) = W (ix5 0 0 3 r u))
    (q4 : ∀ (r : Fin 80) (u : Fin 128), p4 (ix5 0 0 0 r u) = W (ix5 0 1 0 r u))
    (q5 : ∀ (r : Fin 80) (u : Fin 128), p5 (ix5 0 0 0 r u) = W (ix5 0 1 1 r u))
    (q6 : ∀ (r : Fin 80) (u : Fin 128), p6 (ix5 0 0 0 r u) = W (ix5 0 1 2 r u))
    (q7 : ∀ (r : Fin 80) (u : Fin 128), p7 (ix5 0 0 0 r u) = W (ix5 0 1 3 r u)) (i : S1x2x4x80x128.Idx) :
    View.canon (Val := Elt Ideal) (s := S1x2x4x80x128) (e := EltTy.bf16) [⟨Rect.unit ![0, 1, 3, 0, 0] ![1, 1, 1, 80, 128] inb_S1x2x4x80x128_S1x1x1x80x128_0_1_3_0_0, p7⟩,
      ⟨Rect.unit ![0, 1, 2, 0, 0] ![1, 1, 1, 80, 128] inb_S1x2x4x80x128_S1x1x1x80x128_0_1_2_0_0, p6⟩,
      ⟨Rect.unit ![0, 1, 1, 0, 0] ![1, 1, 1, 80, 128] inb_S1x2x4x80x128_S1x1x1x80x128_0_1_1_0_0, p5⟩,
      ⟨Rect.unit ![0, 1, 0, 0, 0] ![1, 1, 1, 80, 128] inb_S1x2x4x80x128_S1x1x1x80x128_0_1_0_0_0, p4⟩,
      ⟨Rect.unit ![0, 0, 3, 0, 0] ![1, 1, 1, 80, 128] inb_S1x2x4x80x128_S1x1x1x80x128_0_0_3_0_0, p3⟩,
      ⟨Rect.unit ![0, 0, 2, 0, 0] ![1, 1, 1, 80, 128] inb_S1x2x4x80x128_S1x1x1x80x128_0_0_2_0_0, p2⟩,
      ⟨Rect.unit ![0, 0, 1, 0, 0] ![1, 1, 1, 80, 128] inb_S1x2x4x80x128_S1x1x1x80x128_0_0_1_0_0, p1⟩,
      ⟨Rect.unit ![0, 0, 0, 0, 0] ![1, 1, 1, 80, 128] inb_S1x2x4x80x128_S1x1x1x80x128_0_0_0_0_0, p0⟩] i = W i := by
  canon_tiles x h
  all_goals
    have ex : x = ix5 0 0 0 (x 3) (x 4) := by idx_ext
    rw [ex]
    first
    | refine (q0 _ _).trans (congrArg W ?_); idx_ext <;> omega
    | refine (q1 _ _).trans (congrArg W ?_); idx_ext <;> omega
    | refine (q2 _ _).trans (congrArg W ?_); idx_ext <;> omega
    | refine (q3 _ _).trans (congrArg W ?_); idx_ext <;> omega
    | refine (q4 _ _).trans (congrArg W ?_); idx_ext <;> omega
    | refine (q5 _ _).trans (congrArg W ?_); idx_ext <;> omega
    | refine (q6 _ _).trans (congrArg W ?_); idx_ext <;> omega
    | refine (q7 _ _).trans (congrArg W ?_); idx_ext <;> omega

/-- The pieces of a stored block read back. -/
theorem cmp_read (p0 p1 p2 p3 p4 p5 p6 p7 p8 p9 p10 p11 p12 p13 p14 p15 : FVec Ideal S1x32x128 .f32) (W : FVec Ideal S1x32x2048 .f32)
    (q0 : ∀ (u : Fin 32) (n : Fin 128), p0 (ix3 0 u n) = W (ix3 0 u ⟨0 + n.val, by omega⟩))
    (q1 : ∀ (u : Fin 32) (n : Fin 128), p1 (ix3 0 u n) = W (ix3 0 u ⟨128 + n.val, by omega⟩))
    (q2 : ∀ (u : Fin 32) (n : Fin 128), p2 (ix3 0 u n) = W (ix3 0 u ⟨256 + n.val, by omega⟩))
    (q3 : ∀ (u : Fin 32) (n : Fin 128), p3 (ix3 0 u n) = W (ix3 0 u ⟨384 + n.val, by omega⟩))
    (q4 : ∀ (u : Fin 32) (n : Fin 128), p4 (ix3 0 u n) = W (ix3 0 u ⟨512 + n.val, by omega⟩))
    (q5 : ∀ (u : Fin 32) (n : Fin 128), p5 (ix3 0 u n) = W (ix3 0 u ⟨640 + n.val, by omega⟩))
    (q6 : ∀ (u : Fin 32) (n : Fin 128), p6 (ix3 0 u n) = W (ix3 0 u ⟨768 + n.val, by omega⟩))
    (q7 : ∀ (u : Fin 32) (n : Fin 128), p7 (ix3 0 u n) = W (ix3 0 u ⟨896 + n.val, by omega⟩))
    (q8 : ∀ (u : Fin 32) (n : Fin 128), p8 (ix3 0 u n) = W (ix3 0 u ⟨1024 + n.val, by omega⟩))
    (q9 : ∀ (u : Fin 32) (n : Fin 128), p9 (ix3 0 u n) = W (ix3 0 u ⟨1152 + n.val, by omega⟩))
    (q10 : ∀ (u : Fin 32) (n : Fin 128), p10 (ix3 0 u n) = W (ix3 0 u ⟨1280 + n.val, by omega⟩))
    (q11 : ∀ (u : Fin 32) (n : Fin 128), p11 (ix3 0 u n) = W (ix3 0 u ⟨1408 + n.val, by omega⟩))
    (q12 : ∀ (u : Fin 32) (n : Fin 128), p12 (ix3 0 u n) = W (ix3 0 u ⟨1536 + n.val, by omega⟩))
    (q13 : ∀ (u : Fin 32) (n : Fin 128), p13 (ix3 0 u n) = W (ix3 0 u ⟨1664 + n.val, by omega⟩))
    (q14 : ∀ (u : Fin 32) (n : Fin 128), p14 (ix3 0 u n) = W (ix3 0 u ⟨1792 + n.val, by omega⟩))
    (q15 : ∀ (u : Fin 32) (n : Fin 128), p15 (ix3 0 u n) = W (ix3 0 u ⟨1920 + n.val, by omega⟩)) (i : S1x32x2048.Idx) :
    View.canon (Val := Elt Ideal) (s := S1x32x2048) (e := EltTy.f32) [⟨Rect.unit ![0, 0, 1920] ![1, 32, 128] inb_S1x32x2048_S1x32x128_0_0_1920, p15⟩,
      ⟨Rect.unit ![0, 0, 1792] ![1, 32, 128] inb_S1x32x2048_S1x32x128_0_0_1792, p14⟩,
      ⟨Rect.unit ![0, 0, 1664] ![1, 32, 128] inb_S1x32x2048_S1x32x128_0_0_1664, p13⟩,
      ⟨Rect.unit ![0, 0, 1536] ![1, 32, 128] inb_S1x32x2048_S1x32x128_0_0_1536, p12⟩,
      ⟨Rect.unit ![0, 0, 1408] ![1, 32, 128] inb_S1x32x2048_S1x32x128_0_0_1408, p11⟩,
      ⟨Rect.unit ![0, 0, 1280] ![1, 32, 128] inb_S1x32x2048_S1x32x128_0_0_1280, p10⟩,
      ⟨Rect.unit ![0, 0, 1152] ![1, 32, 128] inb_S1x32x2048_S1x32x128_0_0_1152, p9⟩,
      ⟨Rect.unit ![0, 0, 1024] ![1, 32, 128] inb_S1x32x2048_S1x32x128_0_0_1024, p8⟩,
      ⟨Rect.unit ![0, 0, 896] ![1, 32, 128] inb_S1x32x2048_S1x32x128_0_0_896, p7⟩,
      ⟨Rect.unit ![0, 0, 768] ![1, 32, 128] inb_S1x32x2048_S1x32x128_0_0_768, p6⟩,
      ⟨Rect.unit ![0, 0, 640] ![1, 32, 128] inb_S1x32x2048_S1x32x128_0_0_640, p5⟩,
      ⟨Rect.unit ![0, 0, 512] ![1, 32, 128] inb_S1x32x2048_S1x32x128_0_0_512, p4⟩,
      ⟨Rect.unit ![0, 0, 384] ![1, 32, 128] inb_S1x32x2048_S1x32x128_0_0_384, p3⟩,
      ⟨Rect.unit ![0, 0, 256] ![1, 32, 128] inb_S1x32x2048_S1x32x128_0_0_256, p2⟩,
      ⟨Rect.unit ![0, 0, 128] ![1, 32, 128] inb_S1x32x2048_S1x32x128_0_0_128, p1⟩,
      ⟨Rect.unit ![0, 0, 0] ![1, 32, 128] inb_S1x32x2048_S1x32x128_0_0_0, p0⟩] i = W i := by
  canon_tiles x h
  all_goals
    have ex : x = ix3 0 (x 1) (x 2) := by idx_ext
    rw [ex]
    first
    | refine (q0 _ _).trans (congrArg W ?_); idx_ext <;> omega
    | refine (q1 _ _).trans (congrArg W ?_); idx_ext <;> omega
    | refine (q2 _ _).trans (congrArg W ?_); idx_ext <;> omega
    | refine (q3 _ _).trans (congrArg W ?_); idx_ext <;> omega
    | refine (q4 _ _).trans (congrArg W ?_); idx_ext <;> omega
    | refine (q5 _ _).trans (congrArg W ?_); idx_ext <;> omega
    | refine (q6 _ _).trans (congrArg W ?_); idx_ext <;> omega
    | refine (q7 _ _).trans (congrArg W ?_); idx_ext <;> omega
    | refine (q8 _ _).trans (congrArg W ?_); idx_ext <;> omega
    | refine (q9 _ _).trans (congrArg W ?_); idx_ext <;> omega
    | refine (q10 _ _).trans (congrArg W ?_); idx_ext <;> omega
    | refine (q11 _ _).trans (congrArg W ?_); idx_ext <;> omega
    | refine (q12 _ _).trans (congrArg W ?_); idx_ext <;> omega
    | refine (q13 _ _).trans (congrArg W ?_); idx_ext <;> omega
    | refine (q14 _ _).trans (congrArg W ?_); idx_ext <;> omega
    | refine (q15 _ _).trans (congrArg W ?_); idx_ext <;> omega

/-- A store over the whole buffer leaves its contents. -/
theorem stage_full (Z : FVec Ideal S512x128 .f32) (L : List (View.Piece (Elt Ideal) S512x128 .f32)) :
    View.canon (Val := Elt Ideal) ((⟨Rect.unit ![0, 0] ![512, 128] inb_S512x128_S512x128_0_0, Z⟩
      : View.Piece (Elt Ideal) S512x128 .f32) :: L) = Z :=
  View.canon_cons_unit_lit' (Val := Elt Ideal) (S := S512x128) (e := EltTy.f32) (off := ![0, 0]) inb_S512x128_S512x128_0_0 Z L (by decide)

theorem stage0 (Z : FVec Ideal S512x128 .f32) (L : List (View.Piece (Elt Ideal) S512x128 .f32)) (u : Fin 32) (n : Fin 128) :
    shapeCast S1x32x128 ((View.whole cc0_scratch0).readCov (Val := Elt Ideal) ((⟨Rect.unit ![0, 0] ![512, 128] inb_S512x128_S512x128_0_0, Z⟩
        : View.Piece (Elt Ideal) S512x128 .f32) :: L)
      { off := ![0, 0], size := ![32, 128], stride := ![16, 1], inb := inb_S512x128_S32x128_0_0_s_16_1 } : FVec Ideal S32x128 .f32)
      shapeCasts_S32x128_S1x32x128 (ix3 0 u n) = Z (ix2 ⟨16 * u.val + 0, by omega⟩ n) := by
  rw [View.readCov_eq_canon', stage_full]
  pointwise

theorem stage1 (Z : FVec Ideal S512x128 .f32) (L : List (View.Piece (Elt Ideal) S512x128 .f32)) (u : Fin 32) (n : Fin 128) :
    shapeCast S1x32x128 ((View.whole cc0_scratch0).readCov (Val := Elt Ideal) ((⟨Rect.unit ![0, 0] ![512, 128] inb_S512x128_S512x128_0_0, Z⟩
        : View.Piece (Elt Ideal) S512x128 .f32) :: L)
      { off := ![1, 0], size := ![32, 128], stride := ![16, 1], inb := inb_S512x128_S32x128_1_0_s_16_1 } : FVec Ideal S32x128 .f32)
      shapeCasts_S32x128_S1x32x128 (ix3 0 u n) = Z (ix2 ⟨16 * u.val + 1, by omega⟩ n) := by
  rw [View.readCov_eq_canon', stage_full]
  pointwise
  refine congrArg Z ?_
  idx_ext <;> omega

theorem stage2 (Z : FVec Ideal S512x128 .f32) (L : List (View.Piece (Elt Ideal) S512x128 .f32)) (u : Fin 32) (n : Fin 128) :
    shapeCast S1x32x128 ((View.whole cc0_scratch0).readCov (Val := Elt Ideal) ((⟨Rect.unit ![0, 0] ![512, 128] inb_S512x128_S512x128_0_0, Z⟩
        : View.Piece (Elt Ideal) S512x128 .f32) :: L)
      { off := ![2, 0], size := ![32, 128], stride := ![16, 1], inb := inb_S512x128_S32x128_2_0_s_16_1 } : FVec Ideal S32x128 .f32)
      shapeCasts_S32x128_S1x32x128 (ix3 0 u n) = Z (ix2 ⟨16 * u.val + 2, by omega⟩ n) := by
  rw [View.readCov_eq_canon', stage_full]
  pointwise
  refine congrArg Z ?_
  idx_ext <;> omega

theorem stage3 (Z : FVec Ideal S512x128 .f32) (L : List (View.Piece (Elt Ideal) S512x128 .f32)) (u : Fin 32) (n : Fin 128) :
    shapeCast S1x32x128 ((View.whole cc0_scratch0).readCov (Val := Elt Ideal) ((⟨Rect.unit ![0, 0] ![512, 128] inb_S512x128_S512x128_0_0, Z⟩
        : View.Piece (Elt Ideal) S512x128 .f32) :: L)
      { off := ![3, 0], size := ![32, 128], stride := ![16, 1], inb := inb_S512x128_S32x128_3_0_s_16_1 } : FVec Ideal S32x128 .f32)
      shapeCasts_S32x128_S1x32x128 (ix3 0 u n) = Z (ix2 ⟨16 * u.val + 3, by omega⟩ n) := by
  rw [View.readCov_eq_canon', stage_full]
  pointwise
  refine congrArg Z ?_
  idx_ext <;> omega

theorem stage4 (Z : FVec Ideal S512x128 .f32) (L : List (View.Piece (Elt Ideal) S512x128 .f32)) (u : Fin 32) (n : Fin 128) :
    shapeCast S1x32x128 ((View.whole cc0_scratch0).readCov (Val := Elt Ideal) ((⟨Rect.unit ![0, 0] ![512, 128] inb_S512x128_S512x128_0_0, Z⟩
        : View.Piece (Elt Ideal) S512x128 .f32) :: L)
      { off := ![4, 0], size := ![32, 128], stride := ![16, 1], inb := inb_S512x128_S32x128_4_0_s_16_1 } : FVec Ideal S32x128 .f32)
      shapeCasts_S32x128_S1x32x128 (ix3 0 u n) = Z (ix2 ⟨16 * u.val + 4, by omega⟩ n) := by
  rw [View.readCov_eq_canon', stage_full]
  pointwise
  refine congrArg Z ?_
  idx_ext <;> omega

theorem stage5 (Z : FVec Ideal S512x128 .f32) (L : List (View.Piece (Elt Ideal) S512x128 .f32)) (u : Fin 32) (n : Fin 128) :
    shapeCast S1x32x128 ((View.whole cc0_scratch0).readCov (Val := Elt Ideal) ((⟨Rect.unit ![0, 0] ![512, 128] inb_S512x128_S512x128_0_0, Z⟩
        : View.Piece (Elt Ideal) S512x128 .f32) :: L)
      { off := ![5, 0], size := ![32, 128], stride := ![16, 1], inb := inb_S512x128_S32x128_5_0_s_16_1 } : FVec Ideal S32x128 .f32)
      shapeCasts_S32x128_S1x32x128 (ix3 0 u n) = Z (ix2 ⟨16 * u.val + 5, by omega⟩ n) := by
  rw [View.readCov_eq_canon', stage_full]
  pointwise
  refine congrArg Z ?_
  idx_ext <;> omega

theorem stage6 (Z : FVec Ideal S512x128 .f32) (L : List (View.Piece (Elt Ideal) S512x128 .f32)) (u : Fin 32) (n : Fin 128) :
    shapeCast S1x32x128 ((View.whole cc0_scratch0).readCov (Val := Elt Ideal) ((⟨Rect.unit ![0, 0] ![512, 128] inb_S512x128_S512x128_0_0, Z⟩
        : View.Piece (Elt Ideal) S512x128 .f32) :: L)
      { off := ![6, 0], size := ![32, 128], stride := ![16, 1], inb := inb_S512x128_S32x128_6_0_s_16_1 } : FVec Ideal S32x128 .f32)
      shapeCasts_S32x128_S1x32x128 (ix3 0 u n) = Z (ix2 ⟨16 * u.val + 6, by omega⟩ n) := by
  rw [View.readCov_eq_canon', stage_full]
  pointwise
  refine congrArg Z ?_
  idx_ext <;> omega

theorem stage7 (Z : FVec Ideal S512x128 .f32) (L : List (View.Piece (Elt Ideal) S512x128 .f32)) (u : Fin 32) (n : Fin 128) :
    shapeCast S1x32x128 ((View.whole cc0_scratch0).readCov (Val := Elt Ideal) ((⟨Rect.unit ![0, 0] ![512, 128] inb_S512x128_S512x128_0_0, Z⟩
        : View.Piece (Elt Ideal) S512x128 .f32) :: L)
      { off := ![7, 0], size := ![32, 128], stride := ![16, 1], inb := inb_S512x128_S32x128_7_0_s_16_1 } : FVec Ideal S32x128 .f32)
      shapeCasts_S32x128_S1x32x128 (ix3 0 u n) = Z (ix2 ⟨16 * u.val + 7, by omega⟩ n) := by
  rw [View.readCov_eq_canon', stage_full]
  pointwise
  refine congrArg Z ?_
  idx_ext <;> omega

theorem stage8 (Z : FVec Ideal S512x128 .f32) (L : List (View.Piece (Elt Ideal) S512x128 .f32)) (u : Fin 32) (n : Fin 128) :
    shapeCast S1x32x128 ((View.whole cc0_scratch0).readCov (Val := Elt Ideal) ((⟨Rect.unit ![0, 0] ![512, 128] inb_S512x128_S512x128_0_0, Z⟩
        : View.Piece (Elt Ideal) S512x128 .f32) :: L)
      { off := ![8, 0], size := ![32, 128], stride := ![16, 1], inb := inb_S512x128_S32x128_8_0_s_16_1 } : FVec Ideal S32x128 .f32)
      shapeCasts_S32x128_S1x32x128 (ix3 0 u n) = Z (ix2 ⟨16 * u.val + 8, by omega⟩ n) := by
  rw [View.readCov_eq_canon', stage_full]
  pointwise
  refine congrArg Z ?_
  idx_ext <;> omega

theorem stage9 (Z : FVec Ideal S512x128 .f32) (L : List (View.Piece (Elt Ideal) S512x128 .f32)) (u : Fin 32) (n : Fin 128) :
    shapeCast S1x32x128 ((View.whole cc0_scratch0).readCov (Val := Elt Ideal) ((⟨Rect.unit ![0, 0] ![512, 128] inb_S512x128_S512x128_0_0, Z⟩
        : View.Piece (Elt Ideal) S512x128 .f32) :: L)
      { off := ![9, 0], size := ![32, 128], stride := ![16, 1], inb := inb_S512x128_S32x128_9_0_s_16_1 } : FVec Ideal S32x128 .f32)
      shapeCasts_S32x128_S1x32x128 (ix3 0 u n) = Z (ix2 ⟨16 * u.val + 9, by omega⟩ n) := by
  rw [View.readCov_eq_canon', stage_full]
  pointwise
  refine congrArg Z ?_
  idx_ext <;> omega

theorem stage10 (Z : FVec Ideal S512x128 .f32) (L : List (View.Piece (Elt Ideal) S512x128 .f32)) (u : Fin 32) (n : Fin 128) :
    shapeCast S1x32x128 ((View.whole cc0_scratch0).readCov (Val := Elt Ideal) ((⟨Rect.unit ![0, 0] ![512, 128] inb_S512x128_S512x128_0_0, Z⟩
        : View.Piece (Elt Ideal) S512x128 .f32) :: L)
      { off := ![10, 0], size := ![32, 128], stride := ![16, 1], inb := inb_S512x128_S32x128_10_0_s_16_1 } : FVec Ideal S32x128 .f32)
      shapeCasts_S32x128_S1x32x128 (ix3 0 u n) = Z (ix2 ⟨16 * u.val + 10, by omega⟩ n) := by
  rw [View.readCov_eq_canon', stage_full]
  pointwise
  refine congrArg Z ?_
  idx_ext <;> omega

theorem stage11 (Z : FVec Ideal S512x128 .f32) (L : List (View.Piece (Elt Ideal) S512x128 .f32)) (u : Fin 32) (n : Fin 128) :
    shapeCast S1x32x128 ((View.whole cc0_scratch0).readCov (Val := Elt Ideal) ((⟨Rect.unit ![0, 0] ![512, 128] inb_S512x128_S512x128_0_0, Z⟩
        : View.Piece (Elt Ideal) S512x128 .f32) :: L)
      { off := ![11, 0], size := ![32, 128], stride := ![16, 1], inb := inb_S512x128_S32x128_11_0_s_16_1 } : FVec Ideal S32x128 .f32)
      shapeCasts_S32x128_S1x32x128 (ix3 0 u n) = Z (ix2 ⟨16 * u.val + 11, by omega⟩ n) := by
  rw [View.readCov_eq_canon', stage_full]
  pointwise
  refine congrArg Z ?_
  idx_ext <;> omega

theorem stage12 (Z : FVec Ideal S512x128 .f32) (L : List (View.Piece (Elt Ideal) S512x128 .f32)) (u : Fin 32) (n : Fin 128) :
    shapeCast S1x32x128 ((View.whole cc0_scratch0).readCov (Val := Elt Ideal) ((⟨Rect.unit ![0, 0] ![512, 128] inb_S512x128_S512x128_0_0, Z⟩
        : View.Piece (Elt Ideal) S512x128 .f32) :: L)
      { off := ![12, 0], size := ![32, 128], stride := ![16, 1], inb := inb_S512x128_S32x128_12_0_s_16_1 } : FVec Ideal S32x128 .f32)
      shapeCasts_S32x128_S1x32x128 (ix3 0 u n) = Z (ix2 ⟨16 * u.val + 12, by omega⟩ n) := by
  rw [View.readCov_eq_canon', stage_full]
  pointwise
  refine congrArg Z ?_
  idx_ext <;> omega

theorem stage13 (Z : FVec Ideal S512x128 .f32) (L : List (View.Piece (Elt Ideal) S512x128 .f32)) (u : Fin 32) (n : Fin 128) :
    shapeCast S1x32x128 ((View.whole cc0_scratch0).readCov (Val := Elt Ideal) ((⟨Rect.unit ![0, 0] ![512, 128] inb_S512x128_S512x128_0_0, Z⟩
        : View.Piece (Elt Ideal) S512x128 .f32) :: L)
      { off := ![13, 0], size := ![32, 128], stride := ![16, 1], inb := inb_S512x128_S32x128_13_0_s_16_1 } : FVec Ideal S32x128 .f32)
      shapeCasts_S32x128_S1x32x128 (ix3 0 u n) = Z (ix2 ⟨16 * u.val + 13, by omega⟩ n) := by
  rw [View.readCov_eq_canon', stage_full]
  pointwise
  refine congrArg Z ?_
  idx_ext <;> omega

theorem stage14 (Z : FVec Ideal S512x128 .f32) (L : List (View.Piece (Elt Ideal) S512x128 .f32)) (u : Fin 32) (n : Fin 128) :
    shapeCast S1x32x128 ((View.whole cc0_scratch0).readCov (Val := Elt Ideal) ((⟨Rect.unit ![0, 0] ![512, 128] inb_S512x128_S512x128_0_0, Z⟩
        : View.Piece (Elt Ideal) S512x128 .f32) :: L)
      { off := ![14, 0], size := ![32, 128], stride := ![16, 1], inb := inb_S512x128_S32x128_14_0_s_16_1 } : FVec Ideal S32x128 .f32)
      shapeCasts_S32x128_S1x32x128 (ix3 0 u n) = Z (ix2 ⟨16 * u.val + 14, by omega⟩ n) := by
  rw [View.readCov_eq_canon', stage_full]
  pointwise
  refine congrArg Z ?_
  idx_ext <;> omega

theorem stage15 (Z : FVec Ideal S512x128 .f32) (L : List (View.Piece (Elt Ideal) S512x128 .f32)) (u : Fin 32) (n : Fin 128) :
    shapeCast S1x32x128 ((View.whole cc0_scratch0).readCov (Val := Elt Ideal) ((⟨Rect.unit ![0, 0] ![512, 128] inb_S512x128_S512x128_0_0, Z⟩
        : View.Piece (Elt Ideal) S512x128 .f32) :: L)
      { off := ![15, 0], size := ![32, 128], stride := ![16, 1], inb := inb_S512x128_S32x128_15_0_s_16_1 } : FVec Ideal S32x128 .f32)
      shapeCasts_S32x128_S1x32x128 (ix3 0 u n) = Z (ix2 ⟨16 * u.val + 15, by omega⟩ n) := by
  rw [View.readCov_eq_canon', stage_full]
  pointwise
  refine congrArg Z ?_
  idx_ext <;> omega

theorem same_apply (Z : FVec Ideal S512x128 .f32) (r : Fin 512) (n : Fin 128) :
    shapeCast S512x128 Z shapeCasts_S512x128_S512x128 (ix2 r n) = Z (ix2 r n) := by
  pointwise

theorem ks_word (h c s : ℕ → EReal) (t g l : ℕ) (a b : EReal) (ha : l < 64 → a = turn h c s (2432 + 64 * g + l))
    (hb : 64 ≤ l → b = if l - 64 = t / 64 then 1 else 0) : (if l < 64 then a else b) = ksWord h c s t g l := by
  unfold ksWord
  by_cases hl : l < 64
  · rw [if_pos hl, if_pos hl, ha hl]
  · rw [if_neg hl, if_neg hl, hb (by omega)]

theorem v_word (h : ℕ → EReal) (base g r : ℕ) (a : EReal) (ha : r < 64 → a = h (base + 64 * g + r)) :
    (if r < 64 then a else 1) = vWord h base g r := by
  unfold vWord
  by_cases hl : r < 64
  · rw [if_pos hl, if_pos hl, ha hl]
  · rw [if_neg hl, if_neg hl]

variable (m : (ℓ : Loc nD τ sig) → ℓ.ty.Contents (Elt Ideal)) (c : Dev nD) (t : Fin cfg0.N)

set_option maxHeartbeats 2000000 in
/-- The selected keys and the one at each position's block. -/
theorem keysS (x0 : FVec Ideal S1x512x1024 .f32) (x2 x3 : FVec Ideal S1x512x128 .f32) (x4 : FVec Ideal S1024x3072 .bf16)
    (e0 : (iblk (F := Ideal) m c 0 t : FVec Ideal S1x512x1024 .f32) = x0)
    (e2 : (iblk (F := Ideal) m c 2 t : FVec Ideal S1x512x128 .f32) = x2)
    (e3 : (iblk (F := Ideal) m c 3 t : FVec Ideal S1x512x128 .f32) = x3)
    (e4 : (iblk (F := Ideal) m c 4 t : FVec Ideal S1024x3072 .bf16) = x4)
    (C S : Fin 512 → ℕ → EReal) (hc : ∀ (r : Fin 512) (n : Fin 128), x2 (ix3 0 r n) = C r (n.val % 32))
    (hs : ∀ (r : Fin 512) (n : Fin 128), x3 (ix3 0 r n) = if n.val % 64 < 32 then -S r (n.val % 32) else S r (n.val % 32))
    (g : Fin 2) (r : Fin 512) (n : Fin 128) :
    ((outsAt0 (F := Ideal) m c t).2.2.2.2.2.2.1 : FVec Ideal S1x2x512x128 .bf16) (ix4 0 g r n)
      = ksWord (rows x0 x4 r) (C r) (S r) (512 * (grid0.coords t 1).val + r.val) g.val n.val := by
  unfold outsAt0; frame_out
  simp only [e0, e2, e3, e4]
  clear e0 e2 e3 e4
  refine ks_read _ _ (fun i => ksWord (rows x0 x4 (i 2)) (C (i 2)) (S (i 2)) (512 * (grid0.coords t 1).val + (i 2).val) (i 1).val (i 3).val)
    ?_ ?_ (ix4 0 g r n)
  · intro r n
    exact (ks_first (rope (hi (k0_pay13 (k0_pay4 x0) _)) (k0_pay2 x2) (k0_pay3 x3)) (k0_pay11 k0_pay7 (k0_pay8 (grid0.coords t)) (k0_pay9 (grid0.coords t)) (k0_pay10 (grid0.coords t))) r n).trans
      (ks_word (rows x0 x4 r) (C r) (S r) (512 * (grid0.coords t 1).val + r.val) 0 n.val _ _
        (fun l => (hi_turn _ x2 x3 _ (C r) (S r) 2304 r (chunk2304 x0 x4 r) (hc r) (hs r) rfl n).trans
          (congrArg (turn _ _ _) (show 2304 + 128 + n.val = 2432 + 64 * 0 + n.val by omega)))
        (fun l => onehot (grid0.coords t) r n l))
  · intro r n
    exact (ks_second (rope (hi (k0_pay13 (k0_pay4 x0) _)) (k0_pay2 x2) (k0_pay3 x3)) (k0_pay11 k0_pay7 (k0_pay8 (grid0.coords t)) (k0_pay9 (grid0.coords t)) (k0_pay10 (grid0.coords t))) r n).trans
      (ks_word (rows x0 x4 r) (C r) (S r) (512 * (grid0.coords t 1).val + r.val) 1 n.val _ _
        (fun l => (hi_turn _ x2 x3 _ (C r) (S r) 2304 r (chunk2304 x0 x4 r) (hc r) (hs r) rfl ⟨(n.val + 128 - 64) % 128, Nat.mod_lt _ (by omega)⟩).trans
          (congrArg (turn _ _ _) (show 2304 + 128 + (n.val + 128 - 64) % 128 = 2432 + 64 * 1 + n.val by omega)))
        (fun l => onehot (grid0.coords t) r n l))

set_option maxHeartbeats 2000000 in
/-- The selected values, positions along the lanes, and rows of ones. -/
theorem valsS (x0 : FVec Ideal S1x512x1024 .f32) (x2 x3 : FVec Ideal S1x512x128 .f32) (x4 : FVec Ideal S1024x3072 .bf16)
    (e0 : (iblk (F := Ideal) m c 0 t : FVec Ideal S1x512x1024 .f32) = x0)
    (e2 : (iblk (F := Ideal) m c 2 t : FVec Ideal S1x512x128 .f32) = x2)
    (e3 : (iblk (F := Ideal) m c 3 t : FVec Ideal S1x512x128 .f32) = x3)
    (e4 : (iblk (F := Ideal) m c 4 t : FVec Ideal S1024x3072 .bf16) = x4)
    (C S : Fin 512 → ℕ → EReal) (hc : ∀ (r : Fin 512) (n : Fin 128), x2 (ix3 0 r n) = C r (n.val % 32))
    (hs : ∀ (r : Fin 512) (n : Fin 128), x3 (ix3 0 r n) = if n.val % 64 < 32 then -S r (n.val % 32) else S r (n.val % 32))
    (g : Fin 2) (r : Fin 80) (u : Fin 512) :
    ((outsAt0 (F := Ideal) m c t).2.2.2.2.2.2.2.1 : FVec Ideal S1x2x1x80x512 .bf16) (ix5 0 g 0 r u)
      = vWord (rows x0 x4 u) 2560 g.val r.val := by
  unfold outsAt0; frame_out
  simp only [e0, e2, e3, e4]
  clear e0 e2 e3 e4
  refine vs_read _ _ (fun i => vWord (rows x0 x4 (i 4)) 2560 (i 1).val (i 3).val) ?_ ?_ (ix5 0 g 0 r u)
  · intro r u
    exact (v_first (lo (k0_pay13 (k0_pay4 x0) _)) r u).trans (v_word (rows x0 x4 u) 2560 0 r.val _ (fun l =>
      (lo_apply _ _ 2560 u (chunk2560 x0 x4 u) ⟨r.val, by omega⟩).trans (congrArg (rows x0 x4 u) (show 2560 + r.val = 2560 + 64 * 0 + r.val by omega))))
  · intro r u
    exact (v_second (lo (k0_pay13 (k0_pay4 x0) _)) r u).trans (v_word (rows x0 x4 u) 2560 1 r.val _ (fun l =>
      (lo_apply _ _ 2560 u (chunk2560 x0 x4 u) ⟨(r.val + 128 - 64) % 128, Nat.mod_lt _ (by omega)⟩).trans (congrArg (rows x0 x4 u) (show 2560 + (r.val + 128 - 64) % 128 = 2560 + 64 * 1 + r.val by omega))))

set_option maxHeartbeats 2000000 in
/-- The windowed values, positions along the lanes, and rows of ones. -/
theorem valsW (x0 : FVec Ideal S1x512x1024 .f32) (x2 x3 : FVec Ideal S1x512x128 .f32) (x4 : FVec Ideal S1024x3072 .bf16)
    (e0 : (iblk (F := Ideal) m c 0 t : FVec Ideal S1x512x1024 .f32) = x0)
    (e2 : (iblk (F := Ideal) m c 2 t : FVec Ideal S1x512x128 .f32) = x2)
    (e3 : (iblk (F := Ideal) m c 3 t : FVec Ideal S1x512x128 .f32) = x3)
    (e4 : (iblk (F := Ideal) m c 4 t : FVec Ideal S1024x3072 .bf16) = x4)
    (C S : Fin 512 → ℕ → EReal) (hc : ∀ (r : Fin 512) (n : Fin 128), x2 (ix3 0 r n) = C r (n.val % 32))
    (hs : ∀ (r : Fin 512) (n : Fin 128), x3 (ix3 0 r n) = if n.val % 64 < 32 then -S r (n.val % 32) else S r (n.val % 32))
    (g : Fin 2) (q : Fin 4) (r : Fin 80) (u : Fin 128) :
    ((outsAt0 (F := Ideal) m c t).2.2.2.2.2.2.2.2.2 : FVec Ideal S1x2x4x80x128 .bf16) (ix5 0 g q r u)
      = vWord (rows x0 x4 ⟨(128 * q.val + u.val) % 512, Nat.mod_lt _ (by omega)⟩) 2816 g.val r.val := by
  unfold outsAt0; frame_out
  simp only [e0, e2, e3, e4]
  clear e0 e2 e3 e4
  refine vw_read _ _ _ _ _ _ _ _ (fun i => vWord (rows x0 x4 ⟨(128 * (i 2).val + (i 4).val) % 512, Nat.mod_lt _ (by omega)⟩) 2816 (i 1).val (i 3).val)
    ?_ ?_ ?_ ?_ ?_ ?_ ?_ ?_ (ix5 0 g q r u)
  · intro r u
    have e : (⟨0 + u.val, by omega⟩ : Fin 512) = ⟨(128 * 0 + u.val) % 512, Nat.mod_lt _ (by omega)⟩ :=
      Fin.ext (by dsimp only; omega)
    exact (w_first0 (lo (k0_pay13 (k0_pay4 x0) _)) r u).trans (e ▸ v_word (rows x0 x4 ⟨0 + u.val, by omega⟩) 2816 0 r.val _ (fun l =>
      (lo_apply _ _ 2816 _ (chunk2816 x0 x4 _) ⟨r.val, by omega⟩).trans (congrArg (rows x0 x4 _) (show 2816 + r.val = 2816 + 64 * 0 + r.val by omega))))
  · intro r u
    have e : (⟨128 + u.val, by omega⟩ : Fin 512) = ⟨(128 * 1 + u.val) % 512, Nat.mod_lt _ (by omega)⟩ :=
      Fin.ext (by dsimp only; omega)
    exact (w_first1 (lo (k0_pay13 (k0_pay4 x0) _)) r u).trans (e ▸ v_word (rows x0 x4 ⟨128 + u.val, by omega⟩) 2816 0 r.val _ (fun l =>
      (lo_apply _ _ 2816 _ (chunk2816 x0 x4 _) ⟨r.val, by omega⟩).trans (congrArg (rows x0 x4 _) (show 2816 + r.val = 2816 + 64 * 0 + r.val by omega))))
  · intro r u
    have e : (⟨256 + u.val, by omega⟩ : Fin 512) = ⟨(128 * 2 + u.val) % 512, Nat.mod_lt _ (by omega)⟩ :=
      Fin.ext (by dsimp only; omega)
    exact (w_first2 (lo (k0_pay13 (k0_pay4 x0) _)) r u).trans (e ▸ v_word (rows x0 x4 ⟨256 + u.val, by omega⟩) 2816 0 r.val _ (fun l =>
      (lo_apply _ _ 2816 _ (chunk2816 x0 x4 _) ⟨r.val, by omega⟩).trans (congrArg (rows x0 x4 _) (show 2816 + r.val = 2816 + 64 * 0 + r.val by omega))))
  · intro r u
    have e : (⟨384 + u.val, by omega⟩ : Fin 512) = ⟨(128 * 3 + u.val) % 512, Nat.mod_lt _ (by omega)⟩ :=
      Fin.ext (by dsimp only; omega)
    exact (w_first3 (lo (k0_pay13 (k0_pay4 x0) _)) r u).trans (e ▸ v_word (rows x0 x4 ⟨384 + u.val, by omega⟩) 2816 0 r.val _ (fun l =>
      (lo_apply _ _ 2816 _ (chunk2816 x0 x4 _) ⟨r.val, by omega⟩).trans (congrArg (rows x0 x4 _) (show 2816 + r.val = 2816 + 64 * 0 + r.val by omega))))
  · intro r u
    have e : (⟨0 + u.val, by omega⟩ : Fin 512) = ⟨(128 * 0 + u.val) % 512, Nat.mod_lt _ (by omega)⟩ :=
      Fin.ext (by dsimp only; omega)
    exact (w_second0 (lo (k0_pay13 (k0_pay4 x0) _)) r u).trans (e ▸ v_word (rows x0 x4 ⟨0 + u.val, by omega⟩) 2816 1 r.val _ (fun l =>
      (lo_apply _ _ 2816 _ (chunk2816 x0 x4 _) ⟨(r.val + 128 - 64) % 128, Nat.mod_lt _ (by omega)⟩).trans (congrArg (rows x0 x4 _) (show 2816 + (r.val + 128 - 64) % 128 = 2816 + 64 * 1 + r.val by omega))))
  · intro r u
    have e : (⟨128 + u.val, by omega⟩ : Fin 512) = ⟨(128 * 1 + u.val) % 512, Nat.mod_lt _ (by omega)⟩ :=
      Fin.ext (by dsimp only; omega)
    exact (w_second1 (lo (k0_pay13 (k0_pay4 x0) _)) r u).trans (e ▸ v_word (rows x0 x4 ⟨128 + u.val, by omega⟩) 2816 1 r.val _ (fun l =>
      (lo_apply _ _ 2816 _ (chunk2816 x0 x4 _) ⟨(r.val + 128 - 64) % 128, Nat.mod_lt _ (by omega)⟩).trans (congrArg (rows x0 x4 _) (show 2816 + (r.val + 128 - 64) % 128 = 2816 + 64 * 1 + r.val by omega))))
  · intro r u
    have e : (⟨256 + u.val, by omega⟩ : Fin 512) = ⟨(128 * 2 + u.val) % 512, Nat.mod_lt _ (by omega)⟩ :=
      Fin.ext (by dsimp only; omega)
    exact (w_second2 (lo (k0_pay13 (k0_pay4 x0) _)) r u).trans (e ▸ v_word (rows x0 x4 ⟨256 + u.val, by omega⟩) 2816 1 r.val _ (fun l =>
      (lo_apply _ _ 2816 _ (chunk2816 x0 x4 _) ⟨(r.val + 128 - 64) % 128, Nat.mod_lt _ (by omega)⟩).trans (congrArg (rows x0 x4 _) (show 2816 + (r.val + 128 - 64) % 128 = 2816 + 64 * 1 + r.val by omega))))
  · intro r u
    have e : (⟨384 + u.val, by omega⟩ : Fin 512) = ⟨(128 * 3 + u.val) % 512, Nat.mod_lt _ (by omega)⟩ :=
      Fin.ext (by dsimp only; omega)
    exact (w_second3 (lo (k0_pay13 (k0_pay4 x0) _)) r u).trans (e ▸ v_word (rows x0 x4 ⟨384 + u.val, by omega⟩) 2816 1 r.val _ (fun l =>
      (lo_apply _ _ 2816 _ (chunk2816 x0 x4 _) ⟨(r.val + 128 - 64) % 128, Nat.mod_lt _ (by omega)⟩).trans (congrArg (rows x0 x4 _) (show 2816 + (r.val + 128 - 64) % 128 = 2816 + 64 * 1 + r.val by omega))))

set_option maxHeartbeats 2000000 in
/-- Sixteen positions of the compressed keys or values in one row. -/
theorem rowsK (x0 : FVec Ideal S1x512x1024 .f32) (x2 x3 : FVec Ideal S1x512x128 .f32) (x4 : FVec Ideal S1024x3072 .bf16)
    (e0 : (iblk (F := Ideal) m c 0 t : FVec Ideal S1x512x1024 .f32) = x0)
    (e2 : (iblk (F := Ideal) m c 2 t : FVec Ideal S1x512x128 .f32) = x2)
    (e3 : (iblk (F := Ideal) m c 3 t : FVec Ideal S1x512x128 .f32) = x3)
    (e4 : (iblk (F := Ideal) m c 4 t : FVec Ideal S1024x3072 .bf16) = x4)
    (C S : Fin 512 → ℕ → EReal) (hc : ∀ (r : Fin 512) (n : Fin 128), x2 (ix3 0 r n) = C r (n.val % 32))
    (hs : ∀ (r : Fin 512) (n : Fin 128), x3 (ix3 0 r n) = if n.val % 64 < 32 then -S r (n.val % 32) else S r (n.val % 32))
    (u : Fin 32) (n : Fin 2048) :
    ((outsAt0 (F := Ideal) m c t).2.2.2.1 : FVec Ideal S1x32x2048 .f32) (ix3 0 u n)
      = rows x0 x4 ⟨(16 * u.val + n.val / 128) % 512, Nat.mod_lt _ (by omega)⟩ (2176 + n.val % 128) := by
  unfold outsAt0; frame_out
  simp only [e0, e2, e3, e4]
  clear e0 e2 e3 e4
  refine cmp_read _ _ _ _ _ _ _ _ _ _ _ _ _ _ _ _ (fun i => rows x0 x4 ⟨(16 * (i 1).val + (i 2).val / 128) % 512, Nat.mod_lt _ (by omega)⟩ (2176 + (i 2).val % 128))
    ?_ ?_ ?_ ?_ ?_ ?_ ?_ ?_ ?_ ?_ ?_ ?_ ?_ ?_ ?_ ?_ (ix3 0 u n)
  · intro u n
    have e : (⟨16 * u.val + 0, by omega⟩ : Fin 512) = ⟨(16 * u.val + (0 + n.val) / 128) % 512, Nat.mod_lt _ (by omega)⟩ :=
      Fin.ext (by dsimp only; omega)
    exact (stage0 (shapeCast S512x128 (hi (k0_pay13 (k0_pay4 x0) _)) shapeCasts_S512x128_S512x128) _ u n).trans
      ((same_apply _ _ n).trans (e ▸ (hi_apply _ _ 2048 _ (chunk2048 x0 x4 _) n).trans
        (congrArg (rows x0 x4 _) (show 2048 + 128 + n.val = 2176 + (0 + n.val) % 128 by omega))))
  · intro u n
    have e : (⟨16 * u.val + 1, by omega⟩ : Fin 512) = ⟨(16 * u.val + (128 + n.val) / 128) % 512, Nat.mod_lt _ (by omega)⟩ :=
      Fin.ext (by dsimp only; omega)
    exact (stage1 (shapeCast S512x128 (hi (k0_pay13 (k0_pay4 x0) _)) shapeCasts_S512x128_S512x128) _ u n).trans
      ((same_apply _ _ n).trans (e ▸ (hi_apply _ _ 2048 _ (chunk2048 x0 x4 _) n).trans
        (congrArg (rows x0 x4 _) (show 2048 + 128 + n.val = 2176 + (128 + n.val) % 128 by omega))))
  · intro u n
    have e : (⟨16 * u.val + 2, by omega⟩ : Fin 512) = ⟨(16 * u.val + (256 + n.val) / 128) % 512, Nat.mod_lt _ (by omega)⟩ :=
      Fin.ext (by dsimp only; omega)
    exact (stage2 (shapeCast S512x128 (hi (k0_pay13 (k0_pay4 x0) _)) shapeCasts_S512x128_S512x128) _ u n).trans
      ((same_apply _ _ n).trans (e ▸ (hi_apply _ _ 2048 _ (chunk2048 x0 x4 _) n).trans
        (congrArg (rows x0 x4 _) (show 2048 + 128 + n.val = 2176 + (256 + n.val) % 128 by omega))))
  · intro u n
    have e : (⟨16 * u.val + 3, by omega⟩ : Fin 512) = ⟨(16 * u.val + (384 + n.val) / 128) % 512, Nat.mod_lt _ (by omega)⟩ :=
      Fin.ext (by dsimp only; omega)
    exact (stage3 (shapeCast S512x128 (hi (k0_pay13 (k0_pay4 x0) _)) shapeCasts_S512x128_S512x128) _ u n).trans
      ((same_apply _ _ n).trans (e ▸ (hi_apply _ _ 2048 _ (chunk2048 x0 x4 _) n).trans
        (congrArg (rows x0 x4 _) (show 2048 + 128 + n.val = 2176 + (384 + n.val) % 128 by omega))))
  · intro u n
    have e : (⟨16 * u.val + 4, by omega⟩ : Fin 512) = ⟨(16 * u.val + (512 + n.val) / 128) % 512, Nat.mod_lt _ (by omega)⟩ :=
      Fin.ext (by dsimp only; omega)
    exact (stage4 (shapeCast S512x128 (hi (k0_pay13 (k0_pay4 x0) _)) shapeCasts_S512x128_S512x128) _ u n).trans
      ((same_apply _ _ n).trans (e ▸ (hi_apply _ _ 2048 _ (chunk2048 x0 x4 _) n).trans
        (congrArg (rows x0 x4 _) (show 2048 + 128 + n.val = 2176 + (512 + n.val) % 128 by omega))))
  · intro u n
    have e : (⟨16 * u.val + 5, by omega⟩ : Fin 512) = ⟨(16 * u.val + (640 + n.val) / 128) % 512, Nat.mod_lt _ (by omega)⟩ :=
      Fin.ext (by dsimp only; omega)
    exact (stage5 (shapeCast S512x128 (hi (k0_pay13 (k0_pay4 x0) _)) shapeCasts_S512x128_S512x128) _ u n).trans
      ((same_apply _ _ n).trans (e ▸ (hi_apply _ _ 2048 _ (chunk2048 x0 x4 _) n).trans
        (congrArg (rows x0 x4 _) (show 2048 + 128 + n.val = 2176 + (640 + n.val) % 128 by omega))))
  · intro u n
    have e : (⟨16 * u.val + 6, by omega⟩ : Fin 512) = ⟨(16 * u.val + (768 + n.val) / 128) % 512, Nat.mod_lt _ (by omega)⟩ :=
      Fin.ext (by dsimp only; omega)
    exact (stage6 (shapeCast S512x128 (hi (k0_pay13 (k0_pay4 x0) _)) shapeCasts_S512x128_S512x128) _ u n).trans
      ((same_apply _ _ n).trans (e ▸ (hi_apply _ _ 2048 _ (chunk2048 x0 x4 _) n).trans
        (congrArg (rows x0 x4 _) (show 2048 + 128 + n.val = 2176 + (768 + n.val) % 128 by omega))))
  · intro u n
    have e : (⟨16 * u.val + 7, by omega⟩ : Fin 512) = ⟨(16 * u.val + (896 + n.val) / 128) % 512, Nat.mod_lt _ (by omega)⟩ :=
      Fin.ext (by dsimp only; omega)
    exact (stage7 (shapeCast S512x128 (hi (k0_pay13 (k0_pay4 x0) _)) shapeCasts_S512x128_S512x128) _ u n).trans
      ((same_apply _ _ n).trans (e ▸ (hi_apply _ _ 2048 _ (chunk2048 x0 x4 _) n).trans
        (congrArg (rows x0 x4 _) (show 2048 + 128 + n.val = 2176 + (896 + n.val) % 128 by omega))))
  · intro u n
    have e : (⟨16 * u.val + 8, by omega⟩ : Fin 512) = ⟨(16 * u.val + (1024 + n.val) / 128) % 512, Nat.mod_lt _ (by omega)⟩ :=
      Fin.ext (by dsimp only; omega)
    exact (stage8 (shapeCast S512x128 (hi (k0_pay13 (k0_pay4 x0) _)) shapeCasts_S512x128_S512x128) _ u n).trans
      ((same_apply _ _ n).trans (e ▸ (hi_apply _ _ 2048 _ (chunk2048 x0 x4 _) n).trans
        (congrArg (rows x0 x4 _) (show 2048 + 128 + n.val = 2176 + (1024 + n.val) % 128 by omega))))
  · intro u n
    have e : (⟨16 * u.val + 9, by omega⟩ : Fin 512) = ⟨(16 * u.val + (1152 + n.val) / 128) % 512, Nat.mod_lt _ (by omega)⟩ :=
      Fin.ext (by dsimp only; omega)
    exact (stage9 (shapeCast S512x128 (hi (k0_pay13 (k0_pay4 x0) _)) shapeCasts_S512x128_S512x128) _ u n).trans
      ((same_apply _ _ n).trans (e ▸ (hi_apply _ _ 2048 _ (chunk2048 x0 x4 _) n).trans
        (congrArg (rows x0 x4 _) (show 2048 + 128 + n.val = 2176 + (1152 + n.val) % 128 by omega))))
  · intro u n
    have e : (⟨16 * u.val + 10, by omega⟩ : Fin 512) = ⟨(16 * u.val + (1280 + n.val) / 128) % 512, Nat.mod_lt _ (by omega)⟩ :=
      Fin.ext (by dsimp only; omega)
    exact (stage10 (shapeCast S512x128 (hi (k0_pay13 (k0_pay4 x0) _)) shapeCasts_S512x128_S512x128) _ u n).trans
      ((same_apply _ _ n).trans (e ▸ (hi_apply _ _ 2048 _ (chunk2048 x0 x4 _) n).trans
        (congrArg (rows x0 x4 _) (show 2048 + 128 + n.val = 2176 + (1280 + n.val) % 128 by omega))))
  · intro u n
    have e : (⟨16 * u.val + 11, by omega⟩ : Fin 512) = ⟨(16 * u.val + (1408 + n.val) / 128) % 512, Nat.mod_lt _ (by omega)⟩ :=
      Fin.ext (by dsimp only; omega)
    exact (stage11 (shapeCast S512x128 (hi (k0_pay13 (k0_pay4 x0) _)) shapeCasts_S512x128_S512x128) _ u n).trans
      ((same_apply _ _ n).trans (e ▸ (hi_apply _ _ 2048 _ (chunk2048 x0 x4 _) n).trans
        (congrArg (rows x0 x4 _) (show 2048 + 128 + n.val = 2176 + (1408 + n.val) % 128 by omega))))
  · intro u n
    have e : (⟨16 * u.val + 12, by omega⟩ : Fin 512) = ⟨(16 * u.val + (1536 + n.val) / 128) % 512, Nat.mod_lt _ (by omega)⟩ :=
      Fin.ext (by dsimp only; omega)
    exact (stage12 (shapeCast S512x128 (hi (k0_pay13 (k0_pay4 x0) _)) shapeCasts_S512x128_S512x128) _ u n).trans
      ((same_apply _ _ n).trans (e ▸ (hi_apply _ _ 2048 _ (chunk2048 x0 x4 _) n).trans
        (congrArg (rows x0 x4 _) (show 2048 + 128 + n.val = 2176 + (1536 + n.val) % 128 by omega))))
  · intro u n
    have e : (⟨16 * u.val + 13, by omega⟩ : Fin 512) = ⟨(16 * u.val + (1664 + n.val) / 128) % 512, Nat.mod_lt _ (by omega)⟩ :=
      Fin.ext (by dsimp only; omega)
    exact (stage13 (shapeCast S512x128 (hi (k0_pay13 (k0_pay4 x0) _)) shapeCasts_S512x128_S512x128) _ u n).trans
      ((same_apply _ _ n).trans (e ▸ (hi_apply _ _ 2048 _ (chunk2048 x0 x4 _) n).trans
        (congrArg (rows x0 x4 _) (show 2048 + 128 + n.val = 2176 + (1664 + n.val) % 128 by omega))))
  · intro u n
    have e : (⟨16 * u.val + 14, by omega⟩ : Fin 512) = ⟨(16 * u.val + (1792 + n.val) / 128) % 512, Nat.mod_lt _ (by omega)⟩ :=
      Fin.ext (by dsimp only; omega)
    exact (stage14 (shapeCast S512x128 (hi (k0_pay13 (k0_pay4 x0) _)) shapeCasts_S512x128_S512x128) _ u n).trans
      ((same_apply _ _ n).trans (e ▸ (hi_apply _ _ 2048 _ (chunk2048 x0 x4 _) n).trans
        (congrArg (rows x0 x4 _) (show 2048 + 128 + n.val = 2176 + (1792 + n.val) % 128 by omega))))
  · intro u n
    have e : (⟨16 * u.val + 15, by omega⟩ : Fin 512) = ⟨(16 * u.val + (1920 + n.val) / 128) % 512, Nat.mod_lt _ (by omega)⟩ :=
      Fin.ext (by dsimp only; omega)
    exact (stage15 (shapeCast S512x128 (hi (k0_pay13 (k0_pay4 x0) _)) shapeCasts_S512x128_S512x128) _ u n).trans
      ((same_apply _ _ n).trans (e ▸ (hi_apply _ _ 2048 _ (chunk2048 x0 x4 _) n).trans
        (congrArg (rows x0 x4 _) (show 2048 + 128 + n.val = 2176 + (1920 + n.val) % 128 by omega))))

set_option maxHeartbeats 2000000 in
/-- Sixteen positions of the compressed keys or values in one row. -/
theorem rowsV (x0 : FVec Ideal S1x512x1024 .f32) (x2 x3 : FVec Ideal S1x512x128 .f32) (x4 : FVec Ideal S1024x3072 .bf16)
    (e0 : (iblk (F := Ideal) m c 0 t : FVec Ideal S1x512x1024 .f32) = x0)
    (e2 : (iblk (F := Ideal) m c 2 t : FVec Ideal S1x512x128 .f32) = x2)
    (e3 : (iblk (F := Ideal) m c 3 t : FVec Ideal S1x512x128 .f32) = x3)
    (e4 : (iblk (F := Ideal) m c 4 t : FVec Ideal S1024x3072 .bf16) = x4)
    (C S : Fin 512 → ℕ → EReal) (hc : ∀ (r : Fin 512) (n : Fin 128), x2 (ix3 0 r n) = C r (n.val % 32))
    (hs : ∀ (r : Fin 512) (n : Fin 128), x3 (ix3 0 r n) = if n.val % 64 < 32 then -S r (n.val % 32) else S r (n.val % 32))
    (u : Fin 32) (n : Fin 2048) :
    ((outsAt0 (F := Ideal) m c t).2.2.2.2.1 : FVec Ideal S1x32x2048 .f32) (ix3 0 u n)
      = rows x0 x4 ⟨(16 * u.val + n.val / 128) % 512, Nat.mod_lt _ (by omega)⟩ (2304 + n.val % 128) := by
  unfold outsAt0; frame_out
  simp only [e0, e2, e3, e4]
  clear e0 e2 e3 e4
  refine cmp_read _ _ _ _ _ _ _ _ _ _ _ _ _ _ _ _ (fun i => rows x0 x4 ⟨(16 * (i 1).val + (i 2).val / 128) % 512, Nat.mod_lt _ (by omega)⟩ (2304 + (i 2).val % 128))
    ?_ ?_ ?_ ?_ ?_ ?_ ?_ ?_ ?_ ?_ ?_ ?_ ?_ ?_ ?_ ?_ (ix3 0 u n)
  · intro u n
    have e : (⟨16 * u.val + 0, by omega⟩ : Fin 512) = ⟨(16 * u.val + (0 + n.val) / 128) % 512, Nat.mod_lt _ (by omega)⟩ :=
      Fin.ext (by dsimp only; omega)
    exact (stage0 (shapeCast S512x128 (lo (k0_pay13 (k0_pay4 x0) _)) shapeCasts_S512x128_S512x128) _ u n).trans
      ((same_apply _ _ n).trans (e ▸ (lo_apply _ _ 2304 _ (chunk2304 x0 x4 _) n).trans
        (congrArg (rows x0 x4 _) (show 2304 + n.val = 2304 + (0 + n.val) % 128 by omega))))
  · intro u n
    have e : (⟨16 * u.val + 1, by omega⟩ : Fin 512) = ⟨(16 * u.val + (128 + n.val) / 128) % 512, Nat.mod_lt _ (by omega)⟩ :=
      Fin.ext (by dsimp only; omega)
    exact (stage1 (shapeCast S512x128 (lo (k0_pay13 (k0_pay4 x0) _)) shapeCasts_S512x128_S512x128) _ u n).trans
      ((same_apply _ _ n).trans (e ▸ (lo_apply _ _ 2304 _ (chunk2304 x0 x4 _) n).trans
        (congrArg (rows x0 x4 _) (show 2304 + n.val = 2304 + (128 + n.val) % 128 by omega))))
  · intro u n
    have e : (⟨16 * u.val + 2, by omega⟩ : Fin 512) = ⟨(16 * u.val + (256 + n.val) / 128) % 512, Nat.mod_lt _ (by omega)⟩ :=
      Fin.ext (by dsimp only; omega)
    exact (stage2 (shapeCast S512x128 (lo (k0_pay13 (k0_pay4 x0) _)) shapeCasts_S512x128_S512x128) _ u n).trans
      ((same_apply _ _ n).trans (e ▸ (lo_apply _ _ 2304 _ (chunk2304 x0 x4 _) n).trans
        (congrArg (rows x0 x4 _) (show 2304 + n.val = 2304 + (256 + n.val) % 128 by omega))))
  · intro u n
    have e : (⟨16 * u.val + 3, by omega⟩ : Fin 512) = ⟨(16 * u.val + (384 + n.val) / 128) % 512, Nat.mod_lt _ (by omega)⟩ :=
      Fin.ext (by dsimp only; omega)
    exact (stage3 (shapeCast S512x128 (lo (k0_pay13 (k0_pay4 x0) _)) shapeCasts_S512x128_S512x128) _ u n).trans
      ((same_apply _ _ n).trans (e ▸ (lo_apply _ _ 2304 _ (chunk2304 x0 x4 _) n).trans
        (congrArg (rows x0 x4 _) (show 2304 + n.val = 2304 + (384 + n.val) % 128 by omega))))
  · intro u n
    have e : (⟨16 * u.val + 4, by omega⟩ : Fin 512) = ⟨(16 * u.val + (512 + n.val) / 128) % 512, Nat.mod_lt _ (by omega)⟩ :=
      Fin.ext (by dsimp only; omega)
    exact (stage4 (shapeCast S512x128 (lo (k0_pay13 (k0_pay4 x0) _)) shapeCasts_S512x128_S512x128) _ u n).trans
      ((same_apply _ _ n).trans (e ▸ (lo_apply _ _ 2304 _ (chunk2304 x0 x4 _) n).trans
        (congrArg (rows x0 x4 _) (show 2304 + n.val = 2304 + (512 + n.val) % 128 by omega))))
  · intro u n
    have e : (⟨16 * u.val + 5, by omega⟩ : Fin 512) = ⟨(16 * u.val + (640 + n.val) / 128) % 512, Nat.mod_lt _ (by omega)⟩ :=
      Fin.ext (by dsimp only; omega)
    exact (stage5 (shapeCast S512x128 (lo (k0_pay13 (k0_pay4 x0) _)) shapeCasts_S512x128_S512x128) _ u n).trans
      ((same_apply _ _ n).trans (e ▸ (lo_apply _ _ 2304 _ (chunk2304 x0 x4 _) n).trans
        (congrArg (rows x0 x4 _) (show 2304 + n.val = 2304 + (640 + n.val) % 128 by omega))))
  · intro u n
    have e : (⟨16 * u.val + 6, by omega⟩ : Fin 512) = ⟨(16 * u.val + (768 + n.val) / 128) % 512, Nat.mod_lt _ (by omega)⟩ :=
      Fin.ext (by dsimp only; omega)
    exact (stage6 (shapeCast S512x128 (lo (k0_pay13 (k0_pay4 x0) _)) shapeCasts_S512x128_S512x128) _ u n).trans
      ((same_apply _ _ n).trans (e ▸ (lo_apply _ _ 2304 _ (chunk2304 x0 x4 _) n).trans
        (congrArg (rows x0 x4 _) (show 2304 + n.val = 2304 + (768 + n.val) % 128 by omega))))
  · intro u n
    have e : (⟨16 * u.val + 7, by omega⟩ : Fin 512) = ⟨(16 * u.val + (896 + n.val) / 128) % 512, Nat.mod_lt _ (by omega)⟩ :=
      Fin.ext (by dsimp only; omega)
    exact (stage7 (shapeCast S512x128 (lo (k0_pay13 (k0_pay4 x0) _)) shapeCasts_S512x128_S512x128) _ u n).trans
      ((same_apply _ _ n).trans (e ▸ (lo_apply _ _ 2304 _ (chunk2304 x0 x4 _) n).trans
        (congrArg (rows x0 x4 _) (show 2304 + n.val = 2304 + (896 + n.val) % 128 by omega))))
  · intro u n
    have e : (⟨16 * u.val + 8, by omega⟩ : Fin 512) = ⟨(16 * u.val + (1024 + n.val) / 128) % 512, Nat.mod_lt _ (by omega)⟩ :=
      Fin.ext (by dsimp only; omega)
    exact (stage8 (shapeCast S512x128 (lo (k0_pay13 (k0_pay4 x0) _)) shapeCasts_S512x128_S512x128) _ u n).trans
      ((same_apply _ _ n).trans (e ▸ (lo_apply _ _ 2304 _ (chunk2304 x0 x4 _) n).trans
        (congrArg (rows x0 x4 _) (show 2304 + n.val = 2304 + (1024 + n.val) % 128 by omega))))
  · intro u n
    have e : (⟨16 * u.val + 9, by omega⟩ : Fin 512) = ⟨(16 * u.val + (1152 + n.val) / 128) % 512, Nat.mod_lt _ (by omega)⟩ :=
      Fin.ext (by dsimp only; omega)
    exact (stage9 (shapeCast S512x128 (lo (k0_pay13 (k0_pay4 x0) _)) shapeCasts_S512x128_S512x128) _ u n).trans
      ((same_apply _ _ n).trans (e ▸ (lo_apply _ _ 2304 _ (chunk2304 x0 x4 _) n).trans
        (congrArg (rows x0 x4 _) (show 2304 + n.val = 2304 + (1152 + n.val) % 128 by omega))))
  · intro u n
    have e : (⟨16 * u.val + 10, by omega⟩ : Fin 512) = ⟨(16 * u.val + (1280 + n.val) / 128) % 512, Nat.mod_lt _ (by omega)⟩ :=
      Fin.ext (by dsimp only; omega)
    exact (stage10 (shapeCast S512x128 (lo (k0_pay13 (k0_pay4 x0) _)) shapeCasts_S512x128_S512x128) _ u n).trans
      ((same_apply _ _ n).trans (e ▸ (lo_apply _ _ 2304 _ (chunk2304 x0 x4 _) n).trans
        (congrArg (rows x0 x4 _) (show 2304 + n.val = 2304 + (1280 + n.val) % 128 by omega))))
  · intro u n
    have e : (⟨16 * u.val + 11, by omega⟩ : Fin 512) = ⟨(16 * u.val + (1408 + n.val) / 128) % 512, Nat.mod_lt _ (by omega)⟩ :=
      Fin.ext (by dsimp only; omega)
    exact (stage11 (shapeCast S512x128 (lo (k0_pay13 (k0_pay4 x0) _)) shapeCasts_S512x128_S512x128) _ u n).trans
      ((same_apply _ _ n).trans (e ▸ (lo_apply _ _ 2304 _ (chunk2304 x0 x4 _) n).trans
        (congrArg (rows x0 x4 _) (show 2304 + n.val = 2304 + (1408 + n.val) % 128 by omega))))
  · intro u n
    have e : (⟨16 * u.val + 12, by omega⟩ : Fin 512) = ⟨(16 * u.val + (1536 + n.val) / 128) % 512, Nat.mod_lt _ (by omega)⟩ :=
      Fin.ext (by dsimp only; omega)
    exact (stage12 (shapeCast S512x128 (lo (k0_pay13 (k0_pay4 x0) _)) shapeCasts_S512x128_S512x128) _ u n).trans
      ((same_apply _ _ n).trans (e ▸ (lo_apply _ _ 2304 _ (chunk2304 x0 x4 _) n).trans
        (congrArg (rows x0 x4 _) (show 2304 + n.val = 2304 + (1536 + n.val) % 128 by omega))))
  · intro u n
    have e : (⟨16 * u.val + 13, by omega⟩ : Fin 512) = ⟨(16 * u.val + (1664 + n.val) / 128) % 512, Nat.mod_lt _ (by omega)⟩ :=
      Fin.ext (by dsimp only; omega)
    exact (stage13 (shapeCast S512x128 (lo (k0_pay13 (k0_pay4 x0) _)) shapeCasts_S512x128_S512x128) _ u n).trans
      ((same_apply _ _ n).trans (e ▸ (lo_apply _ _ 2304 _ (chunk2304 x0 x4 _) n).trans
        (congrArg (rows x0 x4 _) (show 2304 + n.val = 2304 + (1664 + n.val) % 128 by omega))))
  · intro u n
    have e : (⟨16 * u.val + 14, by omega⟩ : Fin 512) = ⟨(16 * u.val + (1792 + n.val) / 128) % 512, Nat.mod_lt _ (by omega)⟩ :=
      Fin.ext (by dsimp only; omega)
    exact (stage14 (shapeCast S512x128 (lo (k0_pay13 (k0_pay4 x0) _)) shapeCasts_S512x128_S512x128) _ u n).trans
      ((same_apply _ _ n).trans (e ▸ (lo_apply _ _ 2304 _ (chunk2304 x0 x4 _) n).trans
        (congrArg (rows x0 x4 _) (show 2304 + n.val = 2304 + (1792 + n.val) % 128 by omega))))
  · intro u n
    have e : (⟨16 * u.val + 15, by omega⟩ : Fin 512) = ⟨(16 * u.val + (1920 + n.val) / 128) % 512, Nat.mod_lt _ (by omega)⟩ :=
      Fin.ext (by dsimp only; omega)
    exact (stage15 (shapeCast S512x128 (lo (k0_pay13 (k0_pay4 x0) _)) shapeCasts_S512x128_S512x128) _ u n).trans
      ((same_apply _ _ n).trans (e ▸ (lo_apply _ _ 2304 _ (chunk2304 x0 x4 _) n).trans
        (congrArg (rows x0 x4 _) (show 2304 + n.val = 2304 + (1920 + n.val) % 128 by omega))))

end Cert.InBlockC
end
-- ==== Proof.InOut.lean ====
module
public import proofs.«01_k».proof.Proof.InBlockC

/-!
The results of the input projection, each as one function of the activations, the positions and the weights.
-/

@[expose] public section
noncomputable section

namespace Cert.InOut
open Idealize.ShloMosaic Idealize.ShloMosaic.TcCoe Idealize.SL.Sem
open Cert.Kernel3Ideal Cert.InWords

/-- The rotation's frequency of lane `e`: ten thousand to the power of minus twice the lane over 64. -/
def freq (e : ℕ) : EReal :=
  Ideal.pow (Ideal.ofBits FTy.f32 0x461C4000#32)
    (Ideal.div (-(Ideal.ofBits FTy.f32 0x40000000#32 * FloatOps.sitofp (F := Ideal) FTy.f32 (BitVec.ofNat 32 e)))
      (Ideal.ofBits FTy.f32 0x42800000#32))

/-- The angle of lane `e` at position `t` of batch `b`. -/
def angle (p : IVec S8x4096 32) (b : Fin 8) (t : Fin 4096) (e : ℕ) : EReal :=
  FloatOps.sitofp (F := Ideal) FTy.f32 (p (ix2 b t)) * freq e

def cosAt (p : IVec S8x4096 32) (b : Fin 8) (t : Fin 4096) (e : ℕ) : EReal := Ideal.cos (angle p b t e)
def sinAt (p : IVec S8x4096 32) (b : Fin 8) (t : Fin 4096) (e : ℕ) : EReal := Ideal.sin (angle p b t e)

/-- The weights' columns, zero past the last. -/
def col (w : FVec Ideal S1024x2962 .f32) (k : Fin 1024) (n : ℕ) : EReal := if h : n < 2962 then w (ix2 k ⟨n, h⟩) else 0

/-- The projection of position `t` of batch `b`. -/
def projAt (x : FVec Ideal S8x4096x1024 .f32) (w : FVec Ideal S1024x2962 .f32) (b : Fin 8) (t : Fin 4096) : ℕ → EReal :=
  proj (fun k => x (ix3 b t k)) (col w)

/-- The retention rows. -/
def retOut (x : FVec Ideal S8x4096x1024 .f32) (p : IVec S8x4096 32) (w : FVec Ideal S1024x2962 .f32) : FVec Ideal S8x4096x1536 .f32 :=
  fun i => retWord (projAt x w (i 0) (i 1)) (cosAt p (i 0) (i 1)) (sinAt p (i 0) (i 1)) (i 2).val

/-- The scaled queries, a column per position. -/
def qOut (x : FVec Ideal S8x4096x1024 .f32) (p : IVec S8x4096 32) (w : FVec Ideal S1024x2962 .f32) : FVec Ideal S8x384x4096 .bf16 :=
  fun i => qWord (projAt x w (i 0) (i 2)) (cosAt p (i 0) (i 2)) (sinAt p (i 0) (i 2)) (i 1).val

/-- The keys to compress, sixteen positions to a row. -/
def kcOut (x : FVec Ideal S8x4096x1024 .f32) (p : IVec S8x4096 32) (w : FVec Ideal S1024x2962 .f32) : FVec Ideal S8x256x2048 .f32 :=
  fun i => projAt x w (i 0) ⟨(16 * (i 1).val + (i 2).val / 128) % 4096, Nat.mod_lt _ (by omega)⟩ (2176 + (i 2).val % 128)

/-- The values to compress, sixteen positions to a row. -/
def vcOut (x : FVec Ideal S8x4096x1024 .f32) (p : IVec S8x4096 32) (w : FVec Ideal S1024x2962 .f32) : FVec Ideal S8x256x2048 .f32 :=
  fun i => projAt x w (i 0) ⟨(16 * (i 1).val + (i 2).val / 128) % 4096, Nat.mod_lt _ (by omega)⟩ (2304 + (i 2).val % 128)

/-- The gates and the columns of zero after them. -/
def gateOut (x : FVec Ideal S8x4096x1024 .f32) (p : IVec S8x4096 32) (w : FVec Ideal S1024x2962 .f32) : FVec Ideal S8x4096x128 .f32 :=
  fun i => projAt x w (i 0) (i 1) (2944 + (i 2).val)

/-- The selected keys with the mark of their block. -/
def ksOut (x : FVec Ideal S8x4096x1024 .f32) (p : IVec S8x4096 32) (w : FVec Ideal S1024x2962 .f32) : FVec Ideal S8x2x4096x128 .bf16 :=
  fun i => ksWord (projAt x w (i 0) (i 2)) (cosAt p (i 0) (i 2)) (sinAt p (i 0) (i 2)) (i 2).val (i 1).val (i 3).val

/-- The selected values by chunks of 512 positions. -/
def vsOut (x : FVec Ideal S8x4096x1024 .f32) (p : IVec S8x4096 32) (w : FVec Ideal S1024x2962 .f32) : FVec Ideal S8x2x8x80x512 .bf16 :=
  fun i => vWord (projAt x w (i 0) ⟨(512 * (i 2).val + (i 4).val) % 4096, Nat.mod_lt _ (by omega)⟩) 2560 (i 1).val (i 3).val

/-- The keys of the window. -/
def kwOut (x : FVec Ideal S8x4096x1024 .f32) (p : IVec S8x4096 32) (w : FVec Ideal S1024x2962 .f32) : FVec Ideal S8x4096x128 .bf16 :=
  fun i => turn (projAt x w (i 0) (i 1)) (cosAt p (i 0) (i 1)) (sinAt p (i 0) (i 1)) (2688 + (i 2).val)

/-- The values of the window by chunks of 128 positions. -/
def vwOut (x : FVec Ideal S8x4096x1024 .f32) (p : IVec S8x4096 32) (w : FVec Ideal S1024x2962 .f32) : FVec Ideal S8x2x32x80x128 .bf16 :=
  fun i => vWord (projAt x w (i 0) ⟨(128 * (i 2).val + (i 4).val) % 4096, Nat.mod_lt _ (by omega)⟩) 2816 (i 1).val (i 3).val

end Cert.InOut
end
-- ==== Proof.InArray.lean ====
module
public import proofs.«01_k».proof.Proof.InOut
public import Idealize.ShloMosaic.Lib.Pipeline.ValueKit
public import Idealize.ShloMosaic.Lib.IdealHost

/-!
From the blocks to the arrays: the nine results of the input projection's kernel, element by element, in terms of its
arguments.
-/

@[expose] public section
set_option maxRecDepth 16384
noncomputable section
namespace Cert.InArray
open Idealize.ShloMosaic Idealize.ShloMosaic.TcCoe Idealize.SL.Sem
open Cert.Kernel3Ideal Cert.Kernel3Ideal.Gen Cert.InWords Cert.InBody Cert.InOut

variable (m : (ℓ : Loc nD τ sig) → ℓ.ty.Contents (Elt Ideal))

abbrev arg0 (c : Dev nD) : FVec Ideal S8x4096x1024 .f32 := m ((c.tc : Thread nD τ).loc main_arg0)
abbrev arg1 (c : Dev nD) : IVec S8x4096 32 := m ((c.tc : Thread nD τ).loc main_arg1)
abbrev arg2 (c : Dev nD) : FVec Ideal S1024x2962 .f32 := m ((c.tc : Thread nD τ).loc main_arg2)

/-- The block index maps. -/
theorem idx : ∀ t : Fin cfg0.N,
    win0_0.index t = ![(grid0.coords t 0).val, (grid0.coords t 1).val, 0]
    ∧ win0_2.index t = ![(grid0.coords t 0).val, (grid0.coords t 1).val, 0]
    ∧ win0_3.index t = ![(grid0.coords t 0).val, (grid0.coords t 1).val, 0]
    ∧ win0_4.index t = ![0, 0]
    ∧ win0_8.index t = ![(grid0.coords t 0).val, (grid0.coords t 1).val, 0]
    ∧ win0_9.index t = ![(grid0.coords t 0).val, 0, (grid0.coords t 1).val]
    ∧ win0_10.index t = ![(grid0.coords t 0).val, (grid0.coords t 1).val, 0]
    ∧ win0_11.index t = ![(grid0.coords t 0).val, (grid0.coords t 1).val, 0]
    ∧ win0_12.index t = ![(grid0.coords t 0).val, (grid0.coords t 1).val, 0]
    ∧ win0_13.index t = ![(grid0.coords t 0).val, 0, (grid0.coords t 1).val, 0]
    ∧ win0_14.index t = ![(grid0.coords t 0).val, 0, (grid0.coords t 1).val, 0, 0]
    ∧ win0_15.index t = ![(grid0.coords t 0).val, (grid0.coords t 1).val, 0]
    ∧ win0_16.index t = ![(grid0.coords t 0).val, 0, (grid0.coords t 1).val, 0, 0] :=
  (by decide +kernel : ∀ t : Fin grid0.N, _)

theorem tile_lt (t : Fin cfg0.N) : (grid0.coords t 1).val < 8 := (grid0.coords t 1).isLt

/-- The position of row `r` of grid point `t`'s tile. -/
def pos (t : Fin cfg0.N) (r : Fin 512) : Fin 4096 := ⟨512 * (grid0.coords t 1).val + r.val, by have h := tile_lt t; omega⟩

/-- Its batch. -/
def bat (t : Fin cfg0.N) : Fin 8 := ⟨(grid0.coords t 0).val, (grid0.coords t 0).isLt⟩

/-- Four copies of the cosines side by side. -/
theorem entry18 (c : Dev nD) (b : Fin 8) (t : Fin 4096) (n : Fin 128) :
    (V (F := Ideal) m c main_v18 : FVec Ideal S8x4096x128 .f32) (ix3 b t n) = cosAt (arg1 m c) b t (n.val % 32) := by
  simp only [V, hostOps0, hostOps0_1, hostOps0_2, List.flatten_cons, List.flatten_nil, List.cons_append, List.nil_append]
  after_results_simp
  pointwise
  after_results_simp
  pointwise
  unfold cosAt angle freq
  have h := n.isLt
  by_cases h1 : n.val < 32
  · rw [dif_pos h1, show n.val % 32 = n.val by omega]
  · rw [dif_neg h1]
    by_cases h2 : n.val - 32 < 32
    · rw [dif_pos h2, show n.val % 32 = n.val - 32 by omega]
    · rw [dif_neg h2]
      by_cases h3 : n.val - 32 - 32 < 32
      · rw [dif_pos h3, show n.val % 32 = n.val - 32 - 32 by omega]
      · rw [dif_neg h3, show n.val % 32 = n.val - 32 - 32 - 32 by omega]

/-- The sines, negated for a head's first half. -/
theorem entry21 (c : Dev nD) (b : Fin 8) (t : Fin 4096) (n : Fin 128) :
    (V (F := Ideal) m c main_v21 : FVec Ideal S8x4096x128 .f32) (ix3 b t n)
      = if n.val % 64 < 32 then -sinAt (arg1 m c) b t (n.val % 32) else sinAt (arg1 m c) b t (n.val % 32) := by
  simp only [V, hostOps0, hostOps0_1, hostOps0_2, List.flatten_cons, List.flatten_nil, List.cons_append, List.nil_append]
  after_results_simp
  pointwise
  after_results_simp
  pointwise
  unfold sinAt angle freq
  have h := n.isLt
  by_cases h1 : n.val < 32
  · rw [dif_pos h1, if_pos (by omega), show n.val % 32 = n.val by omega]
  · rw [dif_neg h1]
    by_cases h2 : n.val - 32 < 32
    · rw [dif_pos h2, if_neg (by omega), show n.val % 32 = n.val - 32 by omega]
    · rw [dif_neg h2]
      by_cases h3 : n.val - 32 - 32 < 32
      · rw [dif_pos h3, if_pos (by omega), show n.val % 32 = n.val - 32 - 32 by omega]
      · rw [dif_neg h3, if_neg (by omega), show n.val % 32 = n.val - 32 - 32 - 32 by omega]

/-- The word of the integer zero. -/
theorem zero_word : (FloatOps.sitofp (F := Ideal) FTy.f32 (0#32) : EReal) = 0 := by
  simp [FloatOps.sitofp]

/-- The padded weights. -/
theorem entry23 (c : Dev nD) (k : Fin 1024) (n : Fin 3072) :
    (V (F := Ideal) m c main_v23 : FVec Ideal S1024x3072 .bf16) (ix2 k n) = col (arg2 m c) k n.val := by
  simp only [V, hostOps0, hostOps0_1, hostOps0_2, List.flatten_cons, List.flatten_nil, List.cons_append, List.nil_append]
  after_results_simp
  pointwise
  show (pad S1024x3072 ![0, 0] ![0, 110] ![0, 0] (arg2 m c) (sitofp .f32 (constantI S_ 32 0#32) : FVec Ideal S_ .f32)
    pads_S1024x2962_S1024x3072_000_01100 h_S_ : FVec Ideal S1024x3072 .f32) (ix2 k n) = _
  generalize arg2 m c = w
  pointwise
  unfold col
  by_cases hn : n.val < 2962
  · rw [dif_pos hn, dif_pos hn]
  · rw [dif_neg hn, dif_neg hn]
    exact zero_word

theorem blk0 (c : Dev nD) (t : Fin cfg0.N) (r : Fin 512) (k : Fin 1024) :
    iblk (F := Ideal) m c 0 t (ix3 0 r k) = arg0 m c (ix3 (bat t) (pos t r) k) := by
  blk_point [iblk, V, idx t, bat, pos]

theorem blk2 (c : Dev nD) (t : Fin cfg0.N) (r : Fin 512) (n : Fin 128) :
    iblk (F := Ideal) m c 2 t (ix3 0 r n) = cosAt (arg1 m c) (bat t) (pos t r) (n.val % 32) := by
  refine Eq.trans ?_ (entry18 m c (bat t) (pos t r) n)
  blk_ext [iblk, idx t, bat, pos]

theorem blk3 (c : Dev nD) (t : Fin cfg0.N) (r : Fin 512) (n : Fin 128) :
    iblk (F := Ideal) m c 3 t (ix3 0 r n) = if n.val % 64 < 32 then -sinAt (arg1 m c) (bat t) (pos t r) (n.val % 32)
      else sinAt (arg1 m c) (bat t) (pos t r) (n.val % 32) := by
  refine Eq.trans ?_ (entry21 m c (bat t) (pos t r) n)
  blk_ext [iblk, idx t, bat, pos]

theorem blk4 (c : Dev nD) (t : Fin cfg0.N) (k : Fin 1024) (n : Fin 3072) :
    iblk (F := Ideal) m c 4 t (ix2 k n) = col (arg2 m c) k n.val := by
  refine Eq.trans ?_ (entry23 m c k n)
  blk_ext [iblk, idx t]

/-- A tile's projected rows. -/
theorem rows_eq (c : Dev nD) (t : Fin cfg0.N) (r : Fin 512) :
    rows (iblk (F := Ideal) m c 0 t : FVec Ideal S1x512x1024 .f32) (iblk (F := Ideal) m c 4 t : FVec Ideal S1024x3072 .bf16) r
      = projAt (arg0 m c) (arg2 m c) (bat t) (pos t r) := by
  funext n
  unfold rows projAt proj
  refine Finset.sum_congr rfl fun k _ => congrArg₂ (· * ·) (blk0 m c t r k) ?_
  unfold wcol
  by_cases h : n < 3072
  · rw [dif_pos h]
    exact blk4 m c t k ⟨n, h⟩
  · rw [dif_neg h]
    unfold col
    rw [dif_neg (by omega)]

theorem ret_point (c : Dev nD) (t : Fin cfg0.N) (y1 : Fin 512) (y2 : Fin 1536) :
    ((outsAt0 (F := Ideal) m c t).2.1 : FVec Ideal S1x512x1536 .f32) (ix3 0 y1 y2) = retOut (arg0 m c) (arg1 m c) (arg2 m c) (ix3 (bat t) (pos t y1) y2) := by
  refine (InBlock.ret m c t _ _ _ _ rfl rfl rfl rfl (fun r => cosAt (arg1 m c) (bat t) (pos t r))
    (fun r => sinAt (arg1 m c) (bat t) (pos t r)) (blk2 m c t) (blk3 m c t) y1 y2).trans ?_
  rw [rows_eq]
  rfl

/-- RESULT: the retention rows. -/
theorem ret_final (c : Dev nD) : (dats (F := Ideal) m 0 c).arrAt 8 (cfgs 0).N = retOut (arg0 m c) (arg1 m c) (arg2 m c) := by
  refine (dats (F := Ideal) m 0 c).arrAt_eq_of_covers 8 _ (by decide +kernel) fun t _ y => ?_
  blk_simp
  rw [after0_8]
  have e : y = ix3 0 (y 1) (y 2) := by idx_ext
  rw [e]
  refine (ret_point m c t (y 1) (y 2)).trans ?_
  have w : ∀ X : FVec Ideal S8x4096x1536 .f32, X (ix3 (bat t) (pos t (y 1)) (y 2))
      = X ((win0_8.blk t).view.emb (ix3 0 (y 1) (y 2))) := fun X => by
    blk_ext [idx t, bat, pos]
  exact w (retOut (arg0 m c) (arg1 m c) (arg2 m c))

theorem q_point (c : Dev nD) (t : Fin cfg0.N) (y1 : Fin 384) (y2 : Fin 512) :
    ((outsAt0 (F := Ideal) m c t).2.2.1 : FVec Ideal S1x384x512 .bf16) (ix3 0 y1 y2) = qOut (arg0 m c) (arg1 m c) (arg2 m c) (ix3 (bat t) y1 (pos t y2)) := by
  refine (InBlock.queries m c t _ _ _ _ rfl rfl rfl rfl (fun r => cosAt (arg1 m c) (bat t) (pos t r))
    (fun r => sinAt (arg1 m c) (bat t) (pos t r)) (blk2 m c t) (blk3 m c t) y1 y2).trans ?_
  rw [rows_eq]
  rfl

/-- RESULT: the scaled queries, a column per position. -/
theorem q_final (c : Dev nD) : (dats (F := Ideal) m 0 c).arrAt 9 (cfgs 0).N = qOut (arg0 m c) (arg1 m c) (arg2 m c) := by
  refine (dats (F := Ideal) m 0 c).arrAt_eq_of_covers 9 _ (by decide +kernel) fun t _ y => ?_
  blk_simp
  rw [after0_9]
  have e : y = ix3 0 (y 1) (y 2) := by idx_ext
  rw [e]
  refine (q_point m c t (y 1) (y 2)).trans ?_
  have w : ∀ X : FVec Ideal S8x384x4096 .bf16, X (ix3 (bat t) (y 1) (pos t (y 2)))
      = X ((win0_9.blk t).view.emb (ix3 0 (y 1) (y 2))) := fun X => by
    blk_ext [idx t, bat, pos]
  exact w (qOut (arg0 m c) (arg1 m c) (arg2 m c))

theorem kc_point (c : Dev nD) (t : Fin cfg0.N) (y1 : Fin 32) (y2 : Fin 2048) :
    ((outsAt0 (F := Ideal) m c t).2.2.2.1 : FVec Ideal S1x32x2048 .f32) (ix3 0 y1 y2) = kcOut (arg0 m c) (arg1 m c) (arg2 m c) (ix3 (bat t) ⟨32 * (grid0.coords t 1).val + y1.val, by have h := tile_lt t; have h1 : y1.val < 32 := y1.isLt; omega⟩ y2) := by
  refine (InBlockC.rowsK m c t _ _ _ _ rfl rfl rfl rfl (fun r => cosAt (arg1 m c) (bat t) (pos t r))
    (fun r => sinAt (arg1 m c) (bat t) (pos t r)) (blk2 m c t) (blk3 m c t) y1 y2).trans ?_
  rw [rows_eq]
  have ep : pos t ⟨(16 * y1.val + y2.val / 128) % 512, Nat.mod_lt _ (by omega)⟩ = ⟨(16 * (32 * (grid0.coords t 1).val + y1.val) + y2.val / 128) % 4096, Nat.mod_lt _ (by omega)⟩ := Fin.ext (by
    have h := tile_lt t
    show 512 * (grid0.coords t 1).val + (16 * y1.val + y2.val / 128) % 512 = (16 * (32 * (grid0.coords t 1).val + y1.val) + y2.val / 128) % 4096
    omega)
  rw [ep]
  rfl

/-- RESULT: the keys to compress, sixteen positions to a row. -/
theorem kc_final (c : Dev nD) : (dats (F := Ideal) m 0 c).arrAt 10 (cfgs 0).N = kcOut (arg0 m c) (arg1 m c) (arg2 m c) := by
  refine (dats (F := Ideal) m 0 c).arrAt_eq_of_covers 10 _ (by decide +kernel) fun t _ y => ?_
  blk_simp
  rw [after0_10]
  have e : y = ix3 0 (y 1) (y 2) := by idx_ext
  rw [e]
  refine (kc_point m c t (y 1) (y 2)).trans ?_
  have w : ∀ X : FVec Ideal S8x256x2048 .f32, X (ix3 (bat t) ⟨32 * (grid0.coords t 1).val + (y 1).val, by have h := tile_lt t; have h1 : (y 1).val < 32 := (y 1).isLt; omega⟩ (y 2))
      = X ((win0_10.blk t).view.emb (ix3 0 (y 1) (y 2))) := fun X => by
    blk_ext [idx t, bat, pos]
  exact w (kcOut (arg0 m c) (arg1 m c) (arg2 m c))

theorem vc_point (c : Dev nD) (t : Fin cfg0.N) (y1 : Fin 32) (y2 : Fin 2048) :
    ((outsAt0 (F := Ideal) m c t).2.2.2.2.1 : FVec Ideal S1x32x2048 .f32) (ix3 0 y1 y2) = vcOut (arg0 m c) (arg1 m c) (arg2 m c) (ix3 (bat t) ⟨32 * (grid0.coords t 1).val + y1.val, by have h := tile_lt t; have h1 : y1.val < 32 := y1.isLt; omega⟩ y2) := by
  refine (InBlockC.rowsV m c t _ _ _ _ rfl rfl rfl rfl (fun r => cosAt (arg1 m c) (bat t) (pos t r))
    (fun r => sinAt (arg1 m c) (bat t) (pos t r)) (blk2 m c t) (blk3 m c t) y1 y2).trans ?_
  rw [rows_eq]
  have ep : pos t ⟨(16 * y1.val + y2.val / 128) % 512, Nat.mod_lt _ (by omega)⟩ = ⟨(16 * (32 * (grid0.coords t 1).val + y1.val) + y2.val / 128) % 4096, Nat.mod_lt _ (by omega)⟩ := Fin.ext (by
    have h := tile_lt t
    show 512 * (grid0.coords t 1).val + (16 * y1.val + y2.val / 128) % 512 = (16 * (32 * (grid0.coords t 1).val + y1.val) + y2.val / 128) % 4096
    omega)
  rw [ep]
  rfl

/-- RESULT: the values to compress, sixteen positions to a row. -/
theorem vc_final (c : Dev nD) : (dats (F := Ideal) m 0 c).arrAt 11 (cfgs 0).N = vcOut (arg0 m c) (arg1 m c) (arg2 m c) := by
  refine (dats (F := Ideal) m 0 c).arrAt_eq_of_covers 11 _ (by decide +kernel) fun t _ y => ?_
  blk_simp
  rw [after0_11]
  have e : y = ix3 0 (y 1) (y 2) := by idx_ext
  rw [e]
  refine (vc_point m c t (y 1) (y 2)).trans ?_
  have w : ∀ X : FVec Ideal S8x256x2048 .f32, X (ix3 (bat t) ⟨32 * (grid0.coords t 1).val + (y 1).val, by have h := tile_lt t; have h1 : (y 1).val < 32 := (y 1).isLt; omega⟩ (y 2))
      = X ((win0_11.blk t).view.emb (ix3 0 (y 1) (y 2))) := fun X => by
    blk_ext [idx t, bat, pos]
  exact w (vcOut (arg0 m c) (arg1 m c) (arg2 m c))

theorem gate_point (c : Dev nD) (t : Fin cfg0.N) (y1 : Fin 512) (y2 : Fin 128) :
    ((outsAt0 (F := Ideal) m c t).2.2.2.2.2.1 : FVec Ideal S1x512x128 .f32) (ix3 0 y1 y2) = gateOut (arg0 m c) (arg1 m c) (arg2 m c) (ix3 (bat t) (pos t y1) y2) := by
  refine (InBlock.gate m c t _ _ _ _ rfl rfl rfl rfl (fun r => cosAt (arg1 m c) (bat t) (pos t r))
    (fun r => sinAt (arg1 m c) (bat t) (pos t r)) (blk2 m c t) (blk3 m c t) y1 y2).trans ?_
  rw [rows_eq]
  rfl

/-- RESULT: the gates and the columns of zero after them. -/
theorem gate_final (c : Dev nD) : (dats (F := Ideal) m 0 c).arrAt 12 (cfgs 0).N = gateOut (arg0 m c) (arg1 m c) (arg2 m c) := by
  refine (dats (F := Ideal) m 0 c).arrAt_eq_of_covers 12 _ (by decide +kernel) fun t _ y => ?_
  blk_simp
  rw [after0_12]
  have e : y = ix3 0 (y 1) (y 2) := by idx_ext
  rw [e]
  refine (gate_point m c t (y 1) (y 2)).trans ?_
  have w : ∀ X : FVec Ideal S8x4096x128 .f32, X (ix3 (bat t) (pos t (y 1)) (y 2))
      = X ((win0_12.blk t).view.emb (ix3 0 (y 1) (y 2))) := fun X => by
    blk_ext [idx t, bat, pos]
  exact w (gateOut (arg0 m c) (arg1 m c) (arg2 m c))

theorem ks_point (c : Dev nD) (t : Fin cfg0.N) (y1 : Fin 2) (y2 : Fin 512) (y3 : Fin 128) :
    ((outsAt0 (F := Ideal) m c t).2.2.2.2.2.2.1 : FVec Ideal S1x2x512x128 .bf16) (ix4 0 y1 y2 y3) = ksOut (arg0 m c) (arg1 m c) (arg2 m c) (ix4 (bat t) y1 (pos t y2) y3) := by
  refine (InBlockC.keysS m c t _ _ _ _ rfl rfl rfl rfl (fun r => cosAt (arg1 m c) (bat t) (pos t r))
    (fun r => sinAt (arg1 m c) (bat t) (pos t r)) (blk2 m c t) (blk3 m c t) y1 y2 y3).trans ?_
  rw [rows_eq]
  rfl

/-- RESULT: the selected keys with the mark of their block. -/
theorem ks_final (c : Dev nD) : (dats (F := Ideal) m 0 c).arrAt 13 (cfgs 0).N = ksOut (arg0 m c) (arg1 m c) (arg2 m c) := by
  refine (dats (F := Ideal) m 0 c).arrAt_eq_of_covers 13 _ (by decide +kernel) fun t _ y => ?_
  blk_simp
  rw [after0_13]
  have e : y = ix4 0 (y 1) (y 2) (y 3) := by idx_ext
  rw [e]
  refine (ks_point m c t (y 1) (y 2) (y 3)).trans ?_
  have w : ∀ X : FVec Ideal S8x2x4096x128 .bf16, X (ix4 (bat t) (y 1) (pos t (y 2)) (y 3))
      = X ((win0_13.blk t).view.emb (ix4 0 (y 1) (y 2) (y 3))) := fun X => by
    blk_ext [idx t, bat, pos]
  exact w (ksOut (arg0 m c) (arg1 m c) (arg2 m c))

theorem vs_point (c : Dev nD) (t : Fin cfg0.N) (y1 : Fin 2) (y3 : Fin 80) (y4 : Fin 512) :
    ((outsAt0 (F := Ideal) m c t).2.2.2.2.2.2.2.1 : FVec Ideal S1x2x1x80x512 .bf16) (ix5 0 y1 0 y3 y4) = vsOut (arg0 m c) (arg1 m c) (arg2 m c) (ix5 (bat t) y1 (grid0.coords t 1) y3 y4) := by
  refine (InBlockC.valsS m c t _ _ _ _ rfl rfl rfl rfl (fun r => cosAt (arg1 m c) (bat t) (pos t r))
    (fun r => sinAt (arg1 m c) (bat t) (pos t r)) (blk2 m c t) (blk3 m c t) y1 y3 y4).trans ?_
  rw [rows_eq]
  have ep : pos t y4 = ⟨(512 * (grid0.coords t 1).val + y4.val) % 4096, Nat.mod_lt _ (by omega)⟩ := Fin.ext (by
    have h := tile_lt t
    show 512 * (grid0.coords t 1).val + y4.val = (512 * (grid0.coords t 1).val + y4.val) % 4096
    omega)
  rw [ep]
  rfl

/-- RESULT: the selected values by chunks of 512 positions. -/
theorem vs_final (c : Dev nD) : (dats (F := Ideal) m 0 c).arrAt 14 (cfgs 0).N = vsOut (arg0 m c) (arg1 m c) (arg2 m c) := by
  refine (dats (F := Ideal) m 0 c).arrAt_eq_of_covers 14 _ (by decide +kernel) fun t _ y => ?_
  blk_simp
  rw [after0_14]
  have e : y = ix5 0 (y 1) 0 (y 3) (y 4) := by idx_ext
  rw [e]
  refine (vs_point m c t (y 1) (y 3) (y 4)).trans ?_
  have w : ∀ X : FVec Ideal S8x2x8x80x512 .bf16, X (ix5 (bat t) (y 1) (grid0.coords t 1) (y 3) (y 4))
      = X ((win0_14.blk t).view.emb (ix5 0 (y 1) 0 (y 3) (y 4))) := fun X => by
    blk_ext [idx t, bat, pos]
  exact w (vsOut (arg0 m c) (arg1 m c) (arg2 m c))

theorem kw_point (c : Dev nD) (t : Fin cfg0.N) (y1 : Fin 512) (y2 : Fin 128) :
    ((outsAt0 (F := Ideal) m c t).2.2.2.2.2.2.2.2.1 : FVec Ideal S1x512x128 .bf16) (ix3 0 y1 y2) = kwOut (arg0 m c) (arg1 m c) (arg2 m c) (ix3 (bat t) (pos t y1) y2) := by
  refine (InBlock.keysW m c t _ _ _ _ rfl rfl rfl rfl (fun r => cosAt (arg1 m c) (bat t) (pos t r))
    (fun r => sinAt (arg1 m c) (bat t) (pos t r)) (blk2 m c t) (blk3 m c t) y1 y2).trans ?_
  rw [rows_eq]
  rfl

/-- RESULT: the keys of the window. -/
theorem kw_final (c : Dev nD) : (dats (F := Ideal) m 0 c).arrAt 15 (cfgs 0).N = kwOut (arg0 m c) (arg1 m c) (arg2 m c) := by
  refine (dats (F := Ideal) m 0 c).arrAt_eq_of_covers 15 _ (by decide +kernel) fun t _ y => ?_
  blk_simp
  rw [after0_15]
  have e : y = ix3 0 (y 1) (y 2) := by idx_ext
  rw [e]
  refine (kw_point m c t (y 1) (y 2)).trans ?_
  have w : ∀ X : FVec Ideal S8x4096x128 .bf16, X (ix3 (bat t) (pos t (y 1)) (y 2))
      = X ((win0_15.blk t).view.emb (ix3 0 (y 1) (y 2))) := fun X => by
    blk_ext [idx t, bat, pos]
  exact w (kwOut (arg0 m c) (arg1 m c) (arg2 m c))

theorem vw_point (c : Dev nD) (t : Fin cfg0.N) (y1 : Fin 2) (y2 : Fin 4) (y3 : Fin 80) (y4 : Fin 128) :
    ((outsAt0 (F := Ideal) m c t).2.2.2.2.2.2.2.2.2 : FVec Ideal S1x2x4x80x128 .bf16) (ix5 0 y1 y2 y3 y4) = vwOut (arg0 m c) (arg1 m c) (arg2 m c) (ix5 (bat t) y1 ⟨4 * (grid0.coords t 1).val + y2.val, by have h := tile_lt t; have h2 : y2.val < 4 := y2.isLt; omega⟩ y3 y4) := by
  refine (InBlockC.valsW m c t _ _ _ _ rfl rfl rfl rfl (fun r => cosAt (arg1 m c) (bat t) (pos t r))
    (fun r => sinAt (arg1 m c) (bat t) (pos t r)) (blk2 m c t) (blk3 m c t) y1 y2 y3 y4).trans ?_
  rw [rows_eq]
  have ep : pos t ⟨(128 * y2.val + y4.val) % 512, Nat.mod_lt _ (by omega)⟩ = ⟨(128 * (4 * (grid0.coords t 1).val + y2.val) + y4.val) % 4096, Nat.mod_lt _ (by omega)⟩ := Fin.ext (by
    have h := tile_lt t
    show 512 * (grid0.coords t 1).val + (128 * y2.val + y4.val) % 512 = (128 * (4 * (grid0.coords t 1).val + y2.val) + y4.val) % 4096
    omega)
  rw [ep]
  rfl

/-- RESULT: the values of the window by chunks of 128 positions. -/
theorem vw_final (c : Dev nD) : (dats (F := Ideal) m 0 c).arrAt 16 (cfgs 0).N = vwOut (arg0 m c) (arg1 m c) (arg2 m c) := by
  refine (dats (F := Ideal) m 0 c).arrAt_eq_of_covers 16 _ (by decide +kernel) fun t _ y => ?_
  blk_simp
  rw [after0_16]
  have e : y = ix5 0 (y 1) (y 2) (y 3) (y 4) := by idx_ext
  rw [e]
  refine (vw_point m c t (y 1) (y 2) (y 3) (y 4)).trans ?_
  have w : ∀ X : FVec Ideal S8x2x32x80x128 .bf16, X (ix5 (bat t) (y 1) ⟨4 * (grid0.coords t 1).val + (y 2).val, by have h := tile_lt t; have h2 : (y 2).val < 4 := (y 2).isLt; omega⟩ (y 3) (y 4))
      = X ((win0_16.blk t).view.emb (ix5 0 (y 1) (y 2) (y 3) (y 4))) := fun X => by
    blk_ext [idx t, bat, pos]
  exact w (vwOut (arg0 m c) (arg1 m c) (arg2 m c))

end Cert.InArray
end
-- ==== Proof.InRef.lean ====
module
public import proofs.«01_k».proof.Proof.Gen.Reference3Ideal.Read
public import proofs.«01_k».proof.Proof.InOut
public import Idealize.ShloMosaic.Lib.Pointwise
public import Idealize.ShloMosaic.Lib.IdealHost

/-!
The input projection's reference, element by element: the plain formulas over the whole sequence give the same words.
-/

@[expose] public section
set_option maxRecDepth 16384
noncomputable section
namespace Cert.InRef
open Idealize.ShloMosaic Idealize.ShloMosaic.TcCoe Idealize.SL.Sem
open Cert.Reference3Ideal Cert.Reference3Ideal.Gen Cert.Reference3Ideal.Read Cert.InWords Cert.InOut

/-- A rotated head from its two halves. -/
theorem turn_halves (h c s : ℕ → EReal) (base q l : ℕ) (hb : base % 64 = 0) (hl : l < 64) :
    (if l < 32 then h (base + 64 * q + l) * c l - h (base + 64 * q + (32 + l)) * s l
      else h (base + 64 * q + l) * c (l - 32) + h (base + 64 * q + (l - 32)) * s (l - 32))
      = turn h c s (base + 64 * q + l) := by
  unfold turn
  by_cases h1 : l < 32
  · rw [if_pos h1, if_pos (by omega), show (base + 64 * q + l) % 32 = l by omega, sub_eq_add_neg, mul_neg,
      show base + 64 * q + l + 32 = base + 64 * q + (32 + l) by omega]
  · rw [if_neg h1, if_neg (by omega), show (base + 64 * q + l) % 32 = l - 32 by omega,
      show base + 64 * q + l - 32 = base + 64 * q + (l - 32) by omega]

/-- The product with the weights. -/
theorem h_apply (x : FVec Ideal S8x4096x1024 .f32) (w : FVec Ideal S1024x2962 .f32) (b : Fin 8) (t : Fin 4096) (n : Fin 2962) :
    val_main_v0 (F := Ideal) x w (ix3 b t n) = projAt x w b t n.val := by
  pointwise [val_main_v0]
  unfold projAt proj
  refine Finset.sum_congr rfl fun k _ => congrArg (x (ix3 b t k) * ·) ?_
  unfold col
  rw [dif_pos n.isLt]

theorem cos_apply (p : IVec S8x4096 32) (b : Fin 8) (t : Fin 4096) (e : Fin 32) :
    val_main_v31 (F := Ideal) p (ix4 b t 0 e) = cosAt p b t e.val := by
  pointwise [val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_cst, val_main_cst_0, val_main_cst_1, val_main_cst_2]
  rfl

theorem sin_apply (p : IVec S8x4096 32) (b : Fin 8) (t : Fin 4096) (e : Fin 32) :
    val_main_v33 (F := Ideal) p (ix4 b t 0 e) = sinAt p b t e.val := by
  pointwise [val_main_v33, val_main_v32, val_main_v29, val_main_v28, val_main_v27, val_main_v26, val_main_v25, val_main_v24, val_main_v23, val_main_v22, val_main_v21, val_main_v20, val_main_v19, val_main_v18, val_main_v17, val_main_v16, val_main_v15, val_main_v14, val_main_cst, val_main_cst_0, val_main_cst_1, val_main_cst_2]
  rfl

theorem split2 (x : FVec Ideal S8x4096x1024 .f32) (w : FVec Ideal S1024x2962 .f32) (b : Fin 8) (t : Fin 4096) (n : Fin 384) :
    val_main_v2 (F := Ideal) x w (ix3 b t n) = projAt x w b t (256 + n.val) := by
  have e := h_apply x w b t ⟨256 + n.val, by omega⟩
  unfold val_main_v2
  generalize val_main_v0 (F := Ideal) x w = y at e ⊢
  pointwise
  exact e

theorem split3 (x : FVec Ideal S8x4096x1024 .f32) (w : FVec Ideal S1024x2962 .f32) (b : Fin 8) (t : Fin 4096) (n : Fin 384) :
    val_main_v3 (F := Ideal) x w (ix3 b t n) = projAt x w b t (640 + n.val) := by
  have e := h_apply x w b t ⟨640 + n.val, by omega⟩
  unfold val_main_v3
  generalize val_main_v0 (F := Ideal) x w = y at e ⊢
  pointwise
  exact e

theorem split4 (x : FVec Ideal S8x4096x1024 .f32) (w : FVec Ideal S1024x2962 .f32) (b : Fin 8) (t : Fin 4096) (n : Fin 384) :
    val_main_v4 (F := Ideal) x w (ix3 b t n) = projAt x w b t (1024 + n.val) := by
  have e := h_apply x w b t ⟨1024 + n.val, by omega⟩
  unfold val_main_v4
  generalize val_main_v0 (F := Ideal) x w = y at e ⊢
  pointwise
  exact e

theorem split5 (x : FVec Ideal S8x4096x1024 .f32) (w : FVec Ideal S1024x2962 .f32) (b : Fin 8) (t : Fin 4096) (n : Fin 384) :
    val_main_v5 (F := Ideal) x w (ix3 b t n) = projAt x w b t (1408 + n.val) := by
  have e := h_apply x w b t ⟨1408 + n.val, by omega⟩
  unfold val_main_v5
  generalize val_main_v0 (F := Ideal) x w = y at e ⊢
  pointwise
  exact e

theorem split6 (x : FVec Ideal S8x4096x1024 .f32) (w : FVec Ideal S1024x2962 .f32) (b : Fin 8) (t : Fin 4096) (n : Fin 384) :
    val_main_v6 (F := Ideal) x w (ix3 b t n) = projAt x w b t (1792 + n.val) := by
  have e := h_apply x w b t ⟨1792 + n.val, by omega⟩
  unfold val_main_v6
  generalize val_main_v0 (F := Ideal) x w = y at e ⊢
  pointwise
  exact e

theorem split7 (x : FVec Ideal S8x4096x1024 .f32) (w : FVec Ideal S1024x2962 .f32) (b : Fin 8) (t : Fin 4096) (n : Fin 128) :
    val_main_v7 (F := Ideal) x w (ix3 b t n) = projAt x w b t (2176 + n.val) := by
  have e := h_apply x w b t ⟨2176 + n.val, by omega⟩
  unfold val_main_v7
  generalize val_main_v0 (F := Ideal) x w = y at e ⊢
  pointwise
  exact e

theorem split8 (x : FVec Ideal S8x4096x1024 .f32) (w : FVec Ideal S1024x2962 .f32) (b : Fin 8) (t : Fin 4096) (n : Fin 128) :
    val_main_v8 (F := Ideal) x w (ix3 b t n) = projAt x w b t (2304 + n.val) := by
  have e := h_apply x w b t ⟨2304 + n.val, by omega⟩
  unfold val_main_v8
  generalize val_main_v0 (F := Ideal) x w = y at e ⊢
  pointwise
  exact e

theorem split9 (x : FVec Ideal S8x4096x1024 .f32) (w : FVec Ideal S1024x2962 .f32) (b : Fin 8) (t : Fin 4096) (n : Fin 128) :
    val_main_v9 (F := Ideal) x w (ix3 b t n) = projAt x w b t (2432 + n.val) := by
  have e := h_apply x w b t ⟨2432 + n.val, by omega⟩
  unfold val_main_v9
  generalize val_main_v0 (F := Ideal) x w = y at e ⊢
  pointwise
  exact e

theorem split10 (x : FVec Ideal S8x4096x1024 .f32) (w : FVec Ideal S1024x2962 .f32) (b : Fin 8) (t : Fin 4096) (n : Fin 128) :
    val_main_v10 (F := Ideal) x w (ix3 b t n) = projAt x w b t (2560 + n.val) := by
  have e := h_apply x w b t ⟨2560 + n.val, by omega⟩
  unfold val_main_v10
  generalize val_main_v0 (F := Ideal) x w = y at e ⊢
  pointwise
  exact e

theorem split11 (x : FVec Ideal S8x4096x1024 .f32) (w : FVec Ideal S1024x2962 .f32) (b : Fin 8) (t : Fin 4096) (n : Fin 128) :
    val_main_v11 (F := Ideal) x w (ix3 b t n) = projAt x w b t (2688 + n.val) := by
  have e := h_apply x w b t ⟨2688 + n.val, by omega⟩
  unfold val_main_v11
  generalize val_main_v0 (F := Ideal) x w = y at e ⊢
  pointwise
  exact e

theorem split12 (x : FVec Ideal S8x4096x1024 .f32) (w : FVec Ideal S1024x2962 .f32) (b : Fin 8) (t : Fin 4096) (n : Fin 128) :
    val_main_v12 (F := Ideal) x w (ix3 b t n) = projAt x w b t (2816 + n.val) := by
  have e := h_apply x w b t ⟨2816 + n.val, by omega⟩
  unfold val_main_v12
  generalize val_main_v0 (F := Ideal) x w = y at e ⊢
  pointwise
  exact e

theorem split13 (x : FVec Ideal S8x4096x1024 .f32) (w : FVec Ideal S1024x2962 .f32) (b : Fin 8) (t : Fin 4096) (n : Fin 18) :
    val_main_v13 (F := Ideal) x w (ix3 b t n) = projAt x w b t (2944 + n.val) := by
  have e := h_apply x w b t ⟨2944 + n.val, by omega⟩
  unfold val_main_v13
  generalize val_main_v0 (F := Ideal) x w = y at e ⊢
  pointwise
  exact e

theorem heads34 (x : FVec Ideal S8x4096x1024 .f32) (w : FVec Ideal S1024x2962 .f32) (b : Fin 8) (t : Fin 4096) (q : Fin 6) (l : Fin 64) :
    val_main_v34 (F := Ideal) x w (ix4 b t q l) = projAt x w b t (256 + 64 * q.val + l.val) := by
  have e := split2 x w b t ⟨64 * q.val + l.val, by omega⟩
  rw [val_main_v34_apply]
  refine Eq.trans (congrArg _ ?_) (e.trans (congrArg _ (by show 256 + (64 * q.val + l.val) = _; omega)))
  idx_ext <;> omega

/-- The rotated heads. -/
theorem rope47 (x : FVec Ideal S8x4096x1024 .f32) (p : IVec S8x4096 32) (w : FVec Ideal S1024x2962 .f32) (b : Fin 8) (t : Fin 4096) (q : Fin 6) (l : Fin 64) :
    val_main_v47 (F := Ideal) x p w (ix4 b t q l)
      = turn (projAt x w b t) (cosAt p b t) (sinAt p b t) (256 + 64 * q.val + l.val) := by
  refine Eq.trans ?_ (turn_halves (projAt x w b t) (cosAt p b t) (sinAt p b t) 256 q.val l.val (by omega) l.isLt)
  have ez := heads34 x w b t q
  have ec := cos_apply p b t
  have es := sin_apply p b t
  unfold val_main_v47 val_main_v46 val_main_v45 val_main_v44 val_main_v43 val_main_v42 val_main_v41 val_main_v40 val_main_v39 val_main_v38 val_main_v37 val_main_v36 val_main_v35
  generalize val_main_v34 (F := Ideal) x w = z at ez ⊢
  generalize val_main_v31 (F := Ideal) p = c at ec ⊢
  generalize val_main_v33 (F := Ideal) p = s at es ⊢
  pointwise
  by_cases h1 : l.val < 32
  · rw [dif_pos h1, if_pos h1]
    rw [ez, ez, ec, es]
  · rw [dif_neg h1, if_neg h1]
    rw [ez, ez, ec, es]
    exact congrArg₂ (· + ·) (congrArg₂ (· * ·)
      (congrArg (projAt x w b t) (show 256 + 64 * q.val + (32 + (l.val - 32)) = 256 + 64 * q.val + l.val by omega)) rfl) rfl

theorem heads49 (x : FVec Ideal S8x4096x1024 .f32) (w : FVec Ideal S1024x2962 .f32) (b : Fin 8) (t : Fin 4096) (q : Fin 6) (l : Fin 64) :
    val_main_v49 (F := Ideal) x w (ix4 b t q l) = projAt x w b t (640 + 64 * q.val + l.val) := by
  have e := split3 x w b t ⟨64 * q.val + l.val, by omega⟩
  rw [val_main_v49_apply]
  refine Eq.trans (congrArg _ ?_) (e.trans (congrArg _ (by show 640 + (64 * q.val + l.val) = _; omega)))
  idx_ext <;> omega

/-- The rotated heads. -/
theorem rope62 (x : FVec Ideal S8x4096x1024 .f32) (p : IVec S8x4096 32) (w : FVec Ideal S1024x2962 .f32) (b : Fin 8) (t : Fin 4096) (q : Fin 6) (l : Fin 64) :
    val_main_v62 (F := Ideal) x p w (ix4 b t q l)
      = turn (projAt x w b t) (cosAt p b t) (sinAt p b t) (640 + 64 * q.val + l.val) := by
  refine Eq.trans ?_ (turn_halves (projAt x w b t) (cosAt p b t) (sinAt p b t) 640 q.val l.val (by omega) l.isLt)
  have ez := heads49 x w b t q
  have ec := cos_apply p b t
  have es := sin_apply p b t
  unfold val_main_v62 val_main_v61 val_main_v60 val_main_v59 val_main_v58 val_main_v57 val_main_v56 val_main_v55 val_main_v54 val_main_v53 val_main_v52 val_main_v51 val_main_v50
  generalize val_main_v49 (F := Ideal) x w = z at ez ⊢
  generalize val_main_v31 (F := Ideal) p = c at ec ⊢
  generalize val_main_v33 (F := Ideal) p = s at es ⊢
  pointwise
  by_cases h1 : l.val < 32
  · rw [dif_pos h1, if_pos h1]
    rw [ez, ez, ec, es]
  · rw [dif_neg h1, if_neg h1]
    rw [ez, ez, ec, es]
    exact congrArg₂ (· + ·) (congrArg₂ (· * ·)
      (congrArg (projAt x w b t) (show 640 + 64 * q.val + (32 + (l.val - 32)) = 640 + 64 * q.val + l.val by omega)) rfl) rfl

theorem heads67 (x : FVec Ideal S8x4096x1024 .f32) (w : FVec Ideal S1024x2962 .f32) (b : Fin 8) (t : Fin 4096) (q : Fin 6) (l : Fin 64) :
    val_main_v67 (F := Ideal) x w (ix4 b t q l) = projAt x w b t (1792 + 64 * q.val + l.val) := by
  have e := split6 x w b t ⟨64 * q.val + l.val, by omega⟩
  rw [val_main_v67_apply]
  refine Eq.trans (congrArg _ ?_) (e.trans (congrArg _ (by show 1792 + (64 * q.val + l.val) = _; omega)))
  idx_ext <;> omega

/-- The rotated heads. -/
theorem rope80 (x : FVec Ideal S8x4096x1024 .f32) (p : IVec S8x4096 32) (w : FVec Ideal S1024x2962 .f32) (b : Fin 8) (t : Fin 4096) (q : Fin 6) (l : Fin 64) :
    val_main_v80 (F := Ideal) x p w (ix4 b t q l)
      = turn (projAt x w b t) (cosAt p b t) (sinAt p b t) (1792 + 64 * q.val + l.val) := by
  refine Eq.trans ?_ (turn_halves (projAt x w b t) (cosAt p b t) (sinAt p b t) 1792 q.val l.val (by omega) l.isLt)
  have ez := heads67 x w b t q
  have ec := cos_apply p b t
  have es := sin_apply p b t
  unfold val_main_v80 val_main_v79 val_main_v78 val_main_v77 val_main_v76 val_main_v75 val_main_v74 val_main_v73 val_main_v72 val_main_v71 val_main_v70 val_main_v69 val_main_v68
  generalize val_main_v67 (F := Ideal) x w = z at ez ⊢
  generalize val_main_v31 (F := Ideal) p = c at ec ⊢
  generalize val_main_v33 (F := Ideal) p = s at es ⊢
  pointwise
  by_cases h1 : l.val < 32
  · rw [dif_pos h1, if_pos h1]
    rw [ez, ez, ec, es]
  · rw [dif_neg h1, if_neg h1]
    rw [ez, ez, ec, es]
    exact congrArg₂ (· + ·) (congrArg₂ (· * ·)
      (congrArg (projAt x w b t) (show 1792 + 64 * q.val + (32 + (l.val - 32)) = 1792 + 64 * q.val + l.val by omega)) rfl) rfl

theorem heads85 (x : FVec Ideal S8x4096x1024 .f32) (w : FVec Ideal S1024x2962 .f32) (b : Fin 8) (t : Fin 4096) (q : Fin 2) (l : Fin 64) :
    val_main_v85 (F := Ideal) x w (ix4 b t q l) = projAt x w b t (2432 + 64 * q.val + l.val) := by
  have e := split9 x w b t ⟨64 * q.val + l.val, by omega⟩
  rw [val_main_v85_apply]
  refine Eq.trans (congrArg _ ?_) (e.trans (congrArg _ (by show 2432 + (64 * q.val + l.val) = _; omega)))
  idx_ext <;> omega

/-- The rotated heads. -/
theorem rope98 (x : FVec Ideal S8x4096x1024 .f32) (p : IVec S8x4096 32) (w : FVec Ideal S1024x2962 .f32) (b : Fin 8) (t : Fin 4096) (q : Fin 2) (l : Fin 64) :
    val_main_v98 (F := Ideal) x p w (ix4 b t q l)
      = turn (projAt x w b t) (cosAt p b t) (sinAt p b t) (2432 + 64 * q.val + l.val) := by
  refine Eq.trans ?_ (turn_halves (projAt x w b t) (cosAt p b t) (sinAt p b t) 2432 q.val l.val (by omega) l.isLt)
  have ez := heads85 x w b t q
  have ec := cos_apply p b t
  have es := sin_apply p b t
  unfold val_main_v98 val_main_v97 val_main_v96 val_main_v95 val_main_v94 val_main_v93 val_main_v92 val_main_v91 val_main_v90 val_main_v89 val_main_v88 val_main_v87 val_main_v86
  generalize val_main_v85 (F := Ideal) x w = z at ez ⊢
  generalize val_main_v31 (F := Ideal) p = c at ec ⊢
  generalize val_main_v33 (F := Ideal) p = s at es ⊢
  pointwise
  by_cases h1 : l.val < 32
  · rw [dif_pos h1, if_pos h1]
    rw [ez, ez, ec, es]
  · rw [dif_neg h1, if_neg h1]
    rw [ez, ez, ec, es]
    exact congrArg₂ (· + ·) (congrArg₂ (· * ·)
      (congrArg (projAt x w b t) (show 2432 + 64 * q.val + (32 + (l.val - 32)) = 2432 + 64 * q.val + l.val by omega)) rfl) rfl

theorem heads111 (x : FVec Ideal S8x4096x1024 .f32) (w : FVec Ideal S1024x2962 .f32) (b : Fin 8) (t : Fin 4096) (q : Fin 2) (l : Fin 64) :
    val_main_v111 (F := Ideal) x w (ix4 b t q l) = projAt x w b t (2688 + 64 * q.val + l.val) := by
  have e := split11 x w b t ⟨64 * q.val + l.val, by omega⟩
  rw [val_main_v111_apply]
  refine Eq.trans (congrArg _ ?_) (e.trans (congrArg _ (by show 2688 + (64 * q.val + l.val) = _; omega)))
  idx_ext <;> omega

/-- The rotated heads. -/
theorem rope124 (x : FVec Ideal S8x4096x1024 .f32) (p : IVec S8x4096 32) (w : FVec Ideal S1024x2962 .f32) (b : Fin 8) (t : Fin 4096) (q : Fin 2) (l : Fin 64) :
    val_main_v124 (F := Ideal) x p w (ix4 b t q l)
      = turn (projAt x w b t) (cosAt p b t) (sinAt p b t) (2688 + 64 * q.val + l.val) := by
  refine Eq.trans ?_ (turn_halves (projAt x w b t) (cosAt p b t) (sinAt p b t) 2688 q.val l.val (by omega) l.isLt)
  have ez := heads111 x w b t q
  have ec := cos_apply p b t
  have es := sin_apply p b t
  unfold val_main_v124 val_main_v123 val_main_v122 val_main_v121 val_main_v120 val_main_v119 val_main_v118 val_main_v117 val_main_v116 val_main_v115 val_main_v114 val_main_v113 val_main_v112
  generalize val_main_v111 (F := Ideal) x w = z at ez ⊢
  generalize val_main_v31 (F := Ideal) p = c at ec ⊢
  generalize val_main_v33 (F := Ideal) p = s at es ⊢
  pointwise
  by_cases h1 : l.val < 32
  · rw [dif_pos h1, if_pos h1]
    rw [ez, ez, ec, es]
  · rw [dif_neg h1, if_neg h1]
    rw [ez, ez, ec, es]
    exact congrArg₂ (· + ·) (congrArg₂ (· * ·)
      (congrArg (projAt x w b t) (show 2688 + 64 * q.val + (32 + (l.val - 32)) = 2688 + 64 * q.val + l.val by omega)) rfl) rfl

theorem flat48 (x : FVec Ideal S8x4096x1024 .f32) (p : IVec S8x4096 32) (w : FVec Ideal S1024x2962 .f32) (b : Fin 8) (t : Fin 4096) (n : Fin 384) :
    val_main_v48 (F := Ideal) x p w (ix3 b t n)
      = turn (projAt x w b t) (cosAt p b t) (sinAt p b t) (256 + n.val) := by
  have e := rope47 x p w b t ⟨n.val / 64, by omega⟩ ⟨n.val % 64, by omega⟩
  rw [val_main_v48_apply]
  refine Eq.trans (congrArg _ ?_) (e.trans (congrArg _ (by show 256 + 64 * (n.val / 64) + n.val % 64 = _; omega)))
  idx_ext <;> omega

theorem flat63 (x : FVec Ideal S8x4096x1024 .f32) (p : IVec S8x4096 32) (w : FVec Ideal S1024x2962 .f32) (b : Fin 8) (t : Fin 4096) (n : Fin 384) :
    val_main_v63 (F := Ideal) x p w (ix3 b t n)
      = turn (projAt x w b t) (cosAt p b t) (sinAt p b t) (640 + n.val) := by
  have e := rope62 x p w b t ⟨n.val / 64, by omega⟩ ⟨n.val % 64, by omega⟩
  rw [val_main_v63_apply]
  refine Eq.trans (congrArg _ ?_) (e.trans (congrArg _ (by show 640 + 64 * (n.val / 64) + n.val % 64 = _; omega)))
  idx_ext <;> omega

theorem flat81 (x : FVec Ideal S8x4096x1024 .f32) (p : IVec S8x4096 32) (w : FVec Ideal S1024x2962 .f32) (b : Fin 8) (t : Fin 4096) (n : Fin 384) :
    val_main_v81 (F := Ideal) x p w (ix3 b t n)
      = turn (projAt x w b t) (cosAt p b t) (sinAt p b t) (1792 + n.val) := by
  have e := rope80 x p w b t ⟨n.val / 64, by omega⟩ ⟨n.val % 64, by omega⟩
  rw [val_main_v81_apply]
  refine Eq.trans (congrArg _ ?_) (e.trans (congrArg _ (by show 1792 + 64 * (n.val / 64) + n.val % 64 = _; omega)))
  idx_ext <;> omega

theorem flat125 (x : FVec Ideal S8x4096x1024 .f32) (p : IVec S8x4096 32) (w : FVec Ideal S1024x2962 .f32) (b : Fin 8) (t : Fin 4096) (n : Fin 128) :
    val_main_v125 (F := Ideal) x p w (ix3 b t n)
      = turn (projAt x w b t) (cosAt p b t) (sinAt p b t) (2688 + n.val) := by
  have e := rope124 x p w b t ⟨n.val / 64, by omega⟩ ⟨n.val % 64, by omega⟩
  rw [val_main_v125_apply]
  refine Eq.trans (congrArg _ ?_) (e.trans (congrArg _ (by show 2688 + 64 * (n.val / 64) + n.val % 64 = _; omega)))
  idx_ext <;> omega

end Cert.InRef
end
-- ==== Proof.InRefB.lean ====
module
public import proofs.«01_k».proof.Proof.InRef

/-!
The input projection's reference: its nine results are the same functions of the arguments as the kernel's.
-/

@[expose] public section
set_option maxRecDepth 16384
noncomputable section
namespace Cert.InRefB
open Idealize.ShloMosaic Idealize.ShloMosaic.TcCoe Idealize.SL.Sem
open Cert.Reference3Ideal Cert.Reference3Ideal.Gen Cert.Reference3Ideal.Read Cert.InWords Cert.InOut Cert.InRef

theorem ret_apply (x : FVec Ideal S8x4096x1024 .f32) (p : IVec S8x4096 32) (w : FVec Ideal S1024x2962 .f32) (b : Fin 8) (t : Fin 4096) (n : Fin 1536) :
    val_main_v66 (F := Ideal) x p w (ix3 b t n) = retWord (projAt x w b t) (cosAt p b t) (sinAt p b t) n.val := by
  have e1 := flat48 x p w b t
  have e2 := flat63 x p w b t
  have e3 := split4 x w b t
  have e4 := split5 x w b t
  unfold val_main_v66 val_main_v65
  generalize val_main_v48 (F := Ideal) x p w = y1 at e1 ⊢
  generalize val_main_v63 (F := Ideal) x p w = y2 at e2 ⊢
  generalize val_main_v4 (F := Ideal) x w = y3 at e3 ⊢
  generalize val_main_v5 (F := Ideal) x w = y4 at e4 ⊢
  pointwise [val_main_v64, val_main_cst_3]
  unfold retWord eighth
  have hn := n.isLt
  by_cases h1 : n.val < 384
  · rw [dif_pos h1, if_pos h1, e1]
  · rw [dif_neg h1, if_neg h1]
    by_cases h2 : n.val - 384 < 384
    · rw [dif_pos h2, if_pos (show n.val < 768 by omega), e2]
      exact congrArg (· * _) (congrArg _ (by show 640 + (n.val - 384) = _; omega))
    · rw [dif_neg h2, if_neg (show ¬n.val < 768 by omega)]
      by_cases h3 : n.val - 384 - 384 < 384
      · rw [dif_pos h3, e3]
        exact congrArg _ (by show 1024 + (n.val - 384 - 384) = _; omega)
      · rw [dif_neg h3, e4]
        exact congrArg _ (by show 1408 + (n.val - 384 - 384 - 384) = _; omega)

theorem q_apply (x : FVec Ideal S8x4096x1024 .f32) (p : IVec S8x4096 32) (w : FVec Ideal S1024x2962 .f32) (b : Fin 8) (n : Fin 384) (t : Fin 4096) :
    val_main_v126 (F := Ideal) x p w (ix3 b n t) = qWord (projAt x w b t) (cosAt p b t) (sinAt p b t) n.val := by
  have e1 := flat81 x p w b t n
  unfold val_main_v126 val_main_v84 val_main_v83
  generalize val_main_v81 (F := Ideal) x p w = y1 at e1 ⊢
  pointwise [val_main_v82, val_main_cst_4]
  rw [e1]
  rfl

theorem kc_apply (x : FVec Ideal S8x4096x1024 .f32) (w : FVec Ideal S1024x2962 .f32) (b : Fin 8) (u : Fin 256) (n : Fin 2048) :
    val_main_v127 (F := Ideal) x w (ix3 b u n)
      = projAt x w b ⟨(16 * u.val + n.val / 128) % 4096, Nat.mod_lt _ (by omega)⟩ (2176 + n.val % 128) := by
  have e := split7 x w b ⟨(16 * u.val + n.val / 128) % 4096, Nat.mod_lt _ (by omega)⟩ ⟨n.val % 128, by omega⟩
  rw [val_main_v127_apply]
  refine Eq.trans (congrArg _ ?_) e
  idx_ext <;> omega

theorem vc_apply (x : FVec Ideal S8x4096x1024 .f32) (w : FVec Ideal S1024x2962 .f32) (b : Fin 8) (u : Fin 256) (n : Fin 2048) :
    val_main_v128 (F := Ideal) x w (ix3 b u n)
      = projAt x w b ⟨(16 * u.val + n.val / 128) % 4096, Nat.mod_lt _ (by omega)⟩ (2304 + n.val % 128) := by
  have e := split8 x w b ⟨(16 * u.val + n.val / 128) % 4096, Nat.mod_lt _ (by omega)⟩ ⟨n.val % 128, by omega⟩
  rw [val_main_v128_apply]
  refine Eq.trans (congrArg _ ?_) e
  idx_ext <;> omega

theorem gate_apply (x : FVec Ideal S8x4096x1024 .f32) (w : FVec Ideal S1024x2962 .f32) (b : Fin 8) (t : Fin 4096) (n : Fin 128) :
    val_main_v129 (F := Ideal) x w (ix3 b t n) = projAt x w b t (2944 + n.val) := by
  have e := split13 x w b t
  unfold val_main_v129
  generalize val_main_v13 (F := Ideal) x w = y at e ⊢
  pointwise [val_main_call1_v0, val_main_c_5]
  by_cases h : n.val < 18
  · rw [dif_pos h, e]
  · rw [dif_neg h]
    unfold projAt proj
    refine Eq.trans ?_ (Finset.sum_eq_zero fun k _ => ?_).symm
    · simp [FloatOps.sitofp]
    · unfold col
      rw [dif_neg (by omega), mul_zero]

/-- A position over 64, rounded down, as the reference computes it. -/
def hostBlock (b : BitVec 32) : BitVec 32 :=
  Scalar.select
    (IntOp.andi (IntOp.cmpi .ne (if b = 0 then (0 : BitVec 32) else if b.msb = true then -1 else 1)
        (if (64#32 : BitVec 32) = 0 then (0 : BitVec 32) else if BitVec.msb (64#32) = true then -1 else 1))
      (IntOp.cmpi .ne (IntOp.remsi ArithUnit.host b 64#32) 0#32))
    (IntOp.subi (IntOp.divsi ArithUnit.host b 64#32) 1#32) (IntOp.divsi ArithUnit.host b 64#32)

theorem hostBlock_nat : ∀ t : Fin 4096, hostBlock (BitVec.ofNat 32 t.val) = BitVec.ofNat 32 (t.val / 64) := by
  decide +kernel

theorem same_block : ∀ q s : Fin 64, IntOp.cmpi CmpIPredicate.eq (BitVec.ofNat 32 q.val) (BitVec.ofNat 32 s.val)
    = if s.val = q.val then 1#1 else 0#1 := by decide +kernel

/-- A position's block. -/
theorem block_apply (t : Fin 4096) (s : Fin 64) :
    val_main_v108 (F := Ideal) (ix2 t s) = if s.val = t.val / 64 then 1 else 0 := by
  pointwise [val_main_v108, val_main_v107, val_main_v106, val_main_v105, val_main_v104, val_main_v103, val_main_v102, val_main_v101, val_main_v100, val_main_call0_v0, val_main_call0_v1, val_main_call0_v2, val_main_call0_v3, val_main_call0_v4, val_main_call0_v5, val_main_call0_v6, val_main_call0_v7, val_main_call0_v8, val_main_call0_v9, val_main_call0_v10, val_main_call0_v11, val_main_call0_v12, val_main_call0_v13, val_main_call0_c, val_main_call0_c_0, val_main_c]
  show (FloatOps.uitofp (F := Ideal) FTy.f32 (IntOp.cmpi .eq (hostBlock (BitVec.ofNat 32 t.val)) (BitVec.ofNat 32 s.val)) : EReal) = _
  rw [hostBlock_nat t]
  have l := same_block ⟨t.val / 64, by omega⟩ s
  dsimp only at l
  rw [l]
  by_cases h : s.val = t.val / 64
  · rw [if_pos h, if_pos h]
    simp [FloatOps.uitofp]
  · rw [if_neg h, if_neg h]
    simp [FloatOps.uitofp]

theorem ks_apply (x : FVec Ideal S8x4096x1024 .f32) (p : IVec S8x4096 32) (w : FVec Ideal S1024x2962 .f32) (b : Fin 8) (g : Fin 2) (t : Fin 4096) (n : Fin 128) :
    val_main_v130 (F := Ideal) x p w (ix4 b g t n) = ksWord (projAt x w b t) (cosAt p b t) (sinAt p b t) t.val g.val n.val := by
  have e1 := rope98 x p w b t g
  have e2 := block_apply t
  unfold val_main_v130 val_main_v110 val_main_v109 val_main_v99
  generalize val_main_v98 (F := Ideal) x p w = y1 at e1 ⊢
  generalize val_main_v108 (F := Ideal) = y2 at e2 ⊢
  pointwise
  unfold ksWord
  by_cases h : n.val < 64
  · rw [dif_pos h, if_pos h, e1]
  · rw [dif_neg h, if_neg h, e2]

theorem vs_heads (x : FVec Ideal S8x4096x1024 .f32) (w : FVec Ideal S1024x2962 .f32) (b : Fin 8) (q : Fin 8) (u : Fin 512) (g : Fin 2) (r : Fin 64) :
    val_main_v131 (F := Ideal) x w (ix5 b q u g r)
      = projAt x w b ⟨(512 * q.val + u.val) % 4096, Nat.mod_lt _ (by omega)⟩ (2560 + 64 * g.val + r.val) := by
  have e := split10 x w b ⟨(512 * q.val + u.val) % 4096, Nat.mod_lt _ (by omega)⟩ ⟨64 * g.val + r.val, by omega⟩
  rw [val_main_v131_apply]
  refine Eq.trans (congrArg _ ?_) (e.trans (congrArg _ (by show 2560 + (64 * g.val + r.val) = _; omega)))
  idx_ext <;> omega

theorem vs_apply (x : FVec Ideal S8x4096x1024 .f32) (w : FVec Ideal S1024x2962 .f32) (b : Fin 8) (g : Fin 2) (q : Fin 8) (r : Fin 80) (u : Fin 512) :
    val_main_v135 (F := Ideal) x w (ix5 b g q r u)
      = vWord (projAt x w b ⟨(512 * q.val + u.val) % 4096, Nat.mod_lt _ (by omega)⟩) 2560 g.val r.val := by
  have e := vs_heads x w b q u g
  unfold val_main_v135 val_main_v134 val_main_v132
  generalize val_main_v131 (F := Ideal) x w = y at e ⊢
  pointwise [val_main_v133, val_main_cst_6]
  unfold vWord
  by_cases h : r.val < 64
  · rw [dif_pos h, if_pos h, e]
  · rw [dif_neg h, if_neg h]

theorem vw_heads (x : FVec Ideal S8x4096x1024 .f32) (w : FVec Ideal S1024x2962 .f32) (b : Fin 8) (q : Fin 32) (u : Fin 128) (g : Fin 2) (r : Fin 64) :
    val_main_v137 (F := Ideal) x w (ix5 b q u g r)
      = projAt x w b ⟨(128 * q.val + u.val) % 4096, Nat.mod_lt _ (by omega)⟩ (2816 + 64 * g.val + r.val) := by
  have e := split12 x w b ⟨(128 * q.val + u.val) % 4096, Nat.mod_lt _ (by omega)⟩ ⟨64 * g.val + r.val, by omega⟩
  rw [val_main_v137_apply]
  refine Eq.trans (congrArg _ ?_) (e.trans (congrArg _ (by show 2816 + (64 * g.val + r.val) = _; omega)))
  idx_ext <;> omega

theorem vw_apply (x : FVec Ideal S8x4096x1024 .f32) (w : FVec Ideal S1024x2962 .f32) (b : Fin 8) (g : Fin 2) (q : Fin 32) (r : Fin 80) (u : Fin 128) :
    val_main_v141 (F := Ideal) x w (ix5 b g q r u)
      = vWord (projAt x w b ⟨(128 * q.val + u.val) % 4096, Nat.mod_lt _ (by omega)⟩) 2816 g.val r.val := by
  have e := vw_heads x w b q u g
  unfold val_main_v141 val_main_v140 val_main_v138
  generalize val_main_v137 (F := Ideal) x w = y at e ⊢
  pointwise [val_main_v139, val_main_cst_7]
  unfold vWord
  by_cases h : r.val < 64
  · rw [dif_pos h, if_pos h, e]
  · rw [dif_neg h, if_neg h]

theorem kw_apply (x : FVec Ideal S8x4096x1024 .f32) (p : IVec S8x4096 32) (w : FVec Ideal S1024x2962 .f32) (b : Fin 8) (t : Fin 4096) (n : Fin 128) :
    val_main_v136 (F := Ideal) x p w (ix3 b t n)
      = turn (projAt x w b t) (cosAt p b t) (sinAt p b t) (2688 + n.val) := by
  have e := flat125 x p w b t n
  unfold val_main_v136
  generalize val_main_v125 (F := Ideal) x p w = y at e ⊢
  pointwise
  exact e

theorem ret_result (x : FVec Ideal S8x4096x1024 .f32) (p : IVec S8x4096 32) (w : FVec Ideal S1024x2962 .f32) :
    val_main_v66 (F := Ideal) x p w = retOut x p w := by
  funext i
  have e : i = ix3 (i 0) (i 1) (i 2) := by idx_ext
  rw [e]
  exact ret_apply x p w (i 0) (i 1) (i 2)

theorem q_result (x : FVec Ideal S8x4096x1024 .f32) (p : IVec S8x4096 32) (w : FVec Ideal S1024x2962 .f32) :
    val_main_v126 (F := Ideal) x p w = qOut x p w := by
  funext i
  have e : i = ix3 (i 0) (i 1) (i 2) := by idx_ext
  rw [e]
  exact q_apply x p w (i 0) (i 1) (i 2)

theorem kc_result (x : FVec Ideal S8x4096x1024 .f32) (p : IVec S8x4096 32) (w : FVec Ideal S1024x2962 .f32) :
    val_main_v127 (F := Ideal) x w = kcOut x p w := by
  funext i
  have e : i = ix3 (i 0) (i 1) (i 2) := by idx_ext
  rw [e]
  exact kc_apply x w (i 0) (i 1) (i 2)

theorem vc_result (x : FVec Ideal S8x4096x1024 .f32) (p : IVec S8x4096 32) (w : FVec Ideal S1024x2962 .f32) :
    val_main_v128 (F := Ideal) x w = vcOut x p w := by
  funext i
  have e : i = ix3 (i 0) (i 1) (i 2) := by idx_ext
  rw [e]
  exact vc_apply x w (i 0) (i 1) (i 2)

theorem gate_result (x : FVec Ideal S8x4096x1024 .f32) (p : IVec S8x4096 32) (w : FVec Ideal S1024x2962 .f32) :
    val_main_v129 (F := Ideal) x w = gateOut x p w := by
  funext i
  have e : i = ix3 (i 0) (i 1) (i 2) := by idx_ext
  rw [e]
  exact gate_apply x w (i 0) (i 1) (i 2)

theorem ks_result (x : FVec Ideal S8x4096x1024 .f32) (p : IVec S8x4096 32) (w : FVec Ideal S1024x2962 .f32) :
    val_main_v130 (F := Ideal) x p w = ksOut x p w := by
  funext i
  have e : i = ix4 (i 0) (i 1) (i 2) (i 3) := by idx_ext
  rw [e]
  exact ks_apply x p w (i 0) (i 1) (i 2) (i 3)

theorem vs_result (x : FVec Ideal S8x4096x1024 .f32) (p : IVec S8x4096 32) (w : FVec Ideal S1024x2962 .f32) :
    val_main_v135 (F := Ideal) x w = vsOut x p w := by
  funext i
  have e : i = ix5 (i 0) (i 1) (i 2) (i 3) (i 4) := by idx_ext
  rw [e]
  exact vs_apply x w (i 0) (i 1) (i 2) (i 3) (i 4)

theorem kw_result (x : FVec Ideal S8x4096x1024 .f32) (p : IVec S8x4096 32) (w : FVec Ideal S1024x2962 .f32) :
    val_main_v136 (F := Ideal) x p w = kwOut x p w := by
  funext i
  have e : i = ix3 (i 0) (i 1) (i 2) := by idx_ext
  rw [e]
  exact kw_apply x p w (i 0) (i 1) (i 2)

theorem vw_result (x : FVec Ideal S8x4096x1024 .f32) (p : IVec S8x4096 32) (w : FVec Ideal S1024x2962 .f32) :
    val_main_v141 (F := Ideal) x w = vwOut x p w := by
  funext i
  have e : i = ix5 (i 0) (i 1) (i 2) (i 3) (i 4) := by idx_ext
  rw [e]
  exact vw_apply x w (i 0) (i 1) (i 2) (i 3) (i 4)

end Cert.InRefB
end
-- ==== Proof.InPool.lean ====
module
public import proofs.«01_k».proof.Proof.InOut
public import proofs.«01_k».proof.Proof.WinEq
public import proofs.«01_k».proof.Proof.InBlockB

/-!
The pooling mixer: the mean over a trailing window of positions less the position's own value, mixed within a group of 64
columns. What the input projection's kernel stores of it in one grid step.
-/

@[expose] public section
set_option maxRecDepth 16384
noncomputable section
namespace Cert.InPool
open Idealize.ShloMosaic Idealize.ShloMosaic.TcCoe Idealize.SL.Sem
open Cert.Kernel3Ideal Cert.Kernel3Ideal.Gen Cert.InWords Cert.InBody Cert.InOut

/-- The width of a column's window. -/
def wide (k : ℕ) : ℕ := if k / 64 = 0 then 2 else if k / 64 = 1 then 4 else if k / 64 = 2 then 8 else 16

/-- How many positions a window of width `w` that ends at position `t` holds. -/
def count (t w : ℕ) : EReal := FloatOps.sitofp (F := Ideal) FTy.f32 (BitVec.ofNat 32 (min (t + 1) w))

/-- The window's mean less the position's own value, where `f i` is the value `i` positions back. -/
def pooled (f : ℕ → EReal) (t w : ℕ) : EReal := Ideal.div (∑ i ∈ Finset.range w, f i) (count t w) - f 0

/-- Column `k` of the projection `i` positions back, zero before the first position. -/
def backAt (x : FVec Ideal S8x4096x1024 .f32) (w : FVec Ideal S1024x2962 .f32) (b : Fin 8) (t : Fin 4096) (k i : ℕ) : EReal :=
  if i ≤ t.val then projAt x w b ⟨t.val - i, by omega⟩ k else 0

/-- The mixer's rows. -/
def poolOut (x : FVec Ideal S8x4096x1024 .f32) (w : FVec Ideal S1024x2962 .f32) (pw : FVec Ideal S4x64x64 .f32)
    (sc : FVec Ideal S256 .f32) : FVec Ideal S8x4096x256 .f32 := fun i =>
  (∑ d : Fin 64, pooled (backAt x w (i 0) (i 1) (64 * ((i 2).val / 64) + d.val)) (i 1).val (wide (i 2).val)
    * pw (ix3 ⟨(i 2).val / 64 % 4, Nat.mod_lt _ (by omega)⟩ d ⟨(i 2).val % 64, Nat.mod_lt _ (by omega)⟩)) * sc (ix1 (i 2))

/-- A small number as a float. -/
theorem nat_word (n : ℕ) (h : n < 2 ^ 31) : FloatOps.sitofp (F := Ideal) FTy.f32 (BitVec.ofNat 32 n) = ((n : ℝ) : EReal) := by
  show (((BitVec.ofNat 32 n).toInt : ℝ) : EReal) = _
  have e : (BitVec.ofNat 32 n).toNat = n := by
    rw [BitVec.toNat_ofNat]
    exact Nat.mod_eq_of_lt (by omega)
  rw [BitVec.toInt_eq_toNat_of_lt (by omega), e]
  norm_cast

theorem two : Ideal.ofBits FTy.f32 0x40000000#32 = ((2 : ℝ) : EReal) := by
  simp [Ideal.ofBits, Ideal.ieee]; rw [← EReal.coe_mul]; norm_num

theorem four : Ideal.ofBits FTy.f32 0x40800000#32 = ((4 : ℝ) : EReal) := by
  simp [Ideal.ofBits, Ideal.ieee]; rw [← EReal.coe_mul]; norm_num

theorem eight : Ideal.ofBits FTy.f32 0x41000000#32 = ((8 : ℝ) : EReal) := by
  simp [Ideal.ofBits, Ideal.ieee]; rw [← EReal.coe_mul]; norm_num

theorem sixteen : Ideal.ofBits FTy.f32 0x41800000#32 = ((16 : ℝ) : EReal) := by
  simp [Ideal.ofBits, Ideal.ieee]; rw [← EReal.coe_mul]; norm_num

/-- The width of a column's window as a float, as the kernel selects it. -/
theorem wide_word (n : ℕ) : (if n / 64 = 0 then Ideal.ofBits FTy.f32 0x40000000#32 else if n / 64 = 1 then Ideal.ofBits FTy.f32 0x40800000#32
    else if n / 64 = 2 then Ideal.ofBits FTy.f32 0x41000000#32 else Ideal.ofBits FTy.f32 0x41800000#32) = ((wide n : ℝ) : EReal) := by
  rw [two, four, eight, sixteen]
  unfold wide
  split
  · norm_num
  · split
    · norm_num
    · split <;> norm_num

/-- The count as a minimum. -/
theorem count_min (t w : ℕ) (ht : t + 1 < 2 ^ 31) (hw : w < 2 ^ 31) :
    min (FloatOps.sitofp (F := Ideal) FTy.f32 (BitVec.ofNat 32 (t + 1))) ((w : ℝ) : EReal) = count t w := by
  unfold count
  rw [nat_word _ ht, nat_word _ (by omega)]
  rcases le_total (t + 1) w with h | h
  · rw [min_eq_left h, min_eq_left]
    exact_mod_cast h
  · rw [min_eq_right h, min_eq_right]
    exact_mod_cast h

/-- A rotation by rows and a sum. -/
theorem turn1 (Y : FVec Ideal S528x256 .f32) (R : Fin 528) (n : Fin 256) :
    addf Y (dynamicRotate 0 1#32 none Y rotates_S528x256_d0) (ix2 R n) = Y (ix2 R n) + Y (ix2 ⟨(R.val + 528 - 1) % 528, Nat.mod_lt _ (by omega)⟩ n) := by
  pointwise

theorem turn2 (Y : FVec Ideal S528x256 .f32) (R : Fin 528) (n : Fin 256) :
    addf Y (dynamicRotate 0 2#32 none Y rotates_S528x256_d0) (ix2 R n) = Y (ix2 R n) + Y (ix2 ⟨(R.val + 528 - 2) % 528, Nat.mod_lt _ (by omega)⟩ n) := by
  pointwise

theorem turn4 (Y : FVec Ideal S528x256 .f32) (R : Fin 528) (n : Fin 256) :
    addf Y (dynamicRotate 0 4#32 none Y rotates_S528x256_d0) (ix2 R n) = Y (ix2 R n) + Y (ix2 ⟨(R.val + 528 - 4) % 528, Nat.mod_lt _ (by omega)⟩ n) := by
  pointwise

theorem turn8 (Y : FVec Ideal S528x256 .f32) (R : Fin 528) (n : Fin 256) :
    addf Y (dynamicRotate 0 8#32 none Y rotates_S528x256_d0) (ix2 R n) = Y (ix2 R n) + Y (ix2 ⟨(R.val + 528 - 8) % 528, Nat.mod_lt _ (by omega)⟩ n) := by
  pointwise

/-- Sums over `K` rows and the same sums `K` rows earlier are sums over `2 K` rows. -/
theorem double (Y Z : FVec Ideal S528x256 .f32) (C : Fin 256 → ℕ → EReal) (K : ℕ)
    (hY : ∀ (R : Fin 528) (n : Fin 256), K ≤ R.val + 1 → Y (ix2 R n) = ∑ i ∈ Finset.range K, C n (R.val - i))
    (hZ : ∀ (R : Fin 528) (n : Fin 256), Z (ix2 R n) = Y (ix2 R n) + Y (ix2 ⟨(R.val + 528 - K) % 528, Nat.mod_lt _ (by omega)⟩ n))
    (R : Fin 528) (n : Fin 256) (h : K + K ≤ R.val + 1) : Z (ix2 R n) = ∑ i ∈ Finset.range (K + K), C n (R.val - i) := by
  have hR := R.isLt
  have e : K ≠ 0 → (R.val + 528 - K) % 528 = R.val - K := by omega
  rw [hZ, hY R n (by omega), Finset.sum_range_add]
  rcases Nat.eq_zero_or_pos K with h0 | h0
  · subst h0
    rw [hY _ n (by dsimp only; omega)]
    simp
  · rw [hY _ n (by dsimp only; rw [e (by omega)]; omega)]
    refine congrArg (_ + ·) (Finset.sum_congr rfl fun i _ => congrArg (C n) ?_)
    dsimp only
    rw [e (by omega)]
    omega

/-- The sixteen rows in front of a tile times 256 columns. -/
def headRows (x1 : FVec Ideal S1x16x1024 .f32) (w : FVec Ideal S1024x256 .bf16) : FVec Ideal S16x256 .f32 :=
  matmul dot_S16x1024_S1024x256_S16x256_1_0_0_1_n_n none (truncf .bf16 (shapeCast S16x1024 x1 shapeCasts_S1x16x1024_S16x1024) bitsLt_bf16_f32)
    (shapeCast S1024x256 w shapeCasts_S1024x256_S1024x256) (constant S16x256 .f32 0x00000000#32)

/-- The sixteen rows in front of a tile, zero at the start of a sequence, and the tile's rows below them. -/
def stack (j : BitVec 32) (x0 : FVec Ideal S1x512x1024 .f32) (x1 : FVec Ideal S1x16x1024 .f32) (v w : FVec Ideal S1024x256 .bf16) : FVec Ideal S528x256 .f32 :=
  concatenate S528x256 0 [⟨S16x256, Scalar.select (Scalar.cmpi .sgt j 0#32)
    (headRows x1 w)
    (broadcast S16x256 (Scalar.ofBits .f32 0x00000000#32))⟩, ⟨S512x256, k0_pay13 (F := Ideal) (k0_pay4 x0) v⟩] concatenates_S16x256_S512x256_S528x256_d0

theorem head_apply (x1 : FVec Ideal S1x16x1024 .f32) (w : FVec Ideal S1024x256 .bf16) (R : Fin 16) (n : Fin 256) :
    (headRows x1 w) (ix2 R n)
      = ∑ k : Fin 1024, x1 (ix3 0 R k) * w (ix2 k n) := by
  pointwise [headRows]

theorem stack_apply (j : BitVec 32) (x0 : FVec Ideal S1x512x1024 .f32) (x1 : FVec Ideal S1x16x1024 .f32) (v w : FVec Ideal S1024x256 .bf16)
    (R : Fin 528) (n : Fin 256) : stack j x0 x1 v w (ix2 R n) = if h : R.val < 16 then
      (if Scalar.cmpi .sgt j 0#32 = 1#1 then ∑ k : Fin 1024, x1 (ix3 0 ⟨R.val, h⟩ k) * w (ix2 k n) else 0)
      else ∑ k : Fin 1024, x0 (ix3 0 ⟨R.val - 16, by omega⟩ k) * v (ix2 k n) := by
  have e1 := fun r => head_apply x1 w r n
  have e2 := fun r => mul_apply x0 v r n
  unfold stack
  generalize headRows x1 w = A at e1 ⊢
  generalize k0_pay13 (F := Ideal) _ _ = B at e2 ⊢
  generalize Scalar.cmpi .sgt j 0#32 = f
  pointwise
  by_cases h : R.val < 16
  · rw [dif_pos h, dif_pos h]
    rcases (by decide +revert : f = 1#1 ∨ f = 0#1) with hf | hf
    · subst hf
      exact e1 ⟨R.val, h⟩
    · subst hf
      exact (if_neg (by decide)).symm
  · rw [dif_neg h, dif_neg h]
    exact e2 ⟨R.val - 16, by omega⟩

/-- The pairs, fours, eights and sixteens of rows. -/
theorem sums (j : BitVec 32) (x0 : FVec Ideal S1x512x1024 .f32) (x1 : FVec Ideal S1x16x1024 .f32) (v w : FVec Ideal S1024x256 .bf16)
    (C : Fin 256 → ℕ → EReal) (hC : ∀ (R : Fin 528) (n : Fin 256), stack j x0 x1 v w (ix2 R n) = C n R.val) (R : Fin 528) (n : Fin 256) (h : 16 ≤ R.val) :
    k0_pay16 (F := Ideal) j (k0_pay4 x0) v x1 w (ix2 R n) = ∑ i ∈ Finset.range 2, C n (R.val - i)
    ∧ k0_pay17 (F := Ideal) j (k0_pay4 x0) v x1 w (ix2 R n) = ∑ i ∈ Finset.range 4, C n (R.val - i)
    ∧ k0_pay18 (F := Ideal) j (k0_pay4 x0) v x1 w (ix2 R n) = ∑ i ∈ Finset.range 8, C n (R.val - i)
    ∧ k0_pay19 (F := Ideal) j (k0_pay4 x0) v x1 w (ix2 R n) = ∑ i ∈ Finset.range 16, C n (R.val - i) := by
  have h1 := double (stack j x0 x1 v w) (k0_pay16 (F := Ideal) j (k0_pay4 x0) v x1 w) C 1
    (fun R n _ => by rw [hC, Finset.sum_range_one]; rfl) (fun R n => turn1 _ R n)
  have h2 := double _ (k0_pay17 (F := Ideal) j (k0_pay4 x0) v x1 w) C 2 h1 (fun R n => turn2 _ R n)
  have h4 := double _ (k0_pay18 (F := Ideal) j (k0_pay4 x0) v x1 w) C 4 h2 (fun R n => turn4 _ R n)
  have h8 := double _ (k0_pay19 (F := Ideal) j (k0_pay4 x0) v x1 w) C 8 h4 (fun R n => turn8 _ R n)
  exact ⟨h1 R n (by omega), h2 R n (by omega), h4 R n (by omega), h8 R n (by omega)⟩

/-- The group of a column, as the kernel computes it. -/
theorem lane (r : Fin 512) (n : Fin 256) :
    k0_pay21 (iota Kind.tc S512x256 32 [1] iota_S512x256_d1_w32) (64#32) k0_pay20 (ix2 r n) = BitVec.ofNat 32 (n.val / 64) := by
  have e : k0_pay21 (iota Kind.tc S512x256 32 [1] iota_S512x256_d1_w32) (64#32) k0_pay20 (ix2 r n)
      = Cert.InBlockB.block64 (BitVec.ofNat 32 n.val) := by
    pointwise [k0_pay21, k0_pay20]
    rfl
  rw [e]
  exact Cert.InBlockB.block64_nat ⟨n.val, by omega⟩

theorem lane_is : ∀ (n : Fin 256) (g : Fin 3), IntOp.cmpi CmpIPredicate.eq (BitVec.ofNat 32 (n.val / 64)) (BitVec.ofNat 32 g.val)
    = if n.val / 64 = g.val then 1#1 else 0#1 := by decide +kernel

/-- A choice by the column's group. -/
theorem choose4 {α : Type} (n : Fin 256) (a b c d : α) :
    Scalar.select (IntOp.cmpi CmpIPredicate.eq (BitVec.ofNat 32 (n.val / 64)) 0#32) a
      (Scalar.select (IntOp.cmpi CmpIPredicate.eq (BitVec.ofNat 32 (n.val / 64)) 1#32) b
        (Scalar.select (IntOp.cmpi CmpIPredicate.eq (BitVec.ofNat 32 (n.val / 64)) 2#32) c d))
      = if n.val / 64 = 0 then a else if n.val / 64 = 1 then b else if n.val / 64 = 2 then c else d := by
  have l0 := lane_is n 0
  have l1 := lane_is n 1
  have l2 := lane_is n 2
  simp only [Fin.val_zero, Fin.val_one, Fin.val_two] at l0 l1 l2
  rw [show (0#32 : BitVec 32) = BitVec.ofNat 32 0 from rfl, show (1#32 : BitVec 32) = BitVec.ofNat 32 1 from rfl,
    show (2#32 : BitVec 32) = BitVec.ofNat 32 2 from rfl, l0, l1, l2]
  split
  · rfl
  · split
    · rfl
    · split <;> rfl

/-- The window's sum in a column's own width. -/
theorem window (v66 v68 v70 v72 : FVec Ideal S528x256 .f32) (f : Fin 256 → ℕ → EReal) (r : Fin 512) (n : Fin 256)
    (h2 : v66 (ix2 ⟨16 + r.val, by omega⟩ n) = ∑ i ∈ Finset.range 2, f n i) (h4 : v68 (ix2 ⟨16 + r.val, by omega⟩ n) = ∑ i ∈ Finset.range 4, f n i)
    (h8 : v70 (ix2 ⟨16 + r.val, by omega⟩ n) = ∑ i ∈ Finset.range 8, f n i) (h16 : v72 (ix2 ⟨16 + r.val, by omega⟩ n) = ∑ i ∈ Finset.range 16, f n i) :
    k0_pay23 v66 v68 v70 v72 (iota Kind.tc S512x256 32 [1] iota_S512x256_d1_w32) (64#32) k0_pay20 (ix2 r n)
      = ∑ i ∈ Finset.range (wide n.val), f n i := by
  have l := lane r n
  unfold k0_pay23
  generalize k0_pay21 _ _ _ = L at l ⊢
  pointwise
  rw [l, choose4, h2, h4, h8, h16]
  unfold wide
  split
  · rfl
  · split
    · rfl
    · split <;> rfl

/-- The float widths. -/
theorem widths (r : Fin 512) (n : Fin 256) :
    Scalar.select (k0_pay24 (iota Kind.tc S512x256 32 [1] iota_S512x256_d1_w32) (64#32) k0_pay20 (ix2 r n)) (Ideal.ofBits FTy.f32 0x40000000#32)
      (Scalar.select (k0_pay25 (iota Kind.tc S512x256 32 [1] iota_S512x256_d1_w32) (64#32) k0_pay20 (ix2 r n)) (Ideal.ofBits FTy.f32 0x40800000#32)
        (Scalar.select (k0_pay26 (iota Kind.tc S512x256 32 [1] iota_S512x256_d1_w32) (64#32) k0_pay20 (ix2 r n)) (Ideal.ofBits FTy.f32 0x41000000#32)
          (Ideal.ofBits FTy.f32 0x41800000#32))) = ((wide n.val : ℝ) : EReal) := by
  have l := lane r n
  unfold k0_pay24 k0_pay25 k0_pay26
  generalize k0_pay21 _ _ _ = L at l ⊢
  pointwise
  rw [l, choose4, wide_word]

theorem last_apply (X Wn : FVec Ideal S512x256 .f32) (x5 : FVec Ideal S256x256 .bf16) (x6 : FVec Ideal S1x256 .f32) (Ps : IVec S512x256 32)
    (g0 g1 g2 : IVec S512x256 1) (r : Fin 512) (n : Fin 256) :
    k0_pay28 (F := Ideal) X (k0_pay14 x5) (k0_pay15 x6) Ps Wn g0 g1 g2 (FloatOps.ofBits FTy.f32 1098907648#32) k0_pay27 (ix3 0 r n)
      = (∑ k : Fin 256, (Ideal.div (Wn (ix2 r k)) (min (FloatOps.sitofp (F := Ideal) FTy.f32 (IntOp.addi (Ps (ix2 r k)) 1#32))
        (Scalar.select (g0 (ix2 r k)) (Ideal.ofBits FTy.f32 0x40000000#32) (Scalar.select (g1 (ix2 r k)) (Ideal.ofBits FTy.f32 0x40800000#32)
          (Scalar.select (g2 (ix2 r k)) (Ideal.ofBits FTy.f32 0x41000000#32) (Ideal.ofBits FTy.f32 0x41800000#32))))) - X (ix2 r k)) * x5 (ix2 k n))
        * x6 (ix2 0 n) := by
  pointwise [k0_pay28, k0_pay14, k0_pay15, k0_pay27]

theorem place (j : Fin 8) (r : Fin 512) (n : Fin 256) :
    IntOp.addi (k0_pay22 (Scalar.muli (BitVec.ofNat 32 j.val) 512#32) (ix2 r n)) 1#32 = BitVec.ofNat 32 (512 * j.val + r.val + 1) := by
  have e : k0_pay22 (Scalar.muli (BitVec.ofNat 32 j.val) 512#32) (ix2 r n)
      = IntOp.addi (IntOp.muli (BitVec.ofNat 32 j.val) 512#32) (BitVec.ofNat 32 r.val) := by
    pointwise [k0_pay22]
    rfl
  rw [e, Cert.InBlockB.pos_word]
  exact (BitVec.ofNat_add _ _).symm

/-- What one grid step stores, where `C n R` is row `R` of the stacked rows. -/
theorem mixer (j : Fin 8) (x0 : FVec Ideal S1x512x1024 .f32) (x1 : FVec Ideal S1x16x1024 .f32) (v : FVec Ideal S1024x256 .bf16)
    (x5 : FVec Ideal S256x256 .bf16) (x6 : FVec Ideal S1x256 .f32) (C : Fin 256 → ℕ → EReal)
    (hC : ∀ (R : Fin 528) (n : Fin 256), stack (BitVec.ofNat 32 j.val) x0 x1 v v (ix2 R n) = C n R.val) (r : Fin 512) (n : Fin 256) :
    k0_pay28 (F := Ideal) (k0_pay13 (k0_pay4 x0) v) (k0_pay14 x5) (k0_pay15 x6) (k0_pay22 (Scalar.muli (BitVec.ofNat 32 j.val) 512#32))
      (k0_pay23 (k0_pay16 (BitVec.ofNat 32 j.val) (k0_pay4 x0) v x1 v) (k0_pay17 (BitVec.ofNat 32 j.val) (k0_pay4 x0) v x1 v)
        (k0_pay18 (BitVec.ofNat 32 j.val) (k0_pay4 x0) v x1 v) (k0_pay19 (BitVec.ofNat 32 j.val) (k0_pay4 x0) v x1 v)
        (iota Kind.tc S512x256 32 [1] iota_S512x256_d1_w32) (64#32) k0_pay20)
      (k0_pay24 (iota Kind.tc S512x256 32 [1] iota_S512x256_d1_w32) (64#32) k0_pay20) (k0_pay25 (iota Kind.tc S512x256 32 [1] iota_S512x256_d1_w32) (64#32) k0_pay20)
      (k0_pay26 (iota Kind.tc S512x256 32 [1] iota_S512x256_d1_w32) (64#32) k0_pay20) (FloatOps.ofBits FTy.f32 1098907648#32) k0_pay27 (ix3 0 r n)
      = (∑ k : Fin 256, pooled (fun i => C k (16 + r.val - i)) (512 * j.val + r.val) (wide k.val) * x5 (ix2 k n)) * x6 (ix2 0 n) := by
  rw [last_apply]
  refine congrArg (· * x6 (ix2 0 n)) (Finset.sum_congr rfl fun k _ => congrArg (· * x5 (ix2 k n)) ?_)
  obtain ⟨h2, h4, h8, h16⟩ := sums (BitVec.ofNat 32 j.val) x0 x1 v v C hC ⟨16 + r.val, by omega⟩ k (by dsimp only; omega)
  have hX : k0_pay13 (F := Ideal) (k0_pay4 x0) v (ix2 r k) = C k (16 + r.val) := by
    rw [mul_apply, ← hC ⟨16 + r.val, by omega⟩ k, stack_apply, dif_neg (by dsimp only; omega)]
    refine Finset.sum_congr rfl fun q _ => congrArg (fun z => x0 (ix3 0 z q) * v (ix2 q k)) (Fin.ext ?_)
    dsimp only
    omega
  have hw : wide k.val < 2 ^ 31 := by
    unfold wide
    split
    · omega
    · split
      · omega
      · split <;> omega
  rw [window _ _ _ _ (fun k i => C k (16 + r.val - i)) r k h2 h4 h8 h16, widths, place, count_min _ _ (by omega) hw, hX]
  rfl

end Cert.InPool
end
-- ==== Proof.InPoolArray.lean ====
module
public import proofs.«01_k».proof.Proof.InArray
public import proofs.«01_k».proof.Proof.InPool

/-!
From the blocks to the array: the pooling mixer's rows in terms of the kernel's arguments.
-/

@[expose] public section
set_option maxRecDepth 16384
noncomputable section
namespace Cert.InPoolArray
open Idealize.ShloMosaic Idealize.ShloMosaic.TcCoe Idealize.SL.Sem
open Cert.Kernel3Ideal Cert.Kernel3Ideal.Gen Cert.InWords Cert.InBody Cert.InOut Cert.InPool Cert.InArray

variable (m : (ℓ : Loc nD τ sig) → ℓ.ty.Contents (Elt Ideal))

abbrev arg3 (c : Dev nD) : FVec Ideal S4x64x64 .f32 := m ((c.tc : Thread nD τ).loc main_arg3)
abbrev arg4 (c : Dev nD) : FVec Ideal S256 .f32 := m ((c.tc : Thread nD τ).loc main_arg4)

/-- The block index maps. -/
theorem idxP : ∀ t : Fin cfg0.N,
    win0_1.index t = ![(grid0.coords t 0).val, 32 * (grid0.coords t 1).val - 1, 0]
    ∧ win0_5.index t = ![0, 0]
    ∧ win0_6.index t = ![0, 0]
    ∧ win0_7.index t = ![(grid0.coords t 0).val, (grid0.coords t 1).val, 0] :=
  (by decide +kernel : ∀ t : Fin grid0.N, _)

theorem halo_flag : ∀ j : Fin 8, Scalar.cmpi .sgt (BitVec.ofNat 32 j.val) 0#32 = if j.val = 0 then 0#1 else 1#1 := by decide +kernel

/-- The position of row `r` in front of grid point `t`'s tile. -/
def hpos (t : Fin cfg0.N) (r : Fin 16) : Fin 4096 := ⟨16 * (32 * (grid0.coords t 1).val - 1) + r.val, by have h := tile_lt t; omega⟩

theorem blk1 (c : Dev nD) (t : Fin cfg0.N) (r : Fin 16) (k : Fin 1024) :
    iblk (F := Ideal) m c 1 t (ix3 0 r k) = arg0 m c (ix3 (bat t) (hpos t r) k) := by
  blk_point [iblk, V, idxP t, bat, hpos]

/-- One on the diagonal. -/
theorem eye_word : ∀ a b : Fin 4, IntOp.cmpi CmpIPredicate.eq (IntOp.addi (BitVec.ofNat 32 a.val) 0#32) (BitVec.ofNat 32 b.val)
    = if a.val = b.val then 1#1 else 0#1 := by decide +kernel

theorem eye_mul (a b : Fin 4) (z : EReal) : z * FloatOps.uitofp (F := Ideal) FTy.f32
    (IntOp.cmpi CmpIPredicate.eq (IntOp.addi (BitVec.ofNat 32 a.val) 0#32) (BitVec.ofNat 32 b.val)) = if a.val = b.val then z else 0 := by
  rw [eye_word a b]
  split
  · rw [show (FloatOps.uitofp (F := Ideal) FTy.f32 (1#1) : EReal) = 1 by simp [FloatOps.uitofp], mul_one]
  · rw [show (FloatOps.uitofp (F := Ideal) FTy.f32 (0#1) : EReal) = 0 by simp [FloatOps.uitofp], mul_zero]

/-- The mixing matrices along the diagonal of one matrix. -/
theorem entry36 (c : Dev nD) (k n : Fin 256) :
    (V (F := Ideal) m c main_v36 : FVec Ideal S256x256 .bf16) (ix2 k n) = if k.val / 64 = n.val / 64 then
      arg3 m c (ix3 ⟨k.val / 64, by omega⟩ ⟨k.val % 64, Nat.mod_lt _ (by omega)⟩ ⟨n.val % 64, Nat.mod_lt _ (by omega)⟩) else 0 := by
  simp only [V, hostOps0, hostOps0_1, hostOps0_2, List.flatten_cons, List.flatten_nil, List.cons_append, List.nil_append]
  after_results_simp
  pointwise
  exact eye_mul ⟨k.val / 64, by omega⟩ ⟨n.val / 64, by omega⟩ _

/-- The scale as a row. -/
theorem entry37 (c : Dev nD) (n : Fin 256) :
    (V (F := Ideal) m c main_v37 : FVec Ideal S1x256 .f32) (ix2 0 n) = arg4 m c (ix1 n) := by
  simp only [V, hostOps0, hostOps0_1, hostOps0_2, List.flatten_cons, List.flatten_nil, List.cons_append, List.nil_append]
  after_results_simp
  pointwise

theorem blk5 (c : Dev nD) (t : Fin cfg0.N) (k n : Fin 256) :
    iblk (F := Ideal) m c 5 t (ix2 k n) = if k.val / 64 = n.val / 64 then
      arg3 m c (ix3 ⟨k.val / 64, by omega⟩ ⟨k.val % 64, Nat.mod_lt _ (by omega)⟩ ⟨n.val % 64, Nat.mod_lt _ (by omega)⟩) else 0 := by
  refine Eq.trans ?_ (entry36 m c k n)
  blk_ext [iblk, idxP t]

theorem blk6 (c : Dev nD) (t : Fin cfg0.N) (n : Fin 256) : iblk (F := Ideal) m c 6 t (ix2 0 n) = arg4 m c (ix1 n) := by
  refine Eq.trans ?_ (entry37 m c n)
  blk_ext [iblk, idxP t]

/-- Row `R` of grid point `t`'s stacked rows, column `n`. -/
def stacked (c : Dev nD) (t : Fin cfg0.N) (n : Fin 256) (R : ℕ) : EReal :=
  if 16 ≤ 512 * (grid0.coords t 1).val + R then
    projAt (arg0 m c) (arg2 m c) (bat t) ⟨(512 * (grid0.coords t 1).val + R - 16) % 4096, Nat.mod_lt _ (by omega)⟩ n.val else 0

theorem proj_of (c : Dev nD) (b : Fin 8) (p : Fin 4096) (n : Fin 256) (x : Fin 1024 → EReal) (v : Fin 1024 → EReal)
    (hx : ∀ k, x k = arg0 m c (ix3 b p k)) (hv : ∀ k, v k = col (arg2 m c) k n.val) :
    ∑ k : Fin 1024, x k * v k = projAt (arg0 m c) (arg2 m c) b p n.val := by
  unfold projAt proj
  exact Finset.sum_congr rfl fun k _ => congrArg₂ (· * ·) (hx k) (hv k)

theorem stack_eq (c : Dev nD) (t : Fin cfg0.N) (v : FVec Ideal S1024x256 .bf16) (hv : ∀ (k : Fin 1024) (n : Fin 256), v (ix2 k n) = col (arg2 m c) k n.val)
    (R : Fin 528) (n : Fin 256) :
    stack (BitVec.ofNat 32 (grid0.coords t 1).val) (iblk (F := Ideal) m c 0 t) (iblk (F := Ideal) m c 1 t) v v (ix2 R n) = stacked m c t n R.val := by
  have hj := tile_lt t
  rw [stack_apply]
  unfold stacked
  by_cases h : R.val < 16
  · rw [dif_pos h, halo_flag ⟨(grid0.coords t 1).val, hj⟩]
    by_cases h0 : (grid0.coords t 1).val = 0
    · rw [if_pos h0, if_neg (by decide), if_neg (by omega)]
    · rw [if_neg h0, if_pos rfl, if_pos (by omega)]
      have e : hpos t ⟨R.val, h⟩ = ⟨(512 * (grid0.coords t 1).val + R.val - 16) % 4096, Nat.mod_lt _ (by omega)⟩ := Fin.ext (by
        unfold hpos
        dsimp only
        omega)
      rw [← e]
      exact proj_of m c (bat t) (hpos t ⟨R.val, h⟩) n _ _ (fun k => blk1 m c t ⟨R.val, h⟩ k) (fun k => hv k n)
  · rw [dif_neg h, if_pos (by omega)]
    have e : pos t ⟨R.val - 16, by omega⟩ = ⟨(512 * (grid0.coords t 1).val + R.val - 16) % 4096, Nat.mod_lt _ (by omega)⟩ := Fin.ext (by
      unfold pos
      dsimp only
      omega)
    rw [← e]
    exact proj_of m c (bat t) (pos t ⟨R.val - 16, by omega⟩) n _ _ (fun k => blk0 m c t ⟨R.val - 16, by omega⟩ k) (fun k => hv k n)

/-- The stacked rows seen from a tile's row. -/
theorem stacked_back (c : Dev nD) (t : Fin cfg0.N) (r : Fin 512) (n : Fin 256) (i : ℕ) (hi : i < 16) :
    stacked m c t n (16 + r.val - i) = backAt (arg0 m c) (arg2 m c) (bat t) (pos t r) n.val i := by
  have hj := tile_lt t
  unfold stacked backAt
  by_cases h : i ≤ (pos t r).val
  · have h' : i ≤ 512 * (grid0.coords t 1).val + r.val := h
    rw [if_pos h, if_pos (by omega)]
    refine congrArg (fun p => projAt (arg0 m c) (arg2 m c) (bat t) p n.val) (Fin.ext ?_)
    show (512 * (grid0.coords t 1).val + (16 + r.val - i) - 16) % 4096 = 512 * (grid0.coords t 1).val + r.val - i
    omega
  · have h' : ¬i ≤ 512 * (grid0.coords t 1).val + r.val := h
    rw [if_neg h, if_neg (by omega)]

theorem pooled_congr (f g : ℕ → EReal) (t w : ℕ) (hw : w ≤ 16) (h : ∀ i, i < 16 → f i = g i) : pooled f t w = pooled g t w := by
  unfold pooled
  rw [h 0 (by omega), Finset.sum_congr rfl fun i hi => h i (by have := Finset.mem_range.mp hi; omega)]

theorem wide_le (k : ℕ) : wide k ≤ 16 := by
  unfold wide
  split
  · omega
  · split
    · omega
    · split <;> omega

theorem wide_group (k n : ℕ) (h : k / 64 = n / 64) : wide k = wide n := by
  unfold wide
  rw [h]

/-- A sum over 256 columns that keeps to one group of 64. -/
theorem group_sum (f : Fin 256 → EReal) (g : Fin 4) (h : ∀ k : Fin 256, k.val / 64 ≠ g.val → f k = 0) :
    ∑ k : Fin 256, f k = ∑ d : Fin 64, f ⟨64 * g.val + d.val, by omega⟩ := by
  have e : ∑ k : Fin 256, f k = ∑ p : Fin 4 × Fin 64, f ⟨64 * p.1.val + p.2.val, by have := p.1.isLt; have := p.2.isLt; omega⟩ :=
    (Fintype.sum_equiv (finProdFinEquiv (m := 4) (n := 64)) _ f fun p => congrArg f (Fin.ext (Nat.add_comm _ _))).symm
  rw [e, Fintype.sum_prod_type]
  refine Finset.sum_eq_single g (fun a _ ha => Finset.sum_eq_zero fun d _ => h _ ?_) (fun hg => absurd (Finset.mem_univ g) hg)
  intro hh
  refine ha (Fin.ext ?_)
  dsimp only at hh
  omega

theorem ya_point (c : Dev nD) (t : Fin cfg0.N) (y1 : Fin 512) (y2 : Fin 256) :
    ((outsAt0 (F := Ideal) m c t).1 : FVec Ideal S1x512x256 .f32) (ix3 0 y1 y2)
      = poolOut (arg0 m c) (arg2 m c) (arg3 m c) (arg4 m c) (ix3 (bat t) (pos t y1) y2) := by
  have e : ((outsAt0 (F := Ideal) m c t).1 : FVec Ideal S1x512x256 .f32) (ix3 0 y1 y2)
      = (∑ k : Fin 256, pooled (fun i => stacked m c t k (16 + y1.val - i)) (512 * (grid0.coords t 1).val + y1.val) (wide k.val)
        * (iblk (F := Ideal) m c 5 t : FVec Ideal S256x256 .bf16) (ix2 k y2)) * (iblk (F := Ideal) m c 6 t : FVec Ideal S1x256 .f32) (ix2 0 y2) := by
    have hs : ∀ v : FVec Ideal S1024x256 .bf16, _ := fun v => stack_eq m c t v
    have hc : ∀ (k : Fin 1024) (n : Fin 256), (View.ld (Val := Elt Ideal) (S := S1024x3072) (e' := EltTy.bf16)
        (iblk (F := Ideal) m c 4 t : FVec Ideal S1024x3072 .bf16) (Rect.unit ![0, 0] ![1024, 256] inb_S1024x3072_S1024x256_0_0) : FVec Ideal S1024x256 .bf16) (ix2 k n)
          = col (arg2 m c) k n.val := fun k n => by
      refine Eq.trans ?_ (blk4 m c t k ⟨n.val, by omega⟩)
      generalize (iblk (F := Ideal) m c 4 t : FVec Ideal S1024x3072 .bf16) = w
      pointwise
    have hs' := hs _ hc
    generalize h0 : (iblk (F := Ideal) m c 0 t : FVec Ideal S1x512x1024 .f32) = x0 at hs'
    generalize h1 : (iblk (F := Ideal) m c 1 t : FVec Ideal S1x16x1024 .f32) = x1 at hs'
    generalize h4 : (iblk (F := Ideal) m c 4 t : FVec Ideal S1024x3072 .bf16) = x4 at hs'
    generalize h5 : (iblk (F := Ideal) m c 5 t : FVec Ideal S256x256 .bf16) = x5
    generalize h6 : (iblk (F := Ideal) m c 6 t : FVec Ideal S1x256 .f32) = x6
    unfold outsAt0; frame_out
    simp only [h0, h1, h4, h5, h6]
    exact mixer ⟨(grid0.coords t 1).val, tile_lt t⟩ x0 x1 _ x5 x6 (stacked m c t) hs' y1 y2
  rw [e, blk6]
  unfold poolOut
  have hg : y2.val / 64 < 4 := by omega
  refine congrArg (· * arg4 m c (ix1 y2)) ((group_sum _ ⟨y2.val / 64, hg⟩ fun k hk => ?_).trans (Finset.sum_congr rfl fun d _ => ?_))
  · rw [blk5, if_neg hk, mul_zero]
  · rw [blk5, if_pos (by dsimp only; omega), pooled_congr _ _ _ _ (wide_le _) (fun i hi => stacked_back m c t y1 _ i hi),
      wide_group _ y2.val (by dsimp only; omega)]
    refine congrArg₂ (· * ·) rfl (congrArg (arg3 m c) ?_)
    have e1 : (64 * (y2.val / 64) + d.val) / 64 = y2.val / 64 % 4 := by omega
    have e2 : (64 * (y2.val / 64) + d.val) % 64 = d.val := by omega
    idx_ext <;> omega

/-- RESULT: the pooling mixer's rows. -/
theorem ya_final (c : Dev nD) : (dats (F := Ideal) m 0 c).arrAt 7 (cfgs 0).N = poolOut (arg0 m c) (arg2 m c) (arg3 m c) (arg4 m c) := by
  refine (dats (F := Ideal) m 0 c).arrAt_eq_of_covers 7 _ (by decide +kernel) fun t _ y => ?_
  blk_simp
  rw [after0_7]
  have e : y = ix3 0 (y 1) (y 2) := by idx_ext
  rw [e]
  refine (ya_point m c t (y 1) (y 2)).trans ?_
  have w : ∀ X : FVec Ideal S8x4096x256 .f32, X (ix3 (bat t) (pos t (y 1)) (y 2))
      = X ((win0_7.blk t).view.emb (ix3 0 (y 1) (y 2))) := fun X => by
    blk_ext [idxP t, bat, pos]
  exact w (poolOut (arg0 m c) (arg2 m c) (arg3 m c) (arg4 m c))

end Cert.InPoolArray
end
-- ==== Proof.InPoolRef.lean ====
module
public import proofs.«01_k».proof.Proof.InPool
public import proofs.«01_k».proof.Proof.InRef

/-!
The reference's pooling mixer, group by group: the same rows.
-/

@[expose] public section
set_option maxRecDepth 16384
noncomputable section
namespace Cert.InPoolRef
open Idealize.ShloMosaic Idealize.ShloMosaic.TcCoe Idealize.SL.Sem
open Cert.Reference3Ideal Cert.Reference3Ideal.Gen Cert.Reference3Ideal.Read Cert.InWords Cert.InOut Cert.InPool

theorem split1 (x : FVec Ideal S8x4096x1024 .f32) (w : FVec Ideal S1024x2962 .f32) (b : Fin 8) (t : Fin 4096) (n : Fin 256) :
    val_main_v1 (F := Ideal) x w (ix3 b t n) = projAt x w b t n.val := by
  have e := Cert.InRef.h_apply x w b t ⟨n.val, by omega⟩
  unfold val_main_v1
  generalize val_main_v0 (F := Ideal) x w = y at e ⊢
  pointwise
  exact e

theorem zero_word : (FloatOps.sitofp (F := Ideal) FTy.f32 (0#32) : EReal) = 0 := by
  simp [FloatOps.sitofp]

/-- The number of positions in a window that ends at `t`. -/
theorem count_word : ∀ (g : Fin 4) (t : Fin 4096), IntOp.subi (IntOp.addi (BitVec.ofNat 32 t.val) 1#32)
    (IntOp.maxsi (IntOp.subi (IntOp.addi (BitVec.ofNat 32 t.val) 1#32) (BitVec.ofNat 32 (2 ^ (g.val + 1)))) 0#32)
      = BitVec.ofNat 32 (min (t.val + 1) (2 ^ (g.val + 1))) := by decide +kernel

/-- A row of the padded columns, `i` positions before position `t`. -/
theorem pad_back (x : FVec Ideal S8x4096x1024 .f32) (w : FVec Ideal S1024x2962 .f32) (b : Fin 8) (t : Fin 4096) (k p i q : ℕ)
    (hq : q + i = t.val + p) (hi : i ≤ p) (y : Fin 4096 → EReal) (hy : ∀ s, y s = projAt x w b s k) :
    (if h : p ≤ q ∧ q - p < 4096 then y ⟨q - p, h.2⟩ else FloatOps.sitofp (F := Ideal) FTy.f32 0#32) = backAt x w b t k i := by
  unfold backAt
  by_cases h : i ≤ t.val
  · rw [dif_pos (by omega), if_pos h, hy]
    exact congrArg (fun q => projAt x w b q k) (Fin.ext (by dsimp only; omega))
  · rw [dif_neg (by omega), if_neg h]
    exact zero_word

/-- Pooled values from a window's sum, its count and the value itself. -/
theorem pooled_of (f : ℕ → EReal) (t w : ℕ) (s c a : EReal) (hs : s = ∑ i ∈ Finset.range w, f i) (hc : c = count t w) (ha : a = f 0) :
    Ideal.div s c - a = pooled f t w := by
  subst hs hc ha
  rfl

theorem own (x : FVec Ideal S8x4096x1024 .f32) (w : FVec Ideal S1024x2962 .f32) (b : Fin 8) (t : Fin 4096) (k : ℕ) :
    projAt x w b t k = backAt x w b t k 0 := by
  unfold backAt
  rw [if_pos (Nat.zero_le _)]
  rfl

theorem count_of (t w : ℕ) (z : BitVec 32) (h : z = BitVec.ofNat 32 (min (t + 1) w)) : FloatOps.sitofp (F := Ideal) FTy.f32 z = count t w := by
  subst h
  rfl

/-- The first group's columns. -/
theorem cut0 (x : FVec Ideal S8x4096x1024 .f32) (w : FVec Ideal S1024x2962 .f32) (b : Fin 8) (t : Fin 4096) (d : Fin 64) (k : ℕ) (hk : k = 0 + d.val) :
    val_main_v143 (F := Ideal) x w (ix3 b t d) = projAt x w b t k := by
  have e := split1 x w b t ⟨k, by omega⟩
  unfold val_main_v143
  generalize val_main_v1 (F := Ideal) x w = y at e ⊢
  pointwise
  refine Eq.trans (congrArg y ?_) e
  idx_ext <;> omega

theorem pad0 (x : FVec Ideal S8x4096x1024 .f32) (w : FVec Ideal S1024x2962 .f32) (b : Fin 8) (t : Fin 4096) (d : Fin 64) (k : ℕ) (hk : k = 0 + d.val) (q : Fin 4097) (i : ℕ)
    (hq : q.val + i = t.val + 1) (hi : i ≤ 1) : val_main_v144 (F := Ideal) x w (ix3 b q d) = backAt x w b t k i := by
  have e := fun s => cut0 x w b s d k hk
  unfold val_main_v144
  generalize val_main_v143 (F := Ideal) x w = y at e ⊢
  pointwise [val_main_call2_v0, val_main_c_8]
  exact pad_back x w b t k 1 i q.val hq hi (fun s => y (ix3 b s d)) e

theorem sum0 (x : FVec Ideal S8x4096x1024 .f32) (w : FVec Ideal S1024x2962 .f32) (b : Fin 8) (t : Fin 4096) (d : Fin 64) (k : ℕ) (hk : k = 0 + d.val) :
    val_main_v147 (F := Ideal) x w (ix3 b t d) = ∑ i ∈ Finset.range 2, backAt x w b t k i := by
  have e := fun q i hq hi => pad0 x w b t d k hk q i hq hi
  rw [← Finset.sum_range_reflect]
  simp only [Finset.sum_range_succ, Finset.sum_range_zero, zero_add]
  unfold val_main_v147 val_main_v146 val_main_v145
  generalize val_main_v144 (F := Ideal) x w = y at e ⊢
  pointwise
  repeat' refine congrArg₂ HAdd.hAdd ?_ ?_
  all_goals exact e _ _ (by dsimp only <;> omega) (by omega)

theorem count0 (t : Fin 4096) : val_main_v156 (F := Ideal) (ix1 t) = BitVec.ofNat 32 (min (t.val + 1) 2) := by
  refine Eq.trans ?_ (count_word 0 t)
  pointwise [val_main_v156, val_main_v155, val_main_v154, val_main_c_12, val_main_v153, val_main_v152, val_main_c_11, val_main_v151, val_main_v150, val_main_c_10, val_main_v149, val_main_v148, val_main_c_9, val_main_v142]
  rfl

theorem group0 (x : FVec Ideal S8x4096x1024 .f32) (w : FVec Ideal S1024x2962 .f32) (pw : FVec Ideal S4x64x64 .f32) (b : Fin 8) (t : Fin 4096) (n : Fin 64)
    (K : Fin 64 → ℕ) (hK : ∀ d : Fin 64, K d = 0 + d.val) :
    val_main_v164 (F := Ideal) x w pw (ix3 b t n) = ∑ d : Fin 64, pooled (backAt x w b t (K d)) t.val 2 * pw (ix3 0 d n) := by
  have e1 := fun d => sum0 x w b t d (K d) (hK d)
  have e2 := count_of _ _ _ (count0 t)
  have e3 := fun d => (cut0 x w b t d (K d) (hK d)).trans (own x w b t (K d))
  unfold val_main_v164 val_main_v161 val_main_v160 val_main_v159 val_main_v158 val_main_v157 val_main_v163 val_main_v162
  generalize val_main_v147 (F := Ideal) x w = S at e1 ⊢
  generalize val_main_v156 (F := Ideal) = N at e2 ⊢
  generalize val_main_v143 (F := Ideal) x w = y at e3 ⊢
  pointwise
  exact Finset.sum_congr rfl fun d _ => congrArg (· * pw (ix3 0 d n)) (pooled_of _ _ _ _ _ _ (e1 d) e2 (e3 d))

/-- The second group's columns. -/
theorem cut1 (x : FVec Ideal S8x4096x1024 .f32) (w : FVec Ideal S1024x2962 .f32) (b : Fin 8) (t : Fin 4096) (d : Fin 64) (k : ℕ) (hk : k = 64 + d.val) :
    val_main_v165 (F := Ideal) x w (ix3 b t d) = projAt x w b t k := by
  have e := split1 x w b t ⟨k, by omega⟩
  unfold val_main_v165
  generalize val_main_v1 (F := Ideal) x w = y at e ⊢
  pointwise
  refine Eq.trans (congrArg y ?_) e
  idx_ext <;> omega

theorem pad1 (x : FVec Ideal S8x4096x1024 .f32) (w : FVec Ideal S1024x2962 .f32) (b : Fin 8) (t : Fin 4096) (d : Fin 64) (k : ℕ) (hk : k = 64 + d.val) (q : Fin 4099) (i : ℕ)
    (hq : q.val + i = t.val + 3) (hi : i ≤ 3) : val_main_v166 (F := Ideal) x w (ix3 b q d) = backAt x w b t k i := by
  have e := fun s => cut1 x w b s d k hk
  unfold val_main_v166
  generalize val_main_v165 (F := Ideal) x w = y at e ⊢
  pointwise [val_main_call3_v0, val_main_c_13]
  exact pad_back x w b t k 3 i q.val hq hi (fun s => y (ix3 b s d)) e

theorem sum1 (x : FVec Ideal S8x4096x1024 .f32) (w : FVec Ideal S1024x2962 .f32) (b : Fin 8) (t : Fin 4096) (d : Fin 64) (k : ℕ) (hk : k = 64 + d.val) :
    val_main_v173 (F := Ideal) x w (ix3 b t d) = ∑ i ∈ Finset.range 4, backAt x w b t k i := by
  have e := fun q i hq hi => pad1 x w b t d k hk q i hq hi
  rw [← Finset.sum_range_reflect]
  simp only [Finset.sum_range_succ, Finset.sum_range_zero, zero_add]
  unfold val_main_v173 val_main_v172 val_main_v171 val_main_v170 val_main_v169 val_main_v168 val_main_v167
  generalize val_main_v166 (F := Ideal) x w = y at e ⊢
  pointwise
  repeat' refine congrArg₂ HAdd.hAdd ?_ ?_
  all_goals exact e _ _ (by dsimp only <;> omega) (by omega)

theorem count1 (t : Fin 4096) : val_main_v182 (F := Ideal) (ix1 t) = BitVec.ofNat 32 (min (t.val + 1) 4) := by
  refine Eq.trans ?_ (count_word 1 t)
  pointwise [val_main_v182, val_main_v181, val_main_v180, val_main_c_17, val_main_v179, val_main_v178, val_main_c_16, val_main_v177, val_main_v176, val_main_c_15, val_main_v175, val_main_v174, val_main_c_14, val_main_v142]
  rfl

theorem group1 (x : FVec Ideal S8x4096x1024 .f32) (w : FVec Ideal S1024x2962 .f32) (pw : FVec Ideal S4x64x64 .f32) (b : Fin 8) (t : Fin 4096) (n : Fin 64)
    (K : Fin 64 → ℕ) (hK : ∀ d : Fin 64, K d = 64 + d.val) :
    val_main_v190 (F := Ideal) x w pw (ix3 b t n) = ∑ d : Fin 64, pooled (backAt x w b t (K d)) t.val 4 * pw (ix3 1 d n) := by
  have e1 := fun d => sum1 x w b t d (K d) (hK d)
  have e2 := count_of _ _ _ (count1 t)
  have e3 := fun d => (cut1 x w b t d (K d) (hK d)).trans (own x w b t (K d))
  unfold val_main_v190 val_main_v187 val_main_v186 val_main_v185 val_main_v184 val_main_v183 val_main_v189 val_main_v188
  generalize val_main_v173 (F := Ideal) x w = S at e1 ⊢
  generalize val_main_v182 (F := Ideal) = N at e2 ⊢
  generalize val_main_v165 (F := Ideal) x w = y at e3 ⊢
  pointwise
  exact Finset.sum_congr rfl fun d _ => congrArg (· * pw (ix3 1 d n)) (pooled_of _ _ _ _ _ _ (e1 d) e2 (e3 d))

/-- The third group's columns. -/
theorem cut2 (x : FVec Ideal S8x4096x1024 .f32) (w : FVec Ideal S1024x2962 .f32) (b : Fin 8) (t : Fin 4096) (d : Fin 64) (k : ℕ) (hk : k = 128 + d.val) :
    val_main_v191 (F := Ideal) x w (ix3 b t d) = projAt x w b t k := by
  have e := split1 x w b t ⟨k, by omega⟩
  unfold val_main_v191
  generalize val_main_v1 (F := Ideal) x w = y at e ⊢
  pointwise
  refine Eq.trans (congrArg y ?_) e
  idx_ext <;> omega

theorem pad2 (x : FVec Ideal S8x4096x1024 .f32) (w : FVec Ideal S1024x2962 .f32) (b : Fin 8) (t : Fin 4096) (d : Fin 64) (k : ℕ) (hk : k = 128 + d.val) (q : Fin 4103) (i : ℕ)
    (hq : q.val + i = t.val + 7) (hi : i ≤ 7) : val_main_v192 (F := Ideal) x w (ix3 b q d) = backAt x w b t k i := by
  have e := fun s => cut2 x w b s d k hk
  unfold val_main_v192
  generalize val_main_v191 (F := Ideal) x w = y at e ⊢
  pointwise [val_main_call4_v0, val_main_c_18]
  exact pad_back x w b t k 7 i q.val hq hi (fun s => y (ix3 b s d)) e

theorem sum2 (x : FVec Ideal S8x4096x1024 .f32) (w : FVec Ideal S1024x2962 .f32) (b : Fin 8) (t : Fin 4096) (d : Fin 64) (k : ℕ) (hk : k = 128 + d.val) :
    val_main_v207 (F := Ideal) x w (ix3 b t d) = ∑ i ∈ Finset.range 8, backAt x w b t k i := by
  have e := fun q i hq hi => pad2 x w b t d k hk q i hq hi
  rw [← Finset.sum_range_reflect]
  simp only [Finset.sum_range_succ, Finset.sum_range_zero, zero_add]
  unfold val_main_v207 val_main_v206 val_main_v205 val_main_v204 val_main_v203 val_main_v202 val_main_v201 val_main_v200 val_main_v199 val_main_v198 val_main_v197 val_main_v196 val_main_v195 val_main_v194 val_main_v193
  generalize val_main_v192 (F := Ideal) x w = y at e ⊢
  pointwise
  repeat' refine congrArg₂ HAdd.hAdd ?_ ?_
  all_goals exact e _ _ (by dsimp only <;> omega) (by omega)

theorem count2 (t : Fin 4096) : val_main_v216 (F := Ideal) (ix1 t) = BitVec.ofNat 32 (min (t.val + 1) 8) := by
  refine Eq.trans ?_ (count_word 2 t)
  pointwise [val_main_v216, val_main_v215, val_main_v214, val_main_c_22, val_main_v213, val_main_v212, val_main_c_21, val_main_v211, val_main_v210, val_main_c_20, val_main_v209, val_main_v208, val_main_c_19, val_main_v142]
  rfl

theorem group2 (x : FVec Ideal S8x4096x1024 .f32) (w : FVec Ideal S1024x2962 .f32) (pw : FVec Ideal S4x64x64 .f32) (b : Fin 8) (t : Fin 4096) (n : Fin 64)
    (K : Fin 64 → ℕ) (hK : ∀ d : Fin 64, K d = 128 + d.val) :
    val_main_v224 (F := Ideal) x w pw (ix3 b t n) = ∑ d : Fin 64, pooled (backAt x w b t (K d)) t.val 8 * pw (ix3 2 d n) := by
  have e1 := fun d => sum2 x w b t d (K d) (hK d)
  have e2 := count_of _ _ _ (count2 t)
  have e3 := fun d => (cut2 x w b t d (K d) (hK d)).trans (own x w b t (K d))
  unfold val_main_v224 val_main_v221 val_main_v220 val_main_v219 val_main_v218 val_main_v217 val_main_v223 val_main_v222
  generalize val_main_v207 (F := Ideal) x w = S at e1 ⊢
  generalize val_main_v216 (F := Ideal) = N at e2 ⊢
  generalize val_main_v191 (F := Ideal) x w = y at e3 ⊢
  pointwise
  exact Finset.sum_congr rfl fun d _ => congrArg (· * pw (ix3 2 d n)) (pooled_of _ _ _ _ _ _ (e1 d) e2 (e3 d))

/-- The fourth group's columns. -/
theorem cut3 (x : FVec Ideal S8x4096x1024 .f32) (w : FVec Ideal S1024x2962 .f32) (b : Fin 8) (t : Fin 4096) (d : Fin 64) (k : ℕ) (hk : k = 192 + d.val) :
    val_main_v225 (F := Ideal) x w (ix3 b t d) = projAt x w b t k := by
  have e := split1 x w b t ⟨k, by omega⟩
  unfold val_main_v225
  generalize val_main_v1 (F := Ideal) x w = y at e ⊢
  pointwise
  refine Eq.trans (congrArg y ?_) e
  idx_ext <;> omega

theorem pad3 (x : FVec Ideal S8x4096x1024 .f32) (w : FVec Ideal S1024x2962 .f32) (b : Fin 8) (t : Fin 4096) (d : Fin 64) (k : ℕ) (hk : k = 192 + d.val) (q : Fin 4111) (i : ℕ)
    (hq : q.val + i = t.val + 15) (hi : i ≤ 15) : val_main_v226 (F := Ideal) x w (ix3 b q d) = backAt x w b t k i := by
  have e := fun s => cut3 x w b s d k hk
  unfold val_main_v226
  generalize val_main_v225 (F := Ideal) x w = y at e ⊢
  pointwise [val_main_call5_v0, val_main_c_23]
  exact pad_back x w b t k 15 i q.val hq hi (fun s => y (ix3 b s d)) e

theorem sum3 (x : FVec Ideal S8x4096x1024 .f32) (w : FVec Ideal S1024x2962 .f32) (b : Fin 8) (t : Fin 4096) (d : Fin 64) (k : ℕ) (hk : k = 192 + d.val) :
    val_main_v257 (F := Ideal) x w (ix3 b t d) = ∑ i ∈ Finset.range 16, backAt x w b t k i := by
  have e := fun q i hq hi => pad3 x w b t d k hk q i hq hi
  rw [← Finset.sum_range_reflect]
  simp only [Finset.sum_range_succ, Finset.sum_range_zero, zero_add]
  unfold val_main_v257 val_main_v256 val_main_v255 val_main_v254 val_main_v253 val_main_v252 val_main_v251 val_main_v250 val_main_v249 val_main_v248 val_main_v247 val_main_v246 val_main_v245 val_main_v244 val_main_v243 val_main_v242 val_main_v241 val_main_v240 val_main_v239 val_main_v238 val_main_v237 val_main_v236 val_main_v235 val_main_v234 val_main_v233 val_main_v232 val_main_v231 val_main_v230 val_main_v229 val_main_v228 val_main_v227
  generalize val_main_v226 (F := Ideal) x w = y at e ⊢
  pointwise
  repeat' refine congrArg₂ HAdd.hAdd ?_ ?_
  all_goals exact e _ _ (by dsimp only <;> omega) (by omega)

theorem count3 (t : Fin 4096) : val_main_v266 (F := Ideal) (ix1 t) = BitVec.ofNat 32 (min (t.val + 1) 16) := by
  refine Eq.trans ?_ (count_word 3 t)
  pointwise [val_main_v266, val_main_v265, val_main_v264, val_main_c_27, val_main_v263, val_main_v262, val_main_c_26, val_main_v261, val_main_v260, val_main_c_25, val_main_v259, val_main_v258, val_main_c_24, val_main_v142]
  rfl

theorem group3 (x : FVec Ideal S8x4096x1024 .f32) (w : FVec Ideal S1024x2962 .f32) (pw : FVec Ideal S4x64x64 .f32) (b : Fin 8) (t : Fin 4096) (n : Fin 64)
    (K : Fin 64 → ℕ) (hK : ∀ d : Fin 64, K d = 192 + d.val) :
    val_main_v274 (F := Ideal) x w pw (ix3 b t n) = ∑ d : Fin 64, pooled (backAt x w b t (K d)) t.val 16 * pw (ix3 3 d n) := by
  have e1 := fun d => sum3 x w b t d (K d) (hK d)
  have e2 := count_of _ _ _ (count3 t)
  have e3 := fun d => (cut3 x w b t d (K d) (hK d)).trans (own x w b t (K d))
  unfold val_main_v274 val_main_v271 val_main_v270 val_main_v269 val_main_v268 val_main_v267 val_main_v273 val_main_v272
  generalize val_main_v257 (F := Ideal) x w = S at e1 ⊢
  generalize val_main_v266 (F := Ideal) = N at e2 ⊢
  generalize val_main_v225 (F := Ideal) x w = y at e3 ⊢
  pointwise
  exact Finset.sum_congr rfl fun d _ => congrArg (· * pw (ix3 3 d n)) (pooled_of _ _ _ _ _ _ (e1 d) e2 (e3 d))

theorem close (x : FVec Ideal S8x4096x1024 .f32) (w : FVec Ideal S1024x2962 .f32) (pw : FVec Ideal S4x64x64 .f32) (b : Fin 8) (t : Fin 4096)
    (g : Fin 4) (m : Fin 64) (n : Fin 256) (o v : ℕ) (hg : n.val / 64 = g.val) (hm : n.val % 64 = m.val) (ho : o = 64 * g.val) (hv : wide n.val = v) :
    ∑ d : Fin 64, pooled (backAt x w b t (o + d.val)) t.val v * pw (ix3 g d m)
      = ∑ d : Fin 64, pooled (backAt x w b t (64 * (n.val / 64) + d.val)) t.val (wide n.val)
        * pw (ix3 ⟨n.val / 64 % 4, Nat.mod_lt _ (by omega)⟩ d ⟨n.val % 64, Nat.mod_lt _ (by omega)⟩) := by
  subst ho hv
  have eg : (⟨n.val / 64 % 4, Nat.mod_lt _ (by omega)⟩ : Fin 4) = g := Fin.ext (by dsimp only; omega)
  have em : (⟨n.val % 64, Nat.mod_lt _ (by omega)⟩ : Fin 64) = m := Fin.ext hm
  rw [eg, em, hg]

theorem wide_at (n g v : ℕ) (h : n / 64 = g) (hv : (if g = 0 then 2 else if g = 1 then 4 else if g = 2 then 8 else 16) = v) : wide n = v := by
  unfold wide
  rw [h]
  exact hv

/-- RESULT: the pooling mixer's rows. -/
theorem ya_result (x : FVec Ideal S8x4096x1024 .f32) (w : FVec Ideal S1024x2962 .f32) (pw : FVec Ideal S4x64x64 .f32) (sc : FVec Ideal S256 .f32) :
    val_main_v278 (F := Ideal) x w pw sc = poolOut x w pw sc := by
  funext i
  obtain ⟨b, t, n, rfl⟩ : ∃ (b : Fin 8) (t : Fin 4096) (n : Fin 256), i = ix3 b t n := ⟨i 0, i 1, i 2, by idx_ext⟩
  have e0 := fun m => group0 x w pw b t m _ fun _ => rfl
  have e1 := fun m => group1 x w pw b t m _ fun _ => rfl
  have e2 := fun m => group2 x w pw b t m _ fun _ => rfl
  have e3 := fun m => group3 x w pw b t m _ fun _ => rfl
  unfold val_main_v278 val_main_v277 val_main_v276 val_main_v275
  generalize val_main_v164 (F := Ideal) x w pw = y0 at e0 ⊢
  generalize val_main_v190 (F := Ideal) x w pw = y1 at e1 ⊢
  generalize val_main_v224 (F := Ideal) x w pw = y2 at e2 ⊢
  generalize val_main_v274 (F := Ideal) x w pw = y3 at e3 ⊢
  pointwise
  refine congrArg (· * sc (ix1 n)) ?_
  by_cases h0 : n.val < 64
  · rw [dif_pos h0, e0]
    exact close x w pw b t 0 _ n _ _ (by show _ = 0; omega) (by dsimp only; omega) rfl (wide_at _ 0 _ (by omega) rfl)
  rw [dif_neg h0]
  by_cases h1 : n.val - 64 < 64
  · rw [dif_pos h1, e1]
    exact close x w pw b t 1 _ n _ _ (by show _ = 1; omega) (by dsimp only; omega) rfl (wide_at _ 1 _ (by omega) rfl)
  rw [dif_neg h1]
  by_cases h2 : n.val - 64 - 64 < 64
  · rw [dif_pos h2, e2]
    exact close x w pw b t 2 _ n _ _ (by show _ = 2; omega) (by dsimp only; omega) rfl (wide_at _ 2 _ (by omega) rfl)
  rw [dif_neg h2, e3]
  exact close x w pw b t 3 _ n _ _ (by show _ = 3; omega) (by dsimp only; omega) rfl (wide_at _ 3 _ (by omega) rfl)

end Cert.InPoolRef
end
-- ==== Proof.InClaim.lean ====
/- The claims about the input projection. -/
module

public import proofs.«01_k».proof.Defs
public import proofs.«01_k».proof.Proof.InArray
public import proofs.«01_k».proof.Proof.InRefB
public import proofs.«01_k».proof.Proof.InPoolArray
public import proofs.«01_k».proof.Proof.InPoolRef
public import proofs.«01_k».proof.Proof.Gen.Kernel3Ideal.Value
public import proofs.«01_k».proof.Proof.Gen.Reference3Ideal.Run

@[expose] public section

set_option maxRecDepth 16384

noncomputable section

namespace Cert.InClaim

open Idealize.ShloMosaic Idealize.ShloMosaic.TcCoe Idealize.SL.Sem
open Cert.InOut Cert.InPool

/-- The reference leaves its arguments and ends quiet. -/
theorem frame : Cert.quiescent_Reference3Ideal := fun m ρ _ =>
  (θ_run Cert.Reference3Ideal.defs _ _).mono
    (fun r h => ⟨fun c => (h c).2.2.2.2.2.2.2.2.2.2, sem_eq_zero_of_no_sems (by decide) r.2⟩)
    (Cert.Reference3Ideal.Value.run (F := Ideal) m ρ)

/-- A function of the input, the positions and the weights has equal values at equal arguments. -/
theorem out_congr {α : Type} (f : FVec Ideal Cert.Kernel3Ideal.S8x4096x1024 .f32 → IVec Cert.Kernel3Ideal.S8x4096 32 →
    FVec Ideal Cert.Kernel3Ideal.S1024x2962 .f32 → α) {x y : FVec Ideal Cert.Kernel3Ideal.S8x4096x1024 .f32} (hx : x = y)
    {p q : IVec Cert.Kernel3Ideal.S8x4096 32} (hp : p = q) {w u : FVec Ideal Cert.Kernel3Ideal.S1024x2962 .f32} (hw : w = u) :
    f x p w = f y q u := by
  subst hx hp hw
  rfl

/-- The pooling mixer's rows are equal at equal arguments. -/
theorem pool_congr {x y : FVec Ideal Cert.Kernel3Ideal.S8x4096x1024 .f32} (hx : x = y)
    {w u : FVec Ideal Cert.Kernel3Ideal.S1024x2962 .f32} (hw : w = u) {p q : FVec Ideal Cert.Kernel3Ideal.S4x64x64 .f32} (hp : p = q)
    {s z : FVec Ideal Cert.Kernel3Ideal.S256 .f32} (hs : s = z) : poolOut x w p s = poolOut y u q z := by
  subst hx hw hp hs
  rfl

/-- The idealized kernel and the idealized reference end with equal results. -/
theorem algebraic : Cert.algebraic_Kernel3Ideal_Reference3Ideal := by
  intro m ρ m' ρ' _ hagree
  refine ⟨fun c => retOut (Cert.InArray.arg0 m c) (Cert.InArray.arg1 m c) (Cert.InArray.arg2 m c),
    fun c => qOut (Cert.InArray.arg0 m c) (Cert.InArray.arg1 m c) (Cert.InArray.arg2 m c),
    fun c => kcOut (Cert.InArray.arg0 m c) (Cert.InArray.arg1 m c) (Cert.InArray.arg2 m c),
    fun c => vcOut (Cert.InArray.arg0 m c) (Cert.InArray.arg1 m c) (Cert.InArray.arg2 m c),
    fun c => gateOut (Cert.InArray.arg0 m c) (Cert.InArray.arg1 m c) (Cert.InArray.arg2 m c),
    fun c => ksOut (Cert.InArray.arg0 m c) (Cert.InArray.arg1 m c) (Cert.InArray.arg2 m c),
    fun c => vsOut (Cert.InArray.arg0 m c) (Cert.InArray.arg1 m c) (Cert.InArray.arg2 m c),
    fun c => kwOut (Cert.InArray.arg0 m c) (Cert.InArray.arg1 m c) (Cert.InArray.arg2 m c),
    fun c => vwOut (Cert.InArray.arg0 m c) (Cert.InArray.arg1 m c) (Cert.InArray.arg2 m c),
    fun c => poolOut (Cert.InArray.arg0 m c) (Cert.InArray.arg2 m c) (Cert.InPoolArray.arg3 m c) (Cert.InPoolArray.arg4 m c), ?_, ?_⟩
  · refine (θ_run Cert.Kernel3Ideal.defs _ _).mono (fun _ h c => ?_) (Cert.Kernel3Ideal.Value.run_blocks (F := Ideal) m ρ)
    refine ⟨(h c).2.1.trans (Cert.InArray.ret_final m c),
      (h c).2.2.1.trans (Cert.InArray.q_final m c),
      (h c).2.2.2.1.trans (Cert.InArray.kc_final m c),
      (h c).2.2.2.2.1.trans (Cert.InArray.vc_final m c),
      (h c).2.2.2.2.2.1.trans (Cert.InArray.gate_final m c),
      (h c).2.2.2.2.2.2.1.trans (Cert.InArray.ks_final m c),
      (h c).2.2.2.2.2.2.2.1.trans (Cert.InArray.vs_final m c),
      (h c).2.2.2.2.2.2.2.2.1.trans (Cert.InArray.kw_final m c),
      (h c).2.2.2.2.2.2.2.2.2.1.trans (Cert.InArray.vw_final m c),
      (h c).1.trans (Cert.InPoolArray.ya_final m c),
      (h c).2.2.2.2.2.2.2.2.2.2⟩
  refine (θ_run Cert.Reference3Ideal.defs _ _).mono (fun _ h c => ?_) (Cert.Reference3Ideal.Value.run (F := Ideal) m' ρ')
  have g0 := (hagree c).1
  have g1 := (hagree c).2.1
  have g2 := (hagree c).2.2.1
  have g3 := (hagree c).2.2.2.1
  have g4 := (hagree c).2.2.2.2
  refine ⟨(h c).1.trans ?_,
    (h c).2.1.trans ?_,
    (h c).2.2.1.trans ?_,
    (h c).2.2.2.1.trans ?_,
    (h c).2.2.2.2.1.trans ?_,
    (h c).2.2.2.2.2.1.trans ?_,
    (h c).2.2.2.2.2.2.1.trans ?_,
    (h c).2.2.2.2.2.2.2.1.trans ?_,
    (h c).2.2.2.2.2.2.2.2.1.trans ?_,
    (h c).2.2.2.2.2.2.2.2.2.1.trans ?_, (h c).2.2.2.2.2.2.2.2.2.2⟩
  · exact (Cert.Reference3Ideal.Read.val_main_v66_eq _).trans ((Cert.InRefB.ret_result _ (m' ((c.tc : Thread Cert.Reference3Ideal.nD Cert.Reference3Ideal.τ).loc Cert.Reference3Ideal.main_arg1)) _).trans (out_congr retOut g0 g1 g2))
  · exact (Cert.Reference3Ideal.Read.val_main_v126_eq _).trans ((Cert.InRefB.q_result _ (m' ((c.tc : Thread Cert.Reference3Ideal.nD Cert.Reference3Ideal.τ).loc Cert.Reference3Ideal.main_arg1)) _).trans (out_congr qOut g0 g1 g2))
  · exact (Cert.Reference3Ideal.Read.val_main_v127_eq _).trans ((Cert.InRefB.kc_result _ (m' ((c.tc : Thread Cert.Reference3Ideal.nD Cert.Reference3Ideal.τ).loc Cert.Reference3Ideal.main_arg1)) _).trans (out_congr kcOut g0 g1 g2))
  · exact (Cert.Reference3Ideal.Read.val_main_v128_eq _).trans ((Cert.InRefB.vc_result _ (m' ((c.tc : Thread Cert.Reference3Ideal.nD Cert.Reference3Ideal.τ).loc Cert.Reference3Ideal.main_arg1)) _).trans (out_congr vcOut g0 g1 g2))
  · exact (Cert.Reference3Ideal.Read.val_main_v129_eq _).trans ((Cert.InRefB.gate_result _ (m' ((c.tc : Thread Cert.Reference3Ideal.nD Cert.Reference3Ideal.τ).loc Cert.Reference3Ideal.main_arg1)) _).trans (out_congr gateOut g0 g1 g2))
  · exact (Cert.Reference3Ideal.Read.val_main_v130_eq _).trans ((Cert.InRefB.ks_result _ (m' ((c.tc : Thread Cert.Reference3Ideal.nD Cert.Reference3Ideal.τ).loc Cert.Reference3Ideal.main_arg1)) _).trans (out_congr ksOut g0 g1 g2))
  · exact (Cert.Reference3Ideal.Read.val_main_v135_eq _).trans ((Cert.InRefB.vs_result _ (m' ((c.tc : Thread Cert.Reference3Ideal.nD Cert.Reference3Ideal.τ).loc Cert.Reference3Ideal.main_arg1)) _).trans (out_congr vsOut g0 g1 g2))
  · exact (Cert.Reference3Ideal.Read.val_main_v136_eq _).trans ((Cert.InRefB.kw_result _ (m' ((c.tc : Thread Cert.Reference3Ideal.nD Cert.Reference3Ideal.τ).loc Cert.Reference3Ideal.main_arg1)) _).trans (out_congr kwOut g0 g1 g2))
  · exact (Cert.Reference3Ideal.Read.val_main_v141_eq _).trans ((Cert.InRefB.vw_result _ (m' ((c.tc : Thread Cert.Reference3Ideal.nD Cert.Reference3Ideal.τ).loc Cert.Reference3Ideal.main_arg1)) _).trans (out_congr vwOut g0 g1 g2))
  · exact (Cert.Reference3Ideal.Read.val_main_v278_eq _).trans ((Cert.InPoolRef.ya_result _ _ _ _).trans (pool_congr g0 g2 g3 g4))

end Cert.InClaim

end
-- ==== Proof.CmpWords.lean ====
module
public import proofs.«01_k».proof.Proof.InOut
public import proofs.«01_k».proof.Proof.PostWords

/-!
The compression of one key or value block in mathematical words: 32 positions of a sequence, each with its learned offset, through
a hidden layer of 128 lanes and down to a head's 64. The last block of a sequence wraps round to its start.
-/

@[expose] public section
noncomputable section
namespace Cert.CmpWords
open Idealize.ShloMosaic Cert.InWords Cert.InOut Cert.PostWords
open Cert.Kernel3Ideal (S8x4096)

abbrev SX : Shape := ⟨3, ![8, 4096, 128]⟩
abbrev SP : Shape := ⟨2, ![32, 64]⟩
abbrev SW : Shape := ⟨2, ![2048, 128]⟩
abbrev SB : Shape := ⟨1, ![128]⟩
abbrev SV : Shape := ⟨2, ![128, 64]⟩
abbrev SK : Shape := ⟨3, ![8, 256, 128]⟩
abbrev ST : Shape := ⟨3, ![8, 128, 256]⟩

/-- Column `n` at position `t`, counted round the sequence. -/
def xAt (x : FVec Ideal SX .f32) (b : Fin 8) (t n : ℕ) : EReal :=
  x (ix3 b ⟨t % 4096, Nat.mod_lt _ (by omega)⟩ ⟨n % 128, Nat.mod_lt _ (by omega)⟩)

/-- The offset of lane `d` at the block's position `l`. -/
def pAt (p : FVec Ideal SP .f32) (l d : ℕ) : EReal := p (ix2 ⟨l % 32, Nat.mod_lt _ (by omega)⟩ ⟨d % 64, Nat.mod_lt _ (by omega)⟩)

/-- The first weight of the block's lane `k`. -/
def wAt (w : FVec Ideal SW .f32) (k h : ℕ) : EReal := w (ix2 ⟨k % 2048, Nat.mod_lt _ (by omega)⟩ ⟨h % 128, Nat.mod_lt _ (by omega)⟩)

def bAt (v : FVec Ideal SB .f32) (h : ℕ) : EReal := v (ix1 ⟨h % 128, Nat.mod_lt _ (by omega)⟩)

/-- The second weight. -/
def vAt (w : FVec Ideal SV .f32) (h d : ℕ) : EReal := w (ix2 ⟨h % 128, Nat.mod_lt _ (by omega)⟩ ⟨d % 64, Nat.mod_lt _ (by omega)⟩)

/-- A term of the hidden layer's sum. -/
def term (x : FVec Ideal SX .f32) (p : FVec Ideal SP .f32) (w : FVec Ideal SW .f32) (b : Fin 8) (r g h k : ℕ) : EReal :=
  (xAt x b (16 * r + k / 64) (64 * g + k % 64) + pAt p (k / 64) (k % 64)) * wAt w k h

/-- Hidden lane `h` of head `g` of block `r`, before the activation. -/
def hidden (x : FVec Ideal SX .f32) (p : FVec Ideal SP .f32) (w : FVec Ideal SW .f32) (v : FVec Ideal SB .f32) (b : Fin 8) (r g h : ℕ) : EReal :=
  (∑ k : Fin 2048, term x p w b r g h k.val) + bAt v h

/-- Column `n` of block `r`, all heads side by side. -/
def comp (x : FVec Ideal SX .f32) (p : FVec Ideal SP .f32) (w : FVec Ideal SW .f32) (v : FVec Ideal SB .f32) (u : FVec Ideal SV .f32)
    (b : Fin 8) (r n : ℕ) : EReal :=
  ∑ h : Fin 128, gelu (hidden x p w v b r (n / 64) h.val) * vAt u h.val (n % 64)

/-- The position at which a block ends, at most the sequence's last. -/
def endOf (r : Fin 256) : Fin 4096 := ⟨min (16 * r.val + 31) 4095, by omega⟩

/-- THE RESULT: the keys, turned by the angles of their blocks' ends. -/
def keysOut (x : FVec Ideal SX .f32) (q : IVec S8x4096 32) (p : FVec Ideal SP .f32) (w : FVec Ideal SW .f32) (v : FVec Ideal SB .f32)
    (u : FVec Ideal SV .f32) : FVec Ideal SK .bf16 := fun i =>
  turn (comp x p w v u (i 0) (i 1).val) (cosAt q (i 0) (endOf (i 1))) (sinAt q (i 0) (endOf (i 1))) (i 2).val

/-- THE RESULT: the values, transposed. -/
def valsOut (x : FVec Ideal SX .f32) (p : FVec Ideal SP .f32) (w : FVec Ideal SW .f32) (v : FVec Ideal SB .f32)
    (u : FVec Ideal SV .f32) : FVec Ideal ST .bf16 := fun i => comp x p w v u (i 0) (i 2).val (i 1).val

/-- A sum over 16 positions of two heads that keeps to one head. -/
theorem head_sum (f : Fin 2048 → EReal) (g : ℕ) (hg : g < 2) (h : ∀ k : Fin 2048, k.val / 64 % 2 ≠ g → f k = 0) :
    ∑ k : Fin 2048, f k = ∑ j : Fin 1024, f ⟨128 * (j.val / 64) + 64 * g + j.val % 64, by omega⟩ := by
  refine (Finset.sum_of_injOn (fun j : Fin 1024 => (⟨128 * (j.val / 64) + 64 * g + j.val % 64, by omega⟩ : Fin 2048))
    (fun a _ b _ e => ?_) (fun _ _ => Finset.mem_coe.mpr (Finset.mem_univ _)) (fun k _ hk => h k fun e => hk ?_) (fun _ _ => rfl)).symm
  · have e' := congrArg Fin.val e
    dsimp only at e'
    exact Fin.ext (by omega)
  · refine ⟨⟨64 * (k.val / 128) + k.val % 64, by omega⟩, Finset.mem_coe.mpr (Finset.mem_univ _), Fin.ext ?_⟩
    dsimp only
    omega

/-- A sum over two heads' hidden lanes that keeps to one head. -/
theorem lane_sum (f : Fin 256 → EReal) (g : ℕ) (hg : g < 2) (h : ∀ k : Fin 256, k.val / 128 ≠ g → f k = 0) :
    ∑ k : Fin 256, f k = ∑ j : Fin 128, f ⟨128 * g + j.val, by omega⟩ := by
  refine (Finset.sum_of_injOn (fun j : Fin 128 => (⟨128 * g + j.val, by omega⟩ : Fin 256))
    (fun a _ b _ e => ?_) (fun _ _ => Finset.mem_coe.mpr (Finset.mem_univ _)) (fun k _ hk => h k fun e => hk ?_) (fun _ _ => rfl)).symm
  · have e' := congrArg Fin.val e
    dsimp only at e'
    exact Fin.ext (by omega)
  · refine ⟨⟨k.val % 128, by omega⟩, Finset.mem_coe.mpr (Finset.mem_univ _), Fin.ext ?_⟩
    dsimp only
    omega

/-- A block's sum from its two halves. -/
theorem halves (f : ℕ → EReal) : ∑ k : Fin 2048, f k.val = (∑ j : Fin 1024, f j.val) + ∑ j : Fin 1024, f (1024 + j.val) :=
  Fin.sum_univ_add (a := 1024) (b := 1024) fun k => f k.val

/-- The first 16 positions: products with the weights laid out by head. -/
theorem top_sum (x : FVec Ideal SX .f32) (p : FVec Ideal SP .f32) (w : FVec Ideal SW .f32) (b : Fin 8) (r c : ℕ) (hc : c < 256) :
    ∑ k : Fin 2048, (xAt x b (16 * r + k.val / 128) k.val + pAt p (k.val / 128) k.val)
      * (if k.val / 64 % 2 = c / 128 then wAt w (64 * (k.val / 128) + k.val % 64) c else 0)
      = ∑ j : Fin 1024, term x p w b r (c / 128) c j.val := by
  rw [head_sum _ (c / 128) (by omega) fun k hk => by rw [if_neg hk, mul_zero]]
  refine Finset.sum_congr rfl fun j _ => ?_
  have hj := j.isLt
  rw [if_pos (by dsimp only; omega)]
  unfold term xAt pAt wAt
  dsimp only
  refine congrArg₂ (· * ·) (congrArg₂ (· + ·) (congrArg x ?_) (congrArg p ?_)) (congrArg w ?_) <;> idx_ext <;> omega

/-- The last 16 positions, which are the next row's. -/
theorem bottom_sum (x : FVec Ideal SX .f32) (p : FVec Ideal SP .f32) (w : FVec Ideal SW .f32) (b : Fin 8) (r s c : ℕ) (hc : c < 256)
    (hs : s = (r + 1) % 256) :
    ∑ k : Fin 2048, (xAt x b (16 * s + k.val / 128) k.val + pAt p (16 + k.val / 128) k.val)
      * (if k.val / 64 % 2 = c / 128 then wAt w (64 * (16 + k.val / 128) + k.val % 64) c else 0)
      = ∑ j : Fin 1024, term x p w b r (c / 128) c (1024 + j.val) := by
  rw [head_sum _ (c / 128) (by omega) fun k hk => by rw [if_neg hk, mul_zero]]
  refine Finset.sum_congr rfl fun j _ => ?_
  have hj := j.isLt
  rw [if_pos (by dsimp only; omega)]
  unfold term xAt pAt wAt
  dsimp only
  refine congrArg₂ (· * ·) (congrArg₂ (· + ·) (congrArg x ?_) (congrArg p ?_)) (congrArg w ?_) <;> idx_ext <;> omega

end Cert.CmpWords
end
-- ==== Proof.CmpBody.lean ====
module
public import proofs.«01_k».proof.Proof.Gen.Kernel4Ideal.Frame
public import proofs.«01_k».proof.Proof.CmpWords
public import proofs.«01_k».proof.Proof.InBody
public import Idealize.ShloMosaic.Lib.Pipeline.ValueKit

/-!
What the compression's kernel computes in one grid step, read at one element.
-/

@[expose] public section
set_option maxRecDepth 16384
noncomputable section
namespace Cert.CmpBody
open Idealize.ShloMosaic Idealize.ShloMosaic.TcCoe Idealize.SL.Sem
open Cert.Kernel4Ideal Cert.Kernel4Ideal.Gen Cert.InWords Cert.PostWords

/-- The rows with their offsets times half of the weights. -/
def part (x : FVec Ideal S1x256x2048 .f32) (p : FVec Ideal S1x2048 .f32) (w : FVec Ideal S2048x256 .bf16) : FVec Ideal S256x256 .f32 :=
  k0_pay5 (F := Ideal) x p w

theorem part_apply (x : FVec Ideal S1x256x2048 .f32) (p : FVec Ideal S1x2048 .f32) (w : FVec Ideal S2048x256 .bf16) (r c : Fin 256) :
    part x p w (ix2 r c) = ∑ k : Fin 2048, (x (ix3 0 r k) + p (ix2 0 k)) * w (ix2 k c) := by
  pointwise [part, k0_pay5, k0_pay4]

/-- The hidden lanes before the activation. -/
def sums (t u : FVec Ideal S256x256 .f32) (v : FVec Ideal S1x256 .f32) : FVec Ideal S256x256 .f32 :=
  addf (addf t (dynamicRotate 0 255#32 none u rotates_S256x256_d0)) (broadcastTo S256x256 (shapeCast S1x256 v shapeCasts_S1x256_S1x256) broadcasts_S1x256_S256x256)

theorem sums_apply (t u : FVec Ideal S256x256 .f32) (v : FVec Ideal S1x256 .f32) (r c : Fin 256) :
    sums t u v (ix2 r c) = t (ix2 r c) + u (ix2 ⟨(r.val + 256 - 255) % 256, Nat.mod_lt _ (by omega)⟩ c) + v (ix2 0 c) := by
  pointwise [sums]

/-- The activation of an array. -/
def act (y : FVec Ideal S256x256 .f32) : FVec Ideal S256x256 .bf16 :=
  truncf .bf16 (mulf (mulf (broadcast S256x256 (Scalar.ofBits .f32 0x3F000000#32)) y)
    (addf (broadcast S256x256 (Scalar.ofBits .f32 0x3F800000#32)) (tanh (mulf (broadcast S256x256 (Scalar.ofBits .f32 0x3F4C422A#32))
      (addf y (mulf (broadcast S256x256 (Scalar.ofBits .f32 0x3D372713#32)) (mulf (mulf y y) y))))))) bitsLt_bf16_f32

theorem act_apply (y : FVec Ideal S256x256 .f32) (r c : Fin 256) : act y (ix2 r c) = gelu (y (ix2 r c)) := by
  pointwise [act]
  rfl

theorem pay2_eq (x : FVec Ideal S1x256x2048 .f32) (p q : FVec Ideal S1x2048 .f32) (w z : FVec Ideal S2048x256 .bf16) (v : FVec Ideal S1x256 .f32) :
    k0_pay2 (F := Ideal) x p w q z v = act (sums (part x p w) (part x q z) v) := rfl

/-- The activations times the second weights. -/
def down (y : FVec Ideal S256x256 .bf16) (u : FVec Ideal S256x128 .bf16) : FVec Ideal S256x128 .f32 :=
  matmul dot_S256x256_S256x128_S256x128_1_0_0_1_n_n none y (shapeCast S256x128 u shapeCasts_S256x128_S256x128) (constant S256x128 .f32 0x00000000#32)

theorem down_apply (y : FVec Ideal S256x256 .bf16) (u : FVec Ideal S256x128 .bf16) (r : Fin 256) (n : Fin 128) :
    down y u (ix2 r n) = ∑ k : Fin 256, y (ix2 r k) * u (ix2 k n) := by
  pointwise [down]

/-- The values' result. -/
theorem vals_apply (x : FVec Ideal S1x256x2048 .f32) (p q : FVec Ideal S1x2048 .f32) (w z : FVec Ideal S2048x256 .bf16) (v : FVec Ideal S1x256 .f32)
    (u : FVec Ideal S256x128 .bf16) (n : Fin 128) (r : Fin 256) :
    k0_pay1 (F := Ideal) (k0_pay4 x) (k0_pay5 x p w) (k0_pay6 q) z v u (ix3 0 n r)
      = down (act (sums (part x p w) (part x q z) v)) u (ix2 r n) := by
  have e : k0_pay1 (F := Ideal) (k0_pay4 x) (k0_pay5 x p w) (k0_pay6 q) z v u
      = shapeCast S1x128x256 (truncf .bf16 (transpose S128x256 [1, 0] (down (act (sums (part x p w) (part x q z) v)) u)
        transposes_S256x128_p1_0_S128x256) bitsLt_bf16_f32 : FVec Ideal S128x256 .bf16) shapeCasts_S128x256_S1x128x256 := rfl
  rw [e]
  generalize down _ _ = y
  pointwise

/-- Whether a lane lies in the first half of its head. -/
def firsts : IVec S256x128 1 :=
  cmpi .slt (andi (iota .tc S256x128 32 [1] iota_S256x128_d1_w32) (broadcast S256x128 63#32)) (broadcast S256x128 32#32)

/-- The rotation of 128 lanes: each with the lane half a head away. -/
def rope (y c s : FVec Ideal S256x128 .f32) : FVec Ideal S256x128 .f32 :=
  addf (mulf y c) (mulf (select firsts (dynamicRotate 1 96#32 none y rotates_S256x128_d1)
    (dynamicRotate 1 32#32 none y rotates_S256x128_d1)) s)

theorem rope_apply (y c s : FVec Ideal S256x128 .f32) (r : Fin 256) (n : Fin 128) :
    rope y c s (ix2 r n) = y (ix2 r n) * c (ix2 r n)
      + (if n.val % 64 < 32 then y (ix2 r ⟨(n.val + 128 - 96) % 128, Nat.mod_lt _ (by omega)⟩)
          else y (ix2 r ⟨(n.val + 128 - 32) % 128, Nat.mod_lt _ (by omega)⟩)) * s (ix2 r n) := by
  pointwise [rope, firsts]
  rw [Cert.InBody.first_lane]
  by_cases h : n.val % 64 < 32
  · rw [if_pos h, if_pos h]
    rfl
  · rw [if_neg h, if_neg h]
    rfl

/-- The rotation of a row `h`, with the position's cosines and signed sines in the lanes. -/
theorem rope_turn (y c s : FVec Ideal S256x128 .f32) (h C S : ℕ → EReal) (r : Fin 256)
    (hy : ∀ n : Fin 128, y (ix2 r n) = h n.val)
    (hc : ∀ n : Fin 128, c (ix2 r n) = C (n.val % 32))
    (hs : ∀ n : Fin 128, s (ix2 r n) = if n.val % 64 < 32 then -S (n.val % 32) else S (n.val % 32))
    (n : Fin 128) : rope y c s (ix2 r n) = turn h C S n.val := by
  rw [rope_apply, hc, hs, hy]
  unfold turn
  by_cases hn : n.val % 64 < 32
  · rw [if_pos hn, if_pos hn, if_pos hn, hy]
    have a : (n.val + 128 - 96) % 128 = n.val + 32 := by omega
    simp only [a]
  · rw [if_neg hn, if_neg hn, if_neg hn, hy]
    have a : (n.val + 128 - 32) % 128 = n.val - 32 := by omega
    simp only [a]

/-- The keys' result. -/
theorem keys_apply (y : FVec Ideal S256x256 .bf16) (u : FVec Ideal S256x128 .bf16) (c s : FVec Ideal S1x256x128 .f32) (r : Fin 256) (n : Fin 128) :
    k0_pay3 (F := Ideal) y u c s (ix3 0 r n) = rope (down y u) (shapeCast S256x128 c shapeCasts_S1x256x128_S256x128)
      (shapeCast S256x128 s shapeCasts_S1x256x128_S256x128) (ix2 r n) := by
  have e : k0_pay3 (F := Ideal) y u c s = shapeCast S1x256x128 (truncf .bf16 (rope (down y u) (shapeCast S256x128 c shapeCasts_S1x256x128_S256x128)
      (shapeCast S256x128 s shapeCasts_S1x256x128_S256x128)) bitsLt_bf16_f32 : FVec Ideal S256x128 .bf16) shapeCasts_S256x128_S1x256x128 := rfl
  rw [e]
  generalize rope _ _ _ = z
  pointwise

theorem cast_apply (c : FVec Ideal S1x256x128 .f32) (r : Fin 256) (n : Fin 128) :
    (shapeCast S256x128 c shapeCasts_S1x256x128_S256x128 : FVec Ideal S256x128 .f32) (ix2 r n) = c (ix3 0 r n) := by
  pointwise

end Cert.CmpBody
end
-- ==== Proof.CmpHost.lean ====
module
public import proofs.«01_k».proof.Proof.Gen.Kernel4Ideal.Frame
public import proofs.«01_k».proof.Proof.CmpWords
public import Idealize.ShloMosaic.Lib.Pipeline.ValueKit
public import Idealize.ShloMosaic.Lib.IdealHost

/-!
The compression's host code, element by element: the weights laid out by head along a diagonal, and the tables of the blocks' ends.
-/

@[expose] public section
set_option maxRecDepth 16384
noncomputable section
namespace Cert.CmpHost
open Idealize.ShloMosaic Idealize.ShloMosaic.TcCoe Idealize.SL.Sem
open Cert.Kernel4Ideal Cert.Kernel4Ideal.Gen Cert.InWords Cert.InOut Cert.CmpWords

variable (m : (ℓ : Loc nD τ sig) → ℓ.ty.Contents (Elt Ideal))

abbrev arg0 (c : Dev nD) : FVec Ideal S8x4096x128 .f32 := m ((c.tc : Thread nD τ).loc main_arg0)
abbrev arg1 (c : Dev nD) : FVec Ideal S8x4096x128 .f32 := m ((c.tc : Thread nD τ).loc main_arg1)
abbrev arg2 (c : Dev nD) : IVec S8x4096 32 := m ((c.tc : Thread nD τ).loc main_arg2)
abbrev arg3 (c : Dev nD) : FVec Ideal S32x64 .f32 := m ((c.tc : Thread nD τ).loc main_arg3)
abbrev arg4 (c : Dev nD) : FVec Ideal S2048x128 .f32 := m ((c.tc : Thread nD τ).loc main_arg4)
abbrev arg5 (c : Dev nD) : FVec Ideal S128 .f32 := m ((c.tc : Thread nD τ).loc main_arg5)
abbrev arg6 (c : Dev nD) : FVec Ideal S128x64 .f32 := m ((c.tc : Thread nD τ).loc main_arg6)
abbrev arg7 (c : Dev nD) : FVec Ideal S32x64 .f32 := m ((c.tc : Thread nD τ).loc main_arg7)
abbrev arg8 (c : Dev nD) : FVec Ideal S2048x128 .f32 := m ((c.tc : Thread nD τ).loc main_arg8)
abbrev arg9 (c : Dev nD) : FVec Ideal S128 .f32 := m ((c.tc : Thread nD τ).loc main_arg9)
abbrev arg10 (c : Dev nD) : FVec Ideal S128x64 .f32 := m ((c.tc : Thread nD τ).loc main_arg10)

/-- One on the diagonal. -/
theorem eye_word : ∀ a b : Fin 2, IntOp.cmpi CmpIPredicate.eq (IntOp.addi (BitVec.ofNat 32 a.val) 0#32) (BitVec.ofNat 32 b.val)
    = if a.val = b.val then 1#1 else 0#1 := by decide +kernel

theorem eye_mul (a b : Fin 2) (z : EReal) : z * FloatOps.uitofp (F := Ideal) FTy.f32
    (IntOp.cmpi CmpIPredicate.eq (IntOp.addi (BitVec.ofNat 32 a.val) 0#32) (BitVec.ofNat 32 b.val)) = if a.val = b.val then z else 0 := by
  rw [eye_word a b]
  split
  · rw [show (FloatOps.uitofp (F := Ideal) FTy.f32 (1#1) : EReal) = 1 by simp [FloatOps.uitofp], mul_one]
  · rw [show (FloatOps.uitofp (F := Ideal) FTy.f32 (0#1) : EReal) = 0 by simp [FloatOps.uitofp], mul_zero]

/-- A product with the diagonal, its two factors given. -/
theorem eye_if (a b : ℕ) (ha : a < 2) (hb : b < 2) (y z : EReal) (h : y = z) : y * FloatOps.uitofp (F := Ideal) FTy.f32
    (IntOp.cmpi CmpIPredicate.eq (IntOp.addi (BitVec.ofNat 32 a) 0#32) (BitVec.ofNat 32 b)) = if a = b then z else 0 := by
  rw [h]
  exact eye_mul ⟨a, ha⟩ ⟨b, hb⟩ z

theorem entry109 (c : Dev nD) (b : Fin 8) (r : Fin 256) (k : Fin 2048) :
    (V (F := Ideal) m c main_v109 : FVec Ideal S8x256x2048 .f32) (ix3 b r k) = xAt (arg0 m c) b (16 * r.val + k.val / 128) k.val := by
  simp only [V, hostOps0, List.flatten_cons, List.flatten_nil, List.cons_append, List.nil_append]
  after_results_simp
  pointwise
  unfold xAt
  refine congrArg (arg0 m c) ?_
  idx_ext <;> omega

theorem entry41 (c : Dev nD) (k : Fin 2048) :
    (V (F := Ideal) m c main_v41 : FVec Ideal S1x2048 .f32) (ix2 0 k) = pAt (arg3 m c) (k.val / 128) k.val := by
  simp only [V, hostOps0, List.flatten_cons, List.flatten_nil, List.cons_append, List.nil_append]
  after_results_simp
  pointwise
  unfold pAt
  refine congrArg (arg3 m c) ?_
  idx_ext <;> omega

theorem entry45 (c : Dev nD) (k : Fin 2048) :
    (V (F := Ideal) m c main_v45 : FVec Ideal S1x2048 .f32) (ix2 0 k) = pAt (arg3 m c) (16 + k.val / 128) k.val := by
  simp only [V, hostOps0, List.flatten_cons, List.flatten_nil, List.cons_append, List.nil_append]
  after_results_simp
  pointwise
  unfold pAt
  refine congrArg (arg3 m c) ?_
  idx_ext <;> omega

theorem entry53 (c : Dev nD) (k : Fin 2048) (h : Fin 256) :
    (V (F := Ideal) m c main_v53 : FVec Ideal S2048x256 .bf16) (ix2 k h)
      = if k.val / 64 % 2 = h.val / 128 then wAt (arg4 m c) (64 * (k.val / 128) + k.val % 64) h.val else 0 := by
  simp only [V, hostOps0, List.flatten_cons, List.flatten_nil, List.cons_append, List.nil_append]
  after_results_simp
  pointwise
  refine (eye_if _ _ (by omega) (by omega) _ (wAt (arg4 m c) (64 * (k.val / 128) + k.val % 64) h.val) ?_).trans ?_
  · unfold wAt
    refine congrArg (arg4 m c) ?_
    idx_ext <;> omega
  · refine if_congr ?_ rfl rfl
    omega

theorem entry61 (c : Dev nD) (k : Fin 2048) (h : Fin 256) :
    (V (F := Ideal) m c main_v61 : FVec Ideal S2048x256 .bf16) (ix2 k h)
      = if k.val / 64 % 2 = h.val / 128 then wAt (arg4 m c) (64 * (16 + k.val / 128) + k.val % 64) h.val else 0 := by
  simp only [V, hostOps0, List.flatten_cons, List.flatten_nil, List.cons_append, List.nil_append]
  after_results_simp
  pointwise
  refine (eye_if _ _ (by omega) (by omega) _ (wAt (arg4 m c) (64 * (16 + k.val / 128) + k.val % 64) h.val) ?_).trans ?_
  · unfold wAt
    refine congrArg (arg4 m c) ?_
    idx_ext <;> omega
  · refine if_congr ?_ rfl rfl
    omega

theorem entry65 (c : Dev nD) (h : Fin 256) :
    (V (F := Ideal) m c main_v65 : FVec Ideal S1x256 .f32) (ix2 0 h) = bAt (arg5 m c) h.val := by
  simp only [V, hostOps0, List.flatten_cons, List.flatten_nil, List.cons_append, List.nil_append]
  after_results_simp
  pointwise
  unfold bAt
  refine congrArg (arg5 m c) ?_
  idx_ext <;> omega

theorem entry66 (c : Dev nD) (h : Fin 256) (n : Fin 128) :
    (V (F := Ideal) m c main_v66 : FVec Ideal S256x128 .bf16) (ix2 h n)
      = if h.val / 128 = n.val / 64 then vAt (arg6 m c) h.val n.val else 0 := by
  simp only [V, hostOps0, List.flatten_cons, List.flatten_nil, List.cons_append, List.nil_append]
  after_results_simp
  pointwise
  refine (eye_if _ _ (by omega) (by omega) _ (vAt (arg6 m c) h.val n.val) ?_).trans ?_
  · unfold vAt
    refine congrArg (arg6 m c) ?_
    idx_ext <;> omega
  · refine if_congr ?_ rfl rfl
    omega

theorem entry110 (c : Dev nD) (b : Fin 8) (r : Fin 256) (k : Fin 2048) :
    (V (F := Ideal) m c main_v110 : FVec Ideal S8x256x2048 .f32) (ix3 b r k) = xAt (arg1 m c) b (16 * r.val + k.val / 128) k.val := by
  simp only [V, hostOps0, List.flatten_cons, List.flatten_nil, List.cons_append, List.nil_append]
  after_results_simp
  pointwise
  unfold xAt
  refine congrArg (arg1 m c) ?_
  idx_ext <;> omega

theorem entry83 (c : Dev nD) (k : Fin 2048) :
    (V (F := Ideal) m c main_v83 : FVec Ideal S1x2048 .f32) (ix2 0 k) = pAt (arg7 m c) (k.val / 128) k.val := by
  simp only [V, hostOps0, List.flatten_cons, List.flatten_nil, List.cons_append, List.nil_append]
  after_results_simp
  pointwise
  unfold pAt
  refine congrArg (arg7 m c) ?_
  idx_ext <;> omega

theorem entry87 (c : Dev nD) (k : Fin 2048) :
    (V (F := Ideal) m c main_v87 : FVec Ideal S1x2048 .f32) (ix2 0 k) = pAt (arg7 m c) (16 + k.val / 128) k.val := by
  simp only [V, hostOps0, List.flatten_cons, List.flatten_nil, List.cons_append, List.nil_append]
  after_results_simp
  pointwise
  unfold pAt
  refine congrArg (arg7 m c) ?_
  idx_ext <;> omega

theorem entry95 (c : Dev nD) (k : Fin 2048) (h : Fin 256) :
    (V (F := Ideal) m c main_v95 : FVec Ideal S2048x256 .bf16) (ix2 k h)
      = if k.val / 64 % 2 = h.val / 128 then wAt (arg8 m c) (64 * (k.val / 128) + k.val % 64) h.val else 0 := by
  simp only [V, hostOps0, List.flatten_cons, List.flatten_nil, List.cons_append, List.nil_append]
  after_results_simp
  pointwise
  refine (eye_if _ _ (by omega) (by omega) _ (wAt (arg8 m c) (64 * (k.val / 128) + k.val % 64) h.val) ?_).trans ?_
  · unfold wAt
    refine congrArg (arg8 m c) ?_
    idx_ext <;> omega
  · refine if_congr ?_ rfl rfl
    omega

theorem entry103 (c : Dev nD) (k : Fin 2048) (h : Fin 256) :
    (V (F := Ideal) m c main_v103 : FVec Ideal S2048x256 .bf16) (ix2 k h)
      = if k.val / 64 % 2 = h.val / 128 then wAt (arg8 m c) (64 * (16 + k.val / 128) + k.val % 64) h.val else 0 := by
  simp only [V, hostOps0, List.flatten_cons, List.flatten_nil, List.cons_append, List.nil_append]
  after_results_simp
  pointwise
  refine (eye_if _ _ (by omega) (by omega) _ (wAt (arg8 m c) (64 * (16 + k.val / 128) + k.val % 64) h.val) ?_).trans ?_
  · unfold wAt
    refine congrArg (arg8 m c) ?_
    idx_ext <;> omega
  · refine if_congr ?_ rfl rfl
    omega

theorem entry107 (c : Dev nD) (h : Fin 256) :
    (V (F := Ideal) m c main_v107 : FVec Ideal S1x256 .f32) (ix2 0 h) = bAt (arg9 m c) h.val := by
  simp only [V, hostOps0, List.flatten_cons, List.flatten_nil, List.cons_append, List.nil_append]
  after_results_simp
  pointwise
  unfold bAt
  refine congrArg (arg9 m c) ?_
  idx_ext <;> omega

theorem entry108 (c : Dev nD) (h : Fin 256) (n : Fin 128) :
    (V (F := Ideal) m c main_v108 : FVec Ideal S256x128 .bf16) (ix2 h n)
      = if h.val / 128 = n.val / 64 then vAt (arg10 m c) h.val n.val else 0 := by
  simp only [V, hostOps0, List.flatten_cons, List.flatten_nil, List.cons_append, List.nil_append]
  after_results_simp
  pointwise
  refine (eye_if _ _ (by omega) (by omega) _ (vAt (arg10 m c) h.val n.val) ?_).trans ?_
  · unfold vAt
    refine congrArg (arg10 m c) ?_
    idx_ext <;> omega
  · refine if_congr ?_ rfl rfl
    omega

/-- The position at which a block ends, as a choice. -/
theorem end_choice (q : IVec S8x4096 32) (b : Fin 8) (t : Fin 256) :
    (if h : t.val < 255 then q (ix2 b ⟨31 + 16 * t.val, by omega⟩) else q (ix2 b ⟨4095 + (t.val - 255), by omega⟩)) = q (ix2 b (endOf t)) := by
  by_cases h : t.val < 255
  · rw [dif_pos h]
    exact congrArg (fun e => q (ix2 b e)) (Fin.ext (by unfold endOf; dsimp only; omega))
  · rw [dif_neg h]
    exact congrArg (fun e => q (ix2 b e)) (Fin.ext (by unfold endOf; dsimp only; omega))

/-- Four copies of the cosines side by side. -/
theorem entry21 (c : Dev nD) (b : Fin 8) (t : Fin 256) (n : Fin 128) :
    (V (F := Ideal) m c main_v21 : FVec Ideal S8x256x128 .f32) (ix3 b t n) = cosAt (arg2 m c) b (endOf t) (n.val % 32) := by
  simp only [V, hostOps0, List.flatten_cons, List.flatten_nil, List.cons_append, List.nil_append]
  after_results_simp
  pointwise
  after_results_simp
  pointwise
  after_results_simp
  pointwise
  have h := n.isLt
  unfold cosAt angle freq
  rw [← end_choice (arg2 m c) b t]
  by_cases h1 : n.val < 32
  · rw [dif_pos h1, show n.val % 32 = n.val by omega]
  · rw [dif_neg h1]
    by_cases h2 : n.val - 32 < 32
    · rw [dif_pos h2, show n.val % 32 = n.val - 32 by omega]
    · rw [dif_neg h2]
      by_cases h3 : n.val - 32 - 32 < 32
      · rw [dif_pos h3, show n.val % 32 = n.val - 32 - 32 by omega]
      · rw [dif_neg h3, show n.val % 32 = n.val - 32 - 32 - 32 by omega]

/-- The sines, negated for a head's first half. -/
theorem entry24 (c : Dev nD) (b : Fin 8) (t : Fin 256) (n : Fin 128) :
    (V (F := Ideal) m c main_v24 : FVec Ideal S8x256x128 .f32) (ix3 b t n)
      = if n.val % 64 < 32 then -sinAt (arg2 m c) b (endOf t) (n.val % 32) else sinAt (arg2 m c) b (endOf t) (n.val % 32) := by
  simp only [V, hostOps0, List.flatten_cons, List.flatten_nil, List.cons_append, List.nil_append]
  after_results_simp
  pointwise
  after_results_simp
  pointwise
  after_results_simp
  pointwise
  have h := n.isLt
  unfold sinAt angle freq
  rw [← end_choice (arg2 m c) b t]
  by_cases h1 : n.val < 32
  · rw [dif_pos h1, if_pos (show n.val % 64 < 32 by omega), show n.val % 32 = n.val by omega]
  · rw [dif_neg h1]
    by_cases h2 : n.val - 32 < 32
    · rw [dif_pos h2, if_neg (show ¬n.val % 64 < 32 by omega), show n.val % 32 = n.val - 32 by omega]
    · rw [dif_neg h2]
      by_cases h3 : n.val - 32 - 32 < 32
      · rw [dif_pos h3, if_pos (show n.val % 64 < 32 by omega), show n.val % 32 = n.val - 32 - 32 by omega]
      · rw [dif_neg h3, if_neg (show ¬n.val % 64 < 32 by omega), show n.val % 32 = n.val - 32 - 32 - 32 by omega]

end Cert.CmpHost
end
-- ==== Proof.CmpArray.lean ====
module
public import proofs.«01_k».proof.Proof.CmpBody
public import proofs.«01_k».proof.Proof.CmpHost

/-!
From the blocks to the arrays: the compression's two results, element by element, in terms of its arguments.
-/

@[expose] public section
set_option maxRecDepth 16384
noncomputable section
namespace Cert.CmpArray
open Idealize.ShloMosaic Idealize.ShloMosaic.TcCoe Idealize.SL.Sem
open Cert.Kernel4Ideal Cert.Kernel4Ideal.Gen Cert.InWords Cert.InOut Cert.PostWords Cert.CmpWords Cert.CmpBody Cert.CmpHost

variable (m : (ℓ : Loc nD τ sig) → ℓ.ty.Contents (Elt Ideal))

/-- The block index maps. -/
theorem idx : ∀ t : Fin cfg0.N,
    win0_0.index t = ![(grid0.coords t 0).val, 0, 0]
    ∧ win0_1.index t = ![(grid0.coords t 0).val, 0, 0]
    ∧ win0_2.index t = ![0, 0] ∧ win0_3.index t = ![0, 0] ∧ win0_4.index t = ![0, 0] ∧ win0_5.index t = ![0, 0]
    ∧ win0_6.index t = ![0, 0] ∧ win0_7.index t = ![0, 0] ∧ win0_8.index t = ![0, 0] ∧ win0_9.index t = ![0, 0]
    ∧ win0_10.index t = ![0, 0] ∧ win0_11.index t = ![0, 0] ∧ win0_12.index t = ![0, 0] ∧ win0_13.index t = ![0, 0]
    ∧ win0_14.index t = ![(grid0.coords t 0).val, 0, 0]
    ∧ win0_15.index t = ![(grid0.coords t 0).val, 0, 0]
    ∧ win0_16.index t = ![(grid0.coords t 0).val, 0, 0]
    ∧ win0_17.index t = ![(grid0.coords t 0).val, 0, 0] :=
  (by decide +kernel : ∀ t : Fin grid0.N, _)

/-- A grid point's batch. -/
def bat (t : Fin cfg0.N) : Fin 8 := ⟨(grid0.coords t 0).val, (grid0.coords t 0).isLt⟩

/-- The hidden lanes of one batch's blocks, activated, from the laid out weights. -/
theorem act_eq (x : FVec Ideal SX .f32) (p : FVec Ideal SP .f32) (w : FVec Ideal SW .f32) (v : FVec Ideal SB .f32) (b : Fin 8)
    (X : FVec Ideal S1x256x2048 .f32) (P Q : FVec Ideal S1x2048 .f32) (W Z : FVec Ideal S2048x256 .bf16) (B : FVec Ideal S1x256 .f32)
    (hX : ∀ (r : Fin 256) (k : Fin 2048), X (ix3 0 r k) = xAt x b (16 * r.val + k.val / 128) k.val)
    (hP : ∀ k : Fin 2048, P (ix2 0 k) = pAt p (k.val / 128) k.val)
    (hQ : ∀ k : Fin 2048, Q (ix2 0 k) = pAt p (16 + k.val / 128) k.val)
    (hW : ∀ (k : Fin 2048) (c : Fin 256), W (ix2 k c)
      = if k.val / 64 % 2 = c.val / 128 then wAt w (64 * (k.val / 128) + k.val % 64) c.val else 0)
    (hZ : ∀ (k : Fin 2048) (c : Fin 256), Z (ix2 k c)
      = if k.val / 64 % 2 = c.val / 128 then wAt w (64 * (16 + k.val / 128) + k.val % 64) c.val else 0)
    (hB : ∀ c : Fin 256, B (ix2 0 c) = bAt v c.val) (r c : Fin 256) :
    act (sums (part X P W) (part X Q Z) B) (ix2 r c) = gelu (hidden x p w v b r.val (c.val / 128) c.val) := by
  rw [act_apply, sums_apply, part_apply, part_apply, hB]
  simp only [hX, hP, hQ, hW, hZ]
  rw [top_sum x p w b r.val c.val c.isLt, bottom_sum x p w b r.val _ c.val c.isLt (by omega)]
  unfold CmpWords.hidden
  rw [halves fun k => term x p w b r.val (c.val / 128) c.val k]

/-- A row of the blocks, from the laid out weights. -/
theorem down_eq (x : FVec Ideal SX .f32) (p : FVec Ideal SP .f32) (w : FVec Ideal SW .f32) (v : FVec Ideal SB .f32) (u : FVec Ideal SV .f32)
    (b : Fin 8) (Y : FVec Ideal S256x256 .bf16) (U : FVec Ideal S256x128 .bf16)
    (hY : ∀ r c : Fin 256, Y (ix2 r c) = gelu (hidden x p w v b r.val (c.val / 128) c.val))
    (hU : ∀ (h : Fin 256) (n : Fin 128), U (ix2 h n) = if h.val / 128 = n.val / 64 then vAt u h.val n.val else 0)
    (r : Fin 256) (n : Fin 128) : down Y U (ix2 r n) = comp x p w v u b r.val n.val := by
  rw [down_apply]
  simp only [hY, hU]
  rw [lane_sum _ (n.val / 64) (by omega) fun k hk => by rw [if_neg hk, mul_zero]]
  unfold comp
  refine Finset.sum_congr rfl fun h _ => ?_
  have hh := h.isLt
  rw [if_pos (by dsimp only; omega)]
  unfold CmpWords.hidden term wAt bAt vAt
  dsimp only
  have e1 : (128 * (n.val / 64) + h.val) % 128 = h.val % 128 := by omega
  have e2 : (128 * (n.val / 64) + h.val) / 128 = n.val / 64 := by omega
  have e3 : n.val % 64 % 64 = n.val % 64 := by omega
  simp only [e1, e2, e3]

theorem blk0 (c : Dev nD) (t : Fin cfg0.N) (r : Fin 256) (k : Fin 2048) :
    iblk (F := Ideal) m c 0 t (ix3 0 r k) = xAt (arg0 m c) (bat t) (16 * r.val + k.val / 128) k.val := by
  refine Eq.trans ?_ (entry109 m c (bat t) r k)
  blk_ext [iblk, idx t, bat]

theorem blk1 (c : Dev nD) (t : Fin cfg0.N) (r : Fin 256) (k : Fin 2048) :
    iblk (F := Ideal) m c 1 t (ix3 0 r k) = xAt (arg1 m c) (bat t) (16 * r.val + k.val / 128) k.val := by
  refine Eq.trans ?_ (entry110 m c (bat t) r k)
  blk_ext [iblk, idx t, bat]

theorem blk2 (c : Dev nD) (t : Fin cfg0.N) (k : Fin 2048) : iblk (F := Ideal) m c 2 t (ix2 0 k) = pAt (arg3 m c) (k.val / 128) k.val := by
  refine Eq.trans ?_ (entry41 m c k)
  blk_ext [iblk, idx t]

theorem blk3 (c : Dev nD) (t : Fin cfg0.N) (k : Fin 2048) : iblk (F := Ideal) m c 3 t (ix2 0 k) = pAt (arg3 m c) (16 + k.val / 128) k.val := by
  refine Eq.trans ?_ (entry45 m c k)
  blk_ext [iblk, idx t]

theorem blk4 (c : Dev nD) (t : Fin cfg0.N) (k : Fin 2048) (h : Fin 256) : iblk (F := Ideal) m c 4 t (ix2 k h)
    = if k.val / 64 % 2 = h.val / 128 then wAt (arg4 m c) (64 * (k.val / 128) + k.val % 64) h.val else 0 := by
  refine Eq.trans ?_ (entry53 m c k h)
  blk_ext [iblk, idx t]

theorem blk5 (c : Dev nD) (t : Fin cfg0.N) (k : Fin 2048) (h : Fin 256) : iblk (F := Ideal) m c 5 t (ix2 k h)
    = if k.val / 64 % 2 = h.val / 128 then wAt (arg4 m c) (64 * (16 + k.val / 128) + k.val % 64) h.val else 0 := by
  refine Eq.trans ?_ (entry61 m c k h)
  blk_ext [iblk, idx t]

theorem blk6 (c : Dev nD) (t : Fin cfg0.N) (h : Fin 256) : iblk (F := Ideal) m c 6 t (ix2 0 h) = bAt (arg5 m c) h.val := by
  refine Eq.trans ?_ (entry65 m c h)
  blk_ext [iblk, idx t]

theorem blk7 (c : Dev nD) (t : Fin cfg0.N) (h : Fin 256) (n : Fin 128) : iblk (F := Ideal) m c 7 t (ix2 h n)
    = if h.val / 128 = n.val / 64 then vAt (arg6 m c) h.val n.val else 0 := by
  refine Eq.trans ?_ (entry66 m c h n)
  blk_ext [iblk, idx t]

theorem blk8 (c : Dev nD) (t : Fin cfg0.N) (k : Fin 2048) : iblk (F := Ideal) m c 8 t (ix2 0 k) = pAt (arg7 m c) (k.val / 128) k.val := by
  refine Eq.trans ?_ (entry83 m c k)
  blk_ext [iblk, idx t]

theorem blk9 (c : Dev nD) (t : Fin cfg0.N) (k : Fin 2048) : iblk (F := Ideal) m c 9 t (ix2 0 k) = pAt (arg7 m c) (16 + k.val / 128) k.val := by
  refine Eq.trans ?_ (entry87 m c k)
  blk_ext [iblk, idx t]

theorem blk10 (c : Dev nD) (t : Fin cfg0.N) (k : Fin 2048) (h : Fin 256) : iblk (F := Ideal) m c 10 t (ix2 k h)
    = if k.val / 64 % 2 = h.val / 128 then wAt (arg8 m c) (64 * (k.val / 128) + k.val % 64) h.val else 0 := by
  refine Eq.trans ?_ (entry95 m c k h)
  blk_ext [iblk, idx t]

theorem blk11 (c : Dev nD) (t : Fin cfg0.N) (k : Fin 2048) (h : Fin 256) : iblk (F := Ideal) m c 11 t (ix2 k h)
    = if k.val / 64 % 2 = h.val / 128 then wAt (arg8 m c) (64 * (16 + k.val / 128) + k.val % 64) h.val else 0 := by
  refine Eq.trans ?_ (entry103 m c k h)
  blk_ext [iblk, idx t]

theorem blk12 (c : Dev nD) (t : Fin cfg0.N) (h : Fin 256) : iblk (F := Ideal) m c 12 t (ix2 0 h) = bAt (arg9 m c) h.val := by
  refine Eq.trans ?_ (entry107 m c h)
  blk_ext [iblk, idx t]

theorem blk13 (c : Dev nD) (t : Fin cfg0.N) (h : Fin 256) (n : Fin 128) : iblk (F := Ideal) m c 13 t (ix2 h n)
    = if h.val / 128 = n.val / 64 then vAt (arg10 m c) h.val n.val else 0 := by
  refine Eq.trans ?_ (entry108 m c h n)
  blk_ext [iblk, idx t]

theorem blk14 (c : Dev nD) (t : Fin cfg0.N) (r : Fin 256) (n : Fin 128) :
    iblk (F := Ideal) m c 14 t (ix3 0 r n) = cosAt (arg2 m c) (bat t) (endOf r) (n.val % 32) := by
  refine Eq.trans ?_ (entry21 m c (bat t) r n)
  blk_ext [iblk, idx t, bat]

theorem blk15 (c : Dev nD) (t : Fin cfg0.N) (r : Fin 256) (n : Fin 128) :
    iblk (F := Ideal) m c 15 t (ix3 0 r n) = if n.val % 64 < 32 then -sinAt (arg2 m c) (bat t) (endOf r) (n.val % 32)
      else sinAt (arg2 m c) (bat t) (endOf r) (n.val % 32) := by
  refine Eq.trans ?_ (entry24 m c (bat t) r n)
  blk_ext [iblk, idx t, bat]

theorem keys_point (c : Dev nD) (t : Fin cfg0.N) (r : Fin 256) (n : Fin 128) :
    ((dats (F := Ideal) m 0 c).after 16 t : FVec Ideal S1x256x128 .bf16) (ix3 0 r n)
      = keysOut (arg0 m c) (arg2 m c) (arg3 m c) (arg4 m c) (arg5 m c) (arg6 m c) (ix3 (bat t) r n) := by
  rw [after0_16]
  have hA := act_eq _ _ _ _ _ _ _ _ _ _ _ (blk0 m c t) (blk2 m c t) (blk3 m c t) (blk4 m c t) (blk5 m c t) (blk6 m c t)
  have hD := down_eq _ _ _ _ _ _ _ _ hA (blk7 m c t)
  have hR := rope_turn _ _ _ _ _ _ r (hD r) (fun n => (cast_apply _ r n).trans (blk14 m c t r n))
    (fun n => (cast_apply _ r n).trans (blk15 m c t r n)) n
  refine Eq.trans ?_ hR
  refine Eq.trans ?_ (keys_apply _ _ _ _ r n)
  rw [← pay2_eq]
  unfold out0_16; frame_out

theorem vals_point (c : Dev nD) (t : Fin cfg0.N) (n : Fin 128) (r : Fin 256) :
    ((dats (F := Ideal) m 0 c).after 17 t : FVec Ideal S1x128x256 .bf16) (ix3 0 n r)
      = valsOut (arg1 m c) (arg7 m c) (arg8 m c) (arg9 m c) (arg10 m c) (ix3 (bat t) n r) := by
  rw [after0_17]
  have hA := act_eq _ _ _ _ _ _ _ _ _ _ _ (blk1 m c t) (blk8 m c t) (blk9 m c t) (blk10 m c t) (blk11 m c t) (blk12 m c t)
  refine Eq.trans ?_ (down_eq _ _ _ _ _ _ _ _ hA (blk13 m c t) r n)
  refine Eq.trans ?_ (vals_apply _ _ _ _ _ _ _ n r)
  unfold out0_17; frame_out

/-- RESULT: the compressed keys. -/
theorem keys_final (c : Dev nD) : (dats (F := Ideal) m 0 c).arrAt 16 (cfgs 0).N
    = keysOut (arg0 m c) (arg2 m c) (arg3 m c) (arg4 m c) (arg5 m c) (arg6 m c) := by
  refine (dats (F := Ideal) m 0 c).arrAt_eq_of_covers 16 _ (by decide +kernel) fun t _ y => ?_
  blk_simp
  have e : y = ix3 0 (y 1) (y 2) := by idx_ext
  rw [e]
  refine (keys_point m c t (y 1) (y 2)).trans ?_
  have w : ∀ X : FVec Ideal S8x256x128 .bf16, X (ix3 (bat t) (y 1) (y 2)) = X ((win0_16.blk t).view.emb (ix3 0 (y 1) (y 2))) := fun X => by
    blk_ext [idx t, bat]
  exact w (keysOut (arg0 m c) (arg2 m c) (arg3 m c) (arg4 m c) (arg5 m c) (arg6 m c))

/-- RESULT: the compressed values. -/
theorem vals_final (c : Dev nD) : (dats (F := Ideal) m 0 c).arrAt 17 (cfgs 0).N
    = valsOut (arg1 m c) (arg7 m c) (arg8 m c) (arg9 m c) (arg10 m c) := by
  refine (dats (F := Ideal) m 0 c).arrAt_eq_of_covers 17 _ (by decide +kernel) fun t _ y => ?_
  blk_simp
  have e : y = ix3 0 (y 1) (y 2) := by idx_ext
  rw [e]
  refine (vals_point m c t (y 1) (y 2)).trans ?_
  have w : ∀ X : FVec Ideal S8x128x256 .bf16, X (ix3 (bat t) (y 1) (y 2)) = X ((win0_17.blk t).view.emb (ix3 0 (y 1) (y 2))) := fun X => by
    blk_ext [idx t, bat]
  exact w (valsOut (arg1 m c) (arg7 m c) (arg8 m c) (arg9 m c) (arg10 m c))

end Cert.CmpArray
end
-- ==== Proof.CmpTurn.lean ====
module
public import proofs.«01_k».proof.Proof.Gen.Reference4Ideal.Read
public import proofs.«01_k».proof.Proof.CmpWords
public import proofs.«01_k».proof.Proof.InRef
public import Idealize.ShloMosaic.Lib.Pointwise
public import Idealize.ShloMosaic.Lib.IdealHost

/-!
The compression's reference: the cosines and sines at the blocks' ends.
-/

@[expose] public section
set_option maxRecDepth 16384
noncomputable section
namespace Cert.CmpTurn
open Idealize.ShloMosaic Idealize.ShloMosaic.TcCoe Idealize.SL.Sem
open Cert.Reference4Ideal Cert.Reference4Ideal.Gen Cert.Reference4Ideal.Read Cert.InWords Cert.InOut Cert.PostWords Cert.CmpWords

theorem end_apply (q : IVec S8x4096 32) (b : Fin 8) (t : Fin 256) : val_main_v12 (F := Ideal) q (ix2 b t) = q (ix2 b (endOf t)) := by
  pointwise [val_main_v12, val_main_v11, val_main_v10]
  by_cases h : t.val < 255
  · rw [dif_pos h]
    exact congrArg (fun e => q (ix2 b e)) (Fin.ext (by unfold endOf; dsimp only; omega))
  · rw [dif_neg h]
    exact congrArg (fun e => q (ix2 b e)) (Fin.ext (by unfold endOf; dsimp only; omega))

theorem cos_apply (q : IVec S8x4096 32) (b : Fin 8) (t : Fin 256) (e : Fin 32) :
    val_main_v20 (F := Ideal) q (ix4 b t 0 e) = cosAt q b (endOf t) e.val := by
  have h := end_apply q b t
  unfold val_main_v20 val_main_v19 val_main_v18 val_main_v16 val_main_v14 val_main_v13
  generalize val_main_v12 (F := Ideal) q = y at h ⊢
  pointwise [val_main_v17, val_main_v15, val_main_v9, val_main_v8, val_main_v7, val_main_v6, val_main_v5, val_main_v4, val_main_v3, val_main_v2, val_main_v1, val_main_v0, val_main_cst, val_main_cst_0, val_main_cst_1, val_main_cst_2]
  rw [h]
  rfl

theorem sin_apply (q : IVec S8x4096 32) (b : Fin 8) (t : Fin 256) (e : Fin 32) :
    val_main_v22 (F := Ideal) q (ix4 b t 0 e) = sinAt q b (endOf t) e.val := by
  have h := end_apply q b t
  unfold val_main_v22 val_main_v21 val_main_v18 val_main_v16 val_main_v14 val_main_v13
  generalize val_main_v12 (F := Ideal) q = y at h ⊢
  pointwise [val_main_v17, val_main_v15, val_main_v9, val_main_v8, val_main_v7, val_main_v6, val_main_v5, val_main_v4, val_main_v3, val_main_v2, val_main_v1, val_main_v0, val_main_cst, val_main_cst_0, val_main_cst_1, val_main_cst_2]
  rw [h]
  rfl

end Cert.CmpTurn
end
-- ==== Proof.CmpBlocks.lean ====
module
public import proofs.«01_k».proof.Proof.Gen.Reference4Ideal.Read
public import proofs.«01_k».proof.Proof.CmpWords
public import proofs.«01_k».proof.Proof.InRef
public import Idealize.ShloMosaic.Lib.Pointwise
public import Idealize.ShloMosaic.Lib.IdealHost

/-!
The compression's reference: the blocks of 32 positions, flattened.
-/

@[expose] public section
set_option maxRecDepth 16384
noncomputable section
namespace Cert.CmpBlocks
open Idealize.ShloMosaic Idealize.ShloMosaic.TcCoe Idealize.SL.Sem
open Cert.Reference4Ideal Cert.Reference4Ideal.Gen Cert.Reference4Ideal.Read Cert.InWords Cert.InOut Cert.PostWords Cert.CmpWords

variable (x : FVec Ideal S8x4096x128 .f32) (p : FVec Ideal S32x64 .f32) (w : FVec Ideal S2048x128 .f32) (v : FVec Ideal S128 .f32)
  (u : FVec Ideal S128x64 .f32)

theorem group_apply (b : Fin 8) (r : Fin 256) (l : Fin 16) (g : Fin 2) (d : Fin 64) :
    val_main_v23 (F := Ideal) x (ix5 b r l g d) = xAt x b (16 * r.val + l.val) (64 * g.val + d.val) := by
  pointwise [val_main_v23]
  unfold xAt
  refine congrArg x ?_
  idx_ext <;> omega

theorem after_apply (b : Fin 8) (r : Fin 256) (l : Fin 16) (g : Fin 2) (d : Fin 64) :
    val_main_v26 (F := Ideal) x (ix5 b r l g d) = xAt x b (16 * (r.val + 1) + l.val) (64 * g.val + d.val) := by
  have e := fun r => group_apply x b r l g d
  unfold val_main_v26 val_main_v25 val_main_v24
  generalize val_main_v23 (F := Ideal) x = y at e ⊢
  pointwise
  by_cases h : r.val < 255
  · rw [dif_pos h]
    refine (e ⟨1 + r.val, by omega⟩).trans (congrArg (fun t => xAt x b t _) ?_)
    dsimp only
    omega
  · rw [dif_neg h]
    refine (e ⟨r.val - 255, by omega⟩).trans ?_
    unfold xAt
    refine congrArg x ?_
    idx_ext <;> omega

/-- A block's 32 positions. -/
theorem block_apply (b : Fin 8) (r : Fin 256) (l : Fin 32) (g : Fin 2) (d : Fin 64) :
    val_main_v27 (F := Ideal) x (ix5 b r l g d) = xAt x b (16 * r.val + l.val) (64 * g.val + d.val) := by
  have e := fun l => group_apply x b r l g d
  have e' := fun l => after_apply x b r l g d
  unfold val_main_v27
  generalize val_main_v23 (F := Ideal) x = y at e ⊢
  generalize val_main_v26 (F := Ideal) x = z at e' ⊢
  pointwise
  by_cases h : l.val < 16
  · rw [dif_pos h]
    exact e ⟨l.val, h⟩
  · rw [dif_neg h]
    refine (e' ⟨l.val - 16, by omega⟩).trans (congrArg (fun t => xAt x b t _) ?_)
    dsimp only
    omega

theorem flat_apply (b : Fin 8) (r : Fin 256) (g : Fin 2) (k : Fin 2048) :
    val_main_v32 (F := Ideal) x p (ix4 b r g k) = xAt x b (16 * r.val + k.val / 64) (64 * g.val + k.val % 64) + pAt p (k.val / 64) (k.val % 64) := by
  have e := block_apply x b r ⟨k.val / 64, by omega⟩ g ⟨k.val % 64, by omega⟩
  dsimp only at e
  rw [← e]
  unfold val_main_v32 val_main_v31 val_main_v30
  generalize val_main_v27 (F := Ideal) x = y
  pointwise [val_main_v29, val_main_v28]
  unfold pAt
  refine congrArg₂ (· + ·) (congrArg y ?_) (congrArg p ?_) <;> idx_ext <;> omega

end Cert.CmpBlocks
end
-- ==== Proof.CmpMlp.lean ====
module
public import proofs.«01_k».proof.Proof.Gen.Reference4Ideal.Read
public import proofs.«01_k».proof.Proof.CmpTurn
public import proofs.«01_k».proof.Proof.CmpBlocks
public import proofs.«01_k».proof.Proof.InRef
public import Idealize.ShloMosaic.Lib.Pointwise
public import Idealize.ShloMosaic.Lib.IdealHost

/-!
The compression's reference: the hidden lanes, their activations, and the blocks' rows.
-/

@[expose] public section
set_option maxRecDepth 16384
noncomputable section
namespace Cert.CmpMlp
open Idealize.ShloMosaic Idealize.ShloMosaic.TcCoe Idealize.SL.Sem
open Cert.Reference4Ideal Cert.Reference4Ideal.Gen Cert.Reference4Ideal.Read Cert.InWords Cert.InOut Cert.PostWords Cert.CmpWords Cert.CmpTurn Cert.CmpBlocks

variable (x : FVec Ideal S8x4096x128 .f32) (p : FVec Ideal S32x64 .f32) (w : FVec Ideal S2048x128 .f32) (v : FVec Ideal S128 .f32)
  (u : FVec Ideal S128x64 .f32)

theorem hidden_apply (b : Fin 8) (r : Fin 256) (g : Fin 2) (h : Fin 128) :
    val_main_v36 (F := Ideal) x p w v (ix4 b r g h) = CmpWords.hidden x p w v b r.val g.val h.val := by
  have e := fun k => flat_apply x p b r g k
  unfold val_main_v36 val_main_v33
  generalize val_main_v32 (F := Ideal) x p = y at e ⊢
  pointwise [val_main_v35, val_main_v34]
  simp only [e]
  unfold CmpWords.hidden term wAt bAt
  refine congrArg₂ (· + ·) (Finset.sum_congr rfl fun k _ => congrArg (_ * ·) (congrArg w ?_)) (congrArg v ?_) <;> idx_ext <;> omega

theorem act_apply (b : Fin 8) (r : Fin 256) (g : Fin 2) (h : Fin 128) :
    val_main_v49 (F := Ideal) x p w v (ix4 b r g h) = gelu (CmpWords.hidden x p w v b r.val g.val h.val) := by
  have e := hidden_apply x p w v b r g h
  unfold val_main_v49 val_main_v48 val_main_v46 val_main_v44 val_main_v43 val_main_v41 val_main_v40 val_main_v38 val_main_v37
  generalize val_main_v36 (F := Ideal) x p w v = y at e ⊢
  pointwise [val_main_v47, val_main_cst_6, val_main_v45, val_main_cst_5, val_main_v42, val_main_cst_4, val_main_v39, val_main_cst_3]
  rw [e]
  unfold gelu half cubeC tanhC
  rw [← mul_assoc, mul_comm (CmpWords.hidden x p w v b r.val g.val h.val) (Ideal.ofBits _ _)]

theorem comp_apply (b : Fin 8) (r : Fin 256) (g : Fin 2) (d : Fin 64) :
    val_main_v50 (F := Ideal) x p w v u (ix4 b r g d) = comp x p w v u b r.val (64 * g.val + d.val) := by
  have e := fun h => act_apply x p w v b r g h
  unfold val_main_v50
  generalize val_main_v49 (F := Ideal) x p w v = y at e ⊢
  pointwise
  simp only [e]
  unfold comp vAt
  have e1 : (64 * g.val + d.val) / 64 = g.val := by omega
  refine Finset.sum_congr rfl fun h _ => congrArg₂ (· * ·) (by rw [e1]) (congrArg u ?_)
  idx_ext <;> omega

end Cert.CmpMlp
end
-- ==== Proof.CmpRef.lean ====
module
public import proofs.«01_k».proof.Proof.Gen.Reference4Ideal.Read
public import proofs.«01_k».proof.Proof.CmpTurn
public import proofs.«01_k».proof.Proof.CmpMlp
public import proofs.«01_k».proof.Proof.InRef
public import Idealize.ShloMosaic.Lib.Pointwise
public import Idealize.ShloMosaic.Lib.IdealHost

/-!
The compression's reference, element by element: the plain formulas over the blocks give the same words.
-/

@[expose] public section
set_option maxRecDepth 16384
noncomputable section
namespace Cert.CmpRef
open Idealize.ShloMosaic Idealize.ShloMosaic.TcCoe Idealize.SL.Sem
open Cert.Reference4Ideal Cert.Reference4Ideal.Gen Cert.Reference4Ideal.Read Cert.InWords Cert.InOut Cert.PostWords Cert.CmpWords Cert.CmpTurn Cert.CmpMlp

variable (x : FVec Ideal S8x4096x128 .f32) (p : FVec Ideal S32x64 .f32) (w : FVec Ideal S2048x128 .f32) (v : FVec Ideal S128 .f32)
  (u : FVec Ideal S128x64 .f32)

/-- RESULT: the values. -/
theorem vals_result : val_main_v96 (F := Ideal) x p w v u = valsOut x p w v u := by
  funext i
  obtain ⟨b, n, r, rfl⟩ : ∃ (b : Fin 8) (n : Fin 128) (r : Fin 256), i = ix3 b n r := ⟨i 0, i 1, i 2, by idx_ext⟩
  have e := comp_apply x p w v u b r ⟨n.val / 64, by omega⟩ ⟨n.val % 64, by omega⟩
  have h92 : val_main_v92 (F := Ideal) x p w v u = val_main_v50 (F := Ideal) x p w v u := rfl
  unfold val_main_v96 val_main_v95 val_main_v93
  rw [h92]
  generalize val_main_v50 (F := Ideal) x p w v u = y at e ⊢
  pointwise
  refine Eq.trans (congrArg y ?_) (e.trans (congrArg (comp x p w v u b r.val) ?_))
  · idx_ext <;> omega
  · show 64 * (n.val / 64) + n.val % 64 = n.val
    omega

/-- A head's two halves, turned. -/
theorem turned (q : IVec S8x4096 32) (b : Fin 8) (r : Fin 256) (n : Fin 128) (y : FVec Ideal S8x256x2x64 .f32)
    (C S : FVec Ideal S8x256x1x32 .f32)
    (e : ∀ d : Fin 64, y (ix4 b r ⟨n.val / 64, by omega⟩ d) = comp x p w v u b r.val (64 * (n.val / 64) + d.val))
    (ec : ∀ e : Fin 32, C (ix4 b r 0 e) = cosAt q b (endOf r) e.val) (es : ∀ e : Fin 32, S (ix4 b r 0 e) = sinAt q b (endOf r) e.val) :
    (if h : n.val % 64 < 32 then
      y (ix4 b r ⟨n.val / 64, by omega⟩ ⟨n.val % 64, by omega⟩) * C (ix4 b r 0 ⟨n.val % 64, h⟩)
        - y (ix4 b r ⟨n.val / 64, by omega⟩ ⟨32 + n.val % 64, by omega⟩) * S (ix4 b r 0 ⟨n.val % 64, h⟩)
    else
      y (ix4 b r ⟨n.val / 64, by omega⟩ ⟨32 + (n.val % 64 - 32), by omega⟩) * C (ix4 b r 0 ⟨n.val % 64 - 32, by omega⟩)
        + y (ix4 b r ⟨n.val / 64, by omega⟩ ⟨n.val % 64 - 32, by omega⟩) * S (ix4 b r 0 ⟨n.val % 64 - 32, by omega⟩))
      = keysOut x q p w v u (ix3 b r n) := by
  refine Eq.trans ?_ ((Cert.InRef.turn_halves (comp x p w v u b r.val) (cosAt q b (endOf r)) (sinAt q b (endOf r)) 0 (n.val / 64) (n.val % 64)
    (by omega) (by omega)).trans (congrArg (turn _ _ _) (show 0 + 64 * (n.val / 64) + n.val % 64 = n.val by omega)))
  by_cases h1 : n.val % 64 < 32
  · rw [dif_pos h1, if_pos h1]
    rw [e, e, ec, es]
    simp only [Nat.zero_add]
  · rw [dif_neg h1, if_neg h1]
    rw [e, e, ec, es]
    simp only [Nat.zero_add, show 32 + (n.val % 64 - 32) = n.val % 64 by omega]

/-- RESULT: the keys. -/
theorem keys_result (q : IVec S8x4096 32) : val_main_v94 (F := Ideal) x q p w v u = keysOut x q p w v u := by
  funext i
  obtain ⟨b, r, n, rfl⟩ : ∃ (b : Fin 8) (r : Fin 256) (n : Fin 128), i = ix3 b r n := ⟨i 0, i 1, i 2, by idx_ext⟩
  have e := fun d => comp_apply x p w v u b r ⟨n.val / 64, by omega⟩ d
  have ec := cos_apply q b r
  have es := sin_apply q b r
  unfold val_main_v94 val_main_v64 val_main_v63 val_main_v62 val_main_v61 val_main_v60 val_main_v59 val_main_v58 val_main_v57 val_main_v56 val_main_v55 val_main_v54 val_main_v53 val_main_v52 val_main_v51
  generalize val_main_v50 (F := Ideal) x p w v u = y at e ⊢
  generalize val_main_v20 (F := Ideal) q = C at ec ⊢
  generalize val_main_v22 (F := Ideal) q = S at es ⊢
  pointwise
  exact turned x p w v u q b r n y C S e ec es

end Cert.CmpRef
end
-- ==== Proof.CmpClaim.lean ====
/- The claims about the compression. -/
module

public import proofs.«01_k».proof.Defs
public import proofs.«01_k».proof.Proof.CmpArray
public import proofs.«01_k».proof.Proof.CmpRef
public import proofs.«01_k».proof.Proof.Gen.Kernel4Ideal.Value
public import proofs.«01_k».proof.Proof.Gen.Reference4Ideal.Run

@[expose] public section

set_option maxRecDepth 16384

noncomputable section

namespace Cert.CmpClaim

open Idealize.ShloMosaic Idealize.ShloMosaic.TcCoe Idealize.SL.Sem
open Cert.CmpWords

/-- The reference leaves its arguments and ends quiet. -/
theorem frame : Cert.quiescent_Reference4Ideal := fun m ρ _ =>
  (θ_run Cert.Reference4Ideal.defs _ _).mono
    (fun r h => ⟨fun c => (h c).2.2, sem_eq_zero_of_no_sems (by decide) r.2⟩)
    (Cert.Reference4Ideal.Value.run (F := Ideal) m ρ)

/-- The keys are equal at equal arguments. -/
theorem keys_congr {x x' : FVec Ideal SX .f32} (hx : x = x') {q q' : IVec Cert.Kernel4Ideal.S8x4096 32} (hq : q = q')
    {p p' : FVec Ideal SP .f32} (hp : p = p') {w w' : FVec Ideal SW .f32} (hw : w = w') {v v' : FVec Ideal SB .f32} (hv : v = v')
    {u u' : FVec Ideal SV .f32} (hu : u = u') : keysOut x q p w v u = keysOut x' q' p' w' v' u' := by
  subst hx hq hp hw hv hu
  rfl

/-- The values are equal at equal arguments. -/
theorem vals_congr {x x' : FVec Ideal SX .f32} (hx : x = x') {p p' : FVec Ideal SP .f32} (hp : p = p')
    {w w' : FVec Ideal SW .f32} (hw : w = w') {v v' : FVec Ideal SB .f32} (hv : v = v')
    {u u' : FVec Ideal SV .f32} (hu : u = u') : valsOut x p w v u = valsOut x' p' w' v' u' := by
  subst hx hp hw hv hu
  rfl

/-- The idealized kernel and the idealized reference end with equal results. -/
theorem algebraic : Cert.algebraic_Kernel4Ideal_Reference4Ideal := by
  intro m ρ m' ρ' _ hagree
  refine ⟨fun c => keysOut (Cert.CmpHost.arg0 m c) (Cert.CmpHost.arg2 m c) (Cert.CmpHost.arg3 m c) (Cert.CmpHost.arg4 m c)
      (Cert.CmpHost.arg5 m c) (Cert.CmpHost.arg6 m c),
    fun c => valsOut (Cert.CmpHost.arg1 m c) (Cert.CmpHost.arg7 m c) (Cert.CmpHost.arg8 m c) (Cert.CmpHost.arg9 m c)
      (Cert.CmpHost.arg10 m c), ?_, ?_⟩
  · refine (θ_run Cert.Kernel4Ideal.defs _ _).mono (fun _ h c => ?_) (Cert.Kernel4Ideal.Value.run_blocks (F := Ideal) m ρ)
    exact ⟨(h c).1.trans (Cert.CmpArray.keys_final m c), (h c).2.1.trans (Cert.CmpArray.vals_final m c), (h c).2.2⟩
  refine (θ_run Cert.Reference4Ideal.defs _ _).mono (fun _ h c => ?_) (Cert.Reference4Ideal.Value.run (F := Ideal) m' ρ')
  obtain ⟨g0, g1, g2, g3, g4, g5, g6, g7, g8, g9, g10⟩ := hagree c
  refine ⟨(h c).1.trans ?_, (h c).2.1.trans ?_, (h c).2.2⟩
  · exact (Cert.Reference4Ideal.Read.val_main_v94_eq _ _).trans ((Cert.CmpRef.keys_result _ _ _ _ _ _).trans
      (keys_congr g0 g2 g3 g4 g5 g6))
  · exact (Cert.Reference4Ideal.Read.val_main_v96_eq _ _).trans ((Cert.CmpRef.vals_result _ _ _ _ _).trans
      (vals_congr g1 g7 g8 g9 g10))

end Cert.CmpClaim

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.PostFrame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.PostIdealFrame
public import proofs.«01_k».proof.Proof.Gen.Reference2Ideal
public import proofs.«01_k».proof.Proof.Gen.Pre_finite_qk
public import proofs.«01_k».proof.Proof.Gen.KernelIdeal.Value
public import proofs.«01_k».proof.Proof.Gen.ReferenceIdeal.Run
public import proofs.«01_k».proof.Proof.Gen.ReferenceIdeal.Read
public import proofs.«01_k».proof.Proof.PostIdealValue
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.WinClaim
public import proofs.«01_k».proof.Proof.PostClaim
public import proofs.«01_k».proof.Proof.InClaim
public import proofs.«01_k».proof.Proof.CmpClaim
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Pre_finite_qk.Gen.facts,
  fun m ρ _ => Cert.Kernel.Gen.frame m ρ, fun m ρ _ => Cert.KernelIdeal.Gen.frame m ρ,
  fun m ρ _ => Cert.KernelIdeal.Gen.frame m ρ, fun m ρ _ => Cert.WinClaim.frame m ρ, fun m ρ _ => Cert.WinClaim.frame m ρ,
  fun m ρ _ => Cert.Kernel2.Gen.frame m ρ, fun m ρ _ => Cert.Kernel2Ideal.Gen.frame m ρ, Cert.PostClaim.frame,
  fun m ρ _ => Cert.Kernel3.Gen.frame m ρ, fun m ρ _ => Cert.Kernel3Ideal.Gen.frame m ρ, Cert.InClaim.frame,
  fun m ρ _ => Cert.Kernel4.Gen.frame m ρ, fun m ρ _ => Cert.Kernel4Ideal.Gen.frame m ρ, Cert.CmpClaim.frame,
  Cert.WinClaim.preserves, Cert.WinClaim.algebraic, trivial, Cert.PostClaim.algebraic, trivial, Cert.InClaim.algebraic, trivial,
  Cert.CmpClaim.algebraic⟩

end Cert.Proof

end
